-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Experts [hPre_planned : Cert.Pre_planned.Facts] (m : (ℓ : Loc Cert.Experts.nD Cert.Experts.τ Cert.Experts.sig) → Buf (Elt Bits) ℓ) : Prop :=
  ∀ c : Dev Cert.Experts.nD,
    (Cert.Pre_planned.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_planned : Cert.Pre_planned.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_planned.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_planned [hPre_planned : Cert.Pre_planned.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_planned.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_ProjSb (m : (ℓ : Loc Cert.ProjSb.nD Cert.ProjSb.τ Cert.ProjSb.sig) → Buf (Elt Bits) ℓ) : Prop :=
  True

def Pre_ProjSbIdeal (m : (ℓ : Loc Cert.ProjSbIdeal.nD Cert.ProjSbIdeal.τ Cert.ProjSbIdeal.sig) → Buf (Elt Ideal) ℓ) : Prop :=
  True

def Pre_ProjSbReferenceIdeal (m : (ℓ : Loc Cert.ProjSbReferenceIdeal.nD Cert.ProjSbReferenceIdeal.τ Cert.ProjSbReferenceIdeal.sig) → Buf (Elt Ideal) ℓ) : Prop :=
  True

def Pre_ProjGdn (m : (ℓ : Loc Cert.ProjGdn.nD Cert.ProjGdn.τ Cert.ProjGdn.sig) → Buf (Elt Bits) ℓ) : Prop :=
  True

def Pre_ProjGdnIdeal (m : (ℓ : Loc Cert.ProjGdnIdeal.nD Cert.ProjGdnIdeal.τ Cert.ProjGdnIdeal.sig) → Buf (Elt Ideal) ℓ) : Prop :=
  True

def Pre_ProjGdnReferenceIdeal (m : (ℓ : Loc Cert.ProjGdnReferenceIdeal.nD Cert.ProjGdnReferenceIdeal.τ Cert.ProjGdnReferenceIdeal.sig) → Buf (Elt Ideal) ℓ) : Prop :=
  True

def Pre_ProjTail (m : (ℓ : Loc Cert.ProjTail.nD Cert.ProjTail.τ Cert.ProjTail.sig) → Buf (Elt Bits) ℓ) : Prop :=
  True

def Pre_ProjTailIdeal (m : (ℓ : Loc Cert.ProjTailIdeal.nD Cert.ProjTailIdeal.τ Cert.ProjTailIdeal.sig) → Buf (Elt Ideal) ℓ) : Prop :=
  True

def Pre_ProjTailReferenceIdeal (m : (ℓ : Loc Cert.ProjTailReferenceIdeal.nD Cert.ProjTailReferenceIdeal.τ Cert.ProjTailReferenceIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojReferenceIdeal (m : (ℓ : Loc Cert.OutprojReferenceIdeal.nD Cert.OutprojReferenceIdeal.τ Cert.OutprojReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_bounded [hPre_bounded : Cert.Pre_bounded.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_bounded.fn (F := Ideal) (m ((c.tc : Thread Cert.AttentionIdeal.nD Cert.AttentionIdeal.τ).loc Cert.AttentionIdeal.main_arg0))) = (fun _ => 1#1)

def Pre_AttentionReferenceIdeal (m : (ℓ : Loc Cert.AttentionReferenceIdeal.nD Cert.AttentionReferenceIdeal.τ Cert.AttentionReferenceIdeal.sig) → Buf (Elt Ideal) ℓ) : Prop :=
  True

def Pre_AttentionReferenceIdeal_bounded [hPre_bounded : Cert.Pre_bounded.Facts] (m : (ℓ : Loc Cert.AttentionReferenceIdeal.nD Cert.AttentionReferenceIdeal.τ Cert.AttentionReferenceIdeal.sig) → Buf (Elt Ideal) ℓ) : Prop :=
  ∀ c : Dev Cert.AttentionReferenceIdeal.nD,
    (Cert.Pre_bounded.fn (F := Ideal) (m ((c.tc : Thread Cert.AttentionReferenceIdeal.nD Cert.AttentionReferenceIdeal.τ).loc Cert.AttentionReferenceIdeal.main_arg0))) = (fun _ => 1#1)

def Pre_Gating (m : (ℓ : Loc Cert.Gating.nD Cert.Gating.τ Cert.Gating.sig) → Buf (Elt Bits) ℓ) : Prop :=
  True

def Pre_GatingIdeal (m : (ℓ : Loc Cert.GatingIdeal.nD Cert.GatingIdeal.τ Cert.GatingIdeal.sig) → Buf (Elt Ideal) ℓ) : Prop :=
  True

def Pre_GatingReferenceIdeal (m : (ℓ : Loc Cert.GatingReferenceIdeal.nD Cert.GatingReferenceIdeal.τ Cert.GatingReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Experts [hExperts : Cert.Experts.Facts] [hPre_planned : Cert.Pre_planned.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_planned : Cert.Pre_planned.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_planned [hExpertsReferenceIdeal : Cert.ExpertsReferenceIdeal.Facts] [hPre_planned : Cert.Pre_planned.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_planned m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ProjSb [hProjSb : Cert.ProjSb.Facts] : Prop :=
  ∀ (m : (ℓ : Loc Cert.ProjSb.nD Cert.ProjSb.τ Cert.ProjSb.sig) → Buf (Elt Bits) ℓ) (g : Dev Cert.ProjSb.nD → PrngReg), Pre_ProjSb m →
    θ_run (Cert.ProjSb.defs (F := Bits)) (onTc (τ := Cert.ProjSb.τ) (Cert.ProjSb.main (F := Bits))) ⟨m, fun _ => 0, g⟩ (fun r => (∀ c : Dev Cert.ProjSb.nD,
      r.2.mem ((c.tc : Thread Cert.ProjSb.nD Cert.ProjSb.τ).loc Cert.ProjSb.main_arg0) = m ((c.tc : Thread Cert.ProjSb.nD Cert.ProjSb.τ).loc Cert.ProjSb.main_arg0)
      ∧ r.2.mem ((c.tc : Thread Cert.ProjSb.nD Cert.ProjSb.τ).loc Cert.ProjSb.main_arg1) = m ((c.tc : Thread Cert.ProjSb.nD Cert.ProjSb.τ).loc Cert.ProjSb.main_arg1))
      ∧ r.2.sem = fun _ => 0)

def quiescent_ProjSbIdeal [hProjSbIdeal : Cert.ProjSbIdeal.Facts] : Prop :=
  ∀ (m : (ℓ : Loc Cert.ProjSbIdeal.nD Cert.ProjSbIdeal.τ Cert.ProjSbIdeal.sig) → Buf (Elt Ideal) ℓ) (g : Dev Cert.ProjSbIdeal.nD → PrngReg), Pre_ProjSbIdeal m →
    θ_run (Cert.ProjSbIdeal.defs (F := Ideal)) (onTc (τ := Cert.ProjSbIdeal.τ) (Cert.ProjSbIdeal.main (F := Ideal))) ⟨m, fun _ => 0, g⟩ (fun r => (∀ c : Dev Cert.ProjSbIdeal.nD,
      r.2.mem ((c.tc : Thread Cert.ProjSbIdeal.nD Cert.ProjSbIdeal.τ).loc Cert.ProjSbIdeal.main_arg0) = m ((c.tc : Thread Cert.ProjSbIdeal.nD Cert.ProjSbIdeal.τ).loc Cert.ProjSbIdeal.main_arg0)
      ∧ r.2.mem ((c.tc : Thread Cert.ProjSbIdeal.nD Cert.ProjSbIdeal.τ).loc Cert.ProjSbIdeal.main_arg1) = m ((c.tc : Thread Cert.ProjSbIdeal.nD Cert.ProjSbIdeal.τ).loc Cert.ProjSbIdeal.main_arg1))
      ∧ r.2.sem = fun _ => 0)

def quiescent_ProjSbReferenceIdeal [hProjSbReferenceIdeal : Cert.ProjSbReferenceIdeal.Facts] : Prop :=
  ∀ (m : (ℓ : Loc Cert.ProjSbReferenceIdeal.nD Cert.ProjSbReferenceIdeal.τ Cert.ProjSbReferenceIdeal.sig) → Buf (Elt Ideal) ℓ) (g : Dev Cert.ProjSbReferenceIdeal.nD → PrngReg), Pre_ProjSbReferenceIdeal m →
    θ_run (Cert.ProjSbReferenceIdeal.defs (F := Ideal)) (onTc (τ := Cert.ProjSbReferenceIdeal.τ) (Cert.ProjSbReferenceIdeal.main (F := Ideal))) ⟨m, fun _ => 0, g⟩ (fun r => (∀ c : Dev Cert.ProjSbReferenceIdeal.nD,
      r.2.mem ((c.tc : Thread Cert.ProjSbReferenceIdeal.nD Cert.ProjSbReferenceIdeal.τ).loc Cert.ProjSbReferenceIdeal.main_arg0) = m ((c.tc : Thread Cert.ProjSbReferenceIdeal.nD Cert.ProjSbReferenceIdeal.τ).loc Cert.ProjSbReferenceIdeal.main_arg0)
      ∧ r.2.mem ((c.tc : Thread Cert.ProjSbReferenceIdeal.nD Cert.ProjSbReferenceIdeal.τ).loc Cert.ProjSbReferenceIdeal.main_arg1) = m ((c.tc : Thread Cert.ProjSbReferenceIdeal.nD Cert.ProjSbReferenceIdeal.τ).loc Cert.ProjSbReferenceIdeal.main_arg1))
      ∧ r.2.sem = fun _ => 0)

def quiescent_ProjGdn [hProjGdn : Cert.ProjGdn.Facts] : Prop :=
  ∀ (m : (ℓ : Loc Cert.ProjGdn.nD Cert.ProjGdn.τ Cert.ProjGdn.sig) → Buf (Elt Bits) ℓ) (g : Dev Cert.ProjGdn.nD → PrngReg), Pre_ProjGdn m →
    θ_run (Cert.ProjGdn.defs (F := Bits)) (onTc (τ := Cert.ProjGdn.τ) (Cert.ProjGdn.main (F := Bits))) ⟨m, fun _ => 0, g⟩ (fun r => (∀ c : Dev Cert.ProjGdn.nD,
      r.2.mem ((c.tc : Thread Cert.ProjGdn.nD Cert.ProjGdn.τ).loc Cert.ProjGdn.main_arg0) = m ((c.tc : Thread Cert.ProjGdn.nD Cert.ProjGdn.τ).loc Cert.ProjGdn.main_arg0)
      ∧ r.2.mem ((c.tc : Thread Cert.ProjGdn.nD Cert.ProjGdn.τ).loc Cert.ProjGdn.main_arg1) = m ((c.tc : Thread Cert.ProjGdn.nD Cert.ProjGdn.τ).loc Cert.ProjGdn.main_arg1))
      ∧ r.2.sem = fun _ => 0)

def quiescent_ProjGdnIdeal [hProjGdnIdeal : Cert.ProjGdnIdeal.Facts] : Prop :=
  ∀ (m : (ℓ : Loc Cert.ProjGdnIdeal.nD Cert.ProjGdnIdeal.τ Cert.ProjGdnIdeal.sig) → Buf (Elt Ideal) ℓ) (g : Dev Cert.ProjGdnIdeal.nD → PrngReg), Pre_ProjGdnIdeal m →
    θ_run (Cert.ProjGdnIdeal.defs (F := Ideal)) (onTc (τ := Cert.ProjGdnIdeal.τ) (Cert.ProjGdnIdeal.main (F := Ideal))) ⟨m, fun _ => 0, g⟩ (fun r => (∀ c : Dev Cert.ProjGdnIdeal.nD,
      r.2.mem ((c.tc : Thread Cert.ProjGdnIdeal.nD Cert.ProjGdnIdeal.τ).loc Cert.ProjGdnIdeal.main_arg0) = m ((c.tc : Thread Cert.ProjGdnIdeal.nD Cert.ProjGdnIdeal.τ).loc Cert.ProjGdnIdeal.main_arg0)
      ∧ r.2.mem ((c.tc : Thread Cert.ProjGdnIdeal.nD Cert.ProjGdnIdeal.τ).loc Cert.ProjGdnIdeal.main_arg1) = m ((c.tc : Thread Cert.ProjGdnIdeal.nD Cert.ProjGdnIdeal.τ).loc Cert.ProjGdnIdeal.main_arg1))
      ∧ r.2.sem = fun _ => 0)

def quiescent_ProjGdnReferenceIdeal [hProjGdnReferenceIdeal : Cert.ProjGdnReferenceIdeal.Facts] : Prop :=
  ∀ (m : (ℓ : Loc Cert.ProjGdnReferenceIdeal.nD Cert.ProjGdnReferenceIdeal.τ Cert.ProjGdnReferenceIdeal.sig) → Buf (Elt Ideal) ℓ) (g : Dev Cert.ProjGdnReferenceIdeal.nD → PrngReg), Pre_ProjGdnReferenceIdeal m →
    θ_run (Cert.ProjGdnReferenceIdeal.defs (F := Ideal)) (onTc (τ := Cert.ProjGdnReferenceIdeal.τ) (Cert.ProjGdnReferenceIdeal.main (F := Ideal))) ⟨m, fun _ => 0, g⟩ (fun r => (∀ c : Dev Cert.ProjGdnReferenceIdeal.nD,
      r.2.mem ((c.tc : Thread Cert.ProjGdnReferenceIdeal.nD Cert.ProjGdnReferenceIdeal.τ).loc Cert.ProjGdnReferenceIdeal.main_arg0) = m ((c.tc : Thread Cert.ProjGdnReferenceIdeal.nD Cert.ProjGdnReferenceIdeal.τ).loc Cert.ProjGdnReferenceIdeal.main_arg0)
      ∧ r.2.mem ((c.tc : Thread Cert.ProjGdnReferenceIdeal.nD Cert.ProjGdnReferenceIdeal.τ).loc Cert.ProjGdnReferenceIdeal.main_arg1) = m ((c.tc : Thread Cert.ProjGdnReferenceIdeal.nD Cert.ProjGdnReferenceIdeal.τ).loc Cert.ProjGdnReferenceIdeal.main_arg1))
      ∧ r.2.sem = fun _ => 0)

def quiescent_ProjTail [hProjTail : Cert.ProjTail.Facts] : Prop :=
  ∀ (m : (ℓ : Loc Cert.ProjTail.nD Cert.ProjTail.τ Cert.ProjTail.sig) → Buf (Elt Bits) ℓ) (g : Dev Cert.ProjTail.nD → PrngReg), Pre_ProjTail m →
    θ_run (Cert.ProjTail.defs (F := Bits)) (onTc (τ := Cert.ProjTail.τ) (Cert.ProjTail.main (F := Bits))) ⟨m, fun _ => 0, g⟩ (fun r => (∀ c : Dev Cert.ProjTail.nD,
      r.2.mem ((c.tc : Thread Cert.ProjTail.nD Cert.ProjTail.τ).loc Cert.ProjTail.main_arg0) = m ((c.tc : Thread Cert.ProjTail.nD Cert.ProjTail.τ).loc Cert.ProjTail.main_arg0)
      ∧ r.2.mem ((c.tc : Thread Cert.ProjTail.nD Cert.ProjTail.τ).loc Cert.ProjTail.main_arg1) = m ((c.tc : Thread Cert.ProjTail.nD Cert.ProjTail.τ).loc Cert.ProjTail.main_arg1))
      ∧ r.2.sem = fun _ => 0)

def quiescent_ProjTailIdeal [hProjTailIdeal : Cert.ProjTailIdeal.Facts] : Prop :=
  ∀ (m : (ℓ : Loc Cert.ProjTailIdeal.nD Cert.ProjTailIdeal.τ Cert.ProjTailIdeal.sig) → Buf (Elt Ideal) ℓ) (g : Dev Cert.ProjTailIdeal.nD → PrngReg), Pre_ProjTailIdeal m →
    θ_run (Cert.ProjTailIdeal.defs (F := Ideal)) (onTc (τ := Cert.ProjTailIdeal.τ) (Cert.ProjTailIdeal.main (F := Ideal))) ⟨m, fun _ => 0, g⟩ (fun r => (∀ c : Dev Cert.ProjTailIdeal.nD,
      r.2.mem ((c.tc : Thread Cert.ProjTailIdeal.nD Cert.ProjTailIdeal.τ).loc Cert.ProjTailIdeal.main_arg0) = m ((c.tc : Thread Cert.ProjTailIdeal.nD Cert.ProjTailIdeal.τ).loc Cert.ProjTailIdeal.main_arg0)
      ∧ r.2.mem ((c.tc : Thread Cert.ProjTailIdeal.nD Cert.ProjTailIdeal.τ).loc Cert.ProjTailIdeal.main_arg1) = m ((c.tc : Thread Cert.ProjTailIdeal.nD Cert.ProjTailIdeal.τ).loc Cert.ProjTailIdeal.main_arg1))
      ∧ r.2.sem = fun _ => 0)

def quiescent_ProjTailReferenceIdeal [hProjTailReferenceIdeal : Cert.ProjTailReferenceIdeal.Facts] : Prop :=
  ∀ (m : (ℓ : Loc Cert.ProjTailReferenceIdeal.nD Cert.ProjTailReferenceIdeal.τ Cert.ProjTailReferenceIdeal.sig) → Buf (Elt Ideal) ℓ) (g : Dev Cert.ProjTailReferenceIdeal.nD → PrngReg), Pre_ProjTailReferenceIdeal m →
    θ_run (Cert.ProjTailReferenceIdeal.defs (F := Ideal)) (onTc (τ := Cert.ProjTailReferenceIdeal.τ) (Cert.ProjTailReferenceIdeal.main (F := Ideal))) ⟨m, fun _ => 0, g⟩ (fun r => (∀ c : Dev Cert.ProjTailReferenceIdeal.nD,
      r.2.mem ((c.tc : Thread Cert.ProjTailReferenceIdeal.nD Cert.ProjTailReferenceIdeal.τ).loc Cert.ProjTailReferenceIdeal.main_arg0) = m ((c.tc : Thread Cert.ProjTailReferenceIdeal.nD Cert.ProjTailReferenceIdeal.τ).loc Cert.ProjTailReferenceIdeal.main_arg0)
      ∧ r.2.mem ((c.tc : Thread Cert.ProjTailReferenceIdeal.nD Cert.ProjTailReferenceIdeal.τ).loc Cert.ProjTailReferenceIdeal.main_arg1) = m ((c.tc : Thread Cert.ProjTailReferenceIdeal.nD Cert.ProjTailReferenceIdeal.τ).loc Cert.ProjTailReferenceIdeal.main_arg1))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5)
      ∧ r.2.mem ((c.tc : Thread Cert.OutprojReferenceIdeal.nD Cert.OutprojReferenceIdeal.τ).loc Cert.OutprojReferenceIdeal.main_arg6) = m ((c.tc : Thread Cert.OutprojReferenceIdeal.nD Cert.OutprojReferenceIdeal.τ).loc Cert.OutprojReferenceIdeal.main_arg6)
      ∧ r.2.mem ((c.tc : Thread Cert.OutprojReferenceIdeal.nD Cert.OutprojReferenceIdeal.τ).loc Cert.OutprojReferenceIdeal.main_arg7) = m ((c.tc : Thread Cert.OutprojReferenceIdeal.nD Cert.OutprojReferenceIdeal.τ).loc Cert.OutprojReferenceIdeal.main_arg7))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6)
      ∧ r.2.mem ((c.tc : Thread Cert.Combine.nD Cert.Combine.τ).loc Cert.Combine.main_arg7) = m ((c.tc : Thread Cert.Combine.nD Cert.Combine.τ).loc Cert.Combine.main_arg7)
      ∧ r.2.mem ((c.tc : Thread Cert.Combine.nD Cert.Combine.τ).loc Cert.Combine.main_arg8) = m ((c.tc : Thread Cert.Combine.nD Cert.Combine.τ).loc Cert.Combine.main_arg8)
      ∧ r.2.mem ((c.tc : Thread Cert.Combine.nD Cert.Combine.τ).loc Cert.Combine.main_arg9) = m ((c.tc : Thread Cert.Combine.nD Cert.Combine.τ).loc Cert.Combine.main_arg9))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
      ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)
      ∧ r.2.mem ((c.tc : Thread Cert.CombineIdeal.nD Cert.CombineIdeal.τ).loc Cert.CombineIdeal.main_arg9) = m ((c.tc : Thread Cert.CombineIdeal.nD Cert.CombineIdeal.τ).loc Cert.CombineIdeal.main_arg9))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5)
      ∧ r.2.mem ((c.tc : Thread Cert.CombineReferenceIdeal.nD Cert.CombineReferenceIdeal.τ).loc Cert.CombineReferenceIdeal.main_arg6) = m ((c.tc : Thread Cert.CombineReferenceIdeal.nD Cert.CombineReferenceIdeal.τ).loc Cert.CombineReferenceIdeal.main_arg6)
      ∧ r.2.mem ((c.tc : Thread Cert.CombineReferenceIdeal.nD Cert.CombineReferenceIdeal.τ).loc Cert.CombineReferenceIdeal.main_arg7) = m ((c.tc : Thread Cert.CombineReferenceIdeal.nD Cert.CombineReferenceIdeal.τ).loc Cert.CombineReferenceIdeal.main_arg7)
      ∧ r.2.mem ((c.tc : Thread Cert.CombineReferenceIdeal.nD Cert.CombineReferenceIdeal.τ).loc Cert.CombineReferenceIdeal.main_arg8) = m ((c.tc : Thread Cert.CombineReferenceIdeal.nD Cert.CombineReferenceIdeal.τ).loc Cert.CombineReferenceIdeal.main_arg8)
      ∧ r.2.mem ((c.tc : Thread Cert.CombineReferenceIdeal.nD Cert.CombineReferenceIdeal.τ).loc Cert.CombineReferenceIdeal.main_arg9) = m ((c.tc : Thread Cert.CombineReferenceIdeal.nD Cert.CombineReferenceIdeal.τ).loc Cert.CombineReferenceIdeal.main_arg9))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0))
      ∧ r.2.sem = fun _ => 0)

def quiescent_AttentionIdeal_pre_bounded [hAttentionIdeal : Cert.AttentionIdeal.Facts] [hPre_bounded : Cert.Pre_bounded.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_bounded m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0))
      ∧ r.2.sem = fun _ => 0)

def quiescent_AttentionReferenceIdeal_pre_bounded [hAttentionReferenceIdeal : Cert.AttentionReferenceIdeal.Facts] [hPre_bounded : Cert.Pre_bounded.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal_bounded m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0))
      ∧ r.2.sem = fun _ => 0)

def quiescent_Gating [hGating : Cert.Gating.Facts] : Prop :=
  ∀ (m : (ℓ : Loc Cert.Gating.nD Cert.Gating.τ Cert.Gating.sig) → Buf (Elt Bits) ℓ) (g : Dev Cert.Gating.nD → PrngReg), Pre_Gating m →
    θ_run (Cert.Gating.defs (F := Bits)) (onTc (τ := Cert.Gating.τ) (Cert.Gating.main (F := Bits))) ⟨m, fun _ => 0, g⟩ (fun r => (∀ c : Dev Cert.Gating.nD,
      r.2.mem ((c.tc : Thread Cert.Gating.nD Cert.Gating.τ).loc Cert.Gating.main_arg0) = m ((c.tc : Thread Cert.Gating.nD Cert.Gating.τ).loc Cert.Gating.main_arg0)
      ∧ r.2.mem ((c.tc : Thread Cert.Gating.nD Cert.Gating.τ).loc Cert.Gating.main_arg1) = m ((c.tc : Thread Cert.Gating.nD Cert.Gating.τ).loc Cert.Gating.main_arg1)
      ∧ r.2.mem ((c.tc : Thread Cert.Gating.nD Cert.Gating.τ).loc Cert.Gating.main_arg2) = m ((c.tc : Thread Cert.Gating.nD Cert.Gating.τ).loc Cert.Gating.main_arg2)
      ∧ r.2.mem ((c.tc : Thread Cert.Gating.nD Cert.Gating.τ).loc Cert.Gating.main_arg3) = m ((c.tc : Thread Cert.Gating.nD Cert.Gating.τ).loc Cert.Gating.main_arg3)
      ∧ r.2.mem ((c.tc : Thread Cert.Gating.nD Cert.Gating.τ).loc Cert.Gating.main_arg4) = m ((c.tc : Thread Cert.Gating.nD Cert.Gating.τ).loc Cert.Gating.main_arg4))
      ∧ r.2.sem = fun _ => 0)

def quiescent_GatingIdeal [hGatingIdeal : Cert.GatingIdeal.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
      ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
      ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ r.2.sem = fun _ => 0)

def quiescent_GatingReferenceIdeal [hGatingReferenceIdeal : Cert.GatingReferenceIdeal.Facts] : Prop :=
  ∀ (m : (ℓ : Loc Cert.GatingReferenceIdeal.nD Cert.GatingReferenceIdeal.τ Cert.GatingReferenceIdeal.sig) → Buf (Elt Ideal) ℓ) (g : Dev Cert.GatingReferenceIdeal.nD → PrngReg), Pre_GatingReferenceIdeal m →
    θ_run (Cert.GatingReferenceIdeal.defs (F := Ideal)) (onTc (τ := Cert.GatingReferenceIdeal.τ) (Cert.GatingReferenceIdeal.main (F := Ideal))) ⟨m, fun _ => 0, g⟩ (fun r => (∀ c : Dev Cert.GatingReferenceIdeal.nD,
      r.2.mem ((c.tc : Thread Cert.GatingReferenceIdeal.nD Cert.GatingReferenceIdeal.τ).loc Cert.GatingReferenceIdeal.main_arg0) = m ((c.tc : Thread Cert.GatingReferenceIdeal.nD Cert.GatingReferenceIdeal.τ).loc Cert.GatingReferenceIdeal.main_arg0)
      ∧ r.2.mem ((c.tc : Thread Cert.GatingReferenceIdeal.nD Cert.GatingReferenceIdeal.τ).loc Cert.GatingReferenceIdeal.main_arg1) = m ((c.tc : Thread Cert.GatingReferenceIdeal.nD Cert.GatingReferenceIdeal.τ).loc Cert.GatingReferenceIdeal.main_arg1)
      ∧ r.2.mem ((c.tc : Thread Cert.GatingReferenceIdeal.nD Cert.GatingReferenceIdeal.τ).loc Cert.GatingReferenceIdeal.main_arg2) = m ((c.tc : Thread Cert.GatingReferenceIdeal.nD Cert.GatingReferenceIdeal.τ).loc Cert.GatingReferenceIdeal.main_arg2)
      ∧ r.2.mem ((c.tc : Thread Cert.GatingReferenceIdeal.nD Cert.GatingReferenceIdeal.τ).loc Cert.GatingReferenceIdeal.main_arg3) = m ((c.tc : Thread Cert.GatingReferenceIdeal.nD Cert.GatingReferenceIdeal.τ).loc Cert.GatingReferenceIdeal.main_arg3)
      ∧ r.2.mem ((c.tc : Thread Cert.GatingReferenceIdeal.nD Cert.GatingReferenceIdeal.τ).loc Cert.GatingReferenceIdeal.main_arg4) = m ((c.tc : Thread Cert.GatingReferenceIdeal.nD Cert.GatingReferenceIdeal.τ).loc Cert.GatingReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_planned : Cert.Pre_planned.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v26_6) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_ProjSb_ProjSbIdeal : Prop :=
  True

def algebraic_ProjSbIdeal_ProjSbReferenceIdeal [hProjSbIdeal : Cert.ProjSbIdeal.Facts] [hProjSbReferenceIdeal : Cert.ProjSbReferenceIdeal.Facts] : Prop :=
  ∀ (m : (ℓ : Loc Cert.ProjSbIdeal.nD Cert.ProjSbIdeal.τ Cert.ProjSbIdeal.sig) → Buf (Elt Ideal) ℓ) (g : Dev Cert.ProjSbIdeal.nD → PrngReg)
    (m' : (ℓ : Loc Cert.ProjSbReferenceIdeal.nD Cert.ProjSbReferenceIdeal.τ Cert.ProjSbReferenceIdeal.sig) → Buf (Elt Ideal) ℓ) (g' : Dev Cert.ProjSbReferenceIdeal.nD → PrngReg), Pre_ProjSbIdeal m →
    (∀ c : Dev Cert.ProjSbIdeal.nD,
      m' ((c.tc : Thread Cert.ProjSbReferenceIdeal.nD Cert.ProjSbReferenceIdeal.τ).loc Cert.ProjSbReferenceIdeal.main_arg0) = m ((c.tc : Thread Cert.ProjSbIdeal.nD Cert.ProjSbIdeal.τ).loc Cert.ProjSbIdeal.main_arg0)
      ∧ m' ((c.tc : Thread Cert.ProjSbReferenceIdeal.nD Cert.ProjSbReferenceIdeal.τ).loc Cert.ProjSbReferenceIdeal.main_arg1) = m ((c.tc : Thread Cert.ProjSbIdeal.nD Cert.ProjSbIdeal.τ).loc Cert.ProjSbIdeal.main_arg1)) →
    ∃ (v0 : (c : Dev Cert.ProjSbIdeal.nD) → Buf (Elt Ideal) ((c.tc : Thread Cert.ProjSbIdeal.nD Cert.ProjSbIdeal.τ).loc Cert.ProjSbIdeal.main_v0)),
      θ_run (Cert.ProjSbIdeal.defs (F := Ideal)) (onTc (τ := Cert.ProjSbIdeal.τ) (Cert.ProjSbIdeal.main (F := Ideal))) ⟨m, fun _ => 0, g⟩ (fun r => ∀ c : Dev Cert.ProjSbIdeal.nD,
          r.2.mem ((c.tc : Thread Cert.ProjSbIdeal.nD Cert.ProjSbIdeal.τ).loc Cert.ProjSbIdeal.main_v0) = v0 c
          ∧ r.2.mem ((c.tc : Thread Cert.ProjSbIdeal.nD Cert.ProjSbIdeal.τ).loc Cert.ProjSbIdeal.main_arg0) = m ((c.tc : Thread Cert.ProjSbIdeal.nD Cert.ProjSbIdeal.τ).loc Cert.ProjSbIdeal.main_arg0)
          ∧ r.2.mem ((c.tc : Thread Cert.ProjSbIdeal.nD Cert.ProjSbIdeal.τ).loc Cert.ProjSbIdeal.main_arg1) = m ((c.tc : Thread Cert.ProjSbIdeal.nD Cert.ProjSbIdeal.τ).loc Cert.ProjSbIdeal.main_arg1))
      ∧ θ_run (Cert.ProjSbReferenceIdeal.defs (F := Ideal)) (onTc (τ := Cert.ProjSbReferenceIdeal.τ) (Cert.ProjSbReferenceIdeal.main (F := Ideal))) ⟨m', fun _ => 0, g'⟩ (fun r => ∀ c : Dev Cert.ProjSbReferenceIdeal.nD,
          r.2.mem ((c.tc : Thread Cert.ProjSbReferenceIdeal.nD Cert.ProjSbReferenceIdeal.τ).loc Cert.ProjSbReferenceIdeal.main_v5) = v0 c
          ∧ r.2.mem ((c.tc : Thread Cert.ProjSbReferenceIdeal.nD Cert.ProjSbReferenceIdeal.τ).loc Cert.ProjSbReferenceIdeal.main_arg0) = m' ((c.tc : Thread Cert.ProjSbReferenceIdeal.nD Cert.ProjSbReferenceIdeal.τ).loc Cert.ProjSbReferenceIdeal.main_arg0)
          ∧ r.2.mem ((c.tc : Thread Cert.ProjSbReferenceIdeal.nD Cert.ProjSbReferenceIdeal.τ).loc Cert.ProjSbReferenceIdeal.main_arg1) = m' ((c.tc : Thread Cert.ProjSbReferenceIdeal.nD Cert.ProjSbReferenceIdeal.τ).loc Cert.ProjSbReferenceIdeal.main_arg1))

def preserves_ProjGdn_ProjGdnIdeal : Prop :=
  True

def algebraic_ProjGdnIdeal_ProjGdnReferenceIdeal [hProjGdnIdeal : Cert.ProjGdnIdeal.Facts] [hProjGdnReferenceIdeal : Cert.ProjGdnReferenceIdeal.Facts] : Prop :=
  ∀ (m : (ℓ : Loc Cert.ProjGdnIdeal.nD Cert.ProjGdnIdeal.τ Cert.ProjGdnIdeal.sig) → Buf (Elt Ideal) ℓ) (g : Dev Cert.ProjGdnIdeal.nD → PrngReg)
    (m' : (ℓ : Loc Cert.ProjGdnReferenceIdeal.nD Cert.ProjGdnReferenceIdeal.τ Cert.ProjGdnReferenceIdeal.sig) → Buf (Elt Ideal) ℓ) (g' : Dev Cert.ProjGdnReferenceIdeal.nD → PrngReg), Pre_ProjGdnIdeal m →
    (∀ c : Dev Cert.ProjGdnIdeal.nD,
      m' ((c.tc : Thread Cert.ProjGdnReferenceIdeal.nD Cert.ProjGdnReferenceIdeal.τ).loc Cert.ProjGdnReferenceIdeal.main_arg0) = m ((c.tc : Thread Cert.ProjGdnIdeal.nD Cert.ProjGdnIdeal.τ).loc Cert.ProjGdnIdeal.main_arg0)
      ∧ m' ((c.tc : Thread Cert.ProjGdnReferenceIdeal.nD Cert.ProjGdnReferenceIdeal.τ).loc Cert.ProjGdnReferenceIdeal.main_arg1) = m ((c.tc : Thread Cert.ProjGdnIdeal.nD Cert.ProjGdnIdeal.τ).loc Cert.ProjGdnIdeal.main_arg1)) →
    ∃ (v0 : (c : Dev Cert.ProjGdnIdeal.nD) → Buf (Elt Ideal) ((c.tc : Thread Cert.ProjGdnIdeal.nD Cert.ProjGdnIdeal.τ).loc Cert.ProjGdnIdeal.main_v0)),
      θ_run (Cert.ProjGdnIdeal.defs (F := Ideal)) (onTc (τ := Cert.ProjGdnIdeal.τ) (Cert.ProjGdnIdeal.main (F := Ideal))) ⟨m, fun _ => 0, g⟩ (fun r => ∀ c : Dev Cert.ProjGdnIdeal.nD,
          r.2.mem ((c.tc : Thread Cert.ProjGdnIdeal.nD Cert.ProjGdnIdeal.τ).loc Cert.ProjGdnIdeal.main_v0) = v0 c
          ∧ r.2.mem ((c.tc : Thread Cert.ProjGdnIdeal.nD Cert.ProjGdnIdeal.τ).loc Cert.ProjGdnIdeal.main_arg0) = m ((c.tc : Thread Cert.ProjGdnIdeal.nD Cert.ProjGdnIdeal.τ).loc Cert.ProjGdnIdeal.main_arg0)
          ∧ r.2.mem ((c.tc : Thread Cert.ProjGdnIdeal.nD Cert.ProjGdnIdeal.τ).loc Cert.ProjGdnIdeal.main_arg1) = m ((c.tc : Thread Cert.ProjGdnIdeal.nD Cert.ProjGdnIdeal.τ).loc Cert.ProjGdnIdeal.main_arg1))
      ∧ θ_run (Cert.ProjGdnReferenceIdeal.defs (F := Ideal)) (onTc (τ := Cert.ProjGdnReferenceIdeal.τ) (Cert.ProjGdnReferenceIdeal.main (F := Ideal))) ⟨m', fun _ => 0, g'⟩ (fun r => ∀ c : Dev Cert.ProjGdnReferenceIdeal.nD,
          r.2.mem ((c.tc : Thread Cert.ProjGdnReferenceIdeal.nD Cert.ProjGdnReferenceIdeal.τ).loc Cert.ProjGdnReferenceIdeal.main_v4) = v0 c
          ∧ r.2.mem ((c.tc : Thread Cert.ProjGdnReferenceIdeal.nD Cert.ProjGdnReferenceIdeal.τ).loc Cert.ProjGdnReferenceIdeal.main_arg0) = m' ((c.tc : Thread Cert.ProjGdnReferenceIdeal.nD Cert.ProjGdnReferenceIdeal.τ).loc Cert.ProjGdnReferenceIdeal.main_arg0)
          ∧ r.2.mem ((c.tc : Thread Cert.ProjGdnReferenceIdeal.nD Cert.ProjGdnReferenceIdeal.τ).loc Cert.ProjGdnReferenceIdeal.main_arg1) = m' ((c.tc : Thread Cert.ProjGdnReferenceIdeal.nD Cert.ProjGdnReferenceIdeal.τ).loc Cert.ProjGdnReferenceIdeal.main_arg1))

def preserves_ProjTail_ProjTailIdeal : Prop :=
  True

def algebraic_ProjTailIdeal_ProjTailReferenceIdeal [hProjTailIdeal : Cert.ProjTailIdeal.Facts] [hProjTailReferenceIdeal : Cert.ProjTailReferenceIdeal.Facts] : Prop :=
  ∀ (m : (ℓ : Loc Cert.ProjTailIdeal.nD Cert.ProjTailIdeal.τ Cert.ProjTailIdeal.sig) → Buf (Elt Ideal) ℓ) (g : Dev Cert.ProjTailIdeal.nD → PrngReg)
    (m' : (ℓ : Loc Cert.ProjTailReferenceIdeal.nD Cert.ProjTailReferenceIdeal.τ Cert.ProjTailReferenceIdeal.sig) → Buf (Elt Ideal) ℓ) (g' : Dev Cert.ProjTailReferenceIdeal.nD → PrngReg), Pre_ProjTailIdeal m →
    (∀ c : Dev Cert.ProjTailIdeal.nD,
      m' ((c.tc : Thread Cert.ProjTailReferenceIdeal.nD Cert.ProjTailReferenceIdeal.τ).loc Cert.ProjTailReferenceIdeal.main_arg0) = m ((c.tc : Thread Cert.ProjTailIdeal.nD Cert.ProjTailIdeal.τ).loc Cert.ProjTailIdeal.main_arg0)
      ∧ m' ((c.tc : Thread Cert.ProjTailReferenceIdeal.nD Cert.ProjTailReferenceIdeal.τ).loc Cert.ProjTailReferenceIdeal.main_arg1) = m ((c.tc : Thread Cert.ProjTailIdeal.nD Cert.ProjTailIdeal.τ).loc Cert.ProjTailIdeal.main_arg1)) →
    ∃ (v0 : (c : Dev Cert.ProjTailIdeal.nD) → Buf (Elt Ideal) ((c.tc : Thread Cert.ProjTailIdeal.nD Cert.ProjTailIdeal.τ).loc Cert.ProjTailIdeal.main_v4)),
      θ_run (Cert.ProjTailIdeal.defs (F := Ideal)) (onTc (τ := Cert.ProjTailIdeal.τ) (Cert.ProjTailIdeal.main (F := Ideal))) ⟨m, fun _ => 0, g⟩ (fun r => ∀ c : Dev Cert.ProjTailIdeal.nD,
          r.2.mem ((c.tc : Thread Cert.ProjTailIdeal.nD Cert.ProjTailIdeal.τ).loc Cert.ProjTailIdeal.main_v4) = v0 c
          ∧ r.2.mem ((c.tc : Thread Cert.ProjTailIdeal.nD Cert.ProjTailIdeal.τ).loc Cert.ProjTailIdeal.main_arg0) = m ((c.tc : Thread Cert.ProjTailIdeal.nD Cert.ProjTailIdeal.τ).loc Cert.ProjTailIdeal.main_arg0)
          ∧ r.2.mem ((c.tc : Thread Cert.ProjTailIdeal.nD Cert.ProjTailIdeal.τ).loc Cert.ProjTailIdeal.main_arg1) = m ((c.tc : Thread Cert.ProjTailIdeal.nD Cert.ProjTailIdeal.τ).loc Cert.ProjTailIdeal.main_arg1))
      ∧ θ_run (Cert.ProjTailReferenceIdeal.defs (F := Ideal)) (onTc (τ := Cert.ProjTailReferenceIdeal.τ) (Cert.ProjTailReferenceIdeal.main (F := Ideal))) ⟨m', fun _ => 0, g'⟩ (fun r => ∀ c : Dev Cert.ProjTailReferenceIdeal.nD,
          r.2.mem ((c.tc : Thread Cert.ProjTailReferenceIdeal.nD Cert.ProjTailReferenceIdeal.τ).loc Cert.ProjTailReferenceIdeal.main_v8) = v0 c
          ∧ r.2.mem ((c.tc : Thread Cert.ProjTailReferenceIdeal.nD Cert.ProjTailReferenceIdeal.τ).loc Cert.ProjTailReferenceIdeal.main_arg0) = m' ((c.tc : Thread Cert.ProjTailReferenceIdeal.nD Cert.ProjTailReferenceIdeal.τ).loc Cert.ProjTailReferenceIdeal.main_arg0)
          ∧ r.2.mem ((c.tc : Thread Cert.ProjTailReferenceIdeal.nD Cert.ProjTailReferenceIdeal.τ).loc Cert.ProjTailReferenceIdeal.main_arg1) = m' ((c.tc : Thread Cert.ProjTailReferenceIdeal.nD Cert.ProjTailReferenceIdeal.τ).loc Cert.ProjTailReferenceIdeal.main_arg1))

def preserves_Outproj_OutprojIdeal : Prop :=
  True

def algebraic_OutprojIdeal_OutprojReferenceIdeal [hOutprojIdeal : Cert.OutprojIdeal.Facts] [hOutprojReferenceIdeal : Cert.OutprojReferenceIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)
      ∧ m' ((c.tc : Thread Cert.OutprojReferenceIdeal.nD Cert.OutprojReferenceIdeal.τ).loc Cert.OutprojReferenceIdeal.main_arg3) = m ((c.tc : Thread Cert.OutprojIdeal.nD Cert.OutprojIdeal.τ).loc Cert.OutprojIdeal.main_arg3)
      ∧ m' ((c.tc : Thread Cert.OutprojReferenceIdeal.nD Cert.OutprojReferenceIdeal.τ).loc Cert.OutprojReferenceIdeal.main_arg4) = m ((c.tc : Thread Cert.OutprojIdeal.nD Cert.OutprojIdeal.τ).loc Cert.OutprojIdeal.main_arg4)
      ∧ m' ((c.tc : Thread Cert.OutprojReferenceIdeal.nD Cert.OutprojReferenceIdeal.τ).loc Cert.OutprojReferenceIdeal.main_arg5) = m ((c.tc : Thread Cert.OutprojIdeal.nD Cert.OutprojIdeal.τ).loc Cert.OutprojIdeal.main_arg5)
      ∧ m' ((c.tc : Thread Cert.OutprojReferenceIdeal.nD Cert.OutprojReferenceIdeal.τ).loc Cert.OutprojReferenceIdeal.main_arg6) = m ((c.tc : Thread Cert.OutprojIdeal.nD Cert.OutprojIdeal.τ).loc Cert.OutprojIdeal.main_arg6)
      ∧ m' ((c.tc : Thread Cert.OutprojReferenceIdeal.nD Cert.OutprojReferenceIdeal.τ).loc Cert.OutprojReferenceIdeal.main_arg7) = m ((c.tc : Thread Cert.OutprojIdeal.nD Cert.OutprojIdeal.τ).loc Cert.OutprojIdeal.main_arg7)) →
    ∃ (v0 : (c : Dev Cert.OutprojIdeal.nD) → Buf (Elt Ideal) ((c.tc : Thread Cert.OutprojIdeal.nD Cert.OutprojIdeal.τ).loc Cert.OutprojIdeal.main_v11_0)) (v1 : (c : Dev Cert.OutprojIdeal.nD) → Buf (Elt Ideal) ((c.tc : Thread Cert.OutprojIdeal.nD Cert.OutprojIdeal.τ).loc Cert.OutprojIdeal.main_v11_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v11_0) = v0 c
          ∧ r.2.mem ((c.tc : Thread Cert.OutprojIdeal.nD Cert.OutprojIdeal.τ).loc Cert.OutprojIdeal.main_v11_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v47) = v0 c
          ∧ r.2.mem ((c.tc : Thread Cert.OutprojReferenceIdeal.nD Cert.OutprojReferenceIdeal.τ).loc Cert.OutprojReferenceIdeal.main_v53) = v1 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
          ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4)
          ∧ r.2.mem ((c.tc : Thread Cert.OutprojReferenceIdeal.nD Cert.OutprojReferenceIdeal.τ).loc Cert.OutprojReferenceIdeal.main_arg5) = m' ((c.tc : Thread Cert.OutprojReferenceIdeal.nD Cert.OutprojReferenceIdeal.τ).loc Cert.OutprojReferenceIdeal.main_arg5)
          ∧ r.2.mem ((c.tc : Thread Cert.OutprojReferenceIdeal.nD Cert.OutprojReferenceIdeal.τ).loc Cert.OutprojReferenceIdeal.main_arg6) = m' ((c.tc : Thread Cert.OutprojReferenceIdeal.nD Cert.OutprojReferenceIdeal.τ).loc Cert.OutprojReferenceIdeal.main_arg6)
          ∧ r.2.mem ((c.tc : Thread Cert.OutprojReferenceIdeal.nD Cert.OutprojReferenceIdeal.τ).loc Cert.OutprojReferenceIdeal.main_arg7) = m' ((c.tc : Thread Cert.OutprojReferenceIdeal.nD Cert.OutprojReferenceIdeal.τ).loc Cert.OutprojReferenceIdeal.main_arg7))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)
      ∧ m' ((c.tc : Thread Cert.CombineReferenceIdeal.nD Cert.CombineReferenceIdeal.τ).loc Cert.CombineReferenceIdeal.main_arg5) = m ((c.tc : Thread Cert.CombineIdeal.nD Cert.CombineIdeal.τ).loc Cert.CombineIdeal.main_arg5)
      ∧ m' ((c.tc : Thread Cert.CombineReferenceIdeal.nD Cert.CombineReferenceIdeal.τ).loc Cert.CombineReferenceIdeal.main_arg6) = m ((c.tc : Thread Cert.CombineIdeal.nD Cert.CombineIdeal.τ).loc Cert.CombineIdeal.main_arg6)
      ∧ m' ((c.tc : Thread Cert.CombineReferenceIdeal.nD Cert.CombineReferenceIdeal.τ).loc Cert.CombineReferenceIdeal.main_arg7) = m ((c.tc : Thread Cert.CombineIdeal.nD Cert.CombineIdeal.τ).loc Cert.CombineIdeal.main_arg7)
      ∧ m' ((c.tc : Thread Cert.CombineReferenceIdeal.nD Cert.CombineReferenceIdeal.τ).loc Cert.CombineReferenceIdeal.main_arg8) = m ((c.tc : Thread Cert.CombineIdeal.nD Cert.CombineIdeal.τ).loc Cert.CombineIdeal.main_arg8)
      ∧ m' ((c.tc : Thread Cert.CombineReferenceIdeal.nD Cert.CombineReferenceIdeal.τ).loc Cert.CombineReferenceIdeal.main_arg9) = m ((c.tc : Thread Cert.CombineIdeal.nD Cert.CombineIdeal.τ).loc Cert.CombineIdeal.main_arg9)) →
    ∃ (v0 : (c : Dev Cert.CombineIdeal.nD) → Buf (Elt Ideal) ((c.tc : Thread Cert.CombineIdeal.nD Cert.CombineIdeal.τ).loc Cert.CombineIdeal.main_v19_0)) (v1 : (c : Dev Cert.CombineIdeal.nD) → Buf (Elt Ideal) ((c.tc : Thread Cert.CombineIdeal.nD Cert.CombineIdeal.τ).loc Cert.CombineIdeal.main_v19_1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v19_0) = v0 c
          ∧ r.2.mem ((c.tc : Thread Cert.CombineIdeal.nD Cert.CombineIdeal.τ).loc Cert.CombineIdeal.main_v19_1) = v1 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
          ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
          ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)
          ∧ r.2.mem ((c.tc : Thread Cert.CombineIdeal.nD Cert.CombineIdeal.τ).loc Cert.CombineIdeal.main_arg9) = m ((c.tc : Thread Cert.CombineIdeal.nD Cert.CombineIdeal.τ).loc Cert.CombineIdeal.main_arg9))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v69) = v0 c
          ∧ r.2.mem ((c.tc : Thread Cert.CombineReferenceIdeal.nD Cert.CombineReferenceIdeal.τ).loc Cert.CombineReferenceIdeal.main_v76) = v1 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5)
          ∧ r.2.mem ((c.tc : Thread Cert.CombineReferenceIdeal.nD Cert.CombineReferenceIdeal.τ).loc Cert.CombineReferenceIdeal.main_arg6) = m' ((c.tc : Thread Cert.CombineReferenceIdeal.nD Cert.CombineReferenceIdeal.τ).loc Cert.CombineReferenceIdeal.main_arg6)
          ∧ r.2.mem ((c.tc : Thread Cert.CombineReferenceIdeal.nD Cert.CombineReferenceIdeal.τ).loc Cert.CombineReferenceIdeal.main_arg7) = m' ((c.tc : Thread Cert.CombineReferenceIdeal.nD Cert.CombineReferenceIdeal.τ).loc Cert.CombineReferenceIdeal.main_arg7)
          ∧ r.2.mem ((c.tc : Thread Cert.CombineReferenceIdeal.nD Cert.CombineReferenceIdeal.τ).loc Cert.CombineReferenceIdeal.main_arg8) = m' ((c.tc : Thread Cert.CombineReferenceIdeal.nD Cert.CombineReferenceIdeal.τ).loc Cert.CombineReferenceIdeal.main_arg8)
          ∧ r.2.mem ((c.tc : Thread Cert.CombineReferenceIdeal.nD Cert.CombineReferenceIdeal.τ).loc Cert.CombineReferenceIdeal.main_arg9) = m' ((c.tc : Thread Cert.CombineReferenceIdeal.nD Cert.CombineReferenceIdeal.τ).loc Cert.CombineReferenceIdeal.main_arg9))

def preserves_Attention_AttentionIdeal : Prop :=
  True

def algebraic_AttentionIdeal_AttentionReferenceIdeal_pre_bounded [hAttentionIdeal : Cert.AttentionIdeal.Facts] [hAttentionReferenceIdeal : Cert.AttentionReferenceIdeal.Facts] [hPre_bounded : Cert.Pre_bounded.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal_bounded m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v32) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0))

def preserves_Gating_GatingIdeal : Prop :=
  True

def algebraic_GatingIdeal_GatingReferenceIdeal [hGatingIdeal : Cert.GatingIdeal.Facts] [hGatingReferenceIdeal : Cert.GatingReferenceIdeal.Facts] : Prop :=
  ∀ (m : (ℓ : Loc Cert.GatingIdeal.nD Cert.GatingIdeal.τ Cert.GatingIdeal.sig) → Buf (Elt Ideal) ℓ) (g : Dev Cert.GatingIdeal.nD → PrngReg)
    (m' : (ℓ : Loc Cert.GatingReferenceIdeal.nD Cert.GatingReferenceIdeal.τ Cert.GatingReferenceIdeal.sig) → Buf (Elt Ideal) ℓ) (g' : Dev Cert.GatingReferenceIdeal.nD → PrngReg), Pre_GatingIdeal m →
    (∀ c : Dev Cert.GatingIdeal.nD,
      m' ((c.tc : Thread Cert.GatingReferenceIdeal.nD Cert.GatingReferenceIdeal.τ).loc Cert.GatingReferenceIdeal.main_arg0) = m ((c.tc : Thread Cert.GatingIdeal.nD Cert.GatingIdeal.τ).loc Cert.GatingIdeal.main_arg0)
      ∧ m' ((c.tc : Thread Cert.GatingReferenceIdeal.nD Cert.GatingReferenceIdeal.τ).loc Cert.GatingReferenceIdeal.main_arg1) = m ((c.tc : Thread Cert.GatingIdeal.nD Cert.GatingIdeal.τ).loc Cert.GatingIdeal.main_arg1)
      ∧ m' ((c.tc : Thread Cert.GatingReferenceIdeal.nD Cert.GatingReferenceIdeal.τ).loc Cert.GatingReferenceIdeal.main_arg2) = m ((c.tc : Thread Cert.GatingIdeal.nD Cert.GatingIdeal.τ).loc Cert.GatingIdeal.main_arg2)
      ∧ m' ((c.tc : Thread Cert.GatingReferenceIdeal.nD Cert.GatingReferenceIdeal.τ).loc Cert.GatingReferenceIdeal.main_arg3) = m ((c.tc : Thread Cert.GatingIdeal.nD Cert.GatingIdeal.τ).loc Cert.GatingIdeal.main_arg3)
      ∧ m' ((c.tc : Thread Cert.GatingReferenceIdeal.nD Cert.GatingReferenceIdeal.τ).loc Cert.GatingReferenceIdeal.main_arg4) = m ((c.tc : Thread Cert.GatingIdeal.nD Cert.GatingIdeal.τ).loc Cert.GatingIdeal.main_arg4)) →
    ∃ (v0 : (c : Dev Cert.GatingIdeal.nD) → Buf (Elt Ideal) ((c.tc : Thread Cert.GatingIdeal.nD Cert.GatingIdeal.τ).loc Cert.GatingIdeal.main_v3)),
      θ_run (Cert.GatingIdeal.defs (F := Ideal)) (onTc (τ := Cert.GatingIdeal.τ) (Cert.GatingIdeal.main (F := Ideal))) ⟨m, fun _ => 0, g⟩ (fun r => ∀ c : Dev Cert.GatingIdeal.nD,
          r.2.mem ((c.tc : Thread Cert.GatingIdeal.nD Cert.GatingIdeal.τ).loc Cert.GatingIdeal.main_v3) = v0 c
          ∧ r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
          ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
          ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
          ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
          ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ θ_run (Cert.GatingReferenceIdeal.defs (F := Ideal)) (onTc (τ := Cert.GatingReferenceIdeal.τ) (Cert.GatingReferenceIdeal.main (F := Ideal))) ⟨m', fun _ => 0, g'⟩ (fun r => ∀ c : Dev Cert.GatingReferenceIdeal.nD,
          r.2.mem ((c.tc : Thread Cert.GatingReferenceIdeal.nD Cert.GatingReferenceIdeal.τ).loc Cert.GatingReferenceIdeal.main_v56) = v0 c
          ∧ r.2.mem ((c.tc : Thread Cert.GatingReferenceIdeal.nD Cert.GatingReferenceIdeal.τ).loc Cert.GatingReferenceIdeal.main_arg0) = m' ((c.tc : Thread Cert.GatingReferenceIdeal.nD Cert.GatingReferenceIdeal.τ).loc Cert.GatingReferenceIdeal.main_arg0)
          ∧ r.2.mem ((c.tc : Thread Cert.GatingReferenceIdeal.nD Cert.GatingReferenceIdeal.τ).loc Cert.GatingReferenceIdeal.main_arg1) = m' ((c.tc : Thread Cert.GatingReferenceIdeal.nD Cert.GatingReferenceIdeal.τ).loc Cert.GatingReferenceIdeal.main_arg1)
          ∧ r.2.mem ((c.tc : Thread Cert.GatingReferenceIdeal.nD Cert.GatingReferenceIdeal.τ).loc Cert.GatingReferenceIdeal.main_arg2) = m' ((c.tc : Thread Cert.GatingReferenceIdeal.nD Cert.GatingReferenceIdeal.τ).loc Cert.GatingReferenceIdeal.main_arg2)
          ∧ r.2.mem ((c.tc : Thread Cert.GatingReferenceIdeal.nD Cert.GatingReferenceIdeal.τ).loc Cert.GatingReferenceIdeal.main_arg3) = m' ((c.tc : Thread Cert.GatingReferenceIdeal.nD Cert.GatingReferenceIdeal.τ).loc Cert.GatingReferenceIdeal.main_arg3)
          ∧ r.2.mem ((c.tc : Thread Cert.GatingReferenceIdeal.nD Cert.GatingReferenceIdeal.τ).loc Cert.GatingReferenceIdeal.main_arg4) = m' ((c.tc : Thread Cert.GatingReferenceIdeal.nD Cert.GatingReferenceIdeal.τ).loc Cert.GatingReferenceIdeal.main_arg4))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hProjSb : Cert.ProjSb.Facts) (hProjSbIdeal : Cert.ProjSbIdeal.Facts) (hProjSbReferenceIdeal : Cert.ProjSbReferenceIdeal.Facts) (hProjGdn : Cert.ProjGdn.Facts) (hProjGdnIdeal : Cert.ProjGdnIdeal.Facts) (hProjGdnReferenceIdeal : Cert.ProjGdnReferenceIdeal.Facts) (hProjTail : Cert.ProjTail.Facts) (hProjTailIdeal : Cert.ProjTailIdeal.Facts) (hProjTailReferenceIdeal : Cert.ProjTailReferenceIdeal.Facts) (hOutproj : Cert.Outproj.Facts) (hOutprojIdeal : Cert.OutprojIdeal.Facts) (hOutprojReferenceIdeal : Cert.OutprojReferenceIdeal.Facts) (hCombine : Cert.Combine.Facts) (hCombineIdeal : Cert.CombineIdeal.Facts) (hCombineReferenceIdeal : Cert.CombineReferenceIdeal.Facts) (hAttention : Cert.Attention.Facts) (hAttentionIdeal : Cert.AttentionIdeal.Facts) (hAttentionReferenceIdeal : Cert.AttentionReferenceIdeal.Facts) (hGating : Cert.Gating.Facts) (hGatingIdeal : Cert.GatingIdeal.Facts) (hGatingReferenceIdeal : Cert.GatingReferenceIdeal.Facts) (hPre_finite : Cert.Pre_finite.Facts) (hPre_planned : Cert.Pre_planned.Facts) (hPre_bounded : Cert.Pre_bounded.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_planned := hPre_planned)
    ∧ quiescent_ExpertsIdeal (hExpertsIdeal := hExpertsIdeal) (hPre_planned := hPre_planned)
    ∧ quiescent_ExpertsReferenceIdeal (hExpertsReferenceIdeal := hExpertsReferenceIdeal)
    ∧ quiescent_ExpertsReferenceIdeal_pre_planned (hExpertsReferenceIdeal := hExpertsReferenceIdeal) (hPre_planned := hPre_planned)
    ∧ quiescent_ProjSb (hProjSb := hProjSb)
    ∧ quiescent_ProjSbIdeal (hProjSbIdeal := hProjSbIdeal)
    ∧ quiescent_ProjSbReferenceIdeal (hProjSbReferenceIdeal := hProjSbReferenceIdeal)
    ∧ quiescent_ProjGdn (hProjGdn := hProjGdn)
    ∧ quiescent_ProjGdnIdeal (hProjGdnIdeal := hProjGdnIdeal)
    ∧ quiescent_ProjGdnReferenceIdeal (hProjGdnReferenceIdeal := hProjGdnReferenceIdeal)
    ∧ quiescent_ProjTail (hProjTail := hProjTail)
    ∧ quiescent_ProjTailIdeal (hProjTailIdeal := hProjTailIdeal)
    ∧ quiescent_ProjTailReferenceIdeal (hProjTailReferenceIdeal := hProjTailReferenceIdeal)
    ∧ quiescent_Outproj (hOutproj := hOutproj)
    ∧ quiescent_OutprojIdeal (hOutprojIdeal := hOutprojIdeal)
    ∧ quiescent_OutprojReferenceIdeal (hOutprojReferenceIdeal := hOutprojReferenceIdeal)
    ∧ quiescent_Combine (hCombine := hCombine)
    ∧ quiescent_CombineIdeal (hCombineIdeal := hCombineIdeal)
    ∧ quiescent_CombineReferenceIdeal (hCombineReferenceIdeal := hCombineReferenceIdeal)
    ∧ quiescent_Attention (hAttention := hAttention)
    ∧ quiescent_AttentionIdeal (hAttentionIdeal := hAttentionIdeal)
    ∧ quiescent_AttentionIdeal_pre_bounded (hAttentionIdeal := hAttentionIdeal) (hPre_bounded := hPre_bounded)
    ∧ quiescent_AttentionReferenceIdeal (hAttentionReferenceIdeal := hAttentionReferenceIdeal)
    ∧ quiescent_AttentionReferenceIdeal_pre_bounded (hAttentionReferenceIdeal := hAttentionReferenceIdeal) (hPre_bounded := hPre_bounded)
    ∧ quiescent_Gating (hGating := hGating)
    ∧ quiescent_GatingIdeal (hGatingIdeal := hGatingIdeal)
    ∧ quiescent_GatingReferenceIdeal (hGatingReferenceIdeal := hGatingReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal (hExpertsIdeal := hExpertsIdeal) (hExpertsReferenceIdeal := hExpertsReferenceIdeal) (hPre_planned := hPre_planned)
    ∧ preserves_ProjSb_ProjSbIdeal
    ∧ algebraic_ProjSbIdeal_ProjSbReferenceIdeal (hProjSbIdeal := hProjSbIdeal) (hProjSbReferenceIdeal := hProjSbReferenceIdeal)
    ∧ preserves_ProjGdn_ProjGdnIdeal
    ∧ algebraic_ProjGdnIdeal_ProjGdnReferenceIdeal (hProjGdnIdeal := hProjGdnIdeal) (hProjGdnReferenceIdeal := hProjGdnReferenceIdeal)
    ∧ preserves_ProjTail_ProjTailIdeal
    ∧ algebraic_ProjTailIdeal_ProjTailReferenceIdeal (hProjTailIdeal := hProjTailIdeal) (hProjTailReferenceIdeal := hProjTailReferenceIdeal)
    ∧ preserves_Outproj_OutprojIdeal
    ∧ algebraic_OutprojIdeal_OutprojReferenceIdeal (hOutprojIdeal := hOutprojIdeal) (hOutprojReferenceIdeal := hOutprojReferenceIdeal)
    ∧ preserves_Combine_CombineIdeal
    ∧ algebraic_CombineIdeal_CombineReferenceIdeal (hCombineIdeal := hCombineIdeal) (hCombineReferenceIdeal := hCombineReferenceIdeal)
    ∧ preserves_Attention_AttentionIdeal
    ∧ algebraic_AttentionIdeal_AttentionReferenceIdeal_pre_bounded (hAttentionIdeal := hAttentionIdeal) (hAttentionReferenceIdeal := hAttentionReferenceIdeal) (hPre_bounded := hPre_bounded)
    ∧ preserves_Gating_GatingIdeal
    ∧ algebraic_GatingIdeal_GatingReferenceIdeal (hGatingIdeal := hGatingIdeal) (hGatingReferenceIdeal := hGatingReferenceIdeal)
-- ==== Pre_bounded.lean ====
abbrev S8192x1536 : Shape := ⟨2, ![8192, 1536]⟩
abbrev S8192x1024 : Shape := ⟨2, ![8192, 1024]⟩
abbrev S_ : Shape := ⟨0, ![]⟩
abbrev S1 : Shape := ⟨1, ![1]⟩

class Facts : Prop where
  slices_S8192x1536_S8192x1024_0_0 : S8192x1536.Slices ![0, 0] S8192x1024
  bcast_S_S8192x1024 : S_.BroadcastsInDim S8192x1024 (![] : Fin 0 → Fin S8192x1024.rank)
  reducesTo_S8192x1024_S_d0_1 : S8192x1024.ReducesTo [0, 1] S_
  h_S_ : 0 < S_.numel
  shapeCasts_S_S1 : S_.ShapeCasts S1

variable [Facts]

def fn {F : FTy → Type} [FloatOps F] (main_arg0 : FVec F S8192x1536 .bf16) : IVec S1 1 :=
  let main_v0 : FVec F S8192x1024 .bf16 := (extractStridedSlice S8192x1024 ![0, 0] · slices_S8192x1536_S8192x1024_0_0) main_arg0
  let main_v1 : FVec F S8192x1024 .bf16 := Host.absf main_v0
  let main_cst : FVec F S_ .bf16 := constant S_ .bf16 0x7F80#16
  let main_v2 : FVec F S8192x1024 .bf16 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : IVec S1 1 := shapeCast S1 main_v4 shapeCasts_S_S1
  main_v5
-- ==== Pre_finite.lean ====
abbrev S8192x4096 : Shape := ⟨2, ![8192, 4096]⟩
abbrev S8192x1152 : Shape := ⟨2, ![8192, 1152]⟩
abbrev S4x3072 : Shape := ⟨2, ![4, 3072]⟩
abbrev S8 : Shape := ⟨1, ![8]⟩
abbrev S128 : Shape := ⟨1, ![128]⟩
abbrev S_ : Shape := ⟨0, ![]⟩
abbrev S1 : Shape := ⟨1, ![1]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x1152 : S_.BroadcastsInDim S8192x1152 (![] : Fin 0 → Fin S8192x1152.rank)
  reducesTo_S8192x1152_S_d0_1 : S8192x1152.ReducesTo [0, 1] S_
  bcast_S_S4x3072 : S_.BroadcastsInDim S4x3072 (![] : Fin 0 → Fin S4x3072.rank)
  reducesTo_S4x3072_S_d0_1 : S4x3072.ReducesTo [0, 1] S_
  bcast_S_S8 : S_.BroadcastsInDim S8 (![] : Fin 0 → Fin S8.rank)
  reducesTo_S8_S_d0 : S8.ReducesTo [0] S_
  shapeCasts_S_S1 : S_.ShapeCasts S1

variable [Facts]

def fn_part1 {F : FTy → Type} [FloatOps F] (main_arg4 : FVec F S8 .f32) (main_v13 : IVec S_ 1) (main_v16 : IVec S8 1) : IVec S1 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : IVec S1 1 := shapeCast S1 main_v23 shapeCasts_S_S1
  main_v24

def fn {F : FTy → Type} [FloatOps F] (main_arg0 : FVec F S8192x4096 .f32) (main_arg1 : FVec F S8192x1152 .f32) (main_arg2 : FVec F S4x3072 .f32) (main_arg3 : FVec F S8 .f32) (main_arg4 : FVec F S8 .f32) (main_arg5 : FVec F S128 .f32) : IVec S1 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x1152 .f32 := Host.absf main_arg1
  let main_cst_0 : FVec F S_ .f32 := constant S_ .f32 0x7F800000#32
  let main_v5 : FVec F S8192x1152 .f32 := broadcastInDim S8192x1152 ![] bcast_S_S8192x1152 main_cst_0
  let main_v6 : IVec S8192x1152 1 := cmpf .olt main_v4 main_v5
  let main_c_1 : IVec S_ 1 := constantI S_ 1 1#1
  let main_v7 : IVec S_ 1 := (fun x v => Host.reduce IntOp.andi x v reducesTo_S8192x1152_S_d0_1 h_S_) main_v6 main_c_1
  let main_v8 : IVec S_ 1 := andi main_v3 main_v7
  let main_v9 : FVec F S4x3072 .f32 := Host.absf main_arg2
  let main_cst_2 : FVec F S_ .f32 := constant S_ .f32 0x7F800000#32
  let main_v10 : FVec F S4x3072 .f32 := broadcastInDim S4x3072 ![] bcast_S_S4x3072 main_cst_2
  let main_v11 : IVec S4x3072 1 := cmpf .olt main_v9 main_v10
  let main_c_3 : IVec S_ 1 := constantI S_ 1 1#1
  let main_v12 : IVec S_ 1 := (fun x v => Host.reduce IntOp.andi x v reducesTo_S4x3072_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_v13 main_v16
-- ==== Pre_planned.lean ====
abbrev S384 : Shape := ⟨1, ![384]⟩
abbrev S1 : Shape := ⟨1, ![1]⟩
abbrev S81920x2048 : Shape := ⟨2, ![81920, 2048]⟩
abbrev S4x64x2048x384 : Shape := ⟨4, ![4, 64, 2048, 384]⟩
abbrev S4x64x384x2048 : Shape := ⟨4, ![4, 64, 384, 2048]⟩
abbrev S_ : Shape := ⟨0, ![]⟩

class Facts : Prop where
  bcast_S_S384 : S_.BroadcastsInDim S384 (![] : Fin 0 → Fin S384.rank)
  reducesTo_S384_S_d0 : S384.ReducesTo [0] S_
  h_S_ : 0 < S_.numel
  shapeCasts_S1_S_ : S1.ShapeCasts S_
  shapeCasts_S_S1 : S_.ShapeCasts S1

variable [Facts]

def fn {F : FTy → Type} [FloatOps F] (main_arg0 : IVec S384 32) (main_arg1 : IVec S1 32) (main_arg2 : FVec F S81920x2048 .f32) (main_arg3 : FVec F S4x64x2048x384 .bf16) (main_arg4 : FVec F S4x64x2048x384 .bf16) (main_arg5 : FVec F S4x64x384x2048 .bf16) : IVec S1 1 :=
  let main_c : IVec S_ 32 := constantI S_ 32 0#32
  let main_v0 : IVec S384 32 := broadcastInDim S384 ![] bcast_S_S384 main_c
  let main_v1 : IVec S384 1 := cmpi .sge main_arg0 main_v0
  let main_c_0 : IVec S_ 32 := constantI S_ 32 64#32
  let main_v2 : IVec S384 32 := broadcastInDim S384 ![] bcast_S_S384 main_c_0
  let main_v3 : IVec S384 1 := cmpi .slt main_arg0 main_v2
  let main_v4 : IVec S384 1 := andi main_v1 main_v3
  let main_c_1 : IVec S_ 1 := constantI S_ 1 1#1
  let main_v5 : IVec S_ 1 := (fun x v => Host.reduce IntOp.andi x v reducesTo_S384_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg1 shapeCasts_S1_S_
  let main_c_3 : IVec S_ 32 := constantI S_ 32 320#32
  let main_v10 : IVec S_ 1 := cmpi .sle main_v9 main_c_3
  let main_v11 : IVec S_ 1 := andi main_v8 main_v10
  let main_v12 : IVec S1 1 := shapeCast S1 main_v11 shapeCasts_S_S1
  main_v12
-- ==== Kernel.lean ====
abbrev S8192x4096 : Shape := ⟨2, ![8192, 4096]⟩
abbrev S8192x1152 : Shape := ⟨2, ![8192, 1152]⟩
abbrev S4x3072 : Shape := ⟨2, ![4, 3072]⟩
abbrev S8 : Shape := ⟨1, ![8]⟩
abbrev S128 : Shape := ⟨1, ![128]⟩
abbrev S_ : Shape := ⟨0, ![]⟩
abbrev S1x128 : Shape := ⟨2, ![1, 128]⟩
abbrev S1 : Shape := ⟨1, ![1]⟩
abbrev S2 : Shape := ⟨1, ![2]⟩
abbrev S8192x1024 : Shape := ⟨2, ![8192, 1024]⟩
abbrev S64x3072 : Shape := ⟨2, ![64, 3072]⟩
abbrev S64x1024 : Shape := ⟨2, ![64, 1024]⟩
abbrev S64x128 : Shape := ⟨2, ![64, 128]⟩
abbrev S8x3072 : Shape := ⟨2, ![8, 3072]⟩
abbrev S8x128x128 : Shape := ⟨3, ![8, 128, 128]⟩
abbrev S72x3072 : Shape := ⟨2, ![72, 3072]⟩
abbrev S1x3072 : Shape := ⟨2, ![1, 3072]⟩
abbrev S64x64 : Shape := ⟨2, ![64, 64]⟩
abbrev S128x64 : Shape := ⟨2, ![128, 64]⟩
abbrev S64 : Shape := ⟨1, ![64]⟩
abbrev S64x1 : Shape := ⟨2, ![64, 1]⟩
abbrev S1x64 : Shape := ⟨2, ![1, 64]⟩
abbrev S1x1 : Shape := ⟨2, ![1, 1]⟩
abbrev S64x256 : Shape := ⟨2, ![64, 256]⟩
abbrev S1x128x128 : Shape := ⟨3, ![1, 128, 128]⟩
abbrev S128x128 : Shape := ⟨2, ![128, 128]⟩

abbrev nBuf : Space → Nat
  | .hbm => 24
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S8192x1152, .f32⟩
  | .hbm, ⟨2, _⟩ => ⟨S4x3072, .f32⟩
  | .hbm, ⟨3, _⟩ => ⟨S8, .f32⟩
  | .hbm, ⟨4, _⟩ => ⟨S8, .f32⟩
  | .hbm, ⟨5, _⟩ => ⟨S128, .f32⟩
  | .hbm, ⟨6, _⟩ => ⟨S_, .f32⟩
  | .hbm, ⟨7, _⟩ => ⟨S1x128, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S1x128, .f32⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x128, .f32⟩
  | .hbm, ⟨22, _⟩ => ⟨S1x128, .f32⟩
  | .hbm, ⟨23, _⟩ => ⟨S8192x1024, .bf16⟩
  | .local _ .vmem, ⟨0, _⟩ => ⟨S64x3072, .f32⟩
  | .local _ .vmem, ⟨1, _⟩ => ⟨S64x3072, .f32⟩
  | .local _ .vmem, ⟨2, _⟩ => ⟨S64x1024, .f32⟩
  | .local _ .vmem, ⟨3, _⟩ => ⟨S64x1024, .f32⟩
  | .local _ .vmem, ⟨4, _⟩ => ⟨S64x128, .f32⟩
  | .local _ .vmem, ⟨5, _⟩ => ⟨S64x128, .f32⟩
  | .local _ .vmem, ⟨6, _⟩ => ⟨S4x3072, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S64x1024, .bf16⟩
  | .local _ .vmem, ⟨11, _⟩ => ⟨S64x1024, .bf16⟩
  | .local _ .vmem, ⟨12, _⟩ => ⟨S8x3072, .f32⟩
  | .local _ .vmem, ⟨13, _⟩ => ⟨S8x128x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_c_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8192x4096 : Shape := ⟨2, ![8192, 4096]⟩
abbrev S8192x1152 : Shape := ⟨2, ![8192, 1152]⟩
abbrev S4x3072 : Shape := ⟨2, ![4, 3072]⟩
abbrev S8 : Shape := ⟨1, ![8]⟩
abbrev S128 : Shape := ⟨1, ![128]⟩
abbrev S8192x3072 : Shape := ⟨2, ![8192, 3072]⟩
abbrev S8192x8 : Shape := ⟨2, ![8192, 8]⟩
abbrev S_ : Shape := ⟨0, ![]⟩
abbrev S8195x3072 : Shape := ⟨2, ![8195, 3072]⟩
abbrev S1x3072 : Shape := ⟨2, ![1, 3072]⟩
abbrev S3072 : Shape := ⟨1, ![3072]⟩
abbrev S8192x1024 : Shape := ⟨2, ![8192, 1024]⟩
abbrev S8192x8x128 : Shape := ⟨3, ![8192, 8, 128]⟩
abbrev S1x8 : Shape := ⟨2, ![1, 8]⟩
abbrev S8192x8x1 : Shape := ⟨3, ![8192, 8, 1]⟩
abbrev S8x128x128 : Shape := ⟨3, ![8, 128, 128]⟩
abbrev S1x8x128 : Shape := ⟨3, ![1, 8, 128]⟩
abbrev S8x128 : Shape := ⟨2, ![8, 128]⟩
abbrev S8x1x1 : Shape := ⟨3, ![8, 1, 1]⟩
abbrev S8x128x1 : Shape := ⟨3, ![8, 128, 1]⟩
abbrev S8x1 : Shape := ⟨2, ![8, 1]⟩
abbrev S8x1x128 : Shape := ⟨3, ![8, 1, 128]⟩
abbrev S1x1x128 : Shape := ⟨3, ![1, 1, 128]⟩

abbrev nBuf : Space → Nat
  | .hbm => 192
  | .vmem => 0
  | .smem => 0
  | _ => 0

abbrev hbmTy0_0 (i : Nat) : BufTy := match i % 128 with
  | 0 => ⟨S8192x4096, .f32⟩
  | 1 => ⟨S8192x1152, .f32⟩
  | 2 => ⟨S4x3072, .f32⟩
  | 3 => ⟨S8, .f32⟩
  | 4 => ⟨S8, .f32⟩
  | 5 => ⟨S128, .f32⟩
  | 6 => ⟨S8192x3072, .f32⟩
  | 7 => ⟨S8192x8, .f32⟩
  | 8 => ⟨S8192x8, .f32⟩
  | 9 => ⟨S_, .i32⟩
  | 10 => ⟨S_, .f32⟩
  | 11 => ⟨S8195x3072, .f32⟩
  | 12 => ⟨S8192x3072, .f32⟩
  | 13 => ⟨S1x3072, .f32⟩
  | 14 => ⟨S3072, .f32⟩
  | 15 => ⟨S1x3072, .f32⟩
  | 16 => ⟨S8192x3072, .f32⟩
  | 17 => ⟨S8192x3072, .f32⟩
  | 18 => ⟨S8192x3072, .f32⟩
  | 19 => ⟨S1x3072, .f32⟩
  | 20 => ⟨S3072, .f32⟩
  | 21 => ⟨S1x3072, .f32⟩
  | 22 => ⟨S8192x3072, .f32⟩
  | 23 => ⟨S8192x3072, .f32⟩
  | 24 => ⟨S8192x3072, .f32⟩
  | 25 => ⟨S8192x3072, .f32⟩
  | 26 => ⟨S1x3072, .f32⟩
  | 27 => ⟨S3072, .f32⟩
  | 28 => ⟨S1x3072, .f32⟩
  | 29 => ⟨S8192x3072, .f32⟩
  | 30 => ⟨S8192x3072, .f32⟩
  | 31 => ⟨S8192x3072, .f32⟩
  | 32 => ⟨S8192x3072, .f32⟩
  | 33 => ⟨S1x3072, .f32⟩
  | 34 => ⟨S3072, .f32⟩
  | 35 => ⟨S1x3072, .f32⟩
  | 36 => ⟨S8192x3072, .f32⟩
  | 37 => ⟨S8192x3072, .f32⟩
  | 38 => ⟨S8192x3072, .f32⟩
  | 39 => ⟨S8192x3072, .f32⟩
  | 40 => ⟨S8192x3072, .f32⟩
  | 41 => ⟨S_, .f32⟩
  | 42 => ⟨S8192x3072, .f32⟩
  | 43 => ⟨S8192x3072, .f32⟩
  | 44 => ⟨S_, .f32⟩
  | 45 => ⟨S8192x3072, .f32⟩
  | 46 => ⟨S8192x3072, .f32⟩
  | 47 => ⟨S8192x3072, .f32⟩
  | 48 => ⟨S8192x1024, .f32⟩
  | 49 => ⟨S8192x1024, .f32⟩
  | 50 => ⟨S8192x1024, .f32⟩
  | 51 => ⟨S8192x8x128, .f32⟩
  | 52 => ⟨S8192x8x128, .f32⟩
  | 53 => ⟨S8192x8x128, .f32⟩
  | 54 => ⟨S8192x8, .f32⟩
  | 55 => ⟨S8192x8, .f32⟩
  | 56 => ⟨S_, .f32⟩
  | 57 => ⟨S8192x8, .f32⟩
  | 58 => ⟨S8192x8, .f32⟩
  | 59 => ⟨S_, .f32⟩
  | 60 => ⟨S8192x8, .f32⟩
  | 61 => ⟨S8192x8, .f32⟩
  | 62 => ⟨S8, .f32⟩
  | 63 => ⟨S8, .f32⟩
  | 64 => ⟨S1x8, .f32⟩
  | 65 => ⟨S8192x8, .f32⟩
  | 66 => ⟨S8192x8, .f32⟩
  | 67 => ⟨S_, .f32⟩
  | 68 => ⟨S8192x8, .f32⟩
  | 69 => ⟨S8192x8, .f32⟩
  | 70 => ⟨S8192x8, .f32⟩
  | 71 => ⟨S8192x8, .f32⟩
  | 72 => ⟨S8192x8, .i1⟩
  | 73 => ⟨S8192x8, .f32⟩
  | 74 => ⟨S8192x8, .f32⟩
  | 75 => ⟨S8192x8, .f32⟩
  | 76 => ⟨S8192x8, .f32⟩
  | 77 => ⟨S8192x8, .f32⟩
  | 78 => ⟨S8192x8, .f32⟩
  | 79 => ⟨S8192x8, .f32⟩
  | 80 => ⟨S8192x8, .f32⟩
  | 81 => ⟨S1x8, .f32⟩
  | 82 => ⟨S8192x8, .f32⟩
  | 83 => ⟨S8192x8, .f32⟩
  | 84 => ⟨S8192x8x128, .f32⟩
  | 85 => ⟨S_, .f32⟩
  | 86 => ⟨S8192x8, .f32⟩
  | 87 => ⟨S8192x8x1, .f32⟩
  | 88 => ⟨S_, .f32⟩
  | 89 => ⟨S8192x8x1, .f32⟩
  | 90 => ⟨S8192x8x1, .f32⟩
  | 91 => ⟨S8192x8x1, .f32⟩
  | 92 => ⟨S8192x8x128, .f32⟩
  | 93 => ⟨S8192x8x128, .f32⟩
  | 94 => ⟨S8192x8x128, .f32⟩
  | 95 => ⟨S_, .f32⟩
  | 96 => ⟨S8192x8, .f32⟩
  | 97 => ⟨S8192x8x1, .f32⟩
  | 98 => ⟨S_, .f32⟩
  | 99 => ⟨S8192x8x1, .f32⟩
  | 100 => ⟨S8192x8x1, .f32⟩
  | 101 => ⟨S8192x8x1, .f32⟩
  | 102 => ⟨S8192x8x128, .f32⟩
  | 103 => ⟨S8192x8x128, .f32⟩
  | 104 => ⟨S_, .f32⟩
  | 105 => ⟨S8192x8x128, .f32⟩
  | 106 => ⟨S8192x8x128, .f32⟩
  | 107 => ⟨S_, .f32⟩
  | 108 => ⟨S8x128x128, .f32⟩
  | 109 => ⟨S_, .f32⟩
  | 110 => ⟨S8192x8x128, .f32⟩
  | 111 => ⟨S_, .i32⟩
  | 112 => ⟨S8192x8x128, .f32⟩
  | 113 => ⟨S8192x8x128, .f32⟩
  | 114 => ⟨S8192x8x128, .f32⟩
  | 115 => ⟨S8192x8, .f32⟩
  | 116 => ⟨S8192x8, .f32⟩
  | 117 => ⟨S_, .i32⟩
  | 118 => ⟨S8x128x128, .f32⟩
  | 119 => ⟨S8192x8x128, .f32⟩
  | 120 => ⟨S_, .i32⟩
  | 121 => ⟨S_, .i1⟩
  | 122 => ⟨S_, .i32⟩
  | 123 => ⟨S_, .i32⟩
  | 124 => ⟨S1x8x128, .f32⟩
  | 125 => ⟨S8x128, .f32⟩
  | 126 => ⟨S_, .i32⟩
  | 127 => ⟨S_, .i32⟩
  | _ => ⟨S8192x4096, .f32⟩

abbrev hbmTy0_1 (i : Nat) : BufTy := match i % 128 with
  | 0 => ⟨S1x8x128, .f32⟩
  | 1 => ⟨S8x128, .f32⟩
  | 2 => ⟨S_, .i32⟩
  | 3 => ⟨S_, .i32⟩
  | 4 => ⟨S1x8x128, .f32⟩
  | 5 => ⟨S8x128, .f32⟩
  | 6 => ⟨S_, .i32⟩
  | 7 => ⟨S1x8, .f32⟩
  | 8 => ⟨S8, .f32⟩
  | 9 => ⟨S_, .i32⟩
  | 10 => ⟨S1x8, .f32⟩
  | 11 => ⟨S8, .f32⟩
  | 12 => ⟨S8, .f32⟩
  | 13 => ⟨S8x1x1, .f32⟩
  | 14 => ⟨S8x128x128, .f32⟩
  | 15 => ⟨S8x128x128, .f32⟩
  | 16 => ⟨S8x128, .f32⟩
  | 17 => ⟨S8x128, .f32⟩
  | 18 => ⟨S8x128x1, .f32⟩
  | 19 => ⟨S8x1, .f32⟩
  | 20 => ⟨S8x128, .f32⟩
  | 21 => ⟨S8x128, .f32⟩
  | 22 => ⟨S8x1x128, .f32⟩
  | 23 => ⟨S8x128x128, .f32⟩
  | 24 => ⟨S8x128x128, .f32⟩
  | 25 => ⟨S8x128x128, .f32⟩
  | 26 => ⟨S8x128x128, .f32⟩
  | 27 => ⟨S8x128, .f32⟩
  | 28 => ⟨S1x8x128, .f32⟩
  | 29 => ⟨S_, .i32⟩
  | 30 => ⟨S_, .i32⟩
  | 31 => ⟨S8192x8x128, .f32⟩
  | 32 => ⟨S_, .i32⟩
  | 33 => ⟨S_, .i32⟩
  | 34 => ⟨S8192x8x128, .f32⟩
  | 35 => ⟨S_, .f32⟩
  | 36 => ⟨S8192x8, .f32⟩
  | 37 => ⟨S8192x8x1, .f32⟩
  | 38 => ⟨S_, .f32⟩
  | 39 => ⟨S8192x8x1, .f32⟩
  | 40 => ⟨S8192x8x1, .f32⟩
  | 41 => ⟨S_, .f32⟩
  | 42 => ⟨S8192x8x1, .f32⟩
  | 43 => ⟨S8192x8x1, .f32⟩
  | 44 => ⟨S8192x8x1, .f32⟩
  | 45 => ⟨S8192x8x128, .f32⟩
  | 46 => ⟨S8192x8x128, .f32⟩
  | 47 => ⟨S8192x1024, .f32⟩
  | 48 => ⟨S8192x8x128, .f32⟩
  | 49 => ⟨S1x1x128, .f32⟩
  | 50 => ⟨S8192x8x128, .f32⟩
  | 51 => ⟨S8192x8x128, .f32⟩
  | 52 => ⟨S8192x8x128, .f32⟩
  | 53 => ⟨S8192x8x128, .f32⟩
  | 54 => ⟨S_, .f32⟩
  | 55 => ⟨S8192x8x128, .f32⟩
  | 56 => ⟨S8192x8x128, .f32⟩
  | 57 => ⟨S_, .f32⟩
  | 58 => ⟨S8192x8x128, .f32⟩
  | 59 => ⟨S8192x8x128, .f32⟩
  | 60 => ⟨S8192x8x128, .f32⟩
  | 61 => ⟨S8192x8x128, .f32⟩
  | 62 => ⟨S8192x1024, .f32⟩
  | 63 => ⟨S8192x1024, .bf16⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst : Ref sig .tc := ⟨.hbm, 56, rfl⟩
abbrev main_v40 : Ref sig .tc := ⟨.hbm, 57, rfl⟩
abbrev main_v41 : Ref sig .tc := ⟨.hbm, 58, rfl⟩
abbrev main_cst_0 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call2_cst : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_1 : Ref sig .tc := ⟨.hbm, 85, rfl⟩
abbrev main_v54 : Ref sig .tc := ⟨.hbm, 86, rfl⟩
abbrev main_v55 : Ref sig .tc := ⟨.hbm, 87, rfl⟩
abbrev main_cst_2 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_3 : Ref sig .tc := ⟨.hbm, 95, rfl⟩
abbrev main_v62 : Ref sig .tc := ⟨.hbm, 96, rfl⟩
abbrev main_v63 : Ref sig .tc := ⟨.hbm, 97, rfl⟩
abbrev main_cst_4 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_5 : Ref sig .tc := ⟨.hbm, 104, rfl⟩
abbrev main_v69 : Ref sig .tc := ⟨.hbm, 105, rfl⟩
abbrev main_v70 : Ref sig .tc := ⟨.hbm, 106, rfl⟩
abbrev main_cst_6 : Ref sig .tc := ⟨.hbm, 107, rfl⟩
abbrev main_v71 : Ref sig .tc := ⟨.hbm, 108, rfl⟩
abbrev main_cst_7 : Ref sig .tc := ⟨.hbm, 109, rfl⟩
abbrev main_v72 : Ref sig .tc := ⟨.hbm, 110, rfl⟩
abbrev main_c_8 : Ref sig .tc := ⟨.hbm, 111, rfl⟩
abbrev main_v73_0 : Ref sig .tc := ⟨.hbm, 112, rfl⟩
abbrev main_v73_1 : Ref sig .tc := ⟨.hbm, 113, rfl⟩
abbrev main_v73_2 : Ref sig .tc := ⟨.hbm, 114, rfl⟩
abbrev main_v73_3 : Ref sig .tc := ⟨.hbm, 115, rfl⟩
abbrev main_v73_4 : Ref sig .tc := ⟨.hbm, 116, rfl⟩
abbrev main_v73_5 : Ref sig .tc := ⟨.hbm, 117, rfl⟩
abbrev main_v73_6 : Ref sig .tc := ⟨.hbm, 118, rfl⟩
abbrev main_v73_7 : Ref sig .tc := ⟨.hbm, 119, rfl⟩
abbrev main_while0c_c_19 : Ref sig .tc := ⟨.hbm, 120, rfl⟩
abbrev main_while0c_v93 : Ref sig .tc := ⟨.hbm, 121, rfl⟩
abbrev main_while0b_call3_c : Ref sig .tc := ⟨.hbm, 122, rfl⟩
abbrev main_while0b_call3_c_0 : Ref sig .tc := ⟨.hbm, 123, rfl⟩
abbrev main_while0b_call3_v0 : Ref sig .tc := ⟨.hbm, 124, rfl⟩
abbrev main_while0b_v93 : Ref sig .tc := ⟨.hbm, 125, rfl⟩
abbrev main_while0b_call4_c : Ref sig .tc := ⟨.hbm, 126, rfl⟩
abbrev main_while0b_call4_c_0 : Ref sig .tc := ⟨.hbm, 127, rfl⟩
abbrev main_while0b_call4_v0 : Ref sig .tc := ⟨.hbm, 128, rfl⟩
abbrev main_while0b_v94 : Ref sig .tc := ⟨.hbm, 129, rfl⟩
abbrev main_while0b_call5_c : Ref sig .tc := ⟨.hbm, 130, rfl⟩
abbrev main_while0b_call5_c_0 : Ref sig .tc := ⟨.hbm, 131, rfl⟩
abbrev main_while0b_call5_v0 : Ref sig .tc := ⟨.hbm, 132, rfl⟩
abbrev main_while0b_v95 : Ref sig .tc := ⟨.hbm, 133, rfl⟩
abbrev main_while0b_call6_c : Ref sig .tc := ⟨.hbm, 134, rfl⟩
abbrev main_while0b_call6_v0 : Ref sig .tc := ⟨.hbm, 135, rfl⟩
abbrev main_while0b_v96 : Ref sig .tc := ⟨.hbm, 136, rfl⟩
abbrev main_while0b_call7_c : Ref sig .tc := ⟨.hbm, 137, rfl⟩
abbrev main_while0b_call7_v0 : Ref sig .tc := ⟨.hbm, 138, rfl⟩
abbrev main_while0b_v97 : Ref sig .tc := ⟨.hbm, 139, rfl⟩
abbrev main_while0b_v98 : Ref sig .tc := ⟨.hbm, 140, rfl⟩
abbrev main_while0b_v99 : Ref sig .tc := ⟨.hbm, 141, rfl⟩
abbrev main_while0b_v100 : Ref sig .tc := ⟨.hbm, 142, rfl⟩
abbrev main_while0b_v101 : Ref sig .tc := ⟨.hbm, 143, rfl⟩
abbrev main_while0b_v102 : Ref sig .tc := ⟨.hbm, 144, rfl⟩
abbrev main_while0b_v103 : Ref sig .tc := ⟨.hbm, 145, rfl⟩
abbrev main_while0b_v104 : Ref sig .tc := ⟨.hbm, 146, rfl⟩
abbrev main_while0b_v105 : Ref sig .tc := ⟨.hbm, 147, rfl⟩
abbrev main_while0b_v106 : Ref sig .tc := ⟨.hbm, 148, rfl⟩
abbrev main_while0b_v107 : Ref sig .tc := ⟨.hbm, 149, rfl⟩
abbrev main_while0b_v108 : Ref sig .tc := ⟨.hbm, 150, rfl⟩
abbrev main_while0b_v109 : Ref sig .tc := ⟨.hbm, 151, rfl⟩
abbrev main_while0b_v110 : Ref sig .tc := ⟨.hbm, 152, rfl⟩
abbrev main_while0b_v111 : Ref sig .tc := ⟨.hbm, 153, rfl⟩
abbrev main_while0b_v112 : Ref sig .tc := ⟨.hbm, 154, rfl⟩
abbrev main_while0b_v113 : Ref sig .tc := ⟨.hbm, 155, rfl⟩
abbrev main_while0b_call8_v0 : Ref sig .tc := ⟨.hbm, 156, rfl⟩
abbrev main_while0b_call8_c : Ref sig .tc := ⟨.hbm, 157, rfl⟩
abbrev main_while0b_call8_c_0 : Ref sig .tc := ⟨.hbm, 158, rfl⟩
abbrev main_while0b_v114 : Ref sig .tc := ⟨.hbm, 159, rfl⟩
abbrev main_while0b_c_19 : Ref sig .tc := ⟨.hbm, 160, rfl⟩
abbrev main_while0b_v115 : Ref sig .tc := ⟨.hbm, 161, rfl⟩
abbrev main_v74 : Ref sig .tc := ⟨.hbm, 162, rfl⟩
abbrev main_cst_9 : Ref sig .tc := ⟨.hbm, 163, rfl⟩
abbrev main_v75 : Ref sig .tc := ⟨.hbm, 164, rfl⟩
abbrev main_v76 : Ref sig .tc := ⟨.hbm, 165, rfl⟩
abbrev main_cst_10 : Ref sig .tc := ⟨.hbm, 166, rfl⟩
abbrev main_v77 : Ref sig .tc := ⟨.hbm, 167, rfl⟩
abbrev main_v78 : Ref sig .tc := ⟨.hbm, 168, rfl⟩
abbrev main_cst_11 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_call9_v0 : Ref sig .tc := ⟨.hbm, 180, rfl⟩
abbrev main_call9_v1 : Ref sig .tc := ⟨.hbm, 181, rfl⟩
abbrev main_call9_cst : Ref sig .tc := ⟨.hbm, 182, rfl⟩
abbrev main_call9_v2 : Ref sig .tc := ⟨.hbm, 183, rfl⟩
abbrev main_call9_v3 : Ref sig .tc := ⟨.hbm, 184, rfl⟩
abbrev main_call9_cst_0 : Ref sig .tc := ⟨.hbm, 185, rfl⟩
abbrev main_call9_v4 : Ref sig .tc := ⟨.hbm, 186, rfl⟩
abbrev main_call9_v5 : Ref sig .tc := ⟨.hbm, 187, rfl⟩
abbrev main_v89 : Ref sig .tc := ⟨.hbm, 188, rfl⟩
abbrev main_v90 : Ref sig .tc := ⟨.hbm, 189, rfl⟩
abbrev main_v91 : Ref sig .tc := ⟨.hbm, 190, rfl⟩
abbrev main_v92 : Ref sig .tc := ⟨.hbm, 191, rfl⟩

abbrev nD : Nat := 1
abbrev τ : Topo := Topo.v7x

variable {F : FTy → Type} [FloatOps F]

abbrev main_while0_count : Scf.Loop 32 := ⟨0#32, 8192#32, 1#32⟩
-- ==== Experts.lean ====
abbrev S384 : Shape := ⟨1, ![384]⟩
abbrev S1 : Shape := ⟨1, ![1]⟩
abbrev S81920x2048 : Shape := ⟨2, ![81920, 2048]⟩
abbrev S4x64x2048x384 : Shape := ⟨4, ![4, 64, 2048, 384]⟩
abbrev S4x64x384x2048 : Shape := ⟨4, ![4, 64, 384, 2048]⟩
abbrev S256x2048 : Shape := ⟨2, ![256, 2048]⟩
abbrev S1x1x2048x384 : Shape := ⟨4, ![1, 1, 2048, 384]⟩
abbrev S1x1x384x2048 : Shape := ⟨4, ![1, 1, 384, 2048]⟩
abbrev S2048x384 : Shape := ⟨2, ![2048, 384]⟩
abbrev S256x384 : Shape := ⟨2, ![256, 384]⟩
abbrev S384x2048 : Shape := ⟨2, ![384, 2048]⟩

abbrev nBuf : Space → Nat
  | .hbm => 5
  | .vmem => 10
  | .smem => 2
  | _ => 0

abbrev bufTy : (tb : Table) → Fin (tcTables nBuf tb) → BufTy
  | .hbm, ⟨0, _⟩ => ⟨S81920x2048, .f32⟩
  | .hbm, ⟨1, _⟩ => ⟨S4x64x2048x384, .bf16⟩
  | .hbm, ⟨2, _⟩ => ⟨S4x64x2048x384, .bf16⟩
  | .hbm, ⟨3, _⟩ => ⟨S4x64x384x2048, .bf16⟩
  | .hbm, ⟨4, _⟩ => ⟨S81920x2048, .f32⟩
  | .local _ .vmem, ⟨0, _⟩ => ⟨S256x2048, .f32⟩
  | .local _ .vmem, ⟨1, _⟩ => ⟨S256x2048, .f32⟩
  | .local _ .vmem, ⟨2, _⟩ => ⟨S1x1x2048x384, .bf16⟩
  | .local _ .vmem, ⟨3, _⟩ => ⟨S1x1x2048x384, .bf16⟩
  | .local _ .vmem, ⟨4, _⟩ => ⟨S1x1x2048x384, .bf16⟩
  | .local _ .vmem, ⟨5, _⟩ => ⟨S1x1x2048x384, .bf16⟩
  | .local _ .vmem, ⟨6, _⟩ => ⟨S1x1x384x2048, .bf16⟩
  | .local _ .vmem, ⟨7, _⟩ => ⟨S1x1x384x2048, .bf16⟩
  | .local _ .vmem, ⟨8, _⟩ => ⟨S256x2048, .f32⟩
  | .local _ .vmem, ⟨9, _⟩ => ⟨S256x2048, .f32⟩
  | .local _ .smem, ⟨0, _⟩ => ⟨S384, .i32⟩
  | .local _ .smem, ⟨1, _⟩ => ⟨S1, .i32⟩
  | _, _ => ⟨S81920x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![320], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S384.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S384) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S384.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S384) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S384.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S384) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x384x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S384 : Shape := ⟨1, ![384]⟩
abbrev S1 : Shape := ⟨1, ![1]⟩
abbrev S81920x2048 : Shape := ⟨2, ![81920, 2048]⟩
abbrev S4x64x2048x384 : Shape := ⟨4, ![4, 64, 2048, 384]⟩
abbrev S4x64x384x2048 : Shape := ⟨4, ![4, 64, 384, 2048]⟩
abbrev S81920 : Shape := ⟨1, ![81920]⟩
abbrev S320 : Shape := ⟨1, ![320]⟩
abbrev S320x256 : Shape := ⟨2, ![320, 256]⟩
abbrev S81920x1 : Shape := ⟨2, ![81920, 1]⟩
abbrev S64 : Shape := ⟨1, ![64]⟩
abbrev S1x64 : Shape := ⟨2, ![1, 64]⟩
abbrev S81920x64 : Shape := ⟨2, ![81920, 64]⟩
abbrev S_ : Shape := ⟨0, ![]⟩
abbrev S1x64x2048x384 : Shape := ⟨4, ![1, 64, 2048, 384]⟩
abbrev S64x2048x384 : Shape := ⟨3, ![64, 2048, 384]⟩
abbrev S1x64x384x2048 : Shape := ⟨4, ![1, 64, 384, 2048]⟩
abbrev S64x384x2048 : Shape := ⟨3, ![64, 384, 2048]⟩
abbrev S64x81920 : Shape := ⟨2, ![64, 81920]⟩
abbrev S1x2048x384 : Shape := ⟨3, ![1, 2048, 384]⟩
abbrev S2048x384 : Shape := ⟨2, ![2048, 384]⟩
abbrev S1x384x2048 : Shape := ⟨3, ![1, 384, 2048]⟩
abbrev S384x2048 : Shape := ⟨2, ![384, 2048]⟩
abbrev S1x81920 : Shape := ⟨2, ![1, 81920]⟩
abbrev S81920x384 : Shape := ⟨2, ![81920, 384]⟩

abbrev nBuf : Space → Nat
  | .hbm => 86
  | .vmem => 0
  | .smem => 0
  | _ => 0

abbrev bufTy : (tb : Table) → Fin (tcTables nBuf tb) → BufTy
  | .hbm, ⟨0, _⟩ => ⟨S384, .i32⟩
  | .hbm, ⟨1, _⟩ => ⟨S1, .i32⟩
  | .hbm, ⟨2, _⟩ => ⟨S81920x2048, .f32⟩
  | .hbm, ⟨3, _⟩ => ⟨S4x64x2048x384, .bf16⟩
  | .hbm, ⟨4, _⟩ => ⟨S4x64x2048x384, .bf16⟩
  | .hbm, ⟨5, _⟩ => ⟨S4x64x384x2048, .bf16⟩
  | .hbm, ⟨6, _⟩ => ⟨S81920, .i32⟩
  | .hbm, ⟨7, _⟩ => ⟨S320, .i32⟩
  | .hbm, ⟨8, _⟩ => ⟨S320x256, .i32⟩
  | .hbm, ⟨9, _⟩ => ⟨S81920, .i32⟩
  | .hbm, ⟨10, _⟩ => ⟨S81920x1, .i32⟩
  | .hbm, ⟨11, _⟩ => ⟨S64, .i32⟩
  | .hbm, ⟨12, _⟩ => ⟨S1x64, .i32⟩
  | .hbm, ⟨13, _⟩ => ⟨S81920x64, .i32⟩
  | .hbm, ⟨14, _⟩ => ⟨S81920x64, .i32⟩
  | .hbm, ⟨15, _⟩ => ⟨S81920x64, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S81920, .i32⟩
  | .hbm, ⟨20, _⟩ => ⟨S81920, .i1⟩
  | .hbm, ⟨21, _⟩ => ⟨S81920x1, .i1⟩
  | .hbm, ⟨22, _⟩ => ⟨S81920x64, .i1⟩
  | .hbm, ⟨23, _⟩ => ⟨S81920x64, .i1⟩
  | .hbm, ⟨24, _⟩ => ⟨S_, .f32⟩
  | .hbm, ⟨25, _⟩ => ⟨S_, .f32⟩
  | .hbm, ⟨26, _⟩ => ⟨S81920x64, .f32⟩
  | .hbm, ⟨27, _⟩ => ⟨S81920x64, .f32⟩
  | .hbm, ⟨28, _⟩ => ⟨S81920x64, .f32⟩
  | .hbm, ⟨29, _⟩ => ⟨S_, .f32⟩
  | .hbm, ⟨30, _⟩ => ⟨S81920x2048, .f32⟩
  | .hbm, ⟨31, _⟩ => ⟨S1x64x2048x384, .bf16⟩
  | .hbm, ⟨32, _⟩ => ⟨S64x2048x384, .bf16⟩
  | .hbm, ⟨33, _⟩ => ⟨S1x64x2048x384, .bf16⟩
  | .hbm, ⟨34, _⟩ => ⟨S64x2048x384, .bf16⟩
  | .hbm, ⟨35, _⟩ => ⟨S1x64x384x2048, .bf16⟩
  | .hbm, ⟨36, _⟩ => ⟨S64x384x2048, .bf16⟩
  | .hbm, ⟨37, _⟩ => ⟨S64x81920, .f32⟩
  | .hbm, ⟨38, _⟩ => ⟨S_, .i32⟩
  | .hbm, ⟨39, _⟩ => ⟨S64x2048x384, .bf16⟩
  | .hbm, ⟨40, _⟩ => ⟨S64x2048x384, .bf16⟩
  | .hbm, ⟨41, _⟩ => ⟨S64x384x2048, .bf16⟩
  | .hbm, ⟨42, _⟩ => ⟨S64x81920, .f32⟩
  | .hbm, ⟨43, _⟩ => ⟨S81920x2048, .f32⟩
  | .hbm, ⟨44, _⟩ => ⟨S_, .i32⟩
  | .hbm, ⟨45, _⟩ => ⟨S81920x2048, .f32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S1x2048x384, .bf16⟩
  | .hbm, ⟨51, _⟩ => ⟨S2048x384, .bf16⟩
  | .hbm, ⟨52, _⟩ => ⟨S_, .i32⟩
  | .hbm, ⟨53, _⟩ => ⟨S_, .i32⟩
  | .hbm, ⟨54, _⟩ => ⟨S1x2048x384, .bf16⟩
  | .hbm, ⟨55, _⟩ => ⟨S2048x384, .bf16⟩
  | .hbm, ⟨56, _⟩ => ⟨S_, .i32⟩
  | .hbm, ⟨57, _⟩ => ⟨S_, .i32⟩
  | .hbm, ⟨58, _⟩ => ⟨S1x384x2048, .bf16⟩
  | .hbm, ⟨59, _⟩ => ⟨S384x2048, .bf16⟩
  | .hbm, ⟨60, _⟩ => ⟨S_, .i32⟩
  | .hbm, ⟨61, _⟩ => ⟨S1x81920, .f32⟩
  | .hbm, ⟨62, _⟩ => ⟨S81920, .f32⟩
  | .hbm, ⟨63, _⟩ => ⟨S2048x384, .f32⟩
  | .hbm, ⟨64, _⟩ => ⟨S2048x384, .f32⟩
  | .hbm, ⟨65, _⟩ => ⟨S384x2048, .f32⟩
  | .hbm, ⟨66, _⟩ => ⟨S81920x384, .f32⟩
  | .hbm, ⟨67, _⟩ => ⟨S81920x384, .f32⟩
  | .hbm, ⟨68, _⟩ => ⟨S81920x384, .f32⟩
  | .hbm, ⟨69, _⟩ => ⟨S_, .f32⟩
  | .hbm, ⟨70, _⟩ => ⟨S81920x384, .f32⟩
  | .hbm, ⟨71, _⟩ => ⟨S81920x384, .f32⟩
  | .hbm, ⟨72, _⟩ => ⟨S_, .f32⟩
  | .hbm, ⟨73, _⟩ => ⟨S81920x384, .f32⟩
  | .hbm, ⟨74, _⟩ => ⟨S81920x384, .f32⟩
  | .hbm, ⟨75, _⟩ => ⟨S81920x384, .f32⟩
  | .hbm, ⟨76, _⟩ => ⟨S81920x384, .f32⟩
  | .hbm, ⟨77, _⟩ => ⟨S81920x384, .f32⟩
  | .hbm, ⟨78, _⟩ => ⟨S81920x1, .f32⟩
  | .hbm, ⟨79, _⟩ => ⟨S81920x1, .f32⟩
  | .hbm, ⟨80, _⟩ => ⟨S81920x384, .f32⟩
  | .hbm, ⟨81, _⟩ => ⟨S81920x384, .f32⟩
  | .hbm, ⟨82, _⟩ => ⟨S81920x2048, .f32⟩
  | .hbm, ⟨83, _⟩ => ⟨S81920x2048, .f32⟩
  | .hbm, ⟨84, _⟩ => ⟨S_, .i32⟩
  | .hbm, ⟨85, _⟩ => ⟨S_, .i32⟩
  | _, _ => ⟨S384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26_0 : Ref sig .tc := ⟨.hbm, 39, rfl⟩
abbrev main_v26_1 : Ref sig .tc := ⟨.hbm, 40, rfl⟩
abbrev main_v26_2 : Ref sig .tc := ⟨.hbm, 41, rfl⟩
abbrev main_v26_3 : Ref sig .tc := ⟨.hbm, 42, rfl⟩
abbrev main_v26_4 : Ref sig .tc := ⟨.hbm, 43, rfl⟩
abbrev main_v26_5 : Ref sig .tc := ⟨.hbm, 44, rfl⟩
abbrev main_v26_6 : Ref sig .tc := ⟨.hbm, 45, rfl⟩
abbrev main_while0c_c_9 : Ref sig .tc := ⟨.hbm, 46, rfl⟩
abbrev main_while0c_v27 : Ref sig .tc := ⟨.hbm, 47, rfl⟩
abbrev main_while0b_call1_c : Ref sig .tc := ⟨.hbm, 48, rfl⟩
abbrev main_while0b_call1_c_0 : Ref sig .tc := ⟨.hbm, 49, rfl⟩
abbrev main_while0b_call1_v0 : Ref sig .tc := ⟨.hbm, 50, rfl⟩
abbrev main_while0b_v27 : Ref sig .tc := ⟨.hbm, 51, rfl⟩
abbrev main_while0b_call2_c : Ref sig .tc := ⟨.hbm, 52, rfl⟩
abbrev main_while0b_call2_c_0 : Ref sig .tc := ⟨.hbm, 53, rfl⟩
abbrev main_while0b_call2_v0 : Ref sig .tc := ⟨.hbm, 54, rfl⟩
abbrev main_while0b_v28 : Ref sig .tc := ⟨.hbm, 55, rfl⟩
abbrev main_while0b_call3_c : Ref sig .tc := ⟨.hbm, 56, rfl⟩
abbrev main_while0b_call3_c_0 : Ref sig .tc := ⟨.hbm, 57, rfl⟩
abbrev main_while0b_call3_v0 : Ref sig .tc := ⟨.hbm, 58, rfl⟩
abbrev main_while0b_v29 : Ref sig .tc := ⟨.hbm, 59, rfl⟩
abbrev main_while0b_call4_c : Ref sig .tc := ⟨.hbm, 60, rfl⟩
abbrev main_while0b_call4_v0 : Ref sig .tc := ⟨.hbm, 61, rfl⟩
abbrev main_while0b_v30 : Ref sig .tc := ⟨.hbm, 62, rfl⟩
abbrev main_while0b_v31 : Ref sig .tc := ⟨.hbm, 63, rfl⟩
abbrev main_while0b_v32 : Ref sig .tc := ⟨.hbm, 64, rfl⟩
abbrev main_while0b_v33 : Ref sig .tc := ⟨.hbm, 65, rfl⟩
abbrev main_while0b_v34 : Ref sig .tc := ⟨.hbm, 66, rfl⟩
abbrev main_while0b_call5_v0 : Ref sig .tc := ⟨.hbm, 67, rfl⟩
abbrev main_while0b_call5_v1 : Ref sig .tc := ⟨.hbm, 68, rfl⟩
abbrev main_while0b_call5_cst : Ref sig .tc := ⟨.hbm, 69, rfl⟩
abbrev main_while0b_call5_v2 : Ref sig .tc := ⟨.hbm, 70, rfl⟩
abbrev main_while0b_call5_v3 : Ref sig .tc := ⟨.hbm, 71, rfl⟩
abbrev main_while0b_call5_cst_0 : Ref sig .tc := ⟨.hbm, 72, rfl⟩
abbrev main_while0b_call5_v4 : Ref sig .tc := ⟨.hbm, 73, rfl⟩
abbrev main_while0b_call5_v5 : Ref sig .tc := ⟨.hbm, 74, rfl⟩
abbrev main_while0b_v35 : Ref sig .tc := ⟨.hbm, 75, rfl⟩
abbrev main_while0b_v36 : Ref sig .tc := ⟨.hbm, 76, rfl⟩
abbrev main_while0b_v37 : Ref sig .tc := ⟨.hbm, 77, rfl⟩
abbrev main_while0b_v38 : Ref sig .tc := ⟨.hbm, 78, rfl⟩
abbrev main_while0b_v39 : Ref sig .tc := ⟨.hbm, 79, rfl⟩
abbrev main_while0b_v40 : Ref sig .tc := ⟨.hbm, 80, rfl⟩
abbrev main_while0b_v41 : Ref sig .tc := ⟨.hbm, 81, rfl⟩
abbrev main_while0b_v42 : Ref sig .tc := ⟨.hbm, 82, rfl⟩
abbrev main_while0b_v43 : Ref sig .tc := ⟨.hbm, 83, rfl⟩
abbrev main_while0b_c_9 : Ref sig .tc := ⟨.hbm, 84, rfl⟩
abbrev main_while0b_v44 : Ref sig .tc := ⟨.hbm, 85, rfl⟩

abbrev nD : Nat := 1
abbrev τ : Topo := Topo.v7x

variable {F : FTy → Type} [FloatOps F]

abbrev main_while0_count : Scf.Loop 32 := ⟨0#32, 64#32, 1#32⟩
-- ==== ProjSb.lean ====
abbrev S8192x2048 : Shape := ⟨2, ![8192, 2048]⟩
abbrev S4x2048x6672 : Shape := ⟨3, ![4, 2048, 6672]⟩
abbrev S8192x1536 : Shape := ⟨2, ![8192, 1536]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x6672, .f32⟩
  | .hbm, ⟨2, _⟩ => ⟨S8192x1536, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .bf16⟩
  | .local _ .vmem, ⟨5, _⟩ => ⟨S1024x512, .bf16⟩
  | .local _ .vmem, ⟨6, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjSbReferenceIdeal.lean ====
abbrev S8192x2048 : Shape := ⟨2, ![8192, 2048]⟩
abbrev S4x2048x6672 : Shape := ⟨3, ![4, 2048, 6672]⟩
abbrev S1x2048x6672 : Shape := ⟨3, ![1, 2048, 6672]⟩
abbrev S2048x6672 : Shape := ⟨2, ![2048, 6672]⟩
abbrev S2048x1536 : Shape := ⟨2, ![2048, 1536]⟩
abbrev S8192x1536 : Shape := ⟨2, ![8192, 1536]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x6672, .f32⟩
  | .hbm, ⟨2, _⟩ => ⟨S8192x2048, .f32⟩
  | .hbm, ⟨3, _⟩ => ⟨S1x2048x6672, .f32⟩
  | .hbm, ⟨4, _⟩ => ⟨S2048x6672, .f32⟩
  | .hbm, ⟨5, _⟩ => ⟨S2048x1536, .f32⟩
  | .hbm, ⟨6, _⟩ => ⟨S8192x1536, .f32⟩
  | .hbm, ⟨7, _⟩ => ⟨S8192x1536, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ProjGdn.lean ====
abbrev S8192x2048 : Shape := ⟨2, ![8192, 2048]⟩
abbrev S4x2048x6672 : Shape := ⟨3, ![4, 2048, 6672]⟩
abbrev S8192x4096 : Shape := ⟨2, ![8192, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x6672, .f32⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi arg0 c3_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjGdnReferenceIdeal.lean ====
abbrev S8192x2048 : Shape := ⟨2, ![8192, 2048]⟩
abbrev S4x2048x6672 : Shape := ⟨3, ![4, 2048, 6672]⟩
abbrev S1x2048x6672 : Shape := ⟨3, ![1, 2048, 6672]⟩
abbrev S2048x6672 : Shape := ⟨2, ![2048, 6672]⟩
abbrev S2048x4096 : Shape := ⟨2, ![2048, 4096]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x6672, .f32⟩
  | .hbm, ⟨2, _⟩ => ⟨S8192x2048, .f32⟩
  | .hbm, ⟨3, _⟩ => ⟨S1x2048x6672, .f32⟩
  | .hbm, ⟨4, _⟩ => ⟨S2048x6672, .f32⟩
  | .hbm, ⟨5, _⟩ => ⟨S2048x4096, .f32⟩
  | .hbm, ⟨6, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjTail.lean ====
abbrev S8192x2048 : Shape := ⟨2, ![8192, 2048]⟩
abbrev S4x2048x6672 : Shape := ⟨3, ![4, 2048, 6672]⟩
abbrev S4x2048x16 : Shape := ⟨3, ![4, 2048, 16]⟩
abbrev S_ : Shape := ⟨0, ![]⟩
abbrev S4x2048x128 : Shape := ⟨3, ![4, 2048, 128]⟩
abbrev S4x2048x1024 : Shape := ⟨3, ![4, 2048, 1024]⟩
abbrev S4x2048x1152 : Shape := ⟨3, ![4, 2048, 1152]⟩
abbrev S8192x1152 : Shape := ⟨2, ![8192, 1152]⟩
abbrev S1024x2048 : Shape := ⟨2, ![1024, 2048]⟩
abbrev S1x2048x1152 : Shape := ⟨3, ![1, 2048, 1152]⟩
abbrev S1024x1152 : Shape := ⟨2, ![1024, 1152]⟩
abbrev S2048x1152 : Shape := ⟨2, ![2048, 1152]⟩

abbrev nBuf : Space → Nat
  | .hbm => 9
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2048x6672, .f32⟩
  | .hbm, ⟨2, _⟩ => ⟨S4x2048x16, .f32⟩
  | .hbm, ⟨3, _⟩ => ⟨S_, .i32⟩
  | .hbm, ⟨4, _⟩ => ⟨S_, .f32⟩
  | .hbm, ⟨5, _⟩ => ⟨S4x2048x128, .f32⟩
  | .hbm, ⟨6, _⟩ => ⟨S4x2048x1024, .f32⟩
  | .hbm, ⟨7, _⟩ => ⟨S4x2048x1152, .f32⟩
  | .hbm, ⟨8, _⟩ => ⟨S8192x1152, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1152, .f32⟩
  | .local _ .vmem, ⟨3, _⟩ => ⟨S1024x1152, .f32⟩
  | .local _ .vmem, ⟨4, _⟩ => ⟨S1024x1152, .f32⟩
  | .local _ .vmem, ⟨5, _⟩ => ⟨S2048x1152, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjTailReferenceIdeal.lean ====
abbrev S8192x2048 : Shape := ⟨2, ![8192, 2048]⟩
abbrev S4x2048x6672 : Shape := ⟨3, ![4, 2048, 6672]⟩
abbrev S1x2048x6672 : Shape := ⟨3, ![1, 2048, 6672]⟩
abbrev S2048x6672 : Shape := ⟨2, ![2048, 6672]⟩
abbrev S2048x1040 : Shape := ⟨2, ![2048, 1040]⟩
abbrev S8192x1040 : Shape := ⟨2, ![8192, 1040]⟩
abbrev S_ : Shape := ⟨0, ![]⟩
abbrev S8192x112 : Shape := ⟨2, ![8192, 112]⟩
abbrev S8192x1024 : Shape := ⟨2, ![8192, 1024]⟩
abbrev S8192x16 : Shape := ⟨2, ![8192, 16]⟩
abbrev S8192x1152 : Shape := ⟨2, ![8192, 1152]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x6672, .f32⟩
  | .hbm, ⟨2, _⟩ => ⟨S8192x2048, .f32⟩
  | .hbm, ⟨3, _⟩ => ⟨S1x2048x6672, .f32⟩
  | .hbm, ⟨4, _⟩ => ⟨S2048x6672, .f32⟩
  | .hbm, ⟨5, _⟩ => ⟨S2048x1040, .f32⟩
  | .hbm, ⟨6, _⟩ => ⟨S8192x1040, .f32⟩
  | .hbm, ⟨7, _⟩ => ⟨S_, .f32⟩
  | .hbm, ⟨8, _⟩ => ⟨S8192x112, .f32⟩
  | .hbm, ⟨9, _⟩ => ⟨S8192x1024, .f32⟩
  | .hbm, ⟨10, _⟩ => ⟨S8192x16, .f32⟩
  | .hbm, ⟨11, _⟩ => ⟨S8192x1152, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Outproj.lean ====
abbrev S8192x2048 : Shape := ⟨2, ![8192, 2048]⟩
abbrev S8192x512 : Shape := ⟨2, ![8192, 512]⟩
abbrev S8192x1024 : Shape := ⟨2, ![8192, 1024]⟩
abbrev S4x2048x2048 : Shape := ⟨3, ![4, 2048, 2048]⟩
abbrev S4x1x12288 : Shape := ⟨3, ![4, 1, 12288]⟩
abbrev S4x2048 : Shape := ⟨2, ![4, 2048]⟩
abbrev S1x2048x2048 : Shape := ⟨3, ![1, 2048, 2048]⟩
abbrev S2048x2048 : Shape := ⟨2, ![2048, 2048]⟩
abbrev S1x1x12288 : Shape := ⟨3, ![1, 1, 12288]⟩
abbrev S1x12288 : Shape := ⟨2, ![1, 12288]⟩
abbrev S1x2048 : Shape := ⟨2, ![1, 2048]⟩
abbrev S2048 : Shape := ⟨1, ![2048]⟩
abbrev S256x2048 : Shape := ⟨2, ![256, 2048]⟩
abbrev S256x512 : Shape := ⟨2, ![256, 512]⟩
abbrev S256x1024 : Shape := ⟨2, ![256, 1024]⟩
abbrev S512x2048 : Shape := ⟨2, ![512, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 21
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x512, .bf16⟩
  | .hbm, ⟨2, _⟩ => ⟨S8192x1024, .bf16⟩
  | .hbm, ⟨3, _⟩ => ⟨S8192x512, .bf16⟩
  | .hbm, ⟨4, _⟩ => ⟨S4x2048x2048, .f32⟩
  | .hbm, ⟨5, _⟩ => ⟨S4x1x12288, .f32⟩
  | .hbm, ⟨6, _⟩ => ⟨S4x2048, .f32⟩
  | .hbm, ⟨7, _⟩ => ⟨S4x2048, .f32⟩
  | .hbm, ⟨8, _⟩ => ⟨S4x2048x2048, .bf16⟩
  | .hbm, ⟨9, _⟩ => ⟨S1x2048x2048, .bf16⟩
  | .hbm, ⟨10, _⟩ => ⟨S2048x2048, .bf16⟩
  | .hbm, ⟨11, _⟩ => ⟨S1x1x12288, .f32⟩
  | .hbm, ⟨12, _⟩ => ⟨S1x12288, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S1x2048, .f32⟩
  | .hbm, ⟨19, _⟩ => ⟨S8192x2048, .f32⟩
  | .hbm, ⟨20, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x512, .bf16⟩
  | .local _ .vmem, ⟨7, _⟩ => ⟨S256x512, .bf16⟩
  | .local _ .vmem, ⟨8, _⟩ => ⟨S2048x2048, .bf16⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_9 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutprojReferenceIdeal.lean ====
abbrev S8192x2048 : Shape := ⟨2, ![8192, 2048]⟩
abbrev S8192x512 : Shape := ⟨2, ![8192, 512]⟩
abbrev S8192x1024 : Shape := ⟨2, ![8192, 1024]⟩
abbrev S4x2048x2048 : Shape := ⟨3, ![4, 2048, 2048]⟩
abbrev S4x1x12288 : Shape := ⟨3, ![4, 1, 12288]⟩
abbrev S4x2048 : Shape := ⟨2, ![4, 2048]⟩
abbrev S1x1x12288 : Shape := ⟨3, ![1, 1, 12288]⟩
abbrev S1x12288 : Shape := ⟨2, ![1, 12288]⟩
abbrev S1x2048 : Shape := ⟨2, ![1, 2048]⟩
abbrev S1x2048x2048 : Shape := ⟨3, ![1, 2048, 2048]⟩
abbrev S2048x2048 : Shape := ⟨2, ![2048, 2048]⟩
abbrev S_ : Shape := ⟨0, ![]⟩
abbrev S2048 : Shape := ⟨1, ![2048]⟩
abbrev S8192 : Shape := ⟨1, ![8192]⟩
abbrev S8192x1 : Shape := ⟨2, ![8192, 1]⟩

abbrev nBuf : Space → Nat
  | .hbm => 70
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .bf16⟩
  | .hbm, ⟨2, _⟩ => ⟨S8192x1024, .bf16⟩
  | .hbm, ⟨3, _⟩ => ⟨S8192x512, .bf16⟩
  | .hbm, ⟨4, _⟩ => ⟨S4x2048x2048, .f32⟩
  | .hbm, ⟨5, _⟩ => ⟨S4x1x12288, .f32⟩
  | .hbm, ⟨6, _⟩ => ⟨S4x2048, .f32⟩
  | .hbm, ⟨7, _⟩ => ⟨S4x2048, .f32⟩
  | .hbm, ⟨8, _⟩ => ⟨S1x1x12288, .f32⟩
  | .hbm, ⟨9, _⟩ => ⟨S1x12288, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S8192x2048, .bf16⟩
  | .hbm, ⟨17, _⟩ => ⟨S8192x2048, .f32⟩
  | .hbm, ⟨18, _⟩ => ⟨S1x2048x2048, .f32⟩
  | .hbm, ⟨19, _⟩ => ⟨S2048x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S1x2048, .f32⟩
  | .hbm, ⟨58, _⟩ => ⟨S8192x2048, .f32⟩
  | .hbm, ⟨59, _⟩ => ⟨S8192x2048, .f32⟩
  | .hbm, ⟨60, _⟩ => ⟨S1x2048, .f32⟩
  | .hbm, ⟨61, _⟩ => ⟨S8192x2048, .f32⟩
  | .hbm, ⟨62, _⟩ => ⟨S8192x2048, .f32⟩
  | .hbm, ⟨63, _⟩ => ⟨S_, .f32⟩
  | .hbm, ⟨64, _⟩ => ⟨S1x2048, .f32⟩
  | .hbm, ⟨65, _⟩ => ⟨S1x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]
-- ==== Combine.lean ====
abbrev S65792x2048 : Shape := ⟨2, ![65792, 2048]⟩
abbrev S8192x2048 : Shape := ⟨2, ![8192, 2048]⟩
abbrev S8192x8 : Shape := ⟨2, ![8192, 8]⟩
abbrev S4x2048x384 : Shape := ⟨3, ![4, 2048, 384]⟩
abbrev S4x384x2048 : Shape := ⟨3, ![4, 384, 2048]⟩
abbrev S4x1x12288 : Shape := ⟨3, ![4, 1, 12288]⟩
abbrev S4x2048 : Shape := ⟨2, ![4, 2048]⟩
abbrev S1x2048x384 : Shape := ⟨3, ![1, 2048, 384]⟩
abbrev S2048x384 : Shape := ⟨2, ![2048, 384]⟩
abbrev S1x384x2048 : Shape := ⟨3, ![1, 384, 2048]⟩
abbrev S384x2048 : Shape := ⟨2, ![384, 2048]⟩
abbrev S1x1x12288 : Shape := ⟨3, ![1, 1, 12288]⟩
abbrev S1x12288 : Shape := ⟨2, ![1, 12288]⟩
abbrev S1x2048 : Shape := ⟨2, ![1, 2048]⟩
abbrev S2048 : Shape := ⟨1, ![2048]⟩
abbrev S128x2048 : Shape := ⟨2, ![128, 2048]⟩
abbrev S128x8 : Shape := ⟨2, ![128, 8]⟩
abbrev S128x384 : Shape := ⟨2, ![128, 384]⟩
abbrev S128x1 : Shape := ⟨2, ![128, 1]⟩
abbrev S128 : Shape := ⟨1, ![128]⟩

abbrev nBuf : Space → Nat
  | .hbm => 31
  | .vmem => 34
  | .smem => 0
  | _ => 0

abbrev bufTy : (tb : Table) → Fin (tcTables nBuf tb) → BufTy
  | .hbm, ⟨0, _⟩ => ⟨S65792x2048, .f32⟩
  | .hbm, ⟨1, _⟩ => ⟨S8192x2048, .f32⟩
  | .hbm, ⟨2, _⟩ => ⟨S8192x2048, .f32⟩
  | .hbm, ⟨3, _⟩ => ⟨S8192x8, .f32⟩
  | .hbm, ⟨4, _⟩ => ⟨S4x2048x384, .f32⟩
  | .hbm, ⟨5, _⟩ => ⟨S4x2048x384, .f32⟩
  | .hbm, ⟨6, _⟩ => ⟨S4x384x2048, .f32⟩
  | .hbm, ⟨7, _⟩ => ⟨S4x1x12288, .f32⟩
  | .hbm, ⟨8, _⟩ => ⟨S4x2048, .f32⟩
  | .hbm, ⟨9, _⟩ => ⟨S4x2048, .f32⟩
  | .hbm, ⟨10, _⟩ => ⟨S4x2048x384, .bf16⟩
  | .hbm, ⟨11, _⟩ => ⟨S4x2048x384, .bf16⟩
  | .hbm, ⟨12, _⟩ => ⟨S4x384x2048, .bf16⟩
  | .hbm, ⟨13, _⟩ => ⟨S1x2048x384, .bf16⟩
  | .hbm, ⟨14, _⟩ => ⟨S2048x384, .bf16⟩
  | .hbm, ⟨15, _⟩ => ⟨S1x2048x384, .bf16⟩
  | .hbm, ⟨16, _⟩ => ⟨S2048x384, .bf16⟩
  | .hbm, ⟨17, _⟩ => ⟨S1x384x2048, .bf16⟩
  | .hbm, ⟨18, _⟩ => ⟨S384x2048, .bf16⟩
  | .hbm, ⟨19, _⟩ => ⟨S1x1x12288, .f32⟩
  | .hbm, ⟨20, _⟩ => ⟨S1x12288, .f32⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S2048, .f32⟩
  | .hbm, ⟨25, _⟩ => ⟨S1x1x12288, .f32⟩
  | .hbm, ⟨26, _⟩ => ⟨S1x12288, .f32⟩
  | .hbm, ⟨27, _⟩ => ⟨S1x2048, .f32⟩
  | .hbm, ⟨28, _⟩ => ⟨S1x2048, .f32⟩
  | .hbm, ⟨29, _⟩ => ⟨S8192x2048, .f32⟩
  | .hbm, ⟨30, _⟩ => ⟨S8192x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x8, .f32⟩
  | .local _ .vmem, ⟨21, _⟩ => ⟨S128x8, .f32⟩
  | .local _ .vmem, ⟨22, _⟩ => ⟨S2048x384, .bf16⟩
  | .local _ .vmem, ⟨23, _⟩ => ⟨S2048x384, .bf16⟩
  | .local _ .vmem, ⟨24, _⟩ => ⟨S384x2048, .bf16⟩
  | .local _ .vmem, ⟨25, _⟩ => ⟨S1x2048, .f32⟩
  | .local _ .vmem, ⟨26, _⟩ => ⟨S1x2048, .f32⟩
  | .local _ .vmem, ⟨27, _⟩ => ⟨S1x2048, .f32⟩
  | .local _ .vmem, ⟨28, _⟩ => ⟨S1x2048, .f32⟩
  | .local _ .vmem, ⟨29, _⟩ => ⟨S1x2048, .f32⟩
  | .local _ .vmem, ⟨30, _⟩ => ⟨S128x2048, .f32⟩
  | .local _ .vmem, ⟨31, _⟩ => ⟨S128x2048, .f32⟩
  | .local _ .vmem, ⟨32, _⟩ => ⟨S128x2048, .bf16⟩
  | .local _ .vmem, ⟨33, _⟩ => ⟨S128x2048, .bf16⟩
  | _, _ => ⟨S65792x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c320_i32 : BitVec 32 := 320#32
  let v0 : BitVec 32 := Scalar.addi c320_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c384_i32 : BitVec 32 := 384#32
  let v0 : BitVec 32 := Scalar.addi c384_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c448_i32 : BitVec 32 := 448#32
  let v0 : BitVec 32 := Scalar.addi c448_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2048x384 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x384 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S384x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S128x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S128x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== CombineReferenceIdeal.lean ====
abbrev S65792x2048 : Shape := ⟨2, ![65792, 2048]⟩
abbrev S8192x2048 : Shape := ⟨2, ![8192, 2048]⟩
abbrev S8192x8 : Shape := ⟨2, ![8192, 8]⟩
abbrev S4x2048x384 : Shape := ⟨3, ![4, 2048, 384]⟩
abbrev S4x384x2048 : Shape := ⟨3, ![4, 384, 2048]⟩
abbrev S4x1x12288 : Shape := ⟨3, ![4, 1, 12288]⟩
abbrev S4x2048 : Shape := ⟨2, ![4, 2048]⟩
abbrev S1x1x12288 : Shape := ⟨3, ![1, 1, 12288]⟩
abbrev S1x12288 : Shape := ⟨2, ![1, 12288]⟩
abbrev S1x2048 : Shape := ⟨2, ![1, 2048]⟩
abbrev S1x2048x384 : Shape := ⟨3, ![1, 2048, 384]⟩
abbrev S2048x384 : Shape := ⟨2, ![2048, 384]⟩
abbrev S8192x384 : Shape := ⟨2, ![8192, 384]⟩
abbrev S_ : Shape := ⟨0, ![]⟩
abbrev S1x384x2048 : Shape := ⟨3, ![1, 384, 2048]⟩
abbrev S384x2048 : Shape := ⟨2, ![384, 2048]⟩
abbrev S8x8192 : Shape := ⟨2, ![8, 8192]⟩
abbrev S8x8192x1 : Shape := ⟨3, ![8, 8192, 1]⟩
abbrev S65536x2048 : Shape := ⟨2, ![65536, 2048]⟩
abbrev S8x8192x2048 : Shape := ⟨3, ![8, 8192, 2048]⟩
abbrev S2048 : Shape := ⟨1, ![2048]⟩
abbrev S8192 : Shape := ⟨1, ![8192]⟩
abbrev S8192x1 : Shape := ⟨2, ![8192, 1]⟩

abbrev nBuf : Space → Nat
  | .hbm => 104
  | .vmem => 0
  | .smem => 0
  | _ => 0

abbrev bufTy : (tb : Table) → Fin (tcTables nBuf tb) → BufTy
  | .hbm, ⟨0, _⟩ => ⟨S65792x2048, .f32⟩
  | .hbm, ⟨1, _⟩ => ⟨S8192x2048, .f32⟩
  | .hbm, ⟨2, _⟩ => ⟨S8192x2048, .f32⟩
  | .hbm, ⟨3, _⟩ => ⟨S8192x8, .f32⟩
  | .hbm, ⟨4, _⟩ => ⟨S4x2048x384, .f32⟩
  | .hbm, ⟨5, _⟩ => ⟨S4x2048x384, .f32⟩
  | .hbm, ⟨6, _⟩ => ⟨S4x384x2048, .f32⟩
  | .hbm, ⟨7, _⟩ => ⟨S4x1x12288, .f32⟩
  | .hbm, ⟨8, _⟩ => ⟨S4x2048, .f32⟩
  | .hbm, ⟨9, _⟩ => ⟨S4x2048, .f32⟩
  | .hbm, ⟨10, _⟩ => ⟨S1x1x12288, .f32⟩
  | .hbm, ⟨11, _⟩ => ⟨S1x12288, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x1x12288, .f32⟩
  | .hbm, ⟨19, _⟩ => ⟨S1x12288, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S1x2048x384, .f32⟩
  | .hbm, ⟨27, _⟩ => ⟨S2048x384, .f32⟩
  | .hbm, ⟨28, _⟩ => ⟨S8192x384, .f32⟩
  | .hbm, ⟨29, _⟩ => ⟨S8192x384, .f32⟩
  | .hbm, ⟨30, _⟩ => ⟨S8192x384, .f32⟩
  | .hbm, ⟨31, _⟩ => ⟨S_, .f32⟩
  | .hbm, ⟨32, _⟩ => ⟨S8192x384, .f32⟩
  | .hbm, ⟨33, _⟩ => ⟨S8192x384, .f32⟩
  | .hbm, ⟨34, _⟩ => ⟨S_, .f32⟩
  | .hbm, ⟨35, _⟩ => ⟨S8192x384, .f32⟩
  | .hbm, ⟨36, _⟩ => ⟨S8192x384, .f32⟩
  | .hbm, ⟨37, _⟩ => ⟨S8192x384, .f32⟩
  | .hbm, ⟨38, _⟩ => ⟨S1x2048x384, .f32⟩
  | .hbm, ⟨39, _⟩ => ⟨S2048x384, .f32⟩
  | .hbm, ⟨40, _⟩ => ⟨S8192x384, .f32⟩
  | .hbm, ⟨41, _⟩ => ⟨S8192x384, .f32⟩
  | .hbm, ⟨42, _⟩ => ⟨S1x384x2048, .f32⟩
  | .hbm, ⟨43, _⟩ => ⟨S384x2048, .f32⟩
  | .hbm, ⟨44, _⟩ => ⟨S8192x2048, .f32⟩
  | .hbm, ⟨45, _⟩ => ⟨S8x8192, .f32⟩
  | .hbm, ⟨46, _⟩ => ⟨S8x8192x1, .f32⟩
  | .hbm, ⟨47, _⟩ => ⟨S65536x2048, .f32⟩
  | .hbm, ⟨48, _⟩ => ⟨S8x8192x2048, .f32⟩
  | .hbm, ⟨49, _⟩ => ⟨S8x8192x2048, .f32⟩
  | .hbm, ⟨50, _⟩ => ⟨S8x8192x2048, .f32⟩
  | .hbm, ⟨51, _⟩ => ⟨S_, .f32⟩
  | .hbm, ⟨52, _⟩ => ⟨S8192x2048, .f32⟩
  | .hbm, ⟨53, _⟩ => ⟨S_, .f32⟩
  | .hbm, ⟨54, _⟩ => ⟨S8192x2048, .f32⟩
  | .hbm, ⟨55, _⟩ => ⟨S8192x2048, .f32⟩
  | .hbm, ⟨56, _⟩ => ⟨S_, .f32⟩
  | .hbm, ⟨57, _⟩ => ⟨S1x2048, .f32⟩
  | .hbm, ⟨58, _⟩ => ⟨S1x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S1x2048, .f32⟩
  | .hbm, ⟨64, _⟩ => ⟨S2048, .f32⟩
  | .hbm, ⟨65, _⟩ => ⟨S1x2048, .f32⟩
  | .hbm, ⟨66, _⟩ => ⟨S2048, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S8192x2048, .f32⟩
  | .hbm, ⟨83, _⟩ => ⟨S8192x2048, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S8192x1, .f32⟩
  | .hbm, ⟨88, _⟩ => ⟨S8192x2048, .f32⟩
  | .hbm, ⟨89, _⟩ => ⟨S8192x2048, .f32⟩
  | .hbm, ⟨90, _⟩ => ⟨S1x2048, .f32⟩
  | .hbm, ⟨91, _⟩ => ⟨S8192x2048, .f32⟩
  | .hbm, ⟨92, _⟩ => ⟨S8192x2048, .f32⟩
  | .hbm, ⟨93, _⟩ => ⟨S1x2048, .f32⟩
  | .hbm, ⟨94, _⟩ => ⟨S8192x2048, .f32⟩
  | .hbm, ⟨95, _⟩ => ⟨S8192x2048, .f32⟩
  | .hbm, ⟨96, _⟩ => ⟨S_, .f32⟩
  | .hbm, ⟨97, _⟩ => ⟨S1x2048, .f32⟩
  | .hbm, ⟨98, _⟩ => ⟨S1x2048, .f32⟩
  | .hbm, ⟨99, _⟩ => ⟨S8192x2048, .f32⟩
  | .hbm, ⟨100, _⟩ => ⟨S8192x2048, .f32⟩
  | .hbm, ⟨101, _⟩ => ⟨S8192x2048, .f32⟩
  | .hbm, ⟨102, _⟩ => ⟨S8192x2048, .f32⟩
  | .hbm, ⟨103, _⟩ => ⟨S8192x2048, .bf16⟩
  | _, _ => ⟨S65792x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst : Ref sig .tc := ⟨.hbm, 51, rfl⟩
abbrev main_v33 : Ref sig .tc := ⟨.hbm, 52, rfl⟩
abbrev main_cst_0 : Ref sig .tc := ⟨.hbm, 53, rfl⟩
abbrev main_v34 : Ref sig .tc := ⟨.hbm, 54, rfl⟩
abbrev main_v35 : Ref sig .tc := ⟨.hbm, 55, rfl⟩
abbrev main_cst_1 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_2 : Ref sig .tc := ⟨.hbm, 67, rfl⟩
abbrev main_v46 : Ref sig .tc := ⟨.hbm, 68, rfl⟩
abbrev main_v47 : Ref sig .tc := ⟨.hbm, 69, rfl⟩
abbrev main_cst_3 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_4 : Ref sig .tc := ⟨.hbm, 76, rfl⟩
abbrev main_v53 : Ref sig .tc := ⟨.hbm, 77, rfl⟩
abbrev main_v54 : Ref sig .tc := ⟨.hbm, 78, rfl⟩
abbrev main_cst_5 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_6 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_7 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩

abbrev nD : Nat := 1
abbrev τ : Topo := Topo.v7x

variable {F : FTy → Type} [FloatOps F]
-- ==== Attention.lean ====
abbrev S8192x1536 : Shape := ⟨2, ![8192, 1536]⟩
abbrev S8192x512 : Shape := ⟨2, ![8192, 512]⟩
abbrev S256x128 : Shape := ⟨2, ![256, 128]⟩
abbrev S8192x128 : Shape := ⟨2, ![8192, 128]⟩
abbrev S256x256 : Shape := ⟨2, ![256, 256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

@[reducible] def k0_t1_loop (i : grid0.Coords) : Scf.Loop 32 :=
  let c0_i32 : BitVec 32 := 0#32
  let arg1 : BitVec 32 := BitVec.ofNat 32 (i 1).val
  let c1_i32 : BitVec 32 := 1#32
  let v14 : BitVec 32 := Scalar.addi arg1 c1_i32
  let c1_i32_2 : BitVec 32 := 1#32
  let v15 : BitVec 32 := Scalar.muli v14 c1_i32_2
  let v16 : BitVec 32 := Scalar.subi v15 c0_i32
  let c1_i32_3 : BitVec 32 := 1#32
  let v18 : BitVec 32 := Scalar.divsi v16 c1_i32_3
  let v19 : BitVec 32 := Scalar.muli v18 c1_i32_3
  let v20 : BitVec 32 := Scalar.addi c0_i32 v19
  let c1_i32_4 : BitVec 32 := 1#32
  ⟨c0_i32, v20, c1_i32_4⟩
def k0_mult1 (i : grid0.Coords) (k0_t1 : Fin (k0_t1_loop i).trips) : BitVec 32 :=
  let arg1 : BitVec 32 := BitVec.ofNat 32 (i 1).val
  let c1_i32_8 : BitVec 32 := 1#32
  let v25 : BitVec 32 := Scalar.muli arg1 c1_i32_8
  let c0_i32_9 : BitVec 32 := 0#32
  let v26 : BitVec 32 := Scalar.addi v25 c0_i32_9
  let c0_i32 : BitVec 32 := 0#32
  let c1_i32_4 : BitVec 32 := 1#32
  let arg6 : BitVec 32 := Scf.iv c0_i32 c1_i32_4 k0_t1
  let v27 : BitVec 32 := Scalar.subi v26 arg6
  let c256_i32_10 : BitVec 32 := 256#32
  let v28 : BitVec 32 := Scalar.muli v27 c256_i32_10
  v28
def k0_off1 (i : grid0.Coords) (k0_t1 : Fin (k0_t1_loop i).trips) : Fin 2 → Nat :=
  let arg1 : BitVec 32 := BitVec.ofNat 32 (i 1).val
  let c1_i32_8 : BitVec 32 := 1#32
  let v25 : BitVec 32 := Scalar.muli arg1 c1_i32_8
  let c0_i32_9 : BitVec 32 := 0#32
  let v26 : BitVec 32 := Scalar.addi v25 c0_i32_9
  let c0_i32 : BitVec 32 := 0#32
  let c1_i32_4 : BitVec 32 := 1#32
  let arg6 : BitVec 32 := Scf.iv c0_i32 c1_i32_4 k0_t1
  let v27 : BitVec 32 := Scalar.subi v26 arg6
  let c256_i32_10 : BitVec 32 := 256#32
  let v28 : BitVec 32 := Scalar.muli v27 c256_i32_10
  let v29 : BitVec 32 := v28
  let v30 : Index := Scalar.indexCast v29
  let c0_11 : Index := 0#32
  ![v30.toNat, 0]
@[reducible] def k0_t2_loop (i : grid0.Coords) : Scf.Loop 32 :=
  let c0_i32 : BitVec 32 := 0#32
  let arg1 : BitVec 32 := BitVec.ofNat 32 (i 1).val
  let c1_i32 : BitVec 32 := 1#32
  let v14 : BitVec 32 := Scalar.addi arg1 c1_i32
  let c1_i32_2 : BitVec 32 := 1#32
  let v15 : BitVec 32 := Scalar.muli v14 c1_i32_2
  let v16 : BitVec 32 := Scalar.subi v15 c0_i32
  let c1_i32_3 : BitVec 32 := 1#32
  let v18 : BitVec 32 := Scalar.divsi v16 c1_i32_3
  let v19 : BitVec 32 := Scalar.muli v18 c1_i32_3
  let v20 : BitVec 32 := Scalar.addi c0_i32 v19
  let v17 : BitVec 32 := Scalar.addi c0_i32 v16
  let c1_i32_5 : BitVec 32 := 1#32
  ⟨v20, v17, c1_i32_5⟩
def k0_mult2 (i : grid0.Coords) (k0_t2 : Fin (k0_t2_loop i).trips) : BitVec 32 :=
  let arg1 : BitVec 32 := BitVec.ofNat 32 (i 1).val
  let c1_i32_8 : BitVec 32 := 1#32
  let v25 : BitVec 32 := Scalar.muli arg1 c1_i32_8
  let c0_i32_9 : BitVec 32 := 0#32
  let v26 : BitVec 32 := Scalar.addi v25 c0_i32_9
  let c0_i32 : BitVec 32 := 0#32
  let c1_i32 : BitVec 32 := 1#32
  let v14 : BitVec 32 := Scalar.addi arg1 c1_i32
  let c1_i32_2 : BitVec 32 := 1#32
  let v15 : BitVec 32 := Scalar.muli v14 c1_i32_2
  let v16 : BitVec 32 := Scalar.subi v15 c0_i32
  let c1_i32_3 : BitVec 32 := 1#32
  let v18 : BitVec 32 := Scalar.divsi v16 c1_i32_3
  let v19 : BitVec 32 := Scalar.muli v18 c1_i32_3
  let v20 : BitVec 32 := Scalar.addi c0_i32 v19
  let c1_i32_5 : BitVec 32 := 1#32
  let arg6 : BitVec 32 := Scf.iv v20 c1_i32_5 k0_t2
  let v27 : BitVec 32 := Scalar.subi v26 arg6
  let c256_i32_10 : BitVec 32 := 256#32
  let v28 : BitVec 32 := Scalar.muli v27 c256_i32_10
  v28
def k0_off2 (i : grid0.Coords) (k0_t2 : Fin (k0_t2_loop i).trips) : Fin 2 → Nat :=
  let arg1 : BitVec 32 := BitVec.ofNat 32 (i 1).val
  let c1_i32_8 : BitVec 32 := 1#32
  let v25 : BitVec 32 := Scalar.muli arg1 c1_i32_8
  let c0_i32_9 : BitVec 32 := 0#32
  let v26 : BitVec 32 := Scalar.addi v25 c0_i32_9
  let c0_i32 : BitVec 32 := 0#32
  let c1_i32 : BitVec 32 := 1#32
  let v14 : BitVec 32 := Scalar.addi arg1 c1_i32
  let c1_i32_2 : BitVec 32 := 1#32
  let v15 : BitVec 32 := Scalar.muli v14 c1_i32_2
  let v16 : BitVec 32 := Scalar.subi v15 c0_i32
  let c1_i32_3 : BitVec 32 := 1#32
  let v18 : BitVec 32 := Scalar.divsi v16 c1_i32_3
  let v19 : BitVec 32 := Scalar.muli v18 c1_i32_3
  let v20 : BitVec 32 := Scalar.addi c0_i32 v19
  let c1_i32_5 : BitVec 32 := 1#32
  let arg6 : BitVec 32 := Scf.iv v20 c1_i32_5 k0_t2
  let v27 : BitVec 32 := Scalar.subi v26 arg6
  let c256_i32_10 : BitVec 32 := 256#32
  let v28 : BitVec 32 := Scalar.muli v27 c256_i32_10
  let v29 : BitVec 32 := v28
  let v30 : Index := Scalar.indexCast v29
  let c0_11 : Index := 0#32
  ![v30.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttentionReferenceIdeal.lean ====
abbrev S8192x1536 : Shape := ⟨2, ![8192, 1536]⟩
abbrev S8192x512 : Shape := ⟨2, ![8192, 512]⟩
abbrev S8192x4x128 : Shape := ⟨3, ![8192, 4, 128]⟩
abbrev S4x8192x128 : Shape := ⟨3, ![4, 8192, 128]⟩
abbrev S_ : Shape := ⟨0, ![]⟩
abbrev S4x8192x8192 : Shape := ⟨3, ![4, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .f32⟩
  | .hbm, ⟨5, _⟩ => ⟨S8192x4x128, .f32⟩
  | .hbm, ⟨6, _⟩ => ⟨S4x8192x128, .f32⟩
  | .hbm, ⟨7, _⟩ => ⟨S8192x512, .f32⟩
  | .hbm, ⟨8, _⟩ => ⟨S8192x4x128, .f32⟩
  | .hbm, ⟨9, _⟩ => ⟨S4x8192x128, .f32⟩
  | .hbm, ⟨10, _⟩ => ⟨S8192x512, .f32⟩
  | .hbm, ⟨11, _⟩ => ⟨S8192x4x128, .f32⟩
  | .hbm, ⟨12, _⟩ => ⟨S4x8192x128, .f32⟩
  | .hbm, ⟨13, _⟩ => ⟨S_, .f32⟩
  | .hbm, ⟨14, _⟩ => ⟨S4x8192x128, .f32⟩
  | .hbm, ⟨15, _⟩ => ⟨S4x8192x128, .f32⟩
  | .hbm, ⟨16, _⟩ => ⟨S4x8192x8192, .f32⟩
  | .hbm, ⟨17, _⟩ => ⟨S8192, .i32⟩
  | .hbm, ⟨18, _⟩ => ⟨S1x8192, .i32⟩
  | .hbm, ⟨19, _⟩ => ⟨S8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S1x8192x8192, .i1⟩
  | .hbm, ⟨25, _⟩ => ⟨S_, .f32⟩
  | .hbm, ⟨26, _⟩ => ⟨S4x8192x8192, .f32⟩
  | .hbm, ⟨27, _⟩ => ⟨S4x8192x8192, .f32⟩
  | .hbm, ⟨28, _⟩ => ⟨S4x8192x8192, .f32⟩
  | .hbm, ⟨29, _⟩ => ⟨S4x8192x8192, .f32⟩
  | .hbm, ⟨30, _⟩ => ⟨S4x8192x8192, .i1⟩
  | .hbm, ⟨31, _⟩ => ⟨S4x8192x8192, .f32⟩
  | .hbm, ⟨32, _⟩ => ⟨S4x8192x8192, .f32⟩
  | .hbm, ⟨33, _⟩ => ⟨S4x8192x8192, .f32⟩
  | .hbm, ⟨34, _⟩ => ⟨S4x8192x8192, .f32⟩
  | .hbm, ⟨35, _⟩ => ⟨S4x8192x8192, .f32⟩
  | .hbm, ⟨36, _⟩ => ⟨S4x8192x8192, .f32⟩
  | .hbm, ⟨37, _⟩ => ⟨S4x8192x8192, .f32⟩
  | .hbm, ⟨38, _⟩ => ⟨S4x8192x8192, .f32⟩
  | .hbm, ⟨39, _⟩ => ⟨S_, .f32⟩
  | .hbm, ⟨40, _⟩ => ⟨S_, .f32⟩
  | .hbm, ⟨41, _⟩ => ⟨S4x8192x8192, .i1⟩
  | .hbm, ⟨42, _⟩ => ⟨S4x8192x8192, .f32⟩
  | .hbm, ⟨43, _⟩ => ⟨S4x8192x8192, .f32⟩
  | .hbm, ⟨44, _⟩ => ⟨S_, .f32⟩
  | .hbm, ⟨45, _⟩ => ⟨S_, .f32⟩
  | .hbm, ⟨46, _⟩ => ⟨S4x8192x8192, .f32⟩
  | .hbm, ⟨47, _⟩ => ⟨S4x8192x8192, .f32⟩
  | .hbm, ⟨48, _⟩ => ⟨S_, .f32⟩
  | .hbm, ⟨49, _⟩ => ⟨S_, .f32⟩
  | .hbm, ⟨50, _⟩ => ⟨S4x8192x8192, .i1⟩
  | .hbm, ⟨51, _⟩ => ⟨S4x8192x8192, .f32⟩
  | .hbm, ⟨52, _⟩ => ⟨S4x8192x8192, .f32⟩
  | .hbm, ⟨53, _⟩ => ⟨S4x8192x8192, .f32⟩
  | .hbm, ⟨54, _⟩ => ⟨S4x8192x128, .f32⟩
  | .hbm, ⟨55, _⟩ => ⟨S8192x4x128, .f32⟩
  | .hbm, ⟨56, _⟩ => ⟨S8192x512, .f32⟩
  | .hbm, ⟨57, _⟩ => ⟨S8192x512, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_v23 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v24 : Ref sig .tc := ⟨.hbm, 43, rfl⟩
abbrev main_call2_cst : Ref sig .tc := ⟨.hbm, 44, rfl⟩
abbrev main_call2_v0 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩

abbrev nD : Nat := 1
abbrev τ : Topo := Topo.v7x

variable {F : FTy → Type} [FloatOps F]
-- ==== Gating.lean ====
abbrev S8192x1152 : Shape := ⟨2, ![8192, 1152]⟩
abbrev S512 : Shape := ⟨1, ![512]⟩
abbrev S4x128x128 : Shape := ⟨3, ![4, 128, 128]⟩
abbrev S4x128 : Shape := ⟨2, ![4, 128]⟩
abbrev S1x512 : Shape := ⟨2, ![1, 512]⟩
abbrev S128x4 : Shape := ⟨2, ![128, 4]⟩
abbrev S8192x512 : Shape := ⟨2, ![8192, 512]⟩
abbrev S128x512 : Shape := ⟨2, ![128, 512]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩

abbrev nBuf : Space → Nat
  | .hbm => 9
  | .vmem => 10
  | .smem => 0
  | _ => 0

abbrev bufTy : (tb : Table) → Fin (tcTables nBuf tb) → BufTy
  | .hbm, ⟨0, _⟩ => ⟨S8192x1152, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S1x512, .f32⟩
  | .hbm, ⟨6, _⟩ => ⟨S1x512, .f32⟩
  | .hbm, ⟨7, _⟩ => ⟨S128x4, .f32⟩
  | .hbm, ⟨8, _⟩ => ⟨S8192x512, .bf16⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x4, .f32⟩
  | .local _ .vmem, ⟨8, _⟩ => ⟨S128x512, .bf16⟩
  | .local _ .vmem, ⟨9, _⟩ => ⟨S128x512, .bf16⟩
  | _, _ => ⟨S8192x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GatingReferenceIdeal.lean ====
abbrev S8192x1152 : Shape := ⟨2, ![8192, 1152]⟩
abbrev S512 : Shape := ⟨1, ![512]⟩
abbrev S4x128x128 : Shape := ⟨3, ![4, 128, 128]⟩
abbrev S4x128 : Shape := ⟨2, ![4, 128]⟩
abbrev S8192x512 : Shape := ⟨2, ![8192, 512]⟩
abbrev S_ : Shape := ⟨0, ![]⟩
abbrev S8192x4x128 : Shape := ⟨3, ![8192, 4, 128]⟩
abbrev S8192x4 : Shape := ⟨2, ![8192, 4]⟩
abbrev S8192x4x1 : Shape := ⟨3, ![8192, 4, 1]⟩
abbrev S1x4x128 : Shape := ⟨3, ![1, 4, 128]⟩
abbrev S64x128x4x128 : Shape := ⟨4, ![64, 128, 4, 128]⟩
abbrev S128x128 : Shape := ⟨2, ![128, 128]⟩
abbrev S4x64x128x128 : Shape := ⟨4, ![4, 64, 128, 128]⟩
abbrev S128x4 : Shape := ⟨2, ![128, 4]⟩
abbrev S128x4x1 : Shape := ⟨3, ![128, 4, 1]⟩
abbrev S1x128x4x1 : Shape := ⟨4, ![1, 128, 4, 1]⟩

abbrev nBuf : Space → Nat
  | .hbm => 84
  | .vmem => 0
  | .smem => 0
  | _ => 0

abbrev bufTy : (tb : Table) → Fin (tcTables nBuf tb) → BufTy
  | .hbm, ⟨0, _⟩ => ⟨S8192x1152, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S8192x512, .f32⟩
  | .hbm, ⟨6, _⟩ => ⟨S_, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x4x128, .f32⟩
  | .hbm, ⟨26, _⟩ => ⟨S4x128, .f32⟩
  | .hbm, ⟨27, _⟩ => ⟨S4x128, .f32⟩
  | .hbm, ⟨28, _⟩ => ⟨S_, .f32⟩
  | .hbm, ⟨29, _⟩ => ⟨S8192x4, .f32⟩
  | .hbm, ⟨30, _⟩ => ⟨S8192x4x1, .f32⟩
  | .hbm, ⟨31, _⟩ => ⟨S_, .f32⟩
  | .hbm, ⟨32, _⟩ => ⟨S8192x4x1, .f32⟩
  | .hbm, ⟨33, _⟩ => ⟨S8192x4x1, .f32⟩
  | .hbm, ⟨34, _⟩ => ⟨S8192x4x128, .f32⟩
  | .hbm, ⟨35, _⟩ => ⟨S8192x4x128, .f32⟩
  | .hbm, ⟨36, _⟩ => ⟨S8192x4x128, .f32⟩
  | .hbm, ⟨37, _⟩ => ⟨S_, .f32⟩
  | .hbm, ⟨38, _⟩ => ⟨S8192x4, .f32⟩
  | .hbm, ⟨39, _⟩ => ⟨S8192x4x1, .f32⟩
  | .hbm, ⟨40, _⟩ => ⟨S_, .f32⟩
  | .hbm, ⟨41, _⟩ => ⟨S8192x4x1, .f32⟩
  | .hbm, ⟨42, _⟩ => ⟨S8192x4x1, .f32⟩
  | .hbm, ⟨43, _⟩ => ⟨S8192x4x128, .f32⟩
  | .hbm, ⟨44, _⟩ => ⟨S8192x4x128, .f32⟩
  | .hbm, ⟨45, _⟩ => ⟨S_, .f32⟩
  | .hbm, ⟨46, _⟩ => ⟨S8192x4x1, .f32⟩
  | .hbm, ⟨47, _⟩ => ⟨S8192x4x1, .f32⟩
  | .hbm, ⟨48, _⟩ => ⟨S8192x4x1, .f32⟩
  | .hbm, ⟨49, _⟩ => ⟨S8192x4x128, .f32⟩
  | .hbm, ⟨50, _⟩ => ⟨S8192x4x128, .f32⟩
  | .hbm, ⟨51, _⟩ => ⟨S1x4x128, .f32⟩
  | .hbm, ⟨52, _⟩ => ⟨S8192x4x128, .f32⟩
  | .hbm, ⟨53, _⟩ => ⟨S8192x4x128, .f32⟩
  | .hbm, ⟨54, _⟩ => ⟨S1x4x128, .f32⟩
  | .hbm, ⟨55, _⟩ => ⟨S8192x4x128, .f32⟩
  | .hbm, ⟨56, _⟩ => ⟨S8192x4x128, .f32⟩
  | .hbm, ⟨57, _⟩ => ⟨S64x128x4x128, .f32⟩
  | .hbm, ⟨58, _⟩ => ⟨S_, .i1⟩
  | .hbm, ⟨59, _⟩ => ⟨S128x128, .i1⟩
  | .hbm, ⟨60, _⟩ => ⟨S128x128, .i32⟩
  | .hbm, ⟨61, _⟩ => ⟨S_, .i32⟩
  | .hbm, ⟨62, _⟩ => ⟨S128x128, .i32⟩
  | .hbm, ⟨63, _⟩ => ⟨S128x128, .i32⟩
  | .hbm, ⟨64, _⟩ => ⟨S128x128, .i32⟩
  | .hbm, ⟨65, _⟩ => ⟨S128x128, .i1⟩
  | .hbm, ⟨66, _⟩ => ⟨S_, .i1⟩
  | .hbm, ⟨67, _⟩ => ⟨S128x128, .i1⟩
  | .hbm, ⟨68, _⟩ => ⟨S128x128, .i1⟩
  | .hbm, ⟨69, _⟩ => ⟨S_, .i32⟩
  | .hbm, ⟨70, _⟩ => ⟨S_, .f32⟩
  | .hbm, ⟨71, _⟩ => ⟨S4x128x128, .i1⟩
  | .hbm, ⟨72, _⟩ => ⟨S4x128x128, .f32⟩
  | .hbm, ⟨73, _⟩ => ⟨S4x128x128, .f32⟩
  | .hbm, ⟨74, _⟩ => ⟨S4x64x128x128, .f32⟩
  | .hbm, ⟨75, _⟩ => ⟨S64x128x4x128, .f32⟩
  | .hbm, ⟨76, _⟩ => ⟨S128x4, .f32⟩
  | .hbm, ⟨77, _⟩ => ⟨S128x4x1, .f32⟩
  | .hbm, ⟨78, _⟩ => ⟨S1x128x4x1, .f32⟩
  | .hbm, ⟨79, _⟩ => ⟨S64x128x4x128, .f32⟩
  | .hbm, ⟨80, _⟩ => ⟨S64x128x4x128, .f32⟩
  | .hbm, ⟨81, _⟩ => ⟨S8192x512, .f32⟩
  | .hbm, ⟨82, _⟩ => ⟨S8192x512, .f32⟩
  | .hbm, ⟨83, _⟩ => ⟨S8192x512, .bf16⟩
  | _, _ => ⟨S8192x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c : Ref sig .tc := ⟨.hbm, 58, rfl⟩
abbrev main_v44 : Ref sig .tc := ⟨.hbm, 59, rfl⟩
abbrev main_call0_v0 : Ref sig .tc := ⟨.hbm, 60, rfl⟩
abbrev main_call0_c : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_c_0 : Ref sig .tc := ⟨.hbm, 66, rfl⟩
abbrev main_call0_v5 : Ref sig .tc := ⟨.hbm, 67, rfl⟩
abbrev main_v45 : Ref sig .tc := ⟨.hbm, 68, rfl⟩
abbrev main_c_8 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]
-- ==== Proof.Finite.lean ====
module

public import proofs.«01_k».proof.Defs
public import Idealize.ShloMosaic.Lib.ReduceAll
public import Idealize.ShloMosaic.Lib.Pointwise.Index
public import Idealize.ShloMosaic.Init

@[expose] public section

noncomputable section

/-! # What the precondition says

Over the extended reals `finite` says that the projections, the tail, the convolution's taps, the log decays and the biases of
the time steps are real numbers. -/

namespace Cert.Pre_finite

open Idealize.ShloMosaic

/-- The side conditions of the precondition's operations. -/
theorem facts : Cert.Pre_finite.Facts where
  bcast_S_S8192x4096 := by decide
  reducesTo_S8192x4096_S_d0_1 := by decide
  h_S_ := by decide
  bcast_S_S8192x1152 := by decide
  reducesTo_S8192x1152_S_d0_1 := by decide
  bcast_S_S4x3072 := by decide
  reducesTo_S4x3072_S_d0_1 := by decide
  bcast_S_S8 := by decide
  reducesTo_S8_S_d0 := by decide
  shapeCasts_S_S1 := by decide

local notation "𝕀" => Idealize.ShloMosaic.Ideal

/-- There is one index into a scalar. -/
instance : Subsingleton S_.Idx := ⟨fun _ _ => funext fun d => d.elim0⟩

/-- A number whose absolute value is below infinity is real. -/
theorem real_of_lt {x : EReal} (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

/-- One `and` of two scalars being one, both are. -/
theorem both {x y : IVec S_ 1} {i : S_.Idx} (h : andi x y i = 1#1) : x i = 1#1 ∧ y i = 1#1 := by
  have h' : x i &&& y i = 1#1 := h
  revert h'
  generalize x i = a
  generalize y i = b
  revert a b
  decide

variable [Facts]

/-- The five arrays `finite` speaks of hold real numbers only. -/
theorem reals (a0 : FVec 𝕀 S8192x4096 .f32) (a1 : FVec 𝕀 S8192x1152 .f32) (a2 : FVec 𝕀 S4x3072 .f32) (a3 a4 : FVec 𝕀 S8 .f32)
    (a5 : FVec 𝕀 S128 .f32) (h : fn (F := 𝕀) a0 a1 a2 a3 a4 a5 = fun _ => 1#1) :
    (∀ i, ∃ r : ℝ, (a0 i : EReal) = (r : EReal)) ∧ (∀ i, ∃ r : ℝ, (a1 i : EReal) = (r : EReal)) ∧
    (∀ i, ∃ r : ℝ, (a2 i : EReal) = (r : EReal)) ∧ (∀ i, ∃ r : ℝ, (a3 i : EReal) = (r : EReal)) ∧
    (∀ i, ∃ r : ℝ, (a4 i : EReal) = (r : EReal)) := by
  have h0 := congrFun h (ix1 (n0 := 1) 0)
  dsimp only [fn, fn_part1, shapeCast] at h0
  obtain ⟨h0, h4⟩ := both h0
  obtain ⟨h0, h3⟩ := both h0
  obtain ⟨h0, h2⟩ := both h0
  obtain ⟨h0, h1⟩ := both h0
  refine ⟨fun i => ?_, fun i => ?_, fun i => ?_, fun i => ?_, fun i => ?_⟩
  · exact real_of_lt (Host.reduce_andi_all _ _ _ _ _ h0 i)
  · exact real_of_lt (Host.reduce_andi_all _ _ _ _ _ h1 i)
  · exact real_of_lt (Host.reduce_andi_all _ _ _ _ _ h2 i)
  · exact real_of_lt (Host.reduce_andi_all _ _ _ _ _ h3 i)
  · exact real_of_lt (Host.reduce_andi_all _ _ _ _ _ h4 i)

end Cert.Pre_finite

end
-- ==== Proof.Head.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise

/-!
# One head of one chunk, as a function of the head number

The body treats its eight heads one after another, every stage written out per head. Here each stage is one
function of the head number `h`, over the chunk's activations `act` (queries, keys and values side by side),
cumulative log-decays `gc`, gate table `sg` and the state before the chunk `S`.
-/

@[expose] public section
set_option maxRecDepth 16384
noncomputable section
namespace Cert.KernelIdeal.Value
open Cert.KernelIdeal Cert.KernelIdeal.Gen Idealize.ShloMosaic Idealize.ShloMosaic.TcCoe Idealize.SL.Sem
variable {F : FTy → Type} [FloatOps F]

/-- A 64 × 128 block of the activations' columns lies inside them. -/
theorem slices_act (o : ℕ) (ho : o + 128 ≤ 3072) : S64x3072.Slices ![0, o] S64x128 :=
  ⟨rfl, fun a => by fin_cases a <;> simp [S64x128, S64x3072] <;> omega⟩

/-- A 64 × 128 block of the output's columns lies inside them. -/
theorem slices_z (o : ℕ) (ho : o + 128 ≤ 1024) : S64x1024.Slices ![0, o] S64x128 :=
  ⟨rfl, fun a => by fin_cases a <;> simp [S64x128, S64x1024] <;> omega⟩

/-- A column of a 64 × 128 table lies inside it. -/
theorem slices_col (o : ℕ) (ho : o + 1 ≤ 128) : S64x128.Slices ![0, o] S64x1 :=
  ⟨rfl, fun a => by fin_cases a <;> simp [S64x128, S64x1] <;> omega⟩

/-- A row of a 128 × 64 table lies inside it. -/
theorem slices_row (o : ℕ) (ho : o + 1 ≤ 128) : S128x64.Slices ![o, 0] S1x64 :=
  ⟨rfl, fun a => by fin_cases a <;> simp [S128x64, S1x64] <;> omega⟩

/-- An entry of the last row of a 64 × 128 table lies inside it. -/
theorem slices_last (o : ℕ) (ho : o + 1 ≤ 128) : S64x128.Slices ![63, o] S1x1 :=
  ⟨rfl, fun a => by fin_cases a <;> simp [S64x128, S1x1] <;> omega⟩

/-- One head's state lies inside the states. -/
theorem inb_state (o : ℕ) (ho : o + 1 ≤ 8) :
    ∀ a, (![o, 0, 0] : Fin 3 → Nat) a + S1x128x128.size a ≤ S8x128x128.size a :=
  fun a => by fin_cases a <;> simp [S1x128x128, S8x128x128] <;> omega

/-- The columns of head `h` from the activations at `base`. -/
def hAct (act : FVec F S64x3072 .f32) (base : ℕ) (hb : base ≤ 2048) (h : Fin 8) : FVec F S64x128 .f32 :=
  extractStridedSlice S64x128 ![0, base + 128 * h.val] act (slices_act _ (by omega))

/-- The normalized query of head `h`. -/
def hQ (act : FVec F S64x3072 .f32) (h : Fin 8) : FVec F S64x128 .f32 := k0_pay38 (hAct act 0 (by omega) h)
/-- The normalized key of head `h`. -/
def hK (act : FVec F S64x3072 .f32) (h : Fin 8) : FVec F S64x128 .f32 := k0_pay48 (hAct act 1024 (by omega) h)
/-- The value of head `h`. -/
def hV (act : FVec F S64x3072 .f32) (h : Fin 8) : FVec F S64x128 .f32 := hAct act 2048 (by omega) h
/-- The update gate of head `h`. -/
def hB (sg : FVec F S64x128 .f32) (h : Fin 8) : FVec F S64x1 .f32 :=
  extractStridedSlice S64x1 ![0, 8 + h.val] sg (slices_col _ (by omega))
/-- The cumulative log-decay of head `h`, as a column. -/
def hGc (gc : FVec F S64x128 .f32) (h : Fin 8) : FVec F S64x1 .f32 :=
  extractStridedSlice S64x1 ![0, h.val] gc (slices_col _ (by omega))
/-- The cumulative log-decay of head `h`, as a row. -/
def hGr (gc : FVec F S64x128 .f32) (h : Fin 8) : FVec F S1x64 .f32 :=
  extractStridedSlice S1x64 ![h.val, 0] (transpose S128x64 [1, 0] gc transposes_S64x128_p1_0_S128x64) (slices_row _ (by omega))
/-- The chunk's whole log-decay of head `h`. -/
def hGl (gc : FVec F S64x128 .f32) (h : Fin 8) : FVec F S1x1 .f32 :=
  extractStridedSlice S1x1 ![63, h.val] gc (slices_last _ (by omega))

/-- A product of 64 × 64 matrices. -/
def mm64 (a b : FVec F S64x64 .f32) : FVec F S64x64 .f32 :=
  matmul dot_S64x64_S64x64_S64x64_1_0_0_1_n_n none a b (constant S64x64 .f32 0x00000000#32)

/-- The decay from one token to a later one, zero above the diagonal. -/
def hDecay (gc : FVec F S64x128 .f32) (h : Fin 8) : FVec F S64x64 .f32 :=
  exp (select k0_pay8 (subf (broadcastTo S64x64 (hGc gc h) broadcasts_S64x1_S64x64)
    (broadcastTo S64x64 (hGr gc h) broadcasts_S1x64_S64x64)) (broadcast S64x64 (Scalar.ofBits .f32 0xFF800000#32)))

/-- The key scaled by its update gate. -/
def hKb (act : FVec F S64x3072 .f32) (sg : FVec F S64x128 .f32) (h : Fin 8) : FVec F S64x128 .f32 :=
  k0_pay105 (hK act h) (hB sg h)

/-- The strictly lower triangular matrix whose inverse the chunk needs, negated. -/
def hX (act : FVec F S64x3072 .f32) (sg gc : FVec F S64x128 .f32) (h : Fin 8) : FVec F S64x64 .f32 :=
  k0_pay116 k0_pay9 (hK act h) (hDecay gc h) (hKb act sg h)

/-- One doubling step of the inverse: `t + t p`. -/
def tstep (t p : FVec F S64x64 .f32) : FVec F S64x64 .f32 := addf t (mm64 t p)

/-- The inverse by doubling, from the matrix `x`. -/
def tinv (x : FVec F S64x64 .f32) : FVec F S64x64 .f32 :=
  tstep (tstep (tstep (tstep (tstep (addf k0_pay12 x) (mm64 x x)) (mm64 (mm64 x x) (mm64 x x)))
    (mm64 (mm64 (mm64 x x) (mm64 x x)) (mm64 (mm64 x x) (mm64 x x))))
    (mm64 (mm64 (mm64 (mm64 x x) (mm64 x x)) (mm64 (mm64 x x) (mm64 x x))) (mm64 (mm64 (mm64 x x) (mm64 x x)) (mm64 (mm64 x x) (mm64 x x)))))
    (mm64 (mm64 (mm64 (mm64 (mm64 x x) (mm64 x x)) (mm64 (mm64 x x) (mm64 x x))) (mm64 (mm64 (mm64 x x) (mm64 x x)) (mm64 (mm64 x x) (mm64 x x))))
      (mm64 (mm64 (mm64 (mm64 x x) (mm64 x x)) (mm64 (mm64 x x) (mm64 x x))) (mm64 (mm64 (mm64 x x) (mm64 x x)) (mm64 (mm64 x x) (mm64 x x)))))

/-- The inverse applied to the gated values and the gated, decayed keys side by side. -/
def hSol (act : FVec F S64x3072 .f32) (sg gc : FVec F S64x128 .f32) (h : Fin 8) : FVec F S64x256 .f32 :=
  matmul dot_S64x64_S64x256_S64x256_1_0_0_1_n_n none (tinv (hX act sg gc h))
    (k0_pay189 (hV act h) (hB sg h) (exp (hGc gc h)) (hKb act sg h)) (constant S64x256 .f32 0x00000000#32)

/-- The state of head `h` before the chunk. -/
def hS (S : FVec F S8x128x128 .f32) (h : Fin 8) : FVec F S128x128 .f32 :=
  shapeCast S128x128 (View.ld (Val := Elt F) (e' := .f32) S (Rect.unit (s := S8x128x128) ![h.val, 0, 0] S1x128x128.size (inb_state _ (by omega))))
    shapeCasts_S1x128x128_S128x128

/-- The decayed keys' solution and the decayed queries, both applied to the state. -/
def hWs (act : FVec F S64x3072 .f32) (sg gc : FVec F S64x128 .f32) (S : FVec F S8x128x128 .f32) (h : Fin 8) : FVec F S128x128 .f32 :=
  k0_pay230 (hQ act h) (hS S h) (extractStridedSlice S64x128 ![0, 128] (hSol act sg gc h) slices_S64x256_o0_128_S64x128)
    (broadcastTo S64x128 (exp (hGc gc h)) broadcasts_S64x1_S64x128)

/-- The chunk's new values: what each token's update writes. -/
def hVn (act : FVec F S64x3072 .f32) (sg gc : FVec F S64x128 .f32) (S : FVec F S8x128x128 .f32) (h : Fin 8) : FVec F S64x128 .f32 :=
  subf (extractStridedSlice S64x128 ![0, 0] (hSol act sg gc h) slices_S64x256_o0_0_S64x128)
    (extractStridedSlice S64x128 ![0, 0] (hWs act sg gc S h) slices_S128x128_o0_0_S64x128)

/-- The decayed query-key products on and below the diagonal. -/
def hQK (act : FVec F S64x3072 .f32) (gc : FVec F S64x128 .f32) (h : Fin 8) : FVec F S64x64 .f32 :=
  k0_pay203 k0_pay8 (hDecay gc h)
    (matmul dot_S64x128_S64x128_S64x64_1_1_0_0_n_n none (hQ act h) (hK act h) (constant S64x64 .f32 0x00000000#32))

/-- The read-out of head `h` before its norm. -/
def hO (act : FVec F S64x3072 .f32) (sg gc : FVec F S64x128 .f32) (S : FVec F S8x128x128 .f32) (h : Fin 8) : FVec F S64x128 .f32 :=
  k0_pay248 (hQK act gc h) (hWs act sg gc S h) (hVn act sg gc S h)

/-- The state of head `h` after the chunk. -/
def hNewS (act : FVec F S64x3072 .f32) (sg gc : FVec F S64x128 .f32) (S : FVec F S8x128x128 .f32) (h : Fin 8) : FVec F S1x128x128 .f32 :=
  k0_pay256 (hGl gc h) (k0_pay211 (hK act h) (hGc gc h) (hGl gc h)) (hS S h) (hVn act sg gc S h)

/-- The output of a head from its read-out `o`, the norm's weight `nw` and its gate `z`. -/
def headOut (nw : FVec F S1x128 .f32) (z o : FVec F S64x128 .f32) : FVec F S64x128 .bf16 :=
  truncf .bf16 (mulf (mulf (mulf o (broadcastTo S64x128 (rsqrt (addf (divf
    (shapeCast S64x1 (multiReduction .add [1] S64 (mulf o o) 0x00000000#32 reduces_S64x128_S64 (.inl rfl) rfl) shapeCasts_S64_S64x1)
    (broadcast S64x1 (Scalar.ofBits .f32 0x43000000#32))) (broadcast S64x1 (Scalar.ofBits .f32 0x358637BD#32))))
      broadcasts_S64x1_S64x128)) (broadcastTo S64x128 nw broadcasts_S1x128_S64x128))
    (mulf z (divf (broadcast S64x128 (Scalar.ofBits .f32 0x3F800000#32)) (addf (broadcast S64x128 (Scalar.ofBits .f32 0x3F800000#32))
      (exp (subf (broadcast S64x128 (Scalar.ofBits .f32 0x00000000#32)) z)))))) bitsLt_bf16_f32

/-- The output block of head `h`. -/
def hOut (act : FVec F S64x3072 .f32) (sg gc : FVec F S64x128 .f32) (S : FVec F S8x128x128 .f32) (nw : FVec F S1x128 .f32)
    (z : FVec F S64x1024 .f32) (h : Fin 8) : FVec F S64x128 .bf16 :=
  headOut nw (extractStridedSlice S64x128 ![0, 128 * h.val] z (slices_z _ (by omega))) (hO act sg gc S h)

/-- The chunk's state after the chunk. -/
def chunkState (act : FVec F S64x3072 .f32) (sg gc : FVec F S64x128 .f32) (S : FVec F S8x128x128 .f32) : S8x128x128.Idx → F .f32 :=
  fun y => hNewS act sg gc S (y 0) (ix3 (0 : Fin 1) (y 1) (y 2))

/-- The chunk's output block. -/
def chunkOut (act : FVec F S64x3072 .f32) (sg gc : FVec F S64x128 .f32) (S : FVec F S8x128x128 .f32) (nw : FVec F S1x128 .f32)
    (z : FVec F S64x1024 .f32) : S64x1024.Idx → F .bf16 :=
  fun y => hOut act sg gc S nw z ⟨(y 1).val / 128, by have := (y 1).isLt; simp [S64x1024] at this; omega⟩
    (ix2 (y 0) ⟨(y 1).val % 128, Nat.mod_lt _ (by norm_num)⟩)

end Cert.KernelIdeal.Value
-- ==== Proof.Chain.lean ====
module

public import proofs.«01_k».proof.Proof.Head

@[expose] public section
set_option maxRecDepth 16384
noncomputable section
namespace Cert.KernelIdeal.Value
open Cert.KernelIdeal Cert.KernelIdeal.Gen Idealize.ShloMosaic Idealize.ShloMosaic.TcCoe Idealize.SL.Sem
variable {F : FTy → Type} [FloatOps F]
variable (m : (ℓ : Loc nD τ sig) → Buf (Elt F) ℓ)

/-- The chunk's activations: the convolution's silu. -/
def pAct (c : Dev nD) (t : Fin cfg0.N) (tl : FVec F S8x3072 .f32) : FVec F S64x3072 .f32 := k0_pay5 (X0_0 m c t) tl (iblk m c 3 t)
/-- The gates' logistic. -/
def pSg (c : Dev nD) (t : Fin cfg0.N) : FVec F S64x128 .f32 := k0_pay7 (iblk m c 2 t)
/-- The cumulative log-decays. -/
def pGc (c : Dev nD) (t : Fin cfg0.N) : FVec F S64x128 .f32 := k0_pay10 (iblk m c 2 t) (k0_pay6 (iblk m c 4 t)) (iblk m c 5 t)

/-- The state after the chunk, read at one piece's local index. -/
theorem chunkState_at (act : FVec F S64x3072 .f32) (sg gc : FVec F S64x128 .f32) (S : FVec F S8x128x128 .f32) (k : Fin 8)
    (y : S8x128x128.Idx) (x : S1x128x128.Idx) (h0 : (y 0).val = k.val + (x 0).val) (h1 : (y 1).val = (x 1).val)
    (h2 : (y 2).val = (x 2).val) : chunkState act sg gc S y = hNewS act sg gc S k x := by
  have hx : (x 0).val = 0 := by have h : (x 0).val < 1 := (x 0).isLt; omega
  have e0 : y 0 = k := Fin.ext (by omega)
  have e : (ix3 (0 : Fin 1) (y 1) (y 2) : S1x128x128.Idx) = x := by
    funext a
    match a with
    | ⟨0, _⟩ => exact Fin.ext hx.symm
    | ⟨1, _⟩ => exact Fin.ext h1
    | ⟨2, _⟩ => exact Fin.ext h2
  unfold chunkState
  rw [e0, e]

/-- The chunk's output, read at one piece's local index. -/
theorem chunkOut_at (act : FVec F S64x3072 .f32) (sg gc : FVec F S64x128 .f32) (S : FVec F S8x128x128 .f32) (nw : FVec F S1x128 .f32)
    (z : FVec F S64x1024 .f32) (k : Fin 8)
    (y : S64x1024.Idx) (x : S64x128.Idx) (h0 : (y 0).val = (x 0).val) (h1 : (y 1).val = 128 * k.val + (x 1).val) :
    chunkOut act sg gc S nw z y = hOut act sg gc S nw z k x := by
  have hx : (x 1).val < 128 := (x 1).isLt
  have e0 : (⟨(y 1).val / 128, by have := (y 1).isLt; simp [S64x1024] at this; omega⟩ : Fin 8) = k := Fin.ext (by simp; omega)
  have e : (ix2 (y 0) ⟨(y 1).val % 128, Nat.mod_lt _ (by norm_num)⟩ : S64x128.Idx) = x := by
    funext a
    match a with
    | ⟨0, _⟩ => exact Fin.ext h0
    | ⟨1, _⟩ => exact Fin.ext (by simp [ix2]; omega)
  unfold chunkOut
  rw [e0, e]

set_option maxHeartbeats 4000000

/-- After a later chunk the state is the chunk's state of the scratches carried in. -/
theorem stateB (c : Dev nD) (t : Fin cfg0.N) (h0 : ¬t.val % 128 = 0) :
    (outsAt0 m c t.val t.isLt).2.2 = chunkState (pAct m c t (outsAt0 m c (t.val - 1) (by omega)).2.1) (pSg m c t) (pGc m c t)
      (outsAt0 m c (t.val - 1) (by omega)).2.2 := by
  funext y
  rw [outsAt0_B m c t h0]
  generalize hQ : chunkState (F := F) (pAct m c t _) _ _ _ y = Z
  frame_out
  simp only [read_unread_whole]
  canon_tiles x h
  all_goals subst hQ
  case piece0 =>
    rw [chunkState_at _ _ _ _ ⟨7, by norm_num⟩ y x (by simpa using h0) (by simpa using h1) (by simpa using h2)]
    refine congrFun ?_ x
    sl_kernel_rfl
  case piece1 =>
    rw [chunkState_at _ _ _ _ ⟨6, by norm_num⟩ y x (by simpa using h0) (by simpa using h1) (by simpa using h2)]
    refine congrFun ?_ x
    sl_kernel_rfl
  case piece2 =>
    rw [chunkState_at _ _ _ _ ⟨5, by norm_num⟩ y x (by simpa using h0) (by simpa using h1) (by simpa using h2)]
    refine congrFun ?_ x
    sl_kernel_rfl
  case piece3 =>
    rw [chunkState_at _ _ _ _ ⟨4, by norm_num⟩ y x (by simpa using h0) (by simpa using h1) (by simpa using h2)]
    refine congrFun ?_ x
    sl_kernel_rfl
  case piece4 =>
    rw [chunkState_at _ _ _ _ ⟨3, by norm_num⟩ y x (by simpa using h0) (by simpa using h1) (by simpa using h2)]
    refine congrFun ?_ x
    sl_kernel_rfl
  case piece5 =>
    rw [chunkState_at _ _ _ _ ⟨2, by norm_num⟩ y x (by simpa using h0) (by simpa using h1) (by simpa using h2)]
    refine congrFun ?_ x
    sl_kernel_rfl
  case piece6 =>
    rw [chunkState_at _ _ _ _ ⟨1, by norm_num⟩ y x (by simpa using h0) (by simpa using h1) (by simpa using h2)]
    refine congrFun ?_ x
    sl_kernel_rfl
  case piece7 =>
    rw [chunkState_at _ _ _ _ ⟨0, by norm_num⟩ y x (by simpa using h0) (by simpa using h1) (by simpa using h2)]
    refine congrFun ?_ x
    sl_kernel_rfl

/-- After a later chunk the output block is the chunk's output of the scratches carried in. -/
theorem outB (c : Dev nD) (t : Fin cfg0.N) (h0 : ¬t.val % 128 = 0) :
    (outsAt0 m c t.val t.isLt).1 = chunkOut (pAct m c t (outsAt0 m c (t.val - 1) (by omega)).2.1) (pSg m c t) (pGc m c t)
      (outsAt0 m c (t.val - 1) (by omega)).2.2 (k0_pay13 (iblk m c 6 t)) (iblk m c 1 t) := by
  funext y
  rw [outsAt0_B m c t h0]
  generalize hQ : chunkOut (F := F) (pAct m c t _) _ _ _ _ _ y = Z
  frame_out
  simp only [read_unread_whole]
  canon_tiles x h
  all_goals subst hQ
  case piece0 =>
    rw [chunkOut_at _ _ _ _ _ _ ⟨7, by norm_num⟩ y x (by simpa using h0) (by simpa using h1)]
    refine congrFun ?_ x
    sl_kernel_rfl
  case piece1 =>
    rw [chunkOut_at _ _ _ _ _ _ ⟨6, by norm_num⟩ y x (by simpa using h0) (by simpa using h1)]
    refine congrFun ?_ x
    sl_kernel_rfl
  case piece2 =>
    rw [chunkOut_at _ _ _ _ _ _ ⟨5, by norm_num⟩ y x (by simpa using h0) (by simpa using h1)]
    refine congrFun ?_ x
    sl_kernel_rfl
  case piece3 =>
    rw [chunkOut_at _ _ _ _ _ _ ⟨4, by norm_num⟩ y x (by simpa using h0) (by simpa using h1)]
    refine congrFun ?_ x
    sl_kernel_rfl
  case piece4 =>
    rw [chunkOut_at _ _ _ _ _ _ ⟨3, by norm_num⟩ y x (by simpa using h0) (by simpa using h1)]
    refine congrFun ?_ x
    sl_kernel_rfl
  case piece5 =>
    rw [chunkOut_at _ _ _ _ _ _ ⟨2, by norm_num⟩ y x (by simpa using h0) (by simpa using h1)]
    refine congrFun ?_ x
    sl_kernel_rfl
  case piece6 =>
    rw [chunkOut_at _ _ _ _ _ _ ⟨1, by norm_num⟩ y x (by simpa using h0) (by simpa using h1)]
    refine congrFun ?_ x
    sl_kernel_rfl
  case piece7 =>
    rw [chunkOut_at _ _ _ _ _ _ ⟨0, by norm_num⟩ y x (by simpa using h0) (by simpa using h1)]
    refine congrFun ?_ x
    sl_kernel_rfl

/-- After a later chunk the tail is the chunk's last eight rows. -/
theorem tailB (c : Dev nD) (t : Fin cfg0.N) (h0 : ¬t.val % 128 = 0) :
    (outsAt0 m c t.val t.isLt).2.1 = k0_pay4 (X0_0 m c t) := by
  funext y
  rw [outsAt0_B m c t h0]
  frame_out

/-- After the first chunk the state is the chunk's state of zeroed scratches. -/
theorem stateA (c : Dev nD) (t : Fin cfg0.N) (h0 : t.val % 128 = 0) :
    (outsAt0 m c t.val t.isLt).2.2 = chunkState (pAct m c t k0_pay2) (pSg m c t) (pGc m c t) k0_pay3 := by
  funext y
  rw [outsAt0_A m c t h0]
  generalize hQ : chunkState (F := F) (pAct m c t _) _ _ _ y = Z
  frame_open
  simp (disch := decide) only [↓ View.readCov_skip, ↓ View.readCov_cons_toLoadRect, ↓ View.readCov_fill]
  frame_out
  subst hQ
  refine View.canon_append_of_piecesOf _ _ [_, _, _, _, _, _, _, _] ⟨fun x => ?_, fun x => ?_, fun x => ?_, fun x => ?_, fun x => ?_,
    fun x => ?_, fun x => ?_, fun x => ?_, trivial⟩ y (View.cover_of_tiled_head _ _ _ (by rfl) _)
  · rw [chunkState_at _ _ _ _ ⟨7, by norm_num⟩ _ x (ValueKit.rect_emb_unit_val _ _ _ x 0) ((ValueKit.rect_emb_unit_val _ _ _ x 1).trans (Nat.zero_add _)) ((ValueKit.rect_emb_unit_val _ _ _ x 2).trans (Nat.zero_add _))]
    refine congrFun ?_ x
    sl_kernel_rfl
  · rw [chunkState_at _ _ _ _ ⟨6, by norm_num⟩ _ x (ValueKit.rect_emb_unit_val _ _ _ x 0) ((ValueKit.rect_emb_unit_val _ _ _ x 1).trans (Nat.zero_add _)) ((ValueKit.rect_emb_unit_val _ _ _ x 2).trans (Nat.zero_add _))]
    refine congrFun ?_ x
    sl_kernel_rfl
  · rw [chunkState_at _ _ _ _ ⟨5, by norm_num⟩ _ x (ValueKit.rect_emb_unit_val _ _ _ x 0) ((ValueKit.rect_emb_unit_val _ _ _ x 1).trans (Nat.zero_add _)) ((ValueKit.rect_emb_unit_val _ _ _ x 2).trans (Nat.zero_add _))]
    refine congrFun ?_ x
    sl_kernel_rfl
  · rw [chunkState_at _ _ _ _ ⟨4, by norm_num⟩ _ x (ValueKit.rect_emb_unit_val _ _ _ x 0) ((ValueKit.rect_emb_unit_val _ _ _ x 1).trans (Nat.zero_add _)) ((ValueKit.rect_emb_unit_val _ _ _ x 2).trans (Nat.zero_add _))]
    refine congrFun ?_ x
    sl_kernel_rfl
  · rw [chunkState_at _ _ _ _ ⟨3, by norm_num⟩ _ x (ValueKit.rect_emb_unit_val _ _ _ x 0) ((ValueKit.rect_emb_unit_val _ _ _ x 1).trans (Nat.zero_add _)) ((ValueKit.rect_emb_unit_val _ _ _ x 2).trans (Nat.zero_add _))]
    refine congrFun ?_ x
    sl_kernel_rfl
  · rw [chunkState_at _ _ _ _ ⟨2, by norm_num⟩ _ x (ValueKit.rect_emb_unit_val _ _ _ x 0) ((ValueKit.rect_emb_unit_val _ _ _ x 1).trans (Nat.zero_add _)) ((ValueKit.rect_emb_unit_val _ _ _ x 2).trans (Nat.zero_add _))]
    refine congrFun ?_ x
    sl_kernel_rfl
  · rw [chunkState_at _ _ _ _ ⟨1, by norm_num⟩ _ x (ValueKit.rect_emb_unit_val _ _ _ x 0) ((ValueKit.rect_emb_unit_val _ _ _ x 1).trans (Nat.zero_add _)) ((ValueKit.rect_emb_unit_val _ _ _ x 2).trans (Nat.zero_add _))]
    refine congrFun ?_ x
    sl_kernel_rfl
  · rw [chunkState_at _ _ _ _ ⟨0, by norm_num⟩ _ x (ValueKit.rect_emb_unit_val _ _ _ x 0) ((ValueKit.rect_emb_unit_val _ _ _ x 1).trans (Nat.zero_add _)) ((ValueKit.rect_emb_unit_val _ _ _ x 2).trans (Nat.zero_add _))]
    refine congrFun ?_ x
    sl_kernel_rfl

/-- After the first chunk the output block is the chunk's output of zeroed scratches. -/
theorem outA (c : Dev nD) (t : Fin cfg0.N) (h0 : t.val % 128 = 0) :
    (outsAt0 m c t.val t.isLt).1 = chunkOut (pAct m c t k0_pay2) (pSg m c t) (pGc m c t) k0_pay3 (k0_pay13 (iblk m c 6 t)) (iblk m c 1 t) := by
  funext y
  rw [outsAt0_A m c t h0]
  generalize hQ : chunkOut (F := F) (pAct m c t _) _ _ _ _ _ y = Z
  frame_open
  simp (disch := decide) only [↓ View.readCov_skip, ↓ View.readCov_cons_toLoadRect, ↓ View.readCov_fill]
  frame_out
  canon_tiles x h
  all_goals subst hQ
  case piece0 =>
    rw [chunkOut_at _ _ _ _ _ _ ⟨7, by norm_num⟩ y x (by simpa using h0) (by simpa using h1)]
    refine congrFun ?_ x
    sl_kernel_rfl
  case piece1 =>
    rw [chunkOut_at _ _ _ _ _ _ ⟨6, by norm_num⟩ y x (by simpa using h0) (by simpa using h1)]
    refine congrFun ?_ x
    sl_kernel_rfl
  case piece2 =>
    rw [chunkOut_at _ _ _ _ _ _ ⟨5, by norm_num⟩ y x (by simpa using h0) (by simpa using h1)]
    refine congrFun ?_ x
    sl_kernel_rfl
  case piece3 =>
    rw [chunkOut_at _ _ _ _ _ _ ⟨4, by norm_num⟩ y x (by simpa using h0) (by simpa using h1)]
    refine congrFun ?_ x
    sl_kernel_rfl
  case piece4 =>
    rw [chunkOut_at _ _ _ _ _ _ ⟨3, by norm_num⟩ y x (by simpa using h0) (by simpa using h1)]
    refine congrFun ?_ x
    sl_kernel_rfl
  case piece5 =>
    rw [chunkOut_at _ _ _ _ _ _ ⟨2, by norm_num⟩ y x (by simpa using h0) (by simpa using h1)]
    refine congrFun ?_ x
    sl_kernel_rfl
  case piece6 =>
    rw [chunkOut_at _ _ _ _ _ _ ⟨1, by norm_num⟩ y x (by simpa using h0) (by simpa using h1)]
    refine congrFun ?_ x
    sl_kernel_rfl
  case piece7 =>
    rw [chunkOut_at _ _ _ _ _ _ ⟨0, by norm_num⟩ y x (by simpa using h0) (by simpa using h1)]
    refine congrFun ?_ x
    sl_kernel_rfl

/-- After the first chunk the tail is the chunk's last eight rows. -/
theorem tailA (c : Dev nD) (t : Fin cfg0.N) (h0 : t.val % 128 = 0) :
    (outsAt0 m c t.val t.isLt).2.1 = k0_pay4 (X0_0 m c t) := by
  funext y
  rw [outsAt0_A m c t h0]
  frame_out

end Cert.KernelIdeal.Value
-- ==== Proof.Delta.lean ====
module

public import Mathlib.Data.Matrix.Mul
public import Mathlib.LinearAlgebra.Matrix.NonsingularInverse
public import Mathlib.Analysis.SpecialFunctions.Exp

/-!
# The gated delta rule over the reals: token by token, and chunk by chunk

`gS` and `gVn` are the recurrence one token at a time. `chunk_vn`, `chunk_o` and `chunk_state` say that the
closed form over a chunk of `n` tokens, with the inverse of a unit lower triangular matrix, gives the same values.
-/

@[expose] public section
noncomputable section
namespace Delta
open Finset Matrix

/-! ## The inverse by doubling -/

/-- A strictly lower triangular matrix's `n`-th power vanishes above the `n`-th subdiagonal. -/
theorem pow_strict {N : ℕ} (X : Matrix (Fin N) (Fin N) ℝ) (hX : ∀ i j : Fin N, ¬ j < i → X i j = 0) (n : ℕ) :
    ∀ i j : Fin N, i.val < j.val + n → (X ^ n) i j = 0 := by
  induction n with
  | zero => intro i j h; rw [pow_zero, Matrix.one_apply_ne]; rintro rfl; omega
  | succ n ih =>
    intro i j h
    rw [pow_succ, Matrix.mul_apply]
    refine Finset.sum_eq_zero fun k _ => ?_
    by_cases hk : j < k
    · rw [ih i k (by have : j.val < k.val := hk; omega), zero_mul]
    · rw [hX k j hk, mul_zero]

/-- One doubling step of the inverse. -/
theorem step_inv {N : ℕ} {X t p : Matrix (Fin N) (Fin N) ℝ} (h : (1 - X) * t = 1 - p) :
    (1 - X) * (t + t * p) = 1 - p * p := by
  rw [Matrix.mul_add, ← Matrix.mul_assoc, h]; noncomm_ring

/-- The doubled product of a matrix on 64 rows. -/
def dbl (X : Matrix (Fin 64) (Fin 64) ℝ) : Matrix (Fin 64) (Fin 64) ℝ :=
  let s := fun (t p : Matrix (Fin 64) (Fin 64) ℝ) => t + t * p
  let q := fun (p : Matrix (Fin 64) (Fin 64) ℝ) => p * p
  s (s (s (s (s (1 + X) (q X)) (q (q X))) (q (q (q X)))) (q (q (q (q X))))) (q (q (q (q (q X)))))

/-- The doubled product of a strictly lower triangular matrix inverts one minus the matrix. -/
theorem dbl_inv (X : Matrix (Fin 64) (Fin 64) ℝ) (hX : ∀ i j : Fin 64, ¬ j < i → X i j = 0) : dbl X * (1 - X) = 1 := by
  have h0 : (1 - X) * (1 + X) = 1 - X * X := by noncomm_ring
  have h6 := step_inv (step_inv (step_inv (step_inv (step_inv h0))))
  have hp : X * X * (X * X) * (X * X * (X * X)) * (X * X * (X * X) * (X * X * (X * X))) *
      (X * X * (X * X) * (X * X * (X * X)) * (X * X * (X * X) * (X * X * (X * X)))) *
      (X * X * (X * X) * (X * X * (X * X)) * (X * X * (X * X) * (X * X * (X * X))) *
      (X * X * (X * X) * (X * X * (X * X)) * (X * X * (X * X) * (X * X * (X * X))))) = X ^ 64 := by
    simp only [← pow_two, ← pow_mul]; norm_num
  have hz : X ^ 64 = 0 := by
    ext i j
    exact pow_strict X hX 64 i j (by have := i.isLt; omega)
  refine mul_eq_one_comm.1 ?_
  refine Eq.trans h6 ?_
  rw [hp, hz, sub_zero]

/-! ## The recurrence -/

section
variable {D E : Type} [Fintype D] (q k : ℕ → D → ℝ) (v : ℕ → E → ℝ) (β g : ℕ → ℝ)

/-- The state after the first `t` tokens. -/
def gS : ℕ → D → E → ℝ
  | 0 => fun _ _ => 0
  | t + 1 => fun d e => gS t d e * Real.exp (g t) + k t d * (β t * (v t e - ∑ x, k t x * (gS t x e * Real.exp (g t))))

/-- What token `t` writes. -/
def gVn (t : ℕ) (e : E) : ℝ := β t * (v t e - ∑ x, k t x * (gS k v β g t x e * Real.exp (g t)))

/-- What token `t` reads out. -/
def gO (t : ℕ) (e : E) : ℝ := ∑ x, q t x * gS k v β g (t + 1) x e

/-- The log-decay accumulated over `i` tokens from token `b`. -/
def gG (b i : ℕ) : ℝ := ∑ j ∈ range i, g (b + j)

theorem gG_succ (b i : ℕ) : gG g b (i + 1) = gG g b i + g (b + i) := sum_range_succ _ _

theorem gS_succ (t : ℕ) (d : D) (e : E) :
    gS k v β g (t + 1) d e = gS k v β g t d e * Real.exp (g t) + k t d * gVn k v β g t e := rfl

/-- The state `i` tokens into a chunk that starts at token `b`. -/
theorem gS_chunk (b i : ℕ) (d : D) (e : E) :
    gS k v β g (b + i) d e = gS k v β g b d e * Real.exp (gG g b i)
      + ∑ j ∈ range i, k (b + j) d * Real.exp (gG g b i - gG g b (j + 1)) * gVn k v β g (b + j) e := by
  induction i with
  | zero => simp [gG]
  | succ i ih =>
    rw [← Nat.add_assoc, gS_succ, ih, sum_range_succ, gG_succ, Real.exp_add, add_mul, sum_mul]
    have : ∀ j ∈ range i, k (b + j) d * Real.exp (gG g b i - gG g b (j + 1)) * gVn k v β g (b + j) e * Real.exp (g (b + i))
        = k (b + j) d * Real.exp (gG g b i + g (b + i) - gG g b (j + 1)) * gVn k v β g (b + j) e := by
      intro j _
      rw [show gG g b i + g (b + i) - gG g b (j + 1) = (gG g b i - gG g b (j + 1)) + g (b + i) by ring, Real.exp_add]
      ring
    rw [sum_congr rfl this]
    simp
    ring

/-- What token `b + i` writes, from the chunk's start state and the earlier tokens of the chunk. -/
theorem gVn_chunk (b i : ℕ) (e : E) :
    gVn k v β g (b + i) e = v (b + i) e * β (b + i)
      - ∑ x, k (b + i) x * β (b + i) * Real.exp (gG g b (i + 1)) * gS k v β g b x e
      - ∑ j ∈ range i, (∑ x, k (b + i) x * β (b + i) * k (b + j) x) * Real.exp (gG g b (i + 1) - gG g b (j + 1))
          * gVn k v β g (b + j) e := by
  have key : ∑ x, k (b + i) x * (gS k v β g (b + i) x e * Real.exp (g (b + i)))
      = ∑ x, k (b + i) x * Real.exp (gG g b (i + 1)) * gS k v β g b x e
        + ∑ j ∈ range i, (∑ x, k (b + i) x * k (b + j) x) * Real.exp (gG g b (i + 1) - gG g b (j + 1))
          * gVn k v β g (b + j) e := by
    have : ∀ j ∈ range i, (∑ x, k (b + i) x * k (b + j) x) * Real.exp (gG g b (i + 1) - gG g b (j + 1)) * gVn k v β g (b + j) e
        = ∑ x, k (b + i) x * k (b + j) x * Real.exp (gG g b (i + 1) - gG g b (j + 1)) * gVn k v β g (b + j) e := by
      intro j _; rw [sum_mul, sum_mul]
    rw [sum_congr rfl this, sum_comm, ← sum_add_distrib]
    refine sum_congr rfl fun x _ => ?_
    rw [gS_chunk k v β g b i x e, add_mul, sum_mul, mul_add, mul_sum, gG_succ, Real.exp_add]
    congr 1
    · ring
    · refine sum_congr rfl fun j _ => ?_
      rw [show gG g b i + g (b + i) - gG g b (j + 1) = (gG g b i - gG g b (j + 1)) + g (b + i) by ring, Real.exp_add]
      ring
  unfold gVn
  rw [key, mul_sub, mul_add, mul_sum, mul_sum]
  have h1 : ∀ x, β (b + i) * (k (b + i) x * Real.exp (gG g b (i + 1)) * gS k v β g b x e)
      = k (b + i) x * β (b + i) * Real.exp (gG g b (i + 1)) * gS k v β g b x e := fun x => by ring
  have h2 : ∀ j, β (b + i) * ((∑ x, k (b + i) x * k (b + j) x) * Real.exp (gG g b (i + 1) - gG g b (j + 1)) * gVn k v β g (b + j) e)
      = (∑ x, k (b + i) x * β (b + i) * k (b + j) x) * Real.exp (gG g b (i + 1) - gG g b (j + 1)) * gVn k v β g (b + j) e := by
    intro j
    have : ∑ x, k (b + i) x * β (b + i) * k (b + j) x = β (b + i) * ∑ x, k (b + i) x * k (b + j) x := by
      rw [mul_sum]; exact sum_congr rfl fun x _ => by ring
    rw [this]; ring
  simp only [h1, h2]
  simp only [gVn]
  ring

/-! ## The chunk's closed form -/

/-- The decay between two tokens of a chunk. -/
def cDec (b : ℕ) (i j : Fin 64) : ℝ := if j ≤ i then Real.exp (gG g b (i + 1) - gG g b (j + 1)) else 0

/-- The negated strictly lower triangular matrix of a chunk. -/
def cX (b : ℕ) : Matrix (Fin 64) (Fin 64) ℝ :=
  fun i j => if j < i then -((∑ x, k (b + i) x * β (b + i) * k (b + j) x) * cDec g b i j) else 0

/-- The inverse applied to the gated values. -/
def cU (b : ℕ) (i : Fin 64) (e : E) : ℝ := ∑ j, dbl (cX k β g b) i j * (v (b + j) e * β (b + j))

/-- The inverse applied to the gated, decayed keys. -/
def cW (b : ℕ) (i : Fin 64) (d : D) : ℝ := ∑ j, dbl (cX k β g b) i j * (k (b + j) d * β (b + j) * Real.exp (gG g b (j + 1)))

/-- The chunk's new values by the closed form. -/
theorem chunk_vn (b : ℕ) (i : Fin 64) (e : E) :
    cU k v β g b i e - ∑ x, cW k β g b i x * gS k v β g b x e = gVn k v β g (b + i) e := by
  have hr : ∀ j : Fin 64, v (b + j) e * β (b + j) - ∑ x, k (b + j) x * β (b + j) * Real.exp (gG g b (j + 1)) * gS k v β g b x e
      = ∑ l : Fin 64, (1 - cX k β g b) j l * gVn k v β g (b + l) e := by
    intro j
    have h1 : ∑ l : Fin 64, (1 - cX k β g b) j l * gVn k v β g (b + l) e
        = gVn k v β g (b + j) e - ∑ l : Fin 64, cX k β g b j l * gVn k v β g (b + l) e := by
      simp only [Matrix.sub_apply, sub_mul, sum_sub_distrib, Matrix.one_apply, ite_mul, one_mul, zero_mul]
      simp
    have h2 : ∑ l : Fin 64, cX k β g b j l * gVn k v β g (b + l) e
        = -∑ l ∈ range j, (∑ x, k (b + j) x * β (b + j) * k (b + l) x) * Real.exp (gG g b (j + 1) - gG g b (l + 1))
          * gVn k v β g (b + l) e := by
      rw [Fin.sum_univ_eq_sum_range (fun l => (if h : l < 64 then cX k β g b j ⟨l, h⟩ else 0) * gVn k v β g (b + l) e) 64
        |>.symm.trans (sum_congr rfl fun l _ => by simp) |>.symm]
      have hs : range j.val ⊆ range 64 := range_subset_range.2 j.isLt.le
      rw [← sum_neg_distrib]
      symm
      refine (sum_subset_zero_on_sdiff hs (fun l hl => ?_) (fun l hl => ?_))
      · simp only [mem_sdiff, mem_range, not_lt] at hl
        rw [dif_pos hl.1, cX, if_neg (by simp only [Fin.lt_def]; omega), zero_mul]
      · have hl' : l < j.val := mem_range.1 hl
        have hlt : l < 64 := lt_trans hl' j.isLt
        rw [dif_pos hlt, cX, if_pos (by simpa [Fin.lt_def] using hl'), cDec, if_pos (by simp only [Fin.le_def]; omega)]
        ring
    rw [h1, h2, gVn_chunk k v β g b j e]
    ring
  have hmv : ∑ j, dbl (cX k β g b) i j * (v (b + j) e * β (b + j)
      - ∑ x, k (b + j) x * β (b + j) * Real.exp (gG g b (j + 1)) * gS k v β g b x e) = gVn k v β g (b + i) e := by
    simp only [hr]
    have h3 : ∑ j, dbl (cX k β g b) i j * ∑ l : Fin 64, (1 - cX k β g b) j l * gVn k v β g (b + l) e
        = ∑ l : Fin 64, (dbl (cX k β g b) * (1 - cX k β g b)) i l * gVn k v β g (b + l) e := by
      simp only [Matrix.mul_apply, mul_sum, sum_mul]
      rw [sum_comm]
      exact sum_congr rfl fun l _ => sum_congr rfl fun j _ => by ring
    rw [h3, dbl_inv _ (fun i j h => by rw [cX, if_neg h])]
    simp [Matrix.one_apply]
  rw [← hmv]
  simp only [mul_sub, sum_sub_distrib, cU, cW, sum_mul, mul_sum]
  congr 1
  rw [sum_comm]
  exact sum_congr rfl fun l _ => sum_congr rfl fun j _ => by ring

/-- The chunk's read-out by the closed form. -/
theorem chunk_o (b : ℕ) (i : Fin 64) (e : E) :
    ∑ x, q (b + i) x * Real.exp (gG g b (i + 1)) * gS k v β g b x e
      + ∑ j : Fin 64, (if j ≤ i then (∑ x, q (b + i) x * k (b + j) x) * cDec g b i j else 0) * gVn k v β g (b + j) e
      = gO q k v β g (b + i) e := by
  have h2 : ∑ j : Fin 64, (if j ≤ i then (∑ x, q (b + i) x * k (b + j) x) * cDec g b i j else 0) * gVn k v β g (b + j) e
      = ∑ l ∈ range (i + 1), (∑ x, q (b + i) x * k (b + l) x) * Real.exp (gG g b (i + 1) - gG g b (l + 1)) * gVn k v β g (b + l) e := by
    rw [Fin.sum_univ_eq_sum_range (fun l => (if h : l < 64 then (if (⟨l, h⟩ : Fin 64) ≤ i then (∑ x, q (b + i) x * k (b + l) x)
      * cDec g b i ⟨l, h⟩ else 0) else 0) * gVn k v β g (b + l) e) 64 |>.symm.trans (sum_congr rfl fun l _ => by simp) |>.symm]
    have hs : range (i.val + 1) ⊆ range 64 := range_subset_range.2 i.isLt
    symm
    refine (sum_subset_zero_on_sdiff hs (fun l hl => ?_) (fun l hl => ?_))
    · simp only [mem_sdiff, mem_range, not_lt] at hl
      rw [dif_pos hl.1, if_neg (by simp only [Fin.le_def]; omega), zero_mul]
    · have hl' : l < i.val + 1 := mem_range.1 hl
      have hlt : l < 64 := by have := i.isLt; omega
      have hle : (⟨l, hlt⟩ : Fin 64) ≤ i := by simp only [Fin.le_def]; omega
      rw [dif_pos hlt, if_pos hle, cDec, if_pos hle]
  rw [h2, gO, Nat.add_assoc]
  have : ∀ j ∈ range (i.val + 1), (∑ x, q (b + i) x * k (b + j) x) * Real.exp (gG g b (i + 1) - gG g b (j + 1)) * gVn k v β g (b + j) e
      = ∑ x, q (b + i) x * k (b + j) x * Real.exp (gG g b (i + 1) - gG g b (j + 1)) * gVn k v β g (b + j) e := by
    intro j _; rw [sum_mul, sum_mul]
  rw [sum_congr rfl this, sum_comm, ← sum_add_distrib]
  refine sum_congr rfl fun x _ => ?_
  rw [gS_chunk k v β g b (i + 1) x e, mul_add, mul_sum]
  congr 1
  · ring
  · exact sum_congr rfl fun j _ => by ring

/-- The chunk's state by the closed form. -/
theorem chunk_state (b : ℕ) (d : D) (e : E) :
    gS k v β g b d e * Real.exp (gG g b 64)
      + ∑ j : Fin 64, k (b + j) d * Real.exp (gG g b 64 - gG g b (j + 1)) * gVn k v β g (b + j) e
      = gS k v β g (b + 64) d e := by
  rw [gS_chunk k v β g b 64 d e, Finset.sum_range]

end
end Delta
-- ==== Proof.Read.lean ====
module

public import proofs.«01_k».proof.Proof.Head
public import proofs.«01_k».proof.Proof.Delta

/-!
# A head's stages read at an index, over finite values

Every stage of `Head` at an index is a real number when its arguments are, and the chunk's results are the
recurrence's values at the chunk's tokens.
-/

@[expose] public section
set_option maxRecDepth 16384
noncomputable section
namespace Cert.KernelIdeal.Value
open Cert.KernelIdeal Cert.KernelIdeal.Gen Idealize.ShloMosaic Idealize.ShloMosaic.TcCoe Idealize.SL.Sem Delta
local notation "𝕀" => Idealize.ShloMosaic.Ideal

/-! ## Extended reals -/

/-- A finite sum of reals is the extended reals' sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The norms' epsilon. -/
def eps : ℝ := (Ideal.ofBits .f32 0x358637BD#32 : EReal).toReal
/-- The query's scale. -/
def qsc : ℝ := (Ideal.ofBits .f32 0x3DB504F3#32 : EReal).toReal

theorem ofBits_eps : (Ideal.ofBits .f32 0x358637BD#32 : EReal) = ((eps : ℝ) : EReal) := by
  unfold eps
  simp [Ideal.ofBits, Ideal.ieee, -EReal.coe_mul]

theorem eps_pos : 0 < eps := by
  unfold eps
  simp [Ideal.ofBits, Ideal.ieee, -EReal.coe_mul]

theorem ofBits_qsc : (Ideal.ofBits .f32 0x3DB504F3#32 : EReal) = ((qsc : ℝ) : EReal) := by
  unfold qsc
  simp [Ideal.ofBits, Ideal.ieee, -EReal.coe_mul]

theorem ofBits_128 : (Ideal.ofBits .f32 0x43000000#32 : EReal) = ((128 : ℝ) : EReal) := by
  simp [Ideal.ofBits, Ideal.ieee, -EReal.coe_mul]; norm_num

theorem ofBits_ninf : (Ideal.ofBits .f32 0xFF800000#32 : EReal) = ⊥ := by
  simp [Ideal.ofBits, Ideal.ieee]

/-- The inverse square root of a positive real. -/
theorem rsqrt_pos {r : ℝ} (h : 0 < r) : Ideal.rsqrt (r : EReal) = (((Real.sqrt r)⁻¹ : ℝ) : EReal) := by
  rw [Ideal.rsqrt_coe, if_neg (not_lt.2 h.le), if_neg h.ne']

/-- A quotient of reals, the divisor not zero. -/
theorem div_real {x y : ℝ} (h : y ≠ 0) : Ideal.div (x : EReal) (y : EReal) = ((x / y : ℝ) : EReal) := by
  rw [Ideal.div_coe h, ← EReal.coe_mul]; congr 1; ring

/-- The logistic function, as the programs spell it. -/
theorem sigmoid_real (x : ℝ) : Ideal.div 1 (1 + Ideal.exp (0 - (x : EReal))) = ((1 / (1 + Real.exp (-x)) : ℝ) : EReal) := by
  rw [zero_sub, ← EReal.coe_neg, Ideal.exp_coe, ← EReal.coe_one, ← EReal.coe_add]
  exact div_real (by positivity)

/-- A row's sum of squares plus the epsilon is positive. -/
theorem sq_eps_pos {n : ℕ} (x : Fin n → ℝ) : 0 < ∑ y, x y * x y + eps :=
  add_pos_of_nonneg_of_pos (Finset.sum_nonneg fun y _ => mul_self_nonneg _) eps_pos

/-- The inverse root of a row's sum of squares plus the epsilon. -/
theorem rsqrt_row {n : ℕ} (x : Fin n → ℝ) :
    Ideal.rsqrt (∑ y, ((x y : ℝ) : EReal) * ((x y : ℝ) : EReal) + ((eps : ℝ) : EReal))
      = (((Real.sqrt (∑ y, x y * x y + eps))⁻¹ : ℝ) : EReal) := by
  rw [← rsqrt_pos (sq_eps_pos x), EReal.coe_add, coe_sum]
  simp only [EReal.coe_mul]

/-! ## The triangular masks -/

theorem cmpi_sge : ∀ i j : Fin 64, IntOp.cmpi .sge (BitVec.ofNat 32 i.val) (BitVec.ofNat 32 j.val) = if j ≤ i then 1#1 else 0#1 := by
  decide +kernel
theorem cmpi_sgt : ∀ i j : Fin 64, IntOp.cmpi .sgt (BitVec.ofNat 32 i.val) (BitVec.ofNat 32 j.val) = if j < i then 1#1 else 0#1 := by
  decide +kernel
theorem cmpi_eq : ∀ i j : Fin 64, IntOp.cmpi .eq (BitVec.ofNat 32 i.val) (BitVec.ofNat 32 j.val) = if i = j then 1#1 else 0#1 := by
  decide +kernel

/-- A select on a decided bit. -/
theorem select_ite {α : Type} (p : Prop) [Decidable p] (x y : α) : Scalar.select (if p then 1#1 else 0#1) x y = if p then x else y := by
  by_cases h : p <;> simp [h, Scalar.select]

/-- A decided bit converted to a float. -/
theorem sitofp_ite (p : Prop) [Decidable p] :
    FloatOps.sitofp (F := 𝕀) .f32 (BitVec.setWidth 32 (if p then 1#1 else 0#1)) = (((if p then 1 else 0 : ℝ)) : EReal) := by
  by_cases h : p <;> simp [h, FloatOps.sitofp]

/-! ## The stages -/

section
variable (act : FVec 𝕀 S64x3072 .f32) (sg gc : FVec 𝕀 S64x128 .f32) (S : FVec 𝕀 S8x128x128 .f32) (h : Fin 8)
variable (q k v : ℕ → Fin 128 → ℝ) (β g : ℕ → ℝ) (b : ℕ)

/-- The decay between two tokens. -/
theorem hDecay_real (hg : ∀ i : Fin 64, gc (ix2 i ⟨h.val, by omega⟩) = ((gG g b (i + 1) : ℝ) : EReal)) (i j : Fin 64) :
    hDecay gc h (ix2 i j) = ((cDec g b i j : ℝ) : EReal) := by
  pointwise [hDecay, hGc, hGr, k0_pay8]
  rw [cmpi_sge, select_ite, hg, hg, cDec]
  split_ifs
  · rw [← EReal.coe_sub, Ideal.exp_coe]
  · rw [ofBits_ninf]; simp

/-- The gated key. -/
theorem hKb_real (hk : ∀ (i : Fin 64) d, hK act h (ix2 i d) = ((k (b + i) d : ℝ) : EReal))
    (hβ : ∀ i : Fin 64, hB sg h (ix2 i 0) = ((β (b + i) : ℝ) : EReal)) (i : Fin 64) (d : Fin 128) :
    hKb act sg h (ix2 i d) = ((k (b + i) d * β (b + i) : ℝ) : EReal) := by
  pointwise [hKb, k0_pay105]
  rw [hk, hβ, EReal.coe_mul]

/-- The negated strictly lower triangular matrix. -/
theorem hX_real (hk : ∀ (i : Fin 64) d, hK act h (ix2 i d) = ((k (b + i) d : ℝ) : EReal))
    (hβ : ∀ i : Fin 64, hB sg h (ix2 i 0) = ((β (b + i) : ℝ) : EReal))
    (hg : ∀ i : Fin 64, gc (ix2 i ⟨h.val, by omega⟩) = ((gG g b (i + 1) : ℝ) : EReal)) (i j : Fin 64) :
    hX act sg gc h (ix2 i j) = ((cX k β g b i j : ℝ) : EReal) := by
  pointwise [hX, k0_pay116, k0_pay9]
  rw [cmpi_sgt, select_ite, cX, hDecay_real gc h g b hg]
  simp only [hKb_real act sg h k β b hk hβ, hk, ← EReal.coe_mul, ← coe_sum]
  split_ifs
  · rw [zero_sub, ← EReal.coe_neg]
  · simp

/-- A 64 × 64 array holds a real matrix. -/
def IsMat (X : FVec 𝕀 S64x64 .f32) (x : Matrix (Fin 64) (Fin 64) ℝ) : Prop := ∀ i j : Fin 64, X (ix2 i j) = ((x i j : ℝ) : EReal)

theorem mm64_real {X Y : FVec 𝕀 S64x64 .f32} {x y} (hx : IsMat X x) (hy : IsMat Y y) : IsMat (mm64 X Y) (x * y) := by
  intro i j
  pointwise [mm64]
  simp only [hx _ _, hy _ _, ← EReal.coe_mul, ← coe_sum, Matrix.mul_apply]

theorem tstep_real {X Y : FVec 𝕀 S64x64 .f32} {x y} (hx : IsMat X x) (hy : IsMat Y y) : IsMat (tstep X Y) (x + x * y) := by
  intro i j
  pointwise [tstep]
  rw [hx, mm64_real hx hy, ← EReal.coe_add, Matrix.add_apply]

theorem eye_real {X : FVec 𝕀 S64x64 .f32} {x} (hx : IsMat X x) : IsMat (addf k0_pay12 X) (1 + x) := by
  intro i j
  pointwise [k0_pay12]
  rw [cmpi_eq, sitofp_ite, hx, ← EReal.coe_add, Matrix.add_apply, Matrix.one_apply]

theorem tinv_real {X : FVec 𝕀 S64x64 .f32} {x} (hx : IsMat X x) : IsMat (tinv X) (dbl x) := by
  have h1 := mm64_real hx hx
  have h2 := mm64_real h1 h1
  have h3 := mm64_real h2 h2
  have h4 := mm64_real h3 h3
  have h5 := mm64_real h4 h4
  exact tstep_real (tstep_real (tstep_real (tstep_real (tstep_real (eye_real hx) h1) h2) h3) h4) h5

variable (hq : ∀ (i : Fin 64) d, hQ act h (ix2 i d) = ((q (b + i) d : ℝ) : EReal))
  (hk : ∀ (i : Fin 64) d, hK act h (ix2 i d) = ((k (b + i) d : ℝ) : EReal))
  (hv : ∀ (i : Fin 64) d, hV act h (ix2 i d) = ((v (b + i) d : ℝ) : EReal))
  (hβ : ∀ i : Fin 64, hB sg h (ix2 i 0) = ((β (b + i) : ℝ) : EReal))
  (hg : ∀ i : Fin 64, gc (ix2 i ⟨h.val, by omega⟩) = ((gG g b (i + 1) : ℝ) : EReal))
  (hs : ∀ d e : Fin 128, S (ix3 h d e) = ((gS k v β g b d e : ℝ) : EReal))

include hk hβ hg in
/-- The inverse, as a real matrix. -/
theorem hT_real : IsMat (tinv (hX act sg gc h)) (dbl (cX k β g b)) :=
  tinv_real fun i j => hX_real act sg gc h k β g b hk hβ hg i j

/-- The cumulative log-decay column. -/
theorem hGc_real (hg : ∀ i : Fin 64, gc (ix2 i ⟨h.val, by omega⟩) = ((gG g b (i + 1) : ℝ) : EReal)) (i : Fin 64) :
    hGc gc h (ix2 i 0) = ((gG g b (i + 1) : ℝ) : EReal) := by
  pointwise [hGc]
  exact hg i

include hk hv hβ hg in
/-- The left half of the solution. -/
theorem hSol_left (i : Fin 64) (e : Fin 128) : hSol act sg gc h (ix2 i ⟨e.val, by omega⟩) = ((cU k v β g b i e : ℝ) : EReal) := by
  pointwise [hSol, k0_pay189]
  simp only [hT_real act sg gc h k β g b hk hβ hg _ _, hv, hβ, ← EReal.coe_mul, ← coe_sum, cU]

include hk hβ hg in
/-- The right half of the solution. -/
theorem hSol_right (i : Fin 64) (d : Fin 128) : hSol act sg gc h (ix2 i ⟨128 + d.val, by omega⟩) = ((cW k β g b i d : ℝ) : EReal) := by
  pointwise [hSol, k0_pay189]
  simp only [hT_real act sg gc h k β g b hk hβ hg _ _, hKb_real act sg h k β b hk hβ, hGc_real gc h g b hg, Ideal.exp_coe,
    ← EReal.coe_mul, ← coe_sum, cW]

/-- A state with a leading unit axis, that axis dropped, at an index. -/
theorem cast_state (Y : S1x128x128.Idx → EReal) (d e : Fin 128) :
    shapeCast S128x128 Y shapeCasts_S1x128x128_S128x128 (ix2 d e) = Y (ix3 0 d e) := by
  pointwise []

/-- One head's state loaded from the states, at an index. -/
theorem ld_state (d e : Fin 128) :
    View.ld (Val := Elt 𝕀) (e' := .f32) S (Rect.unit (s := S8x128x128) ![h.val, 0, 0] S1x128x128.size (inb_state _ (by omega)))
      (ix3 (0 : Fin 1) d e : S1x128x128.Idx) = S (ix3 h d e) :=
  View.ld_unit_apply_of _ _ _ _ _ _ fun a => by
    match a with
    | ⟨0, _⟩ => exact (Nat.add_zero _).symm
    | ⟨1, _⟩ => exact (Nat.zero_add _).symm
    | ⟨2, _⟩ => exact (Nat.zero_add _).symm

include hs in
/-- The carried state. -/
theorem hS_real (d e : Fin 128) : hS S h (ix2 d e) = ((gS k v β g b d e : ℝ) : EReal) :=
  (cast_state _ d e).trans ((ld_state S h d e).trans (hs d e))

include hk hv hβ hg hs in
/-- The chunk's new values. -/
theorem hVn_real (i : Fin 64) (e : Fin 128) : hVn act sg gc S h (ix2 i e) = ((gVn k v β g (b + i) e : ℝ) : EReal) := by
  rw [← chunk_vn k v β g b i e]
  pointwise [hVn, hWs, k0_pay230]
  rw [hSol_left act sg gc h k v β g b hk hv hβ hg]
  simp only [hSol_right act sg gc h k β g b hk hβ hg, hS_real S h k v β g b hs, ← EReal.coe_mul, ← coe_sum, ← EReal.coe_sub]

include hq hk hg in
/-- The decayed query-key products. -/
theorem hQK_real (i j : Fin 64) : hQK act gc h (ix2 i j)
    = (((if j ≤ i then (∑ x, q (b + i) x * k (b + j) x) * cDec g b i j else 0) : ℝ) : EReal) := by
  pointwise [hQK, k0_pay203, k0_pay8]
  rw [cmpi_sge, select_ite, hDecay_real gc h g b hg]
  simp only [hq, hk, ← EReal.coe_mul, ← coe_sum]
  split_ifs <;> simp

include hq hk hv hβ hg hs in
/-- The chunk's read-outs. -/
theorem hO_real (i : Fin 64) (e : Fin 128) : hO act sg gc S h (ix2 i e) = ((gO q k v β g (b + i) e : ℝ) : EReal) := by
  rw [← chunk_o q k v β g b i e]
  pointwise [hO, hWs, k0_pay230, k0_pay248]
  simp only [hVn_real act sg gc S h k v β g b hk hv hβ hg hs, hQK_real act gc h q k g b hq hk hg, hS_real S h k v β g b hs,
    hGc_real gc h g b hg, hq, Ideal.exp_coe, ← EReal.coe_mul, ← coe_sum, ← EReal.coe_add]

include hk hv hβ hg hs in
/-- The chunk's last state. -/
theorem hNewS_real (d e : Fin 128) : hNewS act sg gc S h (ix3 0 d e) = ((gS k v β g (b + 64) d e : ℝ) : EReal) := by
  rw [← chunk_state k v β g b d e]
  have hgl : hGl gc h (ix2 0 0) = ((gG g b 64 : ℝ) : EReal) := by
    pointwise [hGl]
    exact hg 63
  pointwise [hNewS, k0_pay256, k0_pay211]
  simp only [hgl, hVn_real act sg gc S h k v β g b hk hv hβ hg hs, hS_real S h k v β g b hs, hk,
    hGc_real gc h g b hg, Ideal.exp_coe, ← EReal.coe_sub, ← EReal.coe_mul, ← coe_sum, ← EReal.coe_add]

end
end Cert.KernelIdeal.Value
-- ==== Proof.Blocks.lean ====
module

public import proofs.«01_k».proof.Proof.Read
public import Idealize.ShloMosaic.Lib.Routing.OpsSet
public import Idealize.ShloMosaic.Lib.Claim

@[expose] public section
set_option maxRecDepth 16384
noncomputable section
namespace Cert.KernelIdeal.Value
open Cert.KernelIdeal Cert.KernelIdeal.Gen Idealize.ShloMosaic Idealize.ShloMosaic.TcCoe Idealize.SL.Sem
/-- The start row of the padding's writes holds zeros. -/
theorem zero_start : ∀ k : S2.Idx, concatenate S2 0 [⟨S1, broadcastInDim S1 ![] bcast_S_S1 (constantI S_ 32 0#32)⟩,
    ⟨S1, broadcastInDim S1 ![] bcast_S_S1 (constantI S_ 32 0#32)⟩] concatenates_S1_S1_S2_d0 k = 0#32 := by decide +kernel

variable {F : FTy → Type} [FloatOps F]
variable (m : (ℓ : Loc nD τ sig) → Buf (Elt F) ℓ)

theorem idx0 : ∀ t : Fin cfg0.N, win0_0.index t (0 : Fin 2) = t.val ∧ win0_0.index t (1 : Fin 2) = 0 := by decide +kernel
theorem idx1 : ∀ t : Fin cfg0.N, win0_1.index t (0 : Fin 2) = t.val ∧ win0_1.index t (1 : Fin 2) = 3 := by decide +kernel
theorem idx2 : ∀ t : Fin cfg0.N, win0_2.index t (0 : Fin 2) = t.val ∧ win0_2.index t (1 : Fin 2) = 8 := by decide +kernel
theorem idx3 : ∀ t : Fin cfg0.N, win0_3.index t (0 : Fin 2) = 0 ∧ win0_3.index t (1 : Fin 2) = 0 := by decide +kernel
theorem idx4 : ∀ t : Fin cfg0.N, win0_4.index t (0 : Fin 2) = 0 ∧ win0_4.index t (1 : Fin 2) = 0 := by decide +kernel
theorem idx5 : ∀ t : Fin cfg0.N, win0_5.index t (0 : Fin 2) = 0 ∧ win0_5.index t (1 : Fin 2) = 0 := by decide +kernel
theorem idx6 : ∀ t : Fin cfg0.N, win0_6.index t (0 : Fin 2) = 0 ∧ win0_6.index t (1 : Fin 2) = 0 := by decide +kernel

theorem tlt (t : Fin cfg0.N) : t.val < 128 := lt_of_lt_of_eq t.isLt N_0

/-- The chunk's rows of the convolution's input. -/
theorem x_at (c : Dev nD) (t : Fin cfg0.N) (i : Fin 64) (j : Fin 3072) :
    X0_0 m c t (ix2 i j) = m ((c : Thread nD τ).loc main_arg0)
      (ix2 ⟨64 * t.val + i.val, by have := tlt t; omega⟩ ⟨j.val, by omega⟩) := by
  obtain ⟨e0, e1⟩ := idx0 t
  unfold X0_0 Pipeline.Window.fill
  rw [dif_pos (moved0_0 t _)]
  blk_ext [iblk, V, e0, e1]

/-- The chunk's rows of the output gate. -/
theorem z_at (c : Dev nD) (t : Fin cfg0.N) (i : Fin 64) (j : Fin 1024) :
    (iblk m c 1 t : S64x1024.Idx → F .f32) (ix2 i j) = m ((c : Thread nD τ).loc main_arg0)
      (ix2 ⟨64 * t.val + i.val, by have := tlt t; omega⟩ ⟨3072 + j.val, by omega⟩) := by
  obtain ⟨e0, e1⟩ := idx1 t
  blk_ext [iblk, V, e0, e1]

/-- The chunk's rows of the gates' projections. -/
theorem ab_at (c : Dev nD) (t : Fin cfg0.N) (i : Fin 64) (j : Fin 128) :
    (iblk m c 2 t : S64x128.Idx → F .f32) (ix2 i j) = m ((c : Thread nD τ).loc main_arg1)
      (ix2 ⟨64 * t.val + i.val, by have := tlt t; omega⟩ ⟨1024 + j.val, by omega⟩) := by
  obtain ⟨e0, e1⟩ := idx2 t
  blk_ext [iblk, V, e0, e1]

/-- The convolution's taps. -/
theorem cw_at (c : Dev nD) (t : Fin cfg0.N) (i : Fin 4) (j : Fin 3072) :
    (iblk m c 3 t : S4x3072.Idx → F .f32) (ix2 i j) = m ((c : Thread nD τ).loc main_arg2) (ix2 i j) := by
  obtain ⟨e0, e1⟩ := idx3 t
  blk_ext [iblk, V, e0, e1]

/-- Eight values written at the front of a row of 128, read at one of the eight. -/
theorem scatter_at (x : FVec F S1x128 .f32) (idx : IVec S2 32) (hi : ∀ k, idx k = 0#32) (u : FVec F S8 .f32) (h : Fin 8) :
    Host.scatter scatter_S1x128_S2_S8_0_0_01_0 (fun _ b => b) x idx u (ix2 (0 : Fin 1) (⟨h.val, by omega⟩ : Fin 128)) = u (ix1 h) := by
  obtain rfl : idx = fun _ => 0#32 := funext hi
  have key : ∀ k : S8.Idx, scatter_S1x128_S2_S8_0_0_01_0.resultIdx? k (fun _ => 0#32 : IVec S2 32)
      = some (ix2 (0 : Fin 1) (⟨(k 0).val, by have := (k 0).isLt; simp [S8] at this; omega⟩ : Fin 128)) := by
    decide +kernel
  refine Idealize.ShloMosaic.Routing.scatter_set_hit _ _ _ _ _ _ (fun k hk => ?_) (ix1 h) (key _)
  rw [key k] at hk
  have := congrFun (Option.some.inj hk) 1
  have e : (k 0).val = h.val := by simpa [ix2] using congrArg Fin.val this
  congr 1
  funext a
  match a with
  | ⟨0, _⟩ => exact Fin.ext e

/-- The decay rates' row. -/
theorem alog_at (c : Dev nD) (t : Fin cfg0.N) (h : Fin 8) :
    (iblk m c 4 t : S1x128.Idx → F .f32) (ix2 (0 : Fin 1) (⟨h.val, by omega⟩ : Fin 128)) = m ((c : Thread nD τ).loc main_arg3) (ix1 h) := by
  obtain ⟨e0, e1⟩ := idx4 t
  blk_simp [iblk, e0, e1]
  entry_read
  refine Eq.trans (congrArg _ ?_) (scatter_at _ _ zero_start _ h)
  blk_ext [e0, e1]

/-- The gates' bias row. -/
theorem dtb_at (c : Dev nD) (t : Fin cfg0.N) (h : Fin 8) :
    (iblk m c 5 t : S1x128.Idx → F .f32) (ix2 (0 : Fin 1) (⟨h.val, by omega⟩ : Fin 128)) = m ((c : Thread nD τ).loc main_arg4) (ix1 h) := by
  obtain ⟨e0, e1⟩ := idx5 t
  blk_simp [iblk, e0, e1]
  entry_read
  refine Eq.trans (congrArg _ ?_) (scatter_at _ _ zero_start _ h)
  blk_ext [e0, e1]

/-- The output norm's weights. -/
theorem nw_at (c : Dev nD) (t : Fin cfg0.N) (j : Fin 128) :
    (iblk m c 6 t : S1x128.Idx → F .f32) (ix2 (0 : Fin 1) j) = m ((c : Thread nD τ).loc main_arg5) (ix1 j) := by
  obtain ⟨e0, e1⟩ := idx6 t
  blk_simp [iblk, e0, e1]
  entry_read
  pointwise
  blk_ext [iblk, e0, e1]

end Cert.KernelIdeal.Value
-- ==== Proof.Tokens.lean ====
module

public import proofs.«01_k».proof.Proof.Read

/-!
The layer's tokens over the reals: from the input projections to the queries, keys, values, write strengths and
log-decays of every token, and the value that leaves the layer.
-/

@[expose] public section
noncomputable section
namespace Tok
open Idealize.ShloMosaic Delta Cert.KernelIdeal.Value

/-- The real inputs: the wide projection, the narrow one, the convolution's taps, the decay rates and their bias. -/
structure Inp where
  P : ℕ → ℕ → ℝ
  T : ℕ → ℕ → ℝ
  C : ℕ → ℕ → ℝ
  A : ℕ → ℝ
  B : ℕ → ℝ

/-- The arrays hold the real inputs. -/
structure Reads (p : Fin 8192 → Fin 4096 → EReal) (t : Fin 8192 → Fin 1152 → EReal) (w : Fin 4 → Fin 3072 → EReal) (a b : Fin 8 → EReal)
    (I : Inp) : Prop where
  hp : ∀ r c, p r c = ((I.P r c : ℝ) : EReal)
  ht : ∀ r c, t r c = ((I.T r c : ℝ) : EReal)
  hw : ∀ r c, w r c = ((I.C r c : ℝ) : EReal)
  ha : ∀ h, a h = ((I.A h : ℝ) : EReal)
  hb : ∀ h, b h = ((I.B h : ℝ) : EReal)

/-- A finite value as a function of any number. -/
def ext1 {n : ℕ} (f : Fin n → EReal) (i : ℕ) : ℝ := if h : i < n then (f ⟨i, h⟩).toReal else 0
/-- A finite array as a function of any two numbers. -/
def ext2 {n k : ℕ} (f : Fin n → Fin k → EReal) (i j : ℕ) : ℝ := if h : i < n ∧ j < k then (f ⟨i, h.1⟩ ⟨j, h.2⟩).toReal else 0

theorem ext1_eq {n : ℕ} (f : Fin n → EReal) (hf : ∀ i, ∃ x : ℝ, f i = (x : EReal)) (i : Fin n) : f i = ((ext1 f i : ℝ) : EReal) := by
  obtain ⟨x, hx⟩ := hf i
  unfold ext1
  rw [dif_pos i.isLt, Fin.eta, hx, EReal.toReal_coe]
theorem ext2_eq {n k : ℕ} (f : Fin n → Fin k → EReal) (hf : ∀ i j, ∃ x : ℝ, f i j = (x : EReal)) (i : Fin n) (j : Fin k) :
    f i j = ((ext2 f i j : ℝ) : EReal) := by
  obtain ⟨x, hx⟩ := hf i j
  unfold ext2
  rw [dif_pos ⟨i.isLt, j.isLt⟩, Fin.eta, Fin.eta, hx, EReal.toReal_coe]

/-- Finite arrays hold real inputs. -/
theorem exists_reads (p : Fin 8192 → Fin 4096 → EReal) (t : Fin 8192 → Fin 1152 → EReal) (w : Fin 4 → Fin 3072 → EReal) (a b : Fin 8 → EReal)
    (hp : ∀ i j, ∃ x : ℝ, p i j = (x : EReal)) (ht : ∀ i j, ∃ x : ℝ, t i j = (x : EReal)) (hw : ∀ i j, ∃ x : ℝ, w i j = (x : EReal))
    (ha : ∀ i, ∃ x : ℝ, a i = (x : EReal)) (hb : ∀ i, ∃ x : ℝ, b i = (x : EReal)) : ∃ I, Reads p t w a b I :=
  ⟨⟨ext2 p, ext2 t, ext2 w, ext1 a, ext1 b⟩, ⟨ext2_eq p hp, ext2_eq t ht, ext2_eq w hw, ext1_eq a ha, ext1_eq b hb⟩⟩

variable (I : Inp)

/-- Row `r` of the wide projection after three rows of zeros. -/
def xpad (r c : ℕ) : ℝ := if r < 3 then 0 else I.P (r - 3) c
theorem xpad_add (r c : ℕ) : xpad I (r + 3) c = I.P r c := by
  unfold xpad
  rw [if_neg (by omega), Nat.add_sub_cancel]
/-- The causal convolution. -/
def conv (t c : ℕ) : ℝ :=
  xpad I t c * I.C 0 c + xpad I (t + 1) c * I.C 1 c + xpad I (t + 2) c * I.C 2 c + xpad I (t + 3) c * I.C 3 c
/-- The silu. -/
def silu (x : ℝ) : ℝ := x * (1 / (1 + Real.exp (-x)))
/-- The activations. -/
def act (t c : ℕ) : ℝ := silu (conv I t c)
/-- One over a row's length. -/
def nrm (x : Fin 128 → ℝ) : ℝ := (Real.sqrt (∑ y, x y * x y + eps))⁻¹
/-- A token's query. -/
def tq (h t : ℕ) (d : Fin 128) : ℝ := act I t (128 * h + d) * nrm (fun y => act I t (128 * h + y)) * qsc
/-- A token's key. -/
def tk (h t : ℕ) (d : Fin 128) : ℝ := act I t (1024 + 128 * h + d) * nrm (fun y => act I t (1024 + 128 * h + y))
/-- A token's value. -/
def tv (h t : ℕ) (e : Fin 128) : ℝ := act I t (2048 + 128 * h + e)
/-- A token's write strength. -/
def tβ (h t : ℕ) : ℝ := 1 / (1 + Real.exp (-I.T t (1032 + h)))
/-- The softplus. -/
def sp (x : ℝ) : ℝ := max x 0 + Real.log (1 + Real.exp (-max x (-x)))
/-- A token's log-decay. -/
def tg (h t : ℕ) : ℝ := -Real.exp (I.A h) * sp (I.T t (1024 + h) + I.B h)
/-- A token's state. -/
def tS (h t : ℕ) (d e : Fin 128) : ℝ := gS (tk I h) (tv I h) (tβ I h) (tg I h) t d e
/-- What a token reads of the state. -/
def tO (h t : ℕ) (e : Fin 128) : ℝ := gO (tq I h) (tk I h) (tv I h) (tβ I h) (tg I h) t e
/-- The value that leaves the layer: the normed output under the norm's weight and the output gate. -/
def fin (h t : ℕ) (e : Fin 128) (w : EReal) : EReal :=
  (tO I h t e : EReal) * (((Real.sqrt ((∑ y, tO I h t y * tO I h t y) / 128 + eps))⁻¹ : ℝ) : EReal) * w
    * ((silu (I.P t (3072 + 128 * h + e)) : ℝ) : EReal)

theorem silu_real (x : ℝ) : (x : EReal) * Ideal.div 1 (1 + Ideal.exp (0 - (x : EReal))) = ((silu x : ℝ) : EReal) := by
  rw [sigmoid_real, ← EReal.coe_mul]; rfl

theorem coe_max (x y : ℝ) : ((max x y : ℝ) : EReal) = max (x : EReal) (y : EReal) := EReal.coe_strictMono.monotone.map_max

theorem sp_real (x : ℝ) : max (x : EReal) 0 + Ideal.log (1 + Ideal.exp (0 - FloatOps.absf (F := Ideal) (φ := .f32) (x : EReal))) = ((sp x : ℝ) : EReal) := by
  have h1 : FloatOps.absf (F := Ideal) (φ := .f32) (x : EReal) = ((max x (-x) : ℝ) : EReal) := by
    rw [coe_max, EReal.coe_neg]; rfl
  have h2 : 0 < 1 + Real.exp (-max x (-x)) := by positivity
  rw [h1, show (0 : EReal) - ((max x (-x) : ℝ) : EReal) = ((-max x (-x) : ℝ) : EReal) from by rw [zero_sub, EReal.coe_neg], Ideal.exp_coe,
    show (1 : EReal) + ((Real.exp (-max x (-x)) : ℝ) : EReal) = ((1 + Real.exp (-max x (-x)) : ℝ) : EReal) from by rw [EReal.coe_add, EReal.coe_one],
    Ideal.log_coe, if_neg (not_le.2 h2), ← EReal.coe_zero, ← coe_max, ← EReal.coe_add]
  rfl

/-- The output norm and gate over the reals. -/
theorem fin_real (h t : ℕ) (e : Fin 128) (w : EReal) :
    (tO I h t e : EReal) * Ideal.rsqrt (Ideal.div (∑ y, (tO I h t y : EReal) * (tO I h t y : EReal)) (Ideal.ofBits .f32 0x43000000#32)
        + Ideal.ofBits .f32 0x358637BD#32) * w
      * ((I.P t (3072 + 128 * h + e) : EReal) * Ideal.div 1 (1 + Ideal.exp (0 - (I.P t (3072 + 128 * h + e) : EReal))))
    = fin I h t e w := by
  have hs : 0 ≤ ∑ y, tO I h t y * tO I h t y := Finset.sum_nonneg fun y _ => mul_self_nonneg _
  have hp := eps_pos
  rw [silu_real, ofBits_128, ofBits_eps]
  simp only [← EReal.coe_mul, ← coe_sum]
  rw [div_real (by norm_num), ← EReal.coe_add, rsqrt_pos (by positivity)]
  rfl

end Tok
-- ==== Proof.KTok.lean ====
module

public import proofs.«01_k».proof.Proof.Chain
public import proofs.«01_k».proof.Proof.Blocks
public import proofs.«01_k».proof.Proof.Tokens

/-!
The chunk's operands in terms of the tokens: activations, queries, keys, values, write strengths, cumulative log-decays.
-/

@[expose] public section
set_option maxRecDepth 16384
noncomputable section
namespace Cert.KernelIdeal.Value
open Cert.KernelIdeal Cert.KernelIdeal.Gen Idealize.ShloMosaic Idealize.ShloMosaic.TcCoe Idealize.SL.Sem Delta Tok
local notation "𝕀" => Idealize.ShloMosaic.Ideal
variable (m : (ℓ : Loc nD τ sig) → Buf (Elt 𝕀) ℓ) (c : Dev nD) (t : Fin cfg0.N) (I : Inp)

/-- The device's arrays hold the real inputs `I`. -/
def Holds : Prop := Reads (fun r j => m ((c : Thread nD τ).loc main_arg0) (ix2 r j)) (fun r j => m ((c : Thread nD τ).loc main_arg1) (ix2 r j))
  (fun r j => m ((c : Thread nD τ).loc main_arg2) (ix2 r j)) (fun h => m ((c : Thread nD τ).loc main_arg3) (ix1 h))
  (fun h => m ((c : Thread nD τ).loc main_arg4) (ix1 h)) I

variable {m c I} (H : Holds m c I)
include H

theorem x_real (i : Fin 64) (j : Fin 3072) : (X0_0 m c t : S64x3072.Idx → EReal) (ix2 i j) = ((xpad I (64 * t.val + i + 3) j : ℝ) : EReal) := by
  rw [xpad_add]
  exact (x_at m c t i j).trans (H.hp _ _)
theorem z_real (i : Fin 64) (j : Fin 1024) : (iblk m c 1 t : S64x1024.Idx → EReal) (ix2 i j) = ((I.P (64 * t.val + i) (3072 + j) : ℝ) : EReal) :=
  (z_at m c t i j).trans (H.hp _ _)
theorem ab_real (i : Fin 64) (j : Fin 128) : (iblk m c 2 t : S64x128.Idx → EReal) (ix2 i j) = ((I.T (64 * t.val + i) (1024 + j) : ℝ) : EReal) :=
  (ab_at m c t i j).trans (H.ht _ _)
theorem cw_real (i : Fin 4) (j : Fin 3072) : (iblk m c 3 t : S4x3072.Idx → EReal) (ix2 i j) = ((I.C i j : ℝ) : EReal) :=
  (cw_at m c t i j).trans (H.hw _ _)
theorem alog_real (h : Fin 8) : (iblk m c 4 t : S1x128.Idx → EReal) (ix2 (0 : Fin 1) (⟨h.val, by omega⟩ : Fin 128)) = ((I.A h : ℝ) : EReal) :=
  (alog_at m c t h).trans (H.ha _)
theorem dtb_real (h : Fin 8) : (iblk m c 5 t : S1x128.Idx → EReal) (ix2 (0 : Fin 1) (⟨h.val, by omega⟩ : Fin 128)) = ((I.B h : ℝ) : EReal) :=
  (dtb_at m c t h).trans (H.hb _)

/-- The activations of a chunk whose last rows of the chunk before are in the scratch. -/
theorem pAct_real (tl : FVec 𝕀 S8x3072 .f32)
    (htl : ∀ (r : Fin 8) (j : Fin 3072), 5 ≤ r.val → tl (ix2 r j) = ((xpad I (64 * t.val + r - 5) j : ℝ) : EReal))
    (i : Fin 64) (j : Fin 3072) : pAct m c t tl (ix2 i j) = ((act I (64 * t.val + i) j : ℝ) : EReal) := by
  have hx := x_real t H
  have hw := cw_real t H
  unfold pAct
  generalize (X0_0 m c t : S64x3072.Idx → EReal) = X at hx ⊢
  generalize (iblk m c 3 t : S4x3072.Idx → EReal) = W at hw ⊢
  have hr : ∀ s : ℕ, 5 ≤ s → ∀ h8 : s < 8,
      (if h : s + i.val < 8 then tl (ix2 ⟨s + i.val, h⟩ j) else X (ix2 ⟨s + i.val - 8, by have := i.isLt; omega⟩ j))
        = ((xpad I (64 * t.val + i + (s - 5)) j : ℝ) : EReal) := by
    intro s h5 h8
    have hi := i.isLt
    split
    · rw [htl _ _ (by simp; omega)]; congr 2; simp; omega
    · rw [hx]; congr 2; simp; omega
  have h7 := hr 7 (by decide) (by decide)
  have h6 := hr 6 (by decide) (by decide)
  have h5 := hr 5 (by decide) (by decide)
  pointwise [k0_pay5]
  refine (congrArg (fun z : EReal => z * Ideal.div 1 (1 + Ideal.exp (0 - z))) ?_).trans (silu_real (conv I (64 * t.val + i) j))
  rw [hw, hw, hw, hw, hx, h7, h6, h5]
  simp only [← EReal.coe_mul, ← EReal.coe_add]
  congr 1
  simp only [conv]
  show _ = _
  norm_num
  ring

/-- The write strengths of a chunk. -/
theorem pSg_real (h : Fin 8) (i : Fin 64) : hB (pSg m c t) h (ix2 i 0) = ((tβ I h (64 * t.val + i) : ℝ) : EReal) := by
  have ha := ab_real t H
  unfold pSg
  generalize (iblk m c 2 t : S64x128.Idx → EReal) = X at ha ⊢
  pointwise [hB, k0_pay7]
  rw [ha, sigmoid_real]
  simp only [tβ]
  congr 6
  omega

/-- The cumulative log-decays of a chunk. -/
theorem pGc_real (h : Fin 8) (i : Fin 64) : pGc m c t (ix2 i ⟨h.val, by omega⟩) = ((gG (tg I h) (64 * t.val) (i + 1) : ℝ) : EReal) := by
  have ha := ab_real t H
  have hA := alog_real t H h
  have hB := dtb_real t H h
  unfold pGc
  generalize (iblk m c 2 t : S64x128.Idx → EReal) = X at ha ⊢
  generalize (iblk m c 4 t : S1x128.Idx → EReal) = Y at hA ⊢
  generalize (iblk m c 5 t : S1x128.Idx → EReal) = Z at hB ⊢
  pointwise [k0_pay10, k0_pay6, k0_pay8]
  refine (Finset.sum_congr rfl fun y _ => ?_ : _ = ∑ y : Fin 64, (((if y.val ≤ i.val then tg I h (64 * t.val + y) else 0 : ℝ)) : EReal)).trans ?_
  · refine (congrArg₂ (fun a b : EReal => a * b) (show _ = (((if y ≤ i then 1 else 0 : ℝ)) : EReal) from ?_) (show _ = ((tg I h (64 * t.val + y) : ℝ) : EReal) from ?_)).trans ?_
    · rw [cmpi_sge, sitofp_ite]
    · rw [hA, hB, ha, ← EReal.coe_add, sp_real, Ideal.exp_coe, zero_sub, ← EReal.coe_neg, ← EReal.coe_mul]
      rfl
    · rw [← EReal.coe_mul]
      congr 1
      by_cases hy : y ≤ i
      · rw [if_pos hy, if_pos (by exact hy), one_mul]
      · rw [if_neg hy, if_neg (by exact hy), zero_mul]
  · rw [← coe_sum, Fin.sum_univ_eq_sum_range (fun y => if y ≤ i.val then tg I h (64 * t.val + y) else 0) 64, ← Finset.sum_filter]
    unfold gG
    congr 2
    ext y
    have := i.isLt
    simp only [Finset.mem_filter, Finset.mem_range]
    omega

section
variable {act' : FVec 𝕀 S64x3072 .f32} (ha : ∀ (i : Fin 64) (j : Fin 3072), act' (ix2 i j) = ((act I (64 * t.val + i) j : ℝ) : EReal))
include ha
omit H
theorem hV_real (h : Fin 8) (i : Fin 64) (e : Fin 128) : hV act' h (ix2 i e) = ((tv I h (64 * t.val + i) e : ℝ) : EReal) := by
  pointwise [hV, hAct]
  exact ha _ _
theorem hK_real (h : Fin 8) (i : Fin 64) (e : Fin 128) : hK act' h (ix2 i e) = ((tk I h (64 * t.val + i) e : ℝ) : EReal) := by
  pointwise [hK, k0_pay48, hAct]
  simp only [ha]
  rw [ofBits_eps, rsqrt_row (fun y => act I (64 * t.val + i) (1024 + 128 * h + y)), ← EReal.coe_mul]
  rfl
theorem hQ_real (h : Fin 8) (i : Fin 64) (e : Fin 128) : hQ act' h (ix2 i e) = ((tq I h (64 * t.val + i) e : ℝ) : EReal) := by
  pointwise [hQ, k0_pay38, hAct]
  simp only [ha]
  rw [ofBits_eps, ofBits_qsc, rsqrt_row (fun y => act I (64 * t.val + i) (128 * h + y)), ← EReal.coe_mul, ← EReal.coe_mul]
  rfl
end

end Cert.KernelIdeal.Value
-- ==== Proof.KRun.lean ====
module

public import proofs.«01_k».proof.Proof.KTok

/-!
The grid's points in order: the scratches after point `n` hold the last rows and the state after `64 * (n + 1)` tokens, the
output block holds what leaves the layer.
-/

@[expose] public section
set_option maxRecDepth 16384
noncomputable section
namespace Cert.KernelIdeal.Value
open Cert.KernelIdeal Cert.KernelIdeal.Gen Idealize.ShloMosaic Idealize.ShloMosaic.TcCoe Idealize.SL.Sem Delta Tok
local notation "𝕀" => Idealize.ShloMosaic.Ideal
variable {m : (ℓ : Loc nD τ sig) → Buf (Elt 𝕀) ℓ} {c : Dev nD} {I : Inp} (H : Holds m c I) (t : Fin cfg0.N)

/-- The rows before chunk `n` that the convolution needs are in the scratch. -/
def TailOk (I : Inp) (n : ℕ) (tl : FVec 𝕀 S8x3072 .f32) : Prop :=
  ∀ (r : Fin 8) (j : Fin 3072), 5 ≤ r.val → tl (ix2 r j) = ((xpad I (64 * n + r - 5) j : ℝ) : EReal)
/-- The state before chunk `n` is in the scratch. -/
def StateOk (I : Inp) (n : ℕ) (S : FVec 𝕀 S8x128x128 .f32) : Prop :=
  ∀ (h : Fin 8) (d e : Fin 128), S (ix3 h d e) = ((tS I h (64 * n) d e : ℝ) : EReal)
/-- The output block of chunk `n`, under the norm's weights `w`. -/
def OutOk (I : Inp) (w : Fin 128 → EReal) (n : ℕ) (o : FVec 𝕀 S64x1024 .bf16) : Prop :=
  ∀ (i : Fin 64) (j : Fin 1024), o (ix2 i j) = fin I (j.val / 128) (64 * n + i) ⟨j.val % 128, Nat.mod_lt _ (by norm_num)⟩ (w ⟨j.val % 128, Nat.mod_lt _ (by norm_num)⟩)

theorem tail_zero : TailOk I 0 k0_pay2 := by
  intro r j h5
  have := r.isLt
  pointwise [k0_pay2]
  unfold xpad
  rw [if_pos (by omega)]
  simp

theorem state_zero : StateOk I 0 k0_pay3 := by
  intro h d e
  pointwise [k0_pay3]
  simp [tS, gS]

include H

theorem tail_next : TailOk I (t.val + 1) (k0_pay4 (X0_0 m c t)) := by
  intro r j _
  have hx := x_real t H
  have := r.isLt
  generalize (X0_0 m c t : S64x3072.Idx → EReal) = X at hx ⊢
  pointwise [k0_pay4]
  rw [hx]
  congr 2
  simp
  omega

section
variable {tl : FVec 𝕀 S8x3072 .f32} {S : FVec 𝕀 S8x128x128 .f32} (ht : TailOk I t.val tl) (hS : StateOk I t.val S)
include ht hS

theorem state_next : StateOk I (t.val + 1) (chunkState (pAct m c t tl) (pSg m c t) (pGc m c t) S) := by
  intro h d e
  have ha := pAct_real t H tl ht
  exact hNewS_real _ _ _ S h (tk I h) (tv I h) (tβ I h) (tg I h) (64 * t.val) (hK_real t ha h) (hV_real t ha h) (pSg_real t H h)
    (pGc_real t H h) (hS h) d e

theorem out_next : OutOk I (fun e => m ((c : Thread nD τ).loc main_arg5) (ix1 e)) t.val
    (chunkOut (pAct m c t tl) (pSg m c t) (pGc m c t) S (k0_pay13 (iblk m c 6 t)) (iblk m c 1 t)) := by
  intro i j
  have hj := j.isLt
  have ha := pAct_real t H tl ht
  have hz := z_real t H
  have hw := nw_at m c t
  have ho := fun (h : Fin 8) => hO_real _ _ _ S h (tq I h) (tk I h) (tv I h) (tβ I h) (tg I h) (64 * t.val) (hQ_real t ha h) (hK_real t ha h)
    (hV_real t ha h) (pSg_real t H h) (pGc_real t H h) (hS h)
  unfold chunkOut hOut
  generalize (iblk m c 6 t : S1x128.Idx → EReal) = W at hw ⊢
  generalize (iblk m c 1 t : S64x1024.Idx → EReal) = Z at hz ⊢
  generalize pAct m c t tl = A at ho ⊢
  generalize pSg m c t = B at ho ⊢
  generalize pGc m c t = C at ho ⊢
  rw [← fin_real]
  have hj' : j.val / 128 < 8 := by omega
  show headOut _ _ (hO A B C S ⟨j.val / 128, hj'⟩) (ix2 i ⟨j.val % 128, _⟩) = _
  have hoj := ho ⟨j.val / 128, hj'⟩
  generalize hO A B C S ⟨j.val / 128, hj'⟩ = O at hoj ⊢
  pointwise [headOut, k0_pay13]
  simp only [hoj, hw, hz, Nat.add_assoc]
  rfl
end

theorem outs_ok (n : ℕ) (hn : n < cfg0.N) : TailOk I (n + 1) (outsAt0 m c n hn).2.1 ∧ StateOk I (n + 1) (outsAt0 m c n hn).2.2
    ∧ OutOk I (fun e => m ((c : Thread nD τ).loc main_arg5) (ix1 e)) n (outsAt0 m c n hn).1 := by
  induction n with
  | zero =>
    have h0 : (⟨0, hn⟩ : Fin cfg0.N).val % 128 = 0 := rfl
    refine ⟨?_, ?_, ?_⟩
    · rw [show (outsAt0 m c 0 hn).2.1 = _ from tailA m c ⟨0, hn⟩ h0]
      exact tail_next H ⟨0, hn⟩
    · rw [show (outsAt0 m c 0 hn).2.2 = _ from stateA m c ⟨0, hn⟩ h0]
      exact state_next H ⟨0, hn⟩ tail_zero state_zero
    · rw [show (outsAt0 m c 0 hn).1 = _ from outA m c ⟨0, hn⟩ h0]
      exact out_next H ⟨0, hn⟩ tail_zero state_zero
  | succ n ih =>
    obtain ⟨ht, hs, -⟩ := ih (by omega)
    have hN : n + 1 < 128 := lt_of_lt_of_eq hn N_0
    have h0 : ¬(⟨n + 1, hn⟩ : Fin cfg0.N).val % 128 = 0 := by show ¬(n + 1) % 128 = 0; omega
    refine ⟨?_, ?_, ?_⟩
    · rw [show (outsAt0 m c (n + 1) hn).2.1 = _ from tailB m c ⟨n + 1, hn⟩ h0]
      exact tail_next H ⟨n + 1, hn⟩
    · rw [show (outsAt0 m c (n + 1) hn).2.2 = _ from stateB m c ⟨n + 1, hn⟩ h0]
      exact state_next H ⟨n + 1, hn⟩ ht hs
    · rw [show (outsAt0 m c (n + 1) hn).1 = _ from outB m c ⟨n + 1, hn⟩ h0]
      exact out_next H ⟨n + 1, hn⟩ ht hs

/-- The kernel's result at every place. -/
theorem G7_ok (t : Fin 8192) (j : Fin 1024) : G7 m c (ix2 t j) = fin I (j.val / 128) t ⟨j.val % 128, Nat.mod_lt _ (by norm_num)⟩
    (m ((c : Thread nD τ).loc main_arg5) (ix1 ⟨j.val % 128, Nat.mod_lt _ (by norm_num)⟩)) := by
  have ht := t.isLt
  have hj := j.isLt
  have hp : pt7Of (ix2 t j) = t.val / 64 := by
    show 1 * (t.val / 64 - 0) + 1 * (j.val / 1024 - 0) = _
    omega
  have hlt : pt7Of (ix2 t j) < cfg0.N := by rw [hp]; exact lt_of_lt_of_eq (by omega) N_0.symm
  unfold G7
  rw [dif_pos hlt, ← outsAt0_sweep m c _ hlt]
  have h := (outs_ok H _ hlt).2.2 ⟨t.val % 64, Nat.mod_lt _ (by norm_num)⟩ j
  have hl : loc7Of (ix2 t j) = ix2 ⟨t.val % 64, Nat.mod_lt _ (by norm_num)⟩ j := by
    funext a
    match a with
    | ⟨0, _⟩ => rfl
    | ⟨1, _⟩ => exact Fin.ext (Nat.mod_eq_of_lt hj)
  rw [hl, h]
  congr 1
  show 64 * pt7Of (ix2 t j) + t.val % 64 = t.val
  rw [hp]
  omega

end Cert.KernelIdeal.Value
-- ==== Proof.RefHost.lean ====
module

public import proofs.«01_k».proof.Proof.Gen.ReferenceIdeal.Run
public import Idealize.ShloMosaic.Lib.Pointwise

@[expose] public section
set_option maxRecDepth 16384
noncomputable section
namespace Cert.ReferenceIdeal.Value
open Cert.ReferenceIdeal Cert.ReferenceIdeal.Gen Idealize.ShloMosaic Idealize.ShloMosaic.TcCoe Idealize.SL.Sem Idealize.ShloMosaic.StableHlo
variable {F : FTy → Type} [FloatOps F]

/-- The input of the convolution with three zero rows in front. -/
def rPad (p : FVec F S8192x4096 .f32) : FVec F S8195x3072 .f32 :=
  pad S8195x3072 ![3, 0] ![0, 0] ![0, 0] (extractStridedSlice S8192x3072 ![0, 0] p slices_S8192x4096_S8192x3072_0_0)
    (sitofp .f32 (constantI S_ 32 0#32)) pads_S8192x3072_S8195x3072_300_000 h_S_
/-- One tap's row of weights on every row. -/
def rTap (w : FVec F S1x3072 .f32) : FVec F S8192x3072 .f32 :=
  broadcastInDim S8192x3072 ![0, 1] bcast_S1x3072_S8192x3072_0_1
    (broadcastInDim S1x3072 ![1] bcast_S3072_S1x3072_1 (shapeCast S3072 w shapeCasts_S1x3072_S3072))
/-- The convolution. -/
def rConv (p : FVec F S8192x4096 .f32) (w : FVec F S4x3072 .f32) : FVec F S8192x3072 .f32 :=
  addf (addf (addf
    (mulf (extractStridedSlice S8192x3072 ![0, 0] (rPad p) slices_S8195x3072_S8192x3072_0_0) (rTap (extractStridedSlice S1x3072 ![0, 0] w slices_S4x3072_S1x3072_0_0)))
    (mulf (extractStridedSlice S8192x3072 ![1, 0] (rPad p) slices_S8195x3072_S8192x3072_1_0) (rTap (extractStridedSlice S1x3072 ![1, 0] w slices_S4x3072_S1x3072_1_0))))
    (mulf (extractStridedSlice S8192x3072 ![2, 0] (rPad p) slices_S8195x3072_S8192x3072_2_0) (rTap (extractStridedSlice S1x3072 ![2, 0] w slices_S4x3072_S1x3072_2_0))))
    (mulf (extractStridedSlice S8192x3072 ![3, 0] (rPad p) slices_S8195x3072_S8192x3072_3_0) (rTap (extractStridedSlice S1x3072 ![3, 0] w slices_S4x3072_S1x3072_3_0)))
/-- The convolution's silu. -/
def rAct (p : FVec F S8192x4096 .f32) (w : FVec F S4x3072 .f32) : FVec F S8192x3072 .f32 :=
  mulf (rConv p w) (Host.divf (broadcastInDim S8192x3072 ![] bcast_S_S8192x3072 (constant S_ .f32 0x3F800000#32))
    (addf (broadcastInDim S8192x3072 ![] bcast_S_S8192x3072 (constant S_ .f32 0x3F800000#32)) (Host.exp (Host.negf (rConv p w)))))
/-- The queries before their norm. -/
def rQ0 (a : FVec F S8192x3072 .f32) : FVec F S8192x8x128 .f32 :=
  shapeCast S8192x8x128 (extractStridedSlice S8192x1024 ![0, 0] a slices_S8192x3072_S8192x1024_0_0) shapeCasts_S8192x1024_S8192x8x128
/-- The keys before their norm. -/
def rK0 (a : FVec F S8192x3072 .f32) : FVec F S8192x8x128 .f32 :=
  shapeCast S8192x8x128 (extractStridedSlice S8192x1024 ![0, 1024] a slices_S8192x3072_S8192x1024_0_1024) shapeCasts_S8192x1024_S8192x8x128
/-- The values. -/
def rV (a : FVec F S8192x3072 .f32) : FVec F S8192x8x128 .f32 :=
  shapeCast S8192x8x128 (extractStridedSlice S8192x1024 ![0, 2048] a slices_S8192x3072_S8192x1024_0_2048) shapeCasts_S8192x1024_S8192x8x128
/-- Every row over its length. -/
def rNorm (x : FVec F S8192x8x128 .f32) : FVec F S8192x8x128 .f32 :=
  mulf x (broadcastInDim S8192x8x128 ![0, 1, 2] bcast_S8192x8x1_S8192x8x128_0_1_2 (Host.rsqrt (addf
    (broadcastInDim S8192x8x1 ![0, 1] bcast_S8192x8_S8192x8x1_0_1 (Host.reduceAdd (mulf x x) (constant S_ .f32 0x00000000#32) reducesTo_S8192x8x128_S8192x8_d2 h_S_))
    (broadcastInDim S8192x8x1 ![] bcast_S_S8192x8x1 (constant S_ .f32 0x358637BD#32)))))
/-- The queries. -/
def rQ (a : FVec F S8192x3072 .f32) : FVec F S8192x8x128 .f32 :=
  mulf (rNorm (rQ0 a)) (broadcastInDim S8192x8x128 ![] bcast_S_S8192x8x128 (constant S_ .f32 0x3DB504F3#32))
/-- The keys. -/
def rK (a : FVec F S8192x3072 .f32) : FVec F S8192x8x128 .f32 := rNorm (rK0 a)
/-- The write strengths. -/
def rB (t : FVec F S8192x1152 .f32) : FVec F S8192x8 .f32 :=
  Host.divf (broadcastInDim S8192x8 ![] bcast_S_S8192x8 (constant S_ .f32 0x3F800000#32))
    (addf (broadcastInDim S8192x8 ![] bcast_S_S8192x8 (constant S_ .f32 0x3F800000#32))
      (Host.exp (Host.negf (extractStridedSlice S8192x8 ![0, 1032] t slices_S8192x1152_S8192x8_0_1032))))
/-- A softplus. -/
def rSp (x : FVec F S8192x8 .f32) : FVec F S8192x8 .f32 :=
  select (cmpf .une (subf x (broadcastInDim S8192x8 ![] bcast_S_S8192x8 (constant S_ .f32 0x00000000#32)))
      (subf x (broadcastInDim S8192x8 ![] bcast_S_S8192x8 (constant S_ .f32 0x00000000#32))))
    (addf x (broadcastInDim S8192x8 ![] bcast_S_S8192x8 (constant S_ .f32 0x00000000#32)))
    (addf (maximumf x (broadcastInDim S8192x8 ![] bcast_S_S8192x8 (constant S_ .f32 0x00000000#32)))
      (Host.log1p (Host.exp (Host.negf (Host.absf (subf x (broadcastInDim S8192x8 ![] bcast_S_S8192x8 (constant S_ .f32 0x00000000#32))))))))
/-- The log-decays. -/
def rG (t : FVec F S8192x1152 .f32) (a b : FVec F S8 .f32) : FVec F S8192x8 .f32 :=
  mulf (broadcastInDim S8192x8 ![0, 1] bcast_S1x8_S8192x8_0_1 (broadcastInDim S1x8 ![1] bcast_S8_S1x8_1 (Host.negf (Host.exp a))))
    (rSp (addf (extractStridedSlice S8192x8 ![0, 1024] t slices_S8192x1152_S8192x8_0_1024)
      (broadcastInDim S8192x8 ![0, 1] bcast_S1x8_S8192x8_0_1 (broadcastInDim S1x8 ![1] bcast_S8_S1x8_1 b))))

variable (m : (ℓ : Loc nD τ sig) → Buf (Elt F) ℓ)
set_option maxHeartbeats 2000000

theorem entry_v (c : Dev nD) : entryContents preI m c (Proc.devRef .tc main_v73_2) =
    rV (rAct (m ((c.tc : Thread nD τ).loc main_arg0)) (m ((c.tc : Thread nD τ).loc main_arg2))) := by
  simp only [entryContents, afterL_cons, afterL_nil]
  after_reads_simp
  rfl
theorem entry_k (c : Dev nD) : entryContents preI m c (Proc.devRef .tc main_v73_1) =
    rK (rAct (m ((c.tc : Thread nD τ).loc main_arg0)) (m ((c.tc : Thread nD τ).loc main_arg2))) := by
  simp only [entryContents, afterL_cons, afterL_nil]
  after_reads_simp
  rfl
theorem entry_q (c : Dev nD) : entryContents preI m c (Proc.devRef .tc main_v73_0) =
    rQ (rAct (m ((c.tc : Thread nD τ).loc main_arg0)) (m ((c.tc : Thread nD τ).loc main_arg2))) := by
  simp only [entryContents, afterL_cons, afterL_nil]
  after_reads_simp
  rfl
theorem entry_g (c : Dev nD) : entryContents preI m c (Proc.devRef .tc main_v73_3) =
    rG (m ((c.tc : Thread nD τ).loc main_arg1)) (m ((c.tc : Thread nD τ).loc main_arg3)) (m ((c.tc : Thread nD τ).loc main_arg4)) := by
  simp only [entryContents, afterL_cons, afterL_nil]
  after_reads_simp
  rfl
theorem entry_b (c : Dev nD) : entryContents preI m c (Proc.devRef .tc main_v73_4) =
    rB (m ((c.tc : Thread nD τ).loc main_arg1)) := by
  simp only [entryContents, afterL_cons, afterL_nil]
  after_reads_simp
  rfl
theorem entry_s (c : Dev nD) : entryContents preI m c (Proc.devRef .tc main_v73_6) =
    broadcastInDim S8x128x128 ![] bcast_S_S8x128x128 (constant S_ .f32 0x00000000#32) := by
  simp only [entryContents, afterL_cons, afterL_nil]
  after_reads_simp
  rfl

end Cert.ReferenceIdeal.Value
-- ==== Proof.RTok.lean ====
module

public import proofs.«01_k».proof.Proof.RefHost
public import proofs.«01_k».proof.Proof.Tokens

/-!
The reference at every token: its operands before the loop, the loop's state and outputs, its result.
-/

@[expose] public section
set_option maxRecDepth 16384
noncomputable section
namespace Cert.ReferenceIdeal.Value
open Cert.ReferenceIdeal Cert.ReferenceIdeal.Gen Idealize.ShloMosaic Idealize.ShloMosaic.TcCoe Idealize.SL.Sem Idealize.ShloMosaic.StableHlo Delta Tok
open Cert.KernelIdeal.Value (coe_sum eps qsc ofBits_eps ofBits_qsc rsqrt_row sigmoid_real)
local notation "𝕀" => Idealize.ShloMosaic.Ideal
variable {m : (ℓ : Loc nD τ sig) → Buf (Elt 𝕀) ℓ} {c : Dev nD} {I : Inp}

section
variable {p : FVec 𝕀 S8192x4096 .f32} {w : FVec 𝕀 S4x3072 .f32} (hp : ∀ (r : Fin 8192) (j : Fin 4096), p (ix2 r j) = ((I.P r j : ℝ) : EReal))
  (hw : ∀ (r : Fin 4) (j : Fin 3072), w (ix2 r j) = ((I.C r j : ℝ) : EReal))
include hp hw

theorem rAct_real (t : Fin 8192) (j : Fin 3072) : rAct p w (ix2 t j) = ((act I t j : ℝ) : EReal) := by
  have hr : ∀ s : ℕ, ∀ h3 : s < 3,
      (if h : 3 ≤ s + t.val ∧ s + t.val - 3 < 8192 then p (ix2 ⟨s + t.val - 3, h.2⟩ ⟨j.val, by have := j.isLt; omega⟩) else FloatOps.sitofp (F := 𝕀) .f32 (0#32))
        = ((xpad I (t.val + s) j : ℝ) : EReal) := by
    intro s h3
    have := t.isLt
    unfold xpad
    split
    · rw [hp, if_neg (by omega)]; congr 2; simp; omega
    · rw [if_pos (by omega)]; simp [FloatOps.sitofp]
  have h0 := hr 0 (by decide)
  have h1 := hr 1 (by decide)
  have h2 := hr 2 (by decide)
  simp only [Nat.zero_add] at h0
  pointwise [rAct]
  refine (congrArg (fun z : EReal => z * Ideal.div 1 (1 + Ideal.exp (0 - z))) (?_ : rConv p w (ix2 t j) = ((conv I t j : ℝ) : EReal)) |> Eq.trans (by rw [zero_sub])).trans (silu_real _)
  pointwise [rConv, rTap, rPad]
  rw [h0, h1, h2, hw, hw, hw, hw, hp, ← xpad_add]
  simp only [← EReal.coe_mul, ← EReal.coe_add]
  rfl
end

section
variable {a : FVec 𝕀 S8192x3072 .f32} (ha : ∀ (t : Fin 8192) (j : Fin 3072), a (ix2 t j) = ((act I t j : ℝ) : EReal))
include ha
theorem rV_real (t : Fin 8192) (h : Fin 8) (e : Fin 128) : rV a (ix3 t h e) = ((tv I h t e : ℝ) : EReal) := by
  pointwise [rV]
  rw [ha]
  simp only [tv]
  congr 2
  omega
theorem rK_real (t : Fin 8192) (h : Fin 8) (e : Fin 128) : rK a (ix3 t h e) = ((tk I h t e : ℝ) : EReal) := by
  pointwise [rK, rK0, rNorm]
  simp only [ha]
  have e1 : ∀ y : Fin 128, 1024 + (h.val * 128 + y.val) = 1024 + 128 * h.val + y.val := fun y => by omega
  simp only [e1]
  rw [ofBits_eps, rsqrt_row (fun y => act I t (1024 + 128 * h + y)), ← EReal.coe_mul]
  rfl
theorem rQ_real (t : Fin 8192) (h : Fin 8) (e : Fin 128) : rQ a (ix3 t h e) = ((tq I h t e : ℝ) : EReal) := by
  pointwise [rQ, rQ0, rNorm]
  simp only [ha]
  have e1 : ∀ y : Fin 128, h.val * 128 + y.val = 128 * h.val + y.val := fun y => by omega
  simp only [e1]
  rw [ofBits_eps, ofBits_qsc, rsqrt_row (fun y => act I t (128 * h + y)), ← EReal.coe_mul, ← EReal.coe_mul]
  rfl
end

section
variable {tl : FVec 𝕀 S8192x1152 .f32} {a b : FVec 𝕀 S8 .f32} (hT : ∀ (r : Fin 8192) (j : Fin 1152), tl (ix2 r j) = ((I.T r j : ℝ) : EReal))
  (hA : ∀ h : Fin 8, a (ix1 h) = ((I.A h : ℝ) : EReal)) (hB : ∀ h : Fin 8, b (ix1 h) = ((I.B h : ℝ) : EReal))
include hT
theorem rB_real (t : Fin 8192) (h : Fin 8) : rB tl (ix2 t h) = ((tβ I h t : ℝ) : EReal) := by
  pointwise [rB]
  rw [hT, ← zero_sub, sigmoid_real]
  rfl
include hA hB
theorem rG_real (t : Fin 8192) (h : Fin 8) : rG tl a b (ix2 t h) = ((tg I h t : ℝ) : EReal) := by
  pointwise [rG, rSp]
  rw [if_neg (fun h => h rfl), hT, hA, hB, ← EReal.coe_add]
  refine (congrArg₂ (fun a b : EReal => a * b) (show _ = ((-Real.exp (I.A h) : ℝ) : EReal) from ?_) (show _ = ((sp (I.T t (1024 + h) + I.B h) : ℝ) : EReal) from ?_)).trans ?_
  · rw [Ideal.exp_coe, EReal.coe_neg]
  · rw [← sp_real, zero_sub]
    rfl
  · rw [← EReal.coe_mul]; rfl
end

end Cert.ReferenceIdeal.Value
-- ==== Proof.RLoop.lean ====
module

public import proofs.«01_k».proof.Proof.RTok

/-!
The reference's loop over the tokens: its state and its written rows after every trip, and the reference's result.
-/

@[expose] public section
set_option maxRecDepth 16384
noncomputable section
namespace Cert.ReferenceIdeal.Value
open Cert.ReferenceIdeal Cert.ReferenceIdeal.Gen Idealize.ShloMosaic Idealize.ShloMosaic.TcCoe Idealize.SL.Sem Idealize.ShloMosaic.StableHlo Delta Tok
open Cert.KernelIdeal.Value (coe_sum)
local notation "𝕀" => Idealize.ShloMosaic.Ideal

theorem toInt_small {n : ℕ} (hn : n < 8192) : (BitVec.ofNat 32 n).toInt = n := by
  rw [BitVec.toInt_eq_toNat_cond, BitVec.toNat_ofNat, Nat.mod_eq_of_lt (by omega), if_pos (by omega)]

section
variable {n : ℕ} (hn : n < 8192)
include hn

section
variable (st : Fin 3 → Int) (hst : ∀ a, st a = ((![n, 0, 0] : Fin 3 → ℕ) a : Int))
include hst

/-- One token's rows of an array of heads. -/
theorem row3 (X : FVec 𝕀 S8192x8x128 .f32) (h : Fin 8) (d : Fin 128) :
    shapeCast S8x128 (Host.dynamicSlice S1x8x128 X st sliceFits_S8192x8x128_S1x8x128) shapeCasts_S1x8x128_S8x128 (ix2 h d)
      = X (ix3 ⟨n, hn⟩ h d) := by
  have e0 : Host.clampedStart S8192x8x128 S1x8x128 rfl st 0 = n := Host.clampedStart_of_le _ _ _ n (hst 0) (show n + 1 ≤ 8192 by omega)
  have e1 : Host.clampedStart S8192x8x128 S1x8x128 rfl st 1 = 0 := Host.clampedStart_of_le _ _ _ 0 (hst 1) (show 0 + 8 ≤ 8 by omega)
  have e2 : Host.clampedStart S8192x8x128 S1x8x128 rfl st 2 = 0 := Host.clampedStart_of_le _ _ _ 0 (hst 2) (show 0 + 128 ≤ 128 by omega)
  pointwise
  simp only [e0, e1, e2, Nat.zero_add]

/-- The array of heads with one token's rows written. -/
theorem put3 (X : FVec 𝕀 S8192x8x128 .f32) (U : FVec 𝕀 S8x128 .f32) (t : Fin 8192) (h : Fin 8) (d : Fin 128) :
    Host.dynamicUpdateSlice X (broadcastInDim S1x8x128 ![1, 2] bcast_S8x128_S1x8x128_1_2 U) st
      updateFits_S8192x8x128_S1x8x128 (ix3 t h d) = if t.val = n then U (ix2 h d) else X (ix3 t h d) := by
  have e0 : Host.clampedStart S8192x8x128 S1x8x128 rfl st 0 = n := Host.clampedStart_of_le _ _ _ n (hst 0) (show n + 1 ≤ 8192 by omega)
  have e1 : Host.clampedStart S8192x8x128 S1x8x128 rfl st 1 = 0 := Host.clampedStart_of_le _ _ _ 0 (hst 1) (show 0 + 8 ≤ 8 by omega)
  have e2 : Host.clampedStart S8192x8x128 S1x8x128 rfl st 2 = 0 := Host.clampedStart_of_le _ _ _ 0 (hst 2) (show 0 + 128 ≤ 128 by omega)
  pointwise
  simp only [e0, e1, e2, Nat.sub_zero]
  have hh := h.isLt
  have hd := d.isLt
  by_cases ht : t.val = n
  · rw [if_pos ht, dif_pos (by omega)]
  · rw [if_neg ht, dif_neg (by omega)]
end

/-- One token's entries of an array of heads' numbers. -/
theorem row2 (st : Fin 2 → Int) (hst : ∀ a, st a = ((![n, 0] : Fin 2 → ℕ) a : Int)) (X : FVec 𝕀 S8192x8 .f32) (h : Fin 8) :
    shapeCast S8 (Host.dynamicSlice S1x8 X st sliceFits_S8192x8_S1x8) shapeCasts_S1x8_S8 (ix1 h) = X (ix2 ⟨n, hn⟩ h) := by
  have e0 : Host.clampedStart S8192x8 S1x8 rfl st 0 = n := Host.clampedStart_of_le _ _ _ n (hst 0) (show n + 1 ≤ 8192 by omega)
  have e1 : Host.clampedStart S8192x8 S1x8 rfl st 1 = 0 := Host.clampedStart_of_le _ _ _ 0 (hst 1) (show 0 + 8 ≤ 8 by omega)
  pointwise
  simp only [e0, e1, Nat.zero_add]
end

/-- What the loop's buffers hold before trip `n`. -/
structure Inv (I : Inp) (n : ℕ) (V : Valuation τ sig (Elt 𝕀)) : Prop where
  q : ∀ (t : Fin 8192) (h : Fin 8) (d : Fin 128), (V (Proc.devRef .tc main_v73_0) : S8192x8x128.Idx → EReal) (ix3 t h d) = ((tq I h t d : ℝ) : EReal)
  k : ∀ (t : Fin 8192) (h : Fin 8) (d : Fin 128), (V (Proc.devRef .tc main_v73_1) : S8192x8x128.Idx → EReal) (ix3 t h d) = ((tk I h t d : ℝ) : EReal)
  v : ∀ (t : Fin 8192) (h : Fin 8) (d : Fin 128), (V (Proc.devRef .tc main_v73_2) : S8192x8x128.Idx → EReal) (ix3 t h d) = ((tv I h t d : ℝ) : EReal)
  g : ∀ (t : Fin 8192) (h : Fin 8), (V (Proc.devRef .tc main_v73_3) : S8192x8.Idx → EReal) (ix2 t h) = ((tg I h t : ℝ) : EReal)
  b : ∀ (t : Fin 8192) (h : Fin 8), (V (Proc.devRef .tc main_v73_4) : S8192x8.Idx → EReal) (ix2 t h) = ((tβ I h t : ℝ) : EReal)
  ctr : V (Proc.devRef .tc main_v73_5) = fun _ => BitVec.ofNat 32 n
  s : ∀ (h : Fin 8) (d e : Fin 128), (V (Proc.devRef .tc main_v73_6) : S8x128x128.Idx → EReal) (ix3 h d e) = ((tS I h n d e : ℝ) : EReal)
  o : ∀ (t : Fin 8192) (h : Fin 8) (e : Fin 128), t.val < n →
    (V (Proc.devRef .tc main_v73_7) : S8192x8x128.Idx → EReal) (ix3 t h e) = ((tO I h t e : ℝ) : EReal)

section
variable {I : Inp} {n : ℕ} {V : Valuation τ sig (Elt 𝕀)} (H : Inv I n V) (hn : n < 8192)
include H hn

theorem idx3 (a : Fin 3) : (((![V (Proc.devRef .tc main_v73_5), constantI S_ 32 0#32, constantI S_ 32 0#32] : Fin 3 → (⟨S_, .i32⟩ : BufTy).Contents (Elt 𝕀))) a
    (Shape.Idx.first h_S_)).toInt = ((![n, 0, 0] : Fin 3 → ℕ) a : Int) := by
  rw [H.ctr]
  match a with
  | ⟨0, _⟩ => exact toInt_small hn
  | ⟨1, _⟩ => rfl
  | ⟨2, _⟩ => rfl
theorem idx2 (a : Fin 2) : (((![V (Proc.devRef .tc main_v73_5), constantI S_ 32 0#32] : Fin 2 → (⟨S_, .i32⟩ : BufTy).Contents (Elt 𝕀))) a
    (Shape.Idx.first h_S_)).toInt = ((![n, 0] : Fin 2 → ℕ) a : Int) := by
  rw [H.ctr]
  match a with
  | ⟨0, _⟩ => exact toInt_small hn
  | ⟨1, _⟩ => rfl

theorem key_row (h : Fin 8) (d : Fin 128) : (res_main_while0b_v94 V : S8x128.Idx → EReal) (ix2 h d) = ((tk I h n d : ℝ) : EReal) :=
  (row3 hn _ (idx3 H hn) _ h d).trans (H.k _ _ _)

theorem decayed (h : Fin 8) (d e : Fin 128) : (res_main_while0b_v101 V : S8x128x128.Idx → EReal) (ix3 h d e)
    = ((tS I h n d e * Real.exp (tg I h n) : ℝ) : EReal) := by
  have hr := (row2 hn _ (idx2 H hn) (V (Proc.devRef .tc main_v73_3)) h).trans (H.g ⟨n, hn⟩ h)
  have hs := H.s h d e
  unfold res_main_while0b_v101
  generalize (V (Proc.devRef .tc main_v73_6) : S8x128x128.Idx → EReal) = S at hs ⊢
  generalize (shapeCast S8 (Host.dynamicSlice S1x8 (V (Proc.devRef .tc main_v73_3)) _ _) _ : S8.Idx → EReal) = R at hr ⊢
  pointwise
  rw [hr, hs, Ideal.exp_coe, ← EReal.coe_mul]

theorem new_state (h : Fin 8) (d e : Fin 128) : (res_main_while0b_v112 V : S8x128x128.Idx → EReal) (ix3 h d e) = ((tS I h (n + 1) d e : ℝ) : EReal) := by
  have hk := key_row H hn
  have hd := decayed H hn
  have hb := (row2 hn _ (idx2 H hn) (V (Proc.devRef .tc main_v73_4)) h).trans (H.b ⟨n, hn⟩ h)
  have hv := (row3 hn _ (idx3 H hn) (V (Proc.devRef .tc main_v73_2)) h e).trans (H.v ⟨n, hn⟩ h e)
  unfold res_main_while0b_v112
  generalize (res_main_while0b_v94 V : S8x128.Idx → EReal) = K at hk ⊢
  generalize (res_main_while0b_v101 V : S8x128x128.Idx → EReal) = D at hd ⊢
  generalize (shapeCast S8 (Host.dynamicSlice S1x8 (V (Proc.devRef .tc main_v73_4)) _ _) _ : S8.Idx → EReal) = R at hb ⊢
  generalize (shapeCast S8x128 (Host.dynamicSlice S1x8x128 (V (Proc.devRef .tc main_v73_2)) _ _) _ : S8x128.Idx → EReal) = W at hv ⊢
  pointwise
  simp only [hb, hv, hk, hd, ← EReal.coe_mul, ← coe_sum, ← EReal.coe_sub, ← EReal.coe_add]
  rfl

theorem step : Inv I (n + 1) (STEP V) := by
  refine ⟨?_, ?_, ?_, ?_, ?_, ?_, ?_, ?_⟩
  · rw [STEP_main_v73_0]; exact H.q
  · rw [STEP_main_v73_1]; exact H.k
  · rw [STEP_main_v73_2]; exact H.v
  · rw [STEP_main_v73_3]; exact H.g
  · rw [STEP_main_v73_4]; exact H.b
  · rw [STEP_main_v73_5]
    unfold step_main_v73_5
    rw [H.ctr]
    funext i
    show BitVec.ofNat 32 n + 1#32 = BitVec.ofNat 32 (n + 1)
    rw [BitVec.ofNat_add]
  · rw [STEP_main_v73_6]
    exact new_state H hn
  · intro t h e ht
    rw [STEP_main_v73_7]
    refine (put3 hn _ (idx3 H hn) _ _ t h e).trans ?_
    by_cases hx : t.val = n
    · rw [if_pos hx]
      have hs := new_state H hn
      have hq := fun d => (row3 hn _ (idx3 H hn) (V (Proc.devRef .tc main_v73_0)) h d).trans (H.q ⟨n, hn⟩ h d)
      generalize (res_main_while0b_v112 V : S8x128x128.Idx → EReal) = D at hs ⊢
      generalize (shapeCast S8x128 (Host.dynamicSlice S1x8x128 (V (Proc.devRef .tc main_v73_0)) _ _) _ : S8x128.Idx → EReal) = W at hq ⊢
      pointwise
      simp only [hs, hq, ← EReal.coe_mul, ← coe_sum, hx]
      rfl
    · rw [if_neg hx]
      exact H.o t h e (by omega)
end

section
variable {m : (ℓ : Loc nD τ sig) → Buf (Elt 𝕀) ℓ} {c : Dev nD} {I : Inp}

/-- The device's arrays hold the real inputs `I`. -/
def Holds (m : (ℓ : Loc nD τ sig) → Buf (Elt 𝕀) ℓ) (c : Dev nD) (I : Inp) : Prop :=
  Reads (fun r j => m ((c.tc : Thread nD τ).loc main_arg0) (ix2 r j)) (fun r j => m ((c.tc : Thread nD τ).loc main_arg1) (ix2 r j))
    (fun r j => m ((c.tc : Thread nD τ).loc main_arg2) (ix2 r j)) (fun h => m ((c.tc : Thread nD τ).loc main_arg3) (ix1 h))
    (fun h => m ((c.tc : Thread nD τ).loc main_arg4) (ix1 h)) I

variable (H : Holds m c I)
include H

theorem inv_entry : Inv I 0 (entryContents preI m c) := by
  have ha := rAct_real H.hp H.hw
  refine ⟨?_, ?_, ?_, ?_, ?_, ?_, ?_, ?_⟩
  · rw [entry_q]; exact rQ_real ha
  · rw [entry_k]; exact rK_real ha
  · rw [entry_v]; exact rV_real ha
  · rw [entry_g]; exact rG_real H.ht H.ha H.hb
  · rw [entry_b]; exact rB_real H.ht
  · rw [ctr_entry]
  · rw [entry_s]
    intro h d e
    pointwise
    simp [tS, gS]
  · intro t h e ht
    omega

theorem inv_iter : ∀ n, n ≤ 8192 → Inv I n (STEP^[n] (entryContents preI m c))
  | 0, _ => inv_entry H
  | n + 1, hn => by
    rw [Function.iterate_succ_apply']
    exact step (inv_iter n (by omega)) (by omega)

/-- The reference's result at every place. -/
theorem out_ok (t : Fin 8192) (j : Fin 1024) :
    (out_main_v92 (STEP^[8192] (entryContents preI m c)) : S8192x1024.Idx → EReal) (ix2 t j)
      = fin I (j.val / 128) t ⟨j.val % 128, Nat.mod_lt _ (by norm_num)⟩
        (m ((c.tc : Thread nD τ).loc main_arg5) (ix1 ⟨j.val % 128, Nat.mod_lt _ (by norm_num)⟩)) := by
  have hj := j.isLt
  have ho := fun (h : Fin 8) e => (inv_iter H 8192 le_rfl).o t h e t.isLt
  have h5 := iter_main_arg5 m c 8192
  have h0 := iter_main_arg0 m c 8192
  have hp := H.hp
  generalize STEP^[8192] (entryContents preI m c) = V at ho h5 h0 ⊢
  unfold out_main_v92
  rw [h0, h5]
  generalize (m ((c.tc : Thread nD τ).loc main_arg0) : S8192x4096.Idx → EReal) = P at hp ⊢
  generalize (m ((c.tc : Thread nD τ).loc main_arg5) : S128.Idx → EReal) = W
  generalize (V (Proc.devRef .tc main_v73_7) : S8192x8x128.Idx → EReal) = O at ho ⊢
  rw [← fin_real]
  pointwise
  have e1 : 3072 + 128 * (j.val / 128) + j.val % 128 = 3072 + j.val := by omega
  simp only [ho, hp, e1, zero_sub]
end

end Cert.ReferenceIdeal.Value
-- ==== Proof.Planned.lean ====
module

public import proofs.«01_k».proof.Defs
public import Idealize.ShloMosaic.Lib.ReduceAll
public import Idealize.ShloMosaic.Lib.Pointwise.Index
public import Idealize.ShloMosaic.Init

@[expose] public section

noncomputable section

/-! # What the plan's precondition says

`planned` says that the table names experts and that at least one tile, and at most all 320, are in use. -/

namespace Cert.Pre_planned

open Idealize.ShloMosaic

/-- The side conditions of the precondition's operations. -/
theorem facts : Cert.Pre_planned.Facts where
  bcast_S_S384 := by decide
  reducesTo_S384_S_d0 := by decide
  h_S_ := by decide
  shapeCasts_S1_S_ := by decide
  shapeCasts_S_S1 := by decide

/-- Every tile's expert is one of the 64, and between one and all of the tiles are used. -/
structure Fits (T0 : S384.Idx → BitVec 32) (T1 : S1.Idx → BitVec 32) : Prop where
  expert : ∀ x, (T0 x).toNat < 64
  some : ∀ x, 1 ≤ (T1 x).toNat
  most : ∀ x, (T1 x).toNat ≤ 320

instance : Subsingleton S_.Idx := ⟨fun _ _ => funext fun d => d.elim0⟩
instance : Subsingleton S1.Idx := ⟨fun x y => funext fun d => match d with | ⟨0, _⟩ => Subsingleton.elim (α := Fin 1) _ _⟩

theorem bit_and {a b : BitVec 1} (h : a &&& b = 1#1) : a = 1#1 ∧ b = 1#1 := by revert a b; decide

theorem of_sge {a b : BitVec 32} (h : IntOp.cmpi .sge a b = 1#1) : b.toInt ≤ a.toInt := by
  have h' : BitVec.ofBool (decide _) = 1#1 := h
  by_contra hn
  rw [decide_eq_false (by omega)] at h'
  exact absurd h' (by decide)
theorem of_slt {a b : BitVec 32} (h : IntOp.cmpi .slt a b = 1#1) : a.toInt < b.toInt := by
  have h' : BitVec.ofBool (decide _) = 1#1 := h
  by_contra hn
  rw [decide_eq_false (by omega)] at h'
  exact absurd h' (by decide)
theorem of_sle {a b : BitVec 32} (h : IntOp.cmpi .sle a b = 1#1) : a.toInt ≤ b.toInt := by
  have h' : BitVec.ofBool (decide (a.toInt ≤ b.toInt)) = 1#1 := h
  by_contra hn
  rw [decide_eq_false hn] at h'
  exact absurd h' (by decide)

/-! ## Words of a plan -/

/-- One less than a word that is at least one. -/
theorem minus_one {u : BitVec 32} (h1 : 1 ≤ u.toNat) : (Scalar.subi u 1#32).toNat = u.toNat - 1 := by
  show (u - 1#32).toNat = _
  rw [BitVec.toNat_sub]
  have := u.isLt
  simp only [BitVec.toNat_ofNat]
  omega

/-- A word of at most 320, read signed. -/
theorem word_small {n : ℕ} (h : n ≤ 320) (w : BitVec 32) (hw : w.toNat = n) : w.toInt = n := by
  rw [BitVec.toInt_eq_toNat_cond, if_pos (by omega), hw]

/-- The smaller of a small number and a word's predecessor. -/
theorem smaller (i : ℕ) (hi : i < 320) (u : BitVec 32) (h1 : 1 ≤ u.toNat) (h2 : u.toNat ≤ 320) :
    (Scalar.minsi (BitVec.ofNat 32 i) (Scalar.subi u 1#32)).toNat = min i (u.toNat - 1) := by
  have hb := minus_one h1
  have ha : (BitVec.ofNat 32 i).toNat = i := by rw [BitVec.toNat_ofNat]; exact Nat.mod_eq_of_lt (by omega)
  generalize Scalar.subi u 1#32 = b at hb ⊢
  have ia := word_small (by omega) _ ha
  have ib := word_small (by omega) _ hb
  generalize BitVec.ofNat 32 i = a at ha ia ⊢
  show (if a.slt b then a else b).toNat = _
  by_cases hlt : a.toInt < b.toInt
  · rw [if_pos (show a.slt b = true from decide_eq_true hlt)]; omega
  · rw [if_neg (show ¬a.slt b = true from fun h => hlt (of_decide_eq_true h))]; omega

variable [Facts] {F : FTy → Type} [FloatOps F]

theorem fits (a0 : IVec S384 32) (a1 : IVec S1 32) (a2 : FVec F S81920x2048 .f32) (a3 a4 : FVec F S4x64x2048x384 .bf16)
    (a5 : FVec F S4x64x384x2048 .bf16) (h : fn (F := F) a0 a1 a2 a3 a4 a5 = fun _ => 1#1) : Fits a0 a1 := by
  have h0 := congrFun h (ix1 (n0 := 1) 0)
  dsimp only [fn, shapeCast] at h0
  obtain ⟨h0, h3⟩ := bit_and h0
  obtain ⟨h0, h2⟩ := bit_and h0
  have hu : ∀ x, 1 ≤ (a1 x).toInt ∧ (a1 x).toInt ≤ 320 := fun x =>
    ⟨(congrArg (fun y => 1 ≤ (a1 y).toInt) (Subsingleton.elim _ x)).mp (of_sge h2),
      (congrArg (fun y => (a1 y).toInt ≤ 320) (Subsingleton.elim _ x)).mp (of_sle h3)⟩
  refine ⟨fun x => ?_, fun x => ?_, fun x => ?_⟩
  · obtain ⟨h5, h6⟩ := bit_and (Host.reduce_andi_all _ _ _ _ _ h0 x)
    have h5 : 0 ≤ (a0 x).toInt := of_sge h5
    have h6 : (a0 x).toInt < 64 := of_slt h6
    generalize a0 x = w at h5 h6 ⊢
    rw [BitVec.toInt_eq_toNat_cond] at h5 h6
    split at h5 <;> omega
  · have := hu x
    generalize a1 x = w at this ⊢
    rw [BitVec.toInt_eq_toNat_cond] at this
    split at this <;> omega
  · have := hu x
    generalize a1 x = w at this ⊢
    rw [BitVec.toInt_eq_toNat_cond] at this
    split at this <;> omega

end Cert.Pre_planned

end
-- ==== Proof.ExpBits.lean ====
module

public import proofs.«01_k».proof.Proof.Gen.Experts.Flash.Runs
public import proofs.«01_k».proof.Proof.Planned
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

/-! # The experts' call, at any admissible tables

The plan of the call is two tables: the expert of each tile and the number of tiles used. Everything here is stated at
arbitrary tables `a` for which the blocks lie inside their arrays. A used tile runs the expert; any other tile is filled
with zeros. Either way the whole output block is stored, and every point has an output block of its own. -/

namespace Cert.Experts.Plan

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The library's algebra of rounds, as the whole algebra of this proof. -/
abbrev rounds : Emb (UR sig nD τ) 𝕄 := emb₁

variable (a : (pcfg0 (F := Bits)).Adm)
variable (m : (ℓ : Loc nD τ sig) → Buf (Elt Bits) ℓ) (ρ : Dev nD → PrngReg)

/-! ## The two branches exclude each other -/

theorem branch_dead (i : grid0.Coords) (v : BitVec 32) (h : k0_cond1 i v = 1#1) : ¬k0_cond2 i v = 1#1 := by
  unfold k0_cond1 at h; unfold k0_cond2
  dsimp only at h ⊢
  generalize Scalar.cmpi .slt (BitVec.ofNat 32 (i 0).val) v = b at h ⊢
  revert b; decide

theorem branch_live (i : grid0.Coords) (v : BitVec 32) (h : ¬k0_cond1 i v = 1#1) : k0_cond2 i v = 1#1 := by
  unfold k0_cond1 at h; unfold k0_cond2
  dsimp only at h ⊢
  generalize Scalar.cmpi .slt (BitVec.ofNat 32 (i 0).val) v = b at h ⊢
  revert b; decide

theorem never_idle (i : grid0.Coords) (v : BitVec 32) : (!(k0_cond1 i v == 1#1) && !(k0_cond2 i v == 1#1)) = false := by
  by_cases h : k0_cond1 i v = 1#1
  · rw [h]; rfl
  · rw [branch_live i v h]; exact Bool.and_false _

/-! ## The pipeline at the tables -/

abbrev pipe : Pipeline.Cfg sig Λ₀ := cfg0 (F := Bits) a
abbrev pipes : Fin 1 → Pipeline.Cfg sig Λ₀ := Pipeline.pin (pcfgs (F := Bits)) fun _ => a

abbrev pt (t : Fin (pipe a).N) : (pipe a).grid.Coords := (pipe a).grid.coords t

abbrev rowsAt (t : Fin (pipe a).N) : Memref sig .tc .vmem S256x2048 .f32 := spec0_0.stage ((pipe a).slots t (0 : Fin 5))
abbrev rowsWhole (t : Fin (pipe a).N) : (rowsAt a t).IsWhole := hstage0_0 (((pipe a).slots t (0 : Fin 5)).cast nbuf0_0)
abbrev upAt (t : Fin (pipe a).N) : Memref sig .tc .vmem S1x1x2048x384 .bf16 := spec0_1.stage ((pipe a).slots t (1 : Fin 5))
abbrev upWhole (t : Fin (pipe a).N) : (upAt a t).IsWhole := hstage0_1 (((pipe a).slots t (1 : Fin 5)).cast nbuf0_1)
abbrev gateAt (t : Fin (pipe a).N) : Memref sig .tc .vmem S1x1x2048x384 .bf16 := spec0_2.stage ((pipe a).slots t (2 : Fin 5))
abbrev gateWhole (t : Fin (pipe a).N) : (gateAt a t).IsWhole := hstage0_2 (((pipe a).slots t (2 : Fin 5)).cast nbuf0_2)
abbrev downAt (t : Fin (pipe a).N) : Memref sig .tc .vmem S1x1x384x2048 .bf16 := spec0_3.stage ((pipe a).slots t (3 : Fin 5))
abbrev downWhole (t : Fin (pipe a).N) : (downAt a t).IsWhole := hstage0_3 (((pipe a).slots t (3 : Fin 5)).cast nbuf0_3)
abbrev outAt (t : Fin (pipe a).N) : Memref sig .tc .vmem S256x2048 .f32 := spec0_4.stage ((pipe a).slots t (4 : Fin 5))
abbrev outWhole (t : Fin (pipe a).N) : (outAt a t).IsWhole := hstage0_4 (((pipe a).slots t (4 : Fin 5)).cast nbuf0_4)

/-- Window `w`'s block at point `t`, in the launch memory. -/
def block (c : Dev nD) (w : Fin (pipe a).W) (t : Fin (pipe a).N) : (((pipe a).win w).xblock (pt a t)).Idx → Elt Bits ((pipe a).win w).elt :=
  (((pipe a).win w).blk t).view.read (Elt Bits) ((s₀ m ρ).mem (((pipe a).win w).arr.view.loc (c : Thread nD τ)))

/-- The number of tiles used, as the body reads it. -/
abbrev usedWord : BitVec 32 :=
  View.readAt (Elt Bits) (tbM0_1).view (Rect.unit (s := S1) ![0] S1.size inb_S1_S1_0).toLoadRect (a.1 1) (Shape.Idx.first (numel1_S1.symm ▸ Nat.one_pos))

/-- Point `t`'s tile is used. -/
abbrev Used (t : Fin (pipe a).N) : Prop := k0_cond1 (pt a t) (usedWord a) = 1#1

theorem busy (t : Fin (pipe a).N) : (pipe a).idle (4 : Fin 5) ((pipe a).grid.coords t) = false := never_idle _ _

theorem flushed_all : ∀ t : Fin grid0.N, Window.flushOf grid0 true cc0_transform_4 t = true := by decide +kernel

theorem flushed (t : Fin (pipe a).N) : ((pipe a).win (4 : Fin 5)).flush t = true := flushed_all t

theorem fresh_always (t : Fin (pipe a).N) : (pipe a).fresh (4 : Fin 5) t.val = true :=
  Pipeline.Cfg.fresh_tab (pipe a) (4 : Fin 5) (fun _ => true) rfl (fun t => by rw [flushed a t]; rfl) t.val (Nat.le_of_lt t.isLt)

/-! ## What the body leaves -/

/-- What the body leaves in the output's buffer at point `t`. -/
def left (c : Dev nD) (t : Fin (pipe a).N) : S256x2048.Idx → Elt Bits .f32 :=
  if h : Used a t then
    out0_A_4 c (pt a t) (rowsAt a t) (rowsWhole a t) (upAt a t) (upWhole a t) (gateAt a t) (gateWhole a t) (downAt a t) (downWhole a t)
      (outAt a t) (outWhole a t) (a.1 0) (a.1 1) (block a m ρ c (0 : Fin 5) t) (block a m ρ c (1 : Fin 5) t) (block a m ρ c (2 : Fin 5) t)
      (block a m ρ c (3 : Fin 5) t) h (branch_dead _ _ h)
  else
    out0_B_4 c (pt a t) (rowsAt a t) (rowsWhole a t) (upAt a t) (upWhole a t) (gateAt a t) (gateWhole a t) (downAt a t) (downWhole a t)
      (outAt a t) (outWhole a t) (a.1 0) (a.1 1) (block a m ρ c (0 : Fin 5) t) (block a m ρ c (1 : Fin 5) t) (block a m ρ c (2 : Fin 5) t)
      (block a m ρ c (3 : Fin 5) t) h (branch_live _ _ h)

/-- The body's halves of the two tables, held throughout. -/
def tables (c : Dev nD) : sProp 𝕄 :=
  iprop((tbM0_0.view.loc (c : Thread nD τ) ↦{fullShare.right} a.1 0) ∗ (tbM0_1.view.loc (c : Thread nD τ) ↦{fullShare.right} a.1 1))

def data (_ : Fin 1) (c : Dev nD) : Dat τ (Elt Bits) Unit ℕ (UR sig nD τ) ℕ (pipe a) c where
  A w := (s₀ m ρ).mem (((pipe a).win w).arr.view.loc (c : Thread nD τ))
  after w t := match w with
    | ⟨0, _⟩ => block a m ρ c (0 : Fin 5) t
    | ⟨1, _⟩ => block a m ρ c (1 : Fin 5) t
    | ⟨2, _⟩ => block a m ρ c (2 : Fin 5) t
    | ⟨3, _⟩ => block a m ρ c (3 : Fin 5) t
    | ⟨4, _⟩ => left a m ρ c t
  Φ _ := tables a c
  q _ := fullShare
  owed _ := 0

theorem after_0 (c : Dev nD) (t : Fin (pipe a).N) : (data a m ρ 0 c).after (0 : Fin 5) t = block a m ρ c (0 : Fin 5) t := rfl
theorem after_1 (c : Dev nD) (t : Fin (pipe a).N) : (data a m ρ 0 c).after (1 : Fin 5) t = block a m ρ c (1 : Fin 5) t := rfl
theorem after_2 (c : Dev nD) (t : Fin (pipe a).N) : (data a m ρ 0 c).after (2 : Fin 5) t = block a m ρ c (2 : Fin 5) t := rfl
theorem after_3 (c : Dev nD) (t : Fin (pipe a).N) : (data a m ρ 0 c).after (3 : Fin 5) t = block a m ρ c (3 : Fin 5) t := rfl
theorem after_4 (c : Dev nD) (t : Fin (pipe a).N) : (data a m ρ 0 c).after (4 : Fin 5) t = left a m ρ c t := rfl

theorem before_0 (c : Dev nD) (t : Fin (pipe a).N) (d) : (data a m ρ 0 c).before (0 : Fin 5) t d = block a m ρ c (0 : Fin 5) t :=
  ((data a m ρ 0 c).before_in_eq_fetched (0 : Fin 5) rfl (fun _ => rfl) (fun _ _ _ => rfl)
    (fun t => by rw [after_0]; unfold Dat.blockOf block; rfl) t d).trans (by unfold Dat.fetched Dat.blockOf block; rfl)
theorem before_1 (c : Dev nD) (t : Fin (pipe a).N) (d) : (data a m ρ 0 c).before (1 : Fin 5) t d = block a m ρ c (1 : Fin 5) t :=
  ((data a m ρ 0 c).before_in_eq_fetched (1 : Fin 5) rfl (fun _ => rfl) (fun _ _ _ => rfl)
    (fun t => by rw [after_1]; unfold Dat.blockOf block; rfl) t d).trans (by unfold Dat.fetched Dat.blockOf block; rfl)
theorem before_2 (c : Dev nD) (t : Fin (pipe a).N) (d) : (data a m ρ 0 c).before (2 : Fin 5) t d = block a m ρ c (2 : Fin 5) t :=
  ((data a m ρ 0 c).before_in_eq_fetched (2 : Fin 5) rfl (fun _ => rfl) (fun _ _ _ => rfl)
    (fun t => by rw [after_2]; unfold Dat.blockOf block; rfl) t d).trans (by unfold Dat.fetched Dat.blockOf block; rfl)
theorem before_3 (c : Dev nD) (t : Fin (pipe a).N) (d) : (data a m ρ 0 c).before (3 : Fin 5) t d = block a m ρ c (3 : Fin 5) t :=
  ((data a m ρ 0 c).before_in_eq_fetched (3 : Fin 5) rfl (fun _ => rfl) (fun _ _ _ => rfl)
    (fun t => by rw [after_3]; unfold Dat.blockOf block; rfl) t d).trans (by unfold Dat.fetched Dat.blockOf block; rfl)

/-- The output's buffer is not carried from one point to the next. -/
theorem before_4 (c : Dev nD) (t : Fin (pipe a).N) (d) : (data a m ρ 0 c).before (4 : Fin 5) t d = d := by
  rw [(data a m ρ 0 c).before_out_traj (4 : Fin 5) rfl (fun _ _ => rfl)
    (fun t _ hi _ => absurd (hi.symm.trans (busy a t)) (by decide)) t.val t rfl d, if_pos (fresh_always a t)]

/-! ## The body at a point -/

abbrev bodyAt (t : Fin (pipe a).N) : Prog (TpuEff nD τ sig (Elt Bits) Λ₀ .tc) PUnit :=
  cc0_moe_experts (pt a t) (Memref.whole main_arg0) (Memref.isWhole_whole _) (Memref.whole main_arg1) (Memref.isWhole_whole _)
    (rowsAt a t) (rowsWhole a t) (upAt a t) (upWhole a t) (gateAt a t) (gateWhole a t) (downAt a t) (downWhole a t) (outAt a t) (outWhole a t)

set_option maxHeartbeats 4000000 in
theorem body_point (c : Dev nD) (t : Fin (pipe a).N) :
    iprop((data a m ρ 0 c).Φ t.castSucc ∗ (data a m ρ 0 c).owesAt () t.castSucc
        ∗ (∃ d, owns (c : Thread nD τ) (rowsAt a t) fullShare ((data a m ρ 0 c).before (0 : Fin 5) t d))
        ∗ (∃ d, owns (c : Thread nD τ) (upAt a t) fullShare ((data a m ρ 0 c).before (1 : Fin 5) t d))
        ∗ (∃ d, owns (c : Thread nD τ) (gateAt a t) fullShare ((data a m ρ 0 c).before (2 : Fin 5) t d))
        ∗ (∃ d, owns (c : Thread nD τ) (downAt a t) fullShare ((data a m ρ 0 c).before (3 : Fin 5) t d))
        ∗ (∃ d, owns (c : Thread nD τ) (outAt a t) fullShare ((data a m ρ 0 c).before (4 : Fin 5) t d)))
      ⊢ wp frame (wpE (defs₀ (F := Bits)) Variants.none c none) Set.univ (bodyAt a t) fun _ =>
          iprop((data a m ρ 0 c).Φ t.succ ∗ (data a m ρ 0 c).owesAt () t.succ
            ∗ bigSep Finset.univ fun w : Fin (pipe a).W =>
                match (pipe a).idle w ((pipe a).grid.coords t) with
                | true =>
                  match ((pipe a).win w).flush t with
                  | false => iprop(∃ d, owns (c : Thread nD τ) (((pipe a).win w).stage ((pipe a).slots t w)) fullShare ((data a m ρ 0 c).before w t d))
                  | true => owns (c : Thread nD τ) (((pipe a).win w).stage ((pipe a).slots t w)) fullShare ((data a m ρ 0 c).after w t)
                | false => owns (c : Thread nD τ) (((pipe a).win w).stage ((pipe a).slots t w)) fullShare ((data a m ρ 0 c).after w t)) := by
  rw [bigSep_W0]
  rewrite [busy a t]
  simp only [before_0, before_1, before_2, before_3, before_4, after_0, after_1, after_2, after_3, after_4]
  rewrite [show (data a m ρ 0 c).Φ t.succ = tables a c from rfl, show (data a m ρ 0 c).Φ t.castSucc = tables a c from rfl,
    show (data a m ρ 0 c).owesAt () t.succ = (data a m ρ 0 c).owesAt () t.castSucc from rfl]
  unfold tables left
  by_cases h : Used a t
  · simp only [dif_pos h]
    iintro ⟨⟨HT0, HT1⟩, Ho, ⟨%d0, H0⟩, ⟨%d1, H1⟩, ⟨%d2, H2⟩, ⟨%d3, H3⟩, ⟨%d4, H4⟩⟩
    iapply ((kernelRun0_A c (pt a t) (rowsAt a t) (rowsWhole a t) (upAt a t) (upWhole a t) (gateAt a t) (gateWhole a t) (downAt a t) (downWhole a t)
      (outAt a t) (outWhole a t) (a.1 0) (a.1 1) (block a m ρ c (0 : Fin 5) t) (block a m ρ c (1 : Fin 5) t) (block a m ρ c (2 : Fin 5) t)
      (block a m ρ c (3 : Fin 5) t) h (branch_dead _ _ h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)
  · simp only [dif_neg h]
    iintro ⟨⟨HT0, HT1⟩, Ho, ⟨%d0, H0⟩, ⟨%d1, H1⟩, ⟨%d2, H2⟩, ⟨%d3, H3⟩, ⟨%d4, H4⟩⟩
    iapply ((kernelRun0_B c (pt a t) (rowsAt a t) (rowsWhole a t) (upAt a t) (upWhole a t) (gateAt a t) (gateWhole a t) (downAt a t) (downWhole a t)
      (outAt a t) (outWhole a t) (a.1 0) (a.1 1) (block a m ρ c (0 : Fin 5) t) (block a m ρ c (1 : Fin 5) t) (block a m ρ c (2 : Fin 5) t)
      (block a m ρ c (3 : Fin 5) t) h (branch_live _ _ h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_B_4 c _ _ _ _ _ _ _ _ _ _ _ _ _ _ _ _ _ _ _)

theorem body_ok (c : Dev nD) : BodyObligation (data a m ρ 0 c) (defs₀ (F := Bits)) Variants.none () Set.univ := fun t => by
  rw [bigSep_W0]
  exact body_point a m ρ c t

/-! ## The launch -/

def launchElt : UR sig nD τ :=
  initOf (Pipeline.cells (pipes a) ((launch0 (F := Bits)).cellOf_inj fun _ => a))
    (Pipeline.launchToks (pipes a) ((launch0 (F := Bits)).cellOf_inj fun _ => a))

theorem share_full (c : Dev nD) (w : Fin (pipe a).W) : (data a m ρ 0 c).share w = fullShare := by unfold Dat.share; split <;> rfl

theorem tables_held (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) :
    iprop(BI.emp ∗ Pipeline.prefHeld pre0 c (fun _ => fullShare.right) a.1 ∗ Pipeline.scopedRest spec0 c) ⊢ (data a m ρ 0 c).Φ 0 := by
  rw [tables_held, scopedRest0_eq, show (data a m ρ 0 c).Φ 0 = tables a c from rfl]
  unfold tables
  iintro ⟨-, ⟨HT0, HT1⟩, -⟩
  isplitl [HT0]
  · iexact HT0
  iexact HT1

theorem leave (c : Dev nD) : (data a m ρ 0 c).Φ (Fin.last (pipe a).N) ⊢ iprop(BI.emp ∗ Pipeline.scopedRest spec0 c) := by
  rw [scopedRest0_eq, show (data a m ρ 0 c).Φ (Fin.last (pipe a).N) = tables a c from rfl]
  unfold tables
  iintro ⟨-, -⟩
  isplitr; · iempintro
  iempintro

/-- The final memory: each window's array as the pipeline leaves it, each table as it was. -/
def Ends : PUnit × MemSt nD τ sig (Elt Bits) → Prop := fun r =>
  ∀ c : Dev nD, (∀ w : Fin (pipe a).W, r.2.mem (((pipe a).win w).arr.view.loc (c : Thread nD τ)) = (data a m ρ 0 c).arrAt w (pipe a).N)
    ∧ ∀ j, r.2.mem ((c : Thread nD τ).loc (pre0.ref j)) = a.1 j

/-- The tables in memory are `a`. -/
def At : Prop := ∀ (c : Dev nD) (j : Fin 2), m ((c : Thread nD τ).loc (pre0.ref j)) = a.1 j

set_option backward.isDefEq.respectTransparency.types false in
set_option maxHeartbeats 4000000 in
theorem run_quiet (hp : At a m) : θ_run (defs (F := Bits)) (onTc (τ := τ) (main (F := Bits))) (s₀ m ρ) (fun r => Ends a m ρ r ∧ r.2.sem = fun _ => 0) :=
  Pipeline.θ_run_region_noSem_pf_quiescent pcfgs (fun _ => a) (data a m ρ) () ((launch0 (F := Bits)).cellOf_inj fun _ => a) (0 : Fin 1)
    (launch0 (F := Bits)).win.to₀ (launch0 (F := Bits)).pre rounds defs₀ Variants.none m ρ main
    (hbody := fun c => (body_ok a m ρ c).loose) (hne := (launch0 (F := Bits)).block_pos)
    (harr := (launch0 (F := Bits)).arr_whole) (hstage := (launch0 (F := Bits)).stage_whole) (howed := fun _ _ => rfl)
    (u₀ := launchElt a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pipes a) (data a m ρ) 0 (launch0 (F := Bits)).win.arr_inj c (launch0 (F := Bits)).arr_whole
      (share_full a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := enter a m ρ)
    (hout := leave a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The call runs; the result array is what the pipeline leaves; the arguments end unchanged; no counter is left raised. -/
theorem run_result (hp : At a m) :
    θ_run (defs (F := Bits)) (onTc (τ := τ) (main (F := Bits))) ⟨m, fun _ => 0, ρ⟩ (fun r => (∀ c : Dev nD,
      r.2.mem ((c.tc : Thread nD τ).loc main_v0) = (data a m ρ 0 c).arrAt (4 : Fin 5) (pipe a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).2 0).trans (hp c 0).symm, ((h.1 c).2 1).trans (hp c 1).symm,
    ((h.1 c).1 (0 : Fin 5)).trans ((data a m ρ 0 c).arrAt_in (0 : Fin 5) rfl _), ((h.1 c).1 (1 : Fin 5)).trans ((data a m ρ 0 c).arrAt_in (1 : Fin 5) rfl _),
    ((h.1 c).1 (2 : Fin 5)).trans ((data a m ρ 0 c).arrAt_in (2 : Fin 5) rfl _), ((h.1 c).1 (3 : Fin 5)).trans ((data a m ρ 0 c).arrAt_in (3 : Fin 5) rfl _)⟩, h.2⟩)
    (run_quiet a m ρ hp)

/-! ## The tables a plan may hold -/

open Cert.Pre_planned (Fits minus_one word_small smaller)

/-- The row block that a point reads: its own, or the last used one. -/
theorem index_rows (pf : pre0.Contents (Elt Bits)) (h : Fits (pf 0) (pf 1)) (i : grid0.Coords) :
    cc0_transform_0 inb_S1_S1_0 numel1_S1 pf i = ![min (i 0).val ((pf 1 (ix1 (n0 := 1) 0)).toNat - 1), 0] := by
  have hx : ∀ x : S1.Idx, pf 1 x = pf 1 (ix1 (n0 := 1) 0) := fun x => congrArg (pf 1) (Subsingleton.elim (α := Cert.Pre_planned.S1.Idx) x _)
  have h1 := h.some (ix1 (n0 := 1) 0)
  have h2 := h.most (ix1 (n0 := 1) 0)
  unfold cc0_transform_0
  funext d
  match d with
  | ⟨0, _⟩ =>
    show (Scalar.minsi (BitVec.ofNat 32 (i 0).val) (Scalar.subi (pf 1 _) 1#32)).toNat = min _ _
    exact (congrArg (fun u => (Scalar.minsi (BitVec.ofNat 32 (i 0).val) (Scalar.subi u 1#32)).toNat) (hx _)).trans (smaller _ (i 0).isLt _ h1 h2)
  | ⟨1, _⟩ => rfl

/-- The expert whose weights a point reads. -/
theorem index_expert (pf : pre0.Contents (Elt Bits)) (i : grid0.Coords) :
    cc0_transform_1 k0_off1_inb numel1_S1 pf i = ![0, (pf 0 (ix1 (n0 := 384) ⟨(i 0).val, lt_of_lt_of_le (i 0).isLt (by decide)⟩)).toNat, 0, 0] := by
  unfold cc0_transform_1
  funext d
  match d with
  | ⟨0, _⟩ => rfl
  | ⟨2, _⟩ => rfl
  | ⟨3, _⟩ => rfl
  | ⟨1, _⟩ =>
    show (pf 0 _).toNat = (pf 0 _).toNat
    congr 2
    funext d
    match d with
    | ⟨0, _⟩ =>
      apply Fin.ext
      show (BitVec.ofNat 32 (i 0).val).toNat + 0 = (i 0).val
      rw [BitVec.toNat_ofNat]
      exact Nat.mod_eq_of_lt (lt_of_lt_of_le (i 0).isLt (by decide))

/-- A plan's tables keep every block inside its array. -/
theorem admits (pf : pre0.Contents (Elt Bits)) (h : Fits (pf 0) (pf 1)) : ok0 (F := Bits) pf := by
  have h1 := h.some (ix1 (n0 := 1) 0)
  have h2 := h.most (ix1 (n0 := 1) 0)
  refine ⟨fun i => ⟨fun d => ?_, .inl rfl⟩,
    fun i => ⟨fun d => ?_, .inr (Affine.block_words_dvd (s := S4x64x2048x384) (p := EltTy.packing .bf16) (by decide) (by decide))⟩,
    fun i => ⟨fun d => ?_, .inr (Affine.block_words_dvd (s := S4x64x2048x384) (p := EltTy.packing .bf16) (by decide) (by decide))⟩,
    fun i => ⟨fun d => ?_, .inr (Affine.block_words_dvd (s := S4x64x384x2048) (p := EltTy.packing .bf16) (by decide) (by decide))⟩⟩
  · rw [index_rows pf h]
    match d with
    | ⟨0, _⟩ => show (min _ _ + 1) * 256 ≤ 81920; omega
    | ⟨1, _⟩ => show (0 + 1) * 2048 ≤ 2048; omega
  · have he := h.expert (ix1 (n0 := 384) ⟨(i 0).val, lt_of_lt_of_le (i 0).isLt (by decide)⟩)
    rw [index_expert pf]
    match d with
    | ⟨0, _⟩ => show (0 + 1) * 1 ≤ 4; omega
    | ⟨1, _⟩ => show ((pf 0 (ix1 (n0 := 384) ⟨(i 0).val, _⟩)).toNat + 1) * 1 ≤ 64; omega
    | ⟨2, _⟩ => show (0 + 1) * 2048 ≤ 2048; omega
    | ⟨3, _⟩ => show (0 + 1) * 384 ≤ 384; omega
  · have he := h.expert (ix1 (n0 := 384) ⟨(i 0).val, lt_of_lt_of_le (i 0).isLt (by decide)⟩)
    rw [show cc0_transform_2 k0_off1_inb numel1_S1 pf i = _ from index_expert pf i]
    match d with
    | ⟨0, _⟩ => show (0 + 1) * 1 ≤ 4; omega
    | ⟨1, _⟩ => show ((pf 0 (ix1 (n0 := 384) ⟨(i 0).val, _⟩)).toNat + 1) * 1 ≤ 64; omega
    | ⟨2, _⟩ => show (0 + 1) * 2048 ≤ 2048; omega
    | ⟨3, _⟩ => show (0 + 1) * 384 ≤ 384; omega
  · have he := h.expert (ix1 (n0 := 384) ⟨(i 0).val, lt_of_lt_of_le (i 0).isLt (by decide)⟩)
    rw [show cc0_transform_3 k0_off1_inb numel1_S1 pf i = _ from index_expert pf i]
    match d with
    | ⟨0, _⟩ => show (0 + 1) * 1 ≤ 4; omega
    | ⟨1, _⟩ => show ((pf 0 (ix1 (n0 := 384) ⟨(i 0).val, _⟩)).toNat + 1) * 1 ≤ 64; omega
    | ⟨2, _⟩ => show (0 + 1) * 384 ≤ 384; omega
    | ⟨3, _⟩ => show (0 + 1) * 2048 ≤ 2048; omega

/-- The tables in memory. -/
def held (c : Dev nD) : pre0.Contents (Elt Bits) := fun j => m ((c : Thread nD τ).loc (pre0.ref j))

theorem held_fits (c : Dev nD) (h : Fits (m ((c : Thread nD τ).loc main_arg0)) (m ((c : Thread nD τ).loc main_arg1))) :
    Fits (held m c 0) (held m c 1) := h

/-- There is one device, so the tables on it are the tables everywhere. -/
theorem held_at (c : Dev nD) (h : ok0 (F := Bits) (held m c)) : At ⟨held m c, h⟩ m := fun c' j => by
  rw [show c' = c from Subsingleton.elim (α := Fin 1) c' c]
  rfl

end Cert.Experts.Plan

end
-- ==== Proof.ExpRun.lean ====
module

public import proofs.«01_k».proof.Proof.Gen.ExpertsIdeal.Flash.Runs
public import proofs.«01_k».proof.Proof.Planned
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

/-! # The experts' call, at any admissible tables

The plan of the call is two tables: the expert of each tile and the number of tiles used. Everything here is stated at
arbitrary tables `a` for which the blocks lie inside their arrays. A used tile runs the expert; any other tile is filled
with zeros. Either way the whole output block is stored, and every point has an output block of its own. -/

namespace Cert.ExpertsIdeal.Plan

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The library's algebra of rounds, as the whole algebra of this proof. -/
abbrev rounds : Emb (UR sig nD τ) 𝕄 := emb₁

variable (a : (pcfg0 (F := Ideal)).Adm)
variable (m : (ℓ : Loc nD τ sig) → Buf (Elt Ideal) ℓ) (ρ : Dev nD → PrngReg)

/-! ## The two branches exclude each other -/

theorem branch_dead (i : grid0.Coords) (v : BitVec 32) (h : k0_cond1 i v = 1#1) : ¬k0_cond2 i v = 1#1 := by
  unfold k0_cond1 at h; unfold k0_cond2
  dsimp only at h ⊢
  generalize Scalar.cmpi .slt (BitVec.ofNat 32 (i 0).val) v = b at h ⊢
  revert b; decide

theorem branch_live (i : grid0.Coords) (v : BitVec 32) (h : ¬k0_cond1 i v = 1#1) : k0_cond2 i v = 1#1 := by
  unfold k0_cond1 at h; unfold k0_cond2
  dsimp only at h ⊢
  generalize Scalar.cmpi .slt (BitVec.ofNat 32 (i 0).val) v = b at h ⊢
  revert b; decide

theorem never_idle (i : grid0.Coords) (v : BitVec 32) : (!(k0_cond1 i v == 1#1) && !(k0_cond2 i v == 1#1)) = false := by
  by_cases h : k0_cond1 i v = 1#1
  · rw [h]; rfl
  · rw [branch_live i v h]; exact Bool.and_false _

/-! ## The pipeline at the tables -/

abbrev pipe : Pipeline.Cfg sig Λ₀ := cfg0 (F := Ideal) a
abbrev pipes : Fin 1 → Pipeline.Cfg sig Λ₀ := Pipeline.pin (pcfgs (F := Ideal)) fun _ => a

abbrev pt (t : Fin (pipe a).N) : (pipe a).grid.Coords := (pipe a).grid.coords t

abbrev rowsAt (t : Fin (pipe a).N) : Memref sig .tc .vmem S256x2048 .f32 := spec0_0.stage ((pipe a).slots t (0 : Fin 5))
abbrev rowsWhole (t : Fin (pipe a).N) : (rowsAt a t).IsWhole := hstage0_0 (((pipe a).slots t (0 : Fin 5)).cast nbuf0_0)
abbrev upAt (t : Fin (pipe a).N) : Memref sig .tc .vmem S1x1x2048x384 .bf16 := spec0_1.stage ((pipe a).slots t (1 : Fin 5))
abbrev upWhole (t : Fin (pipe a).N) : (upAt a t).IsWhole := hstage0_1 (((pipe a).slots t (1 : Fin 5)).cast nbuf0_1)
abbrev gateAt (t : Fin (pipe a).N) : Memref sig .tc .vmem S1x1x2048x384 .bf16 := spec0_2.stage ((pipe a).slots t (2 : Fin 5))
abbrev gateWhole (t : Fin (pipe a).N) : (gateAt a t).IsWhole := hstage0_2 (((pipe a).slots t (2 : Fin 5)).cast nbuf0_2)
abbrev downAt (t : Fin (pipe a).N) : Memref sig .tc .vmem S1x1x384x2048 .bf16 := spec0_3.stage ((pipe a).slots t (3 : Fin 5))
abbrev downWhole (t : Fin (pipe a).N) : (downAt a t).IsWhole := hstage0_3 (((pipe a).slots t (3 : Fin 5)).cast nbuf0_3)
abbrev outAt (t : Fin (pipe a).N) : Memref sig .tc .vmem S256x2048 .f32 := spec0_4.stage ((pipe a).slots t (4 : Fin 5))
abbrev outWhole (t : Fin (pipe a).N) : (outAt a t).IsWhole := hstage0_4 (((pipe a).slots t (4 : Fin 5)).cast nbuf0_4)

/-- Window `w`'s block at point `t`, in the launch memory. -/
def block (c : Dev nD) (w : Fin (pipe a).W) (t : Fin (pipe a).N) : (((pipe a).win w).xblock (pt a t)).Idx → Elt Ideal ((pipe a).win w).elt :=
  (((pipe a).win w).blk t).view.read (Elt Ideal) ((s₀ m ρ).mem (((pipe a).win w).arr.view.loc (c : Thread nD τ)))

/-- The number of tiles used, as the body reads it. -/
abbrev usedWord : BitVec 32 :=
  View.readAt (Elt Ideal) (tbM0_1).view (Rect.unit (s := S1) ![0] S1.size inb_S1_S1_0).toLoadRect (a.1 1) (Shape.Idx.first (numel1_S1.symm ▸ Nat.one_pos))

/-- Point `t`'s tile is used. -/
abbrev Used (t : Fin (pipe a).N) : Prop := k0_cond1 (pt a t) (usedWord a) = 1#1

theorem busy (t : Fin (pipe a).N) : (pipe a).idle (4 : Fin 5) ((pipe a).grid.coords t) = false := never_idle _ _

theorem flushed_all : ∀ t : Fin grid0.N, Window.flushOf grid0 true cc0_transform_4 t = true := by decide +kernel

theorem flushed (t : Fin (pipe a).N) : ((pipe a).win (4 : Fin 5)).flush t = true := flushed_all t

theorem fresh_always (t : Fin (pipe a).N) : (pipe a).fresh (4 : Fin 5) t.val = true :=
  Pipeline.Cfg.fresh_tab (pipe a) (4 : Fin 5) (fun _ => true) rfl (fun t => by rw [flushed a t]; rfl) t.val (Nat.le_of_lt t.isLt)

/-! ## What the body leaves -/

/-- What the body leaves in the output's buffer at point `t`. -/
def left (c : Dev nD) (t : Fin (pipe a).N) : S256x2048.Idx → Elt Ideal .f32 :=
  if h : Used a t then
    out0_A_4 c (pt a t) (rowsAt a t) (rowsWhole a t) (upAt a t) (upWhole a t) (gateAt a t) (gateWhole a t) (downAt a t) (downWhole a t)
      (outAt a t) (outWhole a t) (a.1 0) (a.1 1) (block a m ρ c (0 : Fin 5) t) (block a m ρ c (1 : Fin 5) t) (block a m ρ c (2 : Fin 5) t)
      (block a m ρ c (3 : Fin 5) t) h (branch_dead _ _ h)
  else
    out0_B_4 c (pt a t) (rowsAt a t) (rowsWhole a t) (upAt a t) (upWhole a t) (gateAt a t) (gateWhole a t) (downAt a t) (downWhole a t)
      (outAt a t) (outWhole a t) (a.1 0) (a.1 1) (block a m ρ c (0 : Fin 5) t) (block a m ρ c (1 : Fin 5) t) (block a m ρ c (2 : Fin 5) t)
      (block a m ρ c (3 : Fin 5) t) h (branch_live _ _ h)

/-- The body's halves of the two tables, held throughout. -/
def tables (c : Dev nD) : sProp 𝕄 :=
  iprop((tbM0_0.view.loc (c : Thread nD τ) ↦{fullShare.right} a.1 0) ∗ (tbM0_1.view.loc (c : Thread nD τ) ↦{fullShare.right} a.1 1))

def data (_ : Fin 1) (c : Dev nD) : Dat τ (Elt Ideal) Unit ℕ (UR sig nD τ) ℕ (pipe a) c where
  A w := (s₀ m ρ).mem (((pipe a).win w).arr.view.loc (c : Thread nD τ))
  after w t := match w with
    | ⟨0, _⟩ => block a m ρ c (0 : Fin 5) t
    | ⟨1, _⟩ => block a m ρ c (1 : Fin 5) t
    | ⟨2, _⟩ => block a m ρ c (2 : Fin 5) t
    | ⟨3, _⟩ => block a m ρ c (3 : Fin 5) t
    | ⟨4, _⟩ => left a m ρ c t
  Φ _ := tables a c
  q _ := fullShare
  owed _ := 0

theorem after_0 (c : Dev nD) (t : Fin (pipe a).N) : (data a m ρ 0 c).after (0 : Fin 5) t = block a m ρ c (0 : Fin 5) t := rfl
theorem after_1 (c : Dev nD) (t : Fin (pipe a).N) : (data a m ρ 0 c).after (1 : Fin 5) t = block a m ρ c (1 : Fin 5) t := rfl
theorem after_2 (c : Dev nD) (t : Fin (pipe a).N) : (data a m ρ 0 c).after (2 : Fin 5) t = block a m ρ c (2 : Fin 5) t := rfl
theorem after_3 (c : Dev nD) (t : Fin (pipe a).N) : (data a m ρ 0 c).after (3 : Fin 5) t = block a m ρ c (3 : Fin 5) t := rfl
theorem after_4 (c : Dev nD) (t : Fin (pipe a).N) : (data a m ρ 0 c).after (4 : Fin 5) t = left a m ρ c t := rfl

theorem before_0 (c : Dev nD) (t : Fin (pipe a).N) (d) : (data a m ρ 0 c).before (0 : Fin 5) t d = block a m ρ c (0 : Fin 5) t :=
  ((data a m ρ 0 c).before_in_eq_fetched (0 : Fin 5) rfl (fun _ => rfl) (fun _ _ _ => rfl)
    (fun t => by rw [after_0]; unfold Dat.blockOf block; rfl) t d).trans (by unfold Dat.fetched Dat.blockOf block; rfl)
theorem before_1 (c : Dev nD) (t : Fin (pipe a).N) (d) : (data a m ρ 0 c).before (1 : Fin 5) t d = block a m ρ c (1 : Fin 5) t :=
  ((data a m ρ 0 c).before_in_eq_fetched (1 : Fin 5) rfl (fun _ => rfl) (fun _ _ _ => rfl)
    (fun t => by rw [after_1]; unfold Dat.blockOf block; rfl) t d).trans (by unfold Dat.fetched Dat.blockOf block; rfl)
theorem before_2 (c : Dev nD) (t : Fin (pipe a).N) (d) : (data a m ρ 0 c).before (2 : Fin 5) t d = block a m ρ c (2 : Fin 5) t :=
  ((data a m ρ 0 c).before_in_eq_fetched (2 : Fin 5) rfl (fun _ => rfl) (fun _ _ _ => rfl)
    (fun t => by rw [after_2]; unfold Dat.blockOf block; rfl) t d).trans (by unfold Dat.fetched Dat.blockOf block; rfl)
theorem before_3 (c : Dev nD) (t : Fin (pipe a).N) (d) : (data a m ρ 0 c).before (3 : Fin 5) t d = block a m ρ c (3 : Fin 5) t :=
  ((data a m ρ 0 c).before_in_eq_fetched (3 : Fin 5) rfl (fun _ => rfl) (fun _ _ _ => rfl)
    (fun t => by rw [after_3]; unfold Dat.blockOf block; rfl) t d).trans (by unfold Dat.fetched Dat.blockOf block; rfl)

/-- The output's buffer is not carried from one point to the next. -/
theorem before_4 (c : Dev nD) (t : Fin (pipe a).N) (d) : (data a m ρ 0 c).before (4 : Fin 5) t d = d := by
  rw [(data a m ρ 0 c).before_out_traj (4 : Fin 5) rfl (fun _ _ => rfl)
    (fun t _ hi _ => absurd (hi.symm.trans (busy a t)) (by decide)) t.val t rfl d, if_pos (fresh_always a t)]

/-! ## The body at a point -/

abbrev bodyAt (t : Fin (pipe a).N) : Prog (TpuEff nD τ sig (Elt Ideal) Λ₀ .tc) PUnit :=
  cc0_moe_experts (pt a t) (Memref.whole main_arg0) (Memref.isWhole_whole _) (Memref.whole main_arg1) (Memref.isWhole_whole _)
    (rowsAt a t) (rowsWhole a t) (upAt a t) (upWhole a t) (gateAt a t) (gateWhole a t) (downAt a t) (downWhole a t) (outAt a t) (outWhole a t)

set_option maxHeartbeats 4000000 in
theorem body_point (c : Dev nD) (t : Fin (pipe a).N) :
    iprop((data a m ρ 0 c).Φ t.castSucc ∗ (data a m ρ 0 c).owesAt () t.castSucc
        ∗ (∃ d, owns (c : Thread nD τ) (rowsAt a t) fullShare ((data a m ρ 0 c).before (0 : Fin 5) t d))
        ∗ (∃ d, owns (c : Thread nD τ) (upAt a t) fullShare ((data a m ρ 0 c).before (1 : Fin 5) t d))
        ∗ (∃ d, owns (c : Thread nD τ) (gateAt a t) fullShare ((data a m ρ 0 c).before (2 : Fin 5) t d))
        ∗ (∃ d, owns (c : Thread nD τ) (downAt a t) fullShare ((data a m ρ 0 c).before (3 : Fin 5) t d))
        ∗ (∃ d, owns (c : Thread nD τ) (outAt a t) fullShare ((data a m ρ 0 c).before (4 : Fin 5) t d)))
      ⊢ wp frame (wpE (defs₀ (F := Ideal)) Variants.none c none) Set.univ (bodyAt a t) fun _ =>
          iprop((data a m ρ 0 c).Φ t.succ ∗ (data a m ρ 0 c).owesAt () t.succ
            ∗ bigSep Finset.univ fun w : Fin (pipe a).W =>
                match (pipe a).idle w ((pipe a).grid.coords t) with
                | true =>
                  match ((pipe a).win w).flush t with
                  | false => iprop(∃ d, owns (c : Thread nD τ) (((pipe a).win w).stage ((pipe a).slots t w)) fullShare ((data a m ρ 0 c).before w t d))
                  | true => owns (c : Thread nD τ) (((pipe a).win w).stage ((pipe a).slots t w)) fullShare ((data a m ρ 0 c).after w t)
                | false => owns (c : Thread nD τ) (((pipe a).win w).stage ((pipe a).slots t w)) fullShare ((data a m ρ 0 c).after w t)) := by
  rw [bigSep_W0]
  rewrite [busy a t]
  simp only [before_0, before_1, before_2, before_3, before_4, after_0, after_1, after_2, after_3, after_4]
  rewrite [show (data a m ρ 0 c).Φ t.succ = tables a c from rfl, show (data a m ρ 0 c).Φ t.castSucc = tables a c from rfl,
    show (data a m ρ 0 c).owesAt () t.succ = (data a m ρ 0 c).owesAt () t.castSucc from rfl]
  unfold tables left
  by_cases h : Used a t
  · simp only [dif_pos h]
    iintro ⟨⟨HT0, HT1⟩, Ho, ⟨%d0, H0⟩, ⟨%d1, H1⟩, ⟨%d2, H2⟩, ⟨%d3, H3⟩, ⟨%d4, H4⟩⟩
    iapply ((kernelRun0_A c (pt a t) (rowsAt a t) (rowsWhole a t) (upAt a t) (upWhole a t) (gateAt a t) (gateWhole a t) (downAt a t) (downWhole a t)
      (outAt a t) (outWhole a t) (a.1 0) (a.1 1) (block a m ρ c (0 : Fin 5) t) (block a m ρ c (1 : Fin 5) t) (block a m ρ c (2 : Fin 5) t)
      (block a m ρ c (3 : Fin 5) t) h (branch_dead _ _ h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)
  · simp only [dif_neg h]
    iintro ⟨⟨HT0, HT1⟩, Ho, ⟨%d0, H0⟩, ⟨%d1, H1⟩, ⟨%d2, H2⟩, ⟨%d3, H3⟩, ⟨%d4, H4⟩⟩
    iapply ((kernelRun0_B c (pt a t) (rowsAt a t) (rowsWhole a t) (upAt a t) (upWhole a t) (gateAt a t) (gateWhole a t) (downAt a t) (downWhole a t)
      (outAt a t) (outWhole a t) (a.1 0) (a.1 1) (block a m ρ c (0 : Fin 5) t) (block a m ρ c (1 : Fin 5) t) (block a m ρ c (2 : Fin 5) t)
      (block a m ρ c (3 : Fin 5) t) h (branch_live _ _ h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_B_4 c _ _ _ _ _ _ _ _ _ _ _ _ _ _ _ _ _ _ _)

theorem body_ok (c : Dev nD) : BodyObligation (data a m ρ 0 c) (defs₀ (F := Ideal)) Variants.none () Set.univ := fun t => by
  rw [bigSep_W0]
  exact body_point a m ρ c t

/-! ## The launch -/

def launchElt : UR sig nD τ :=
  initOf (Pipeline.cells (pipes a) ((launch0 (F := Ideal)).cellOf_inj fun _ => a))
    (Pipeline.launchToks (pipes a) ((launch0 (F := Ideal)).cellOf_inj fun _ => a))

theorem share_full (c : Dev nD) (w : Fin (pipe a).W) : (data a m ρ 0 c).share w = fullShare := by unfold Dat.share; split <;> rfl

theorem tables_held (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) :
    iprop(BI.emp ∗ Pipeline.prefHeld pre0 c (fun _ => fullShare.right) a.1 ∗ Pipeline.scopedRest spec0 c) ⊢ (data a m ρ 0 c).Φ 0 := by
  rw [tables_held, scopedRest0_eq, show (data a m ρ 0 c).Φ 0 = tables a c from rfl]
  unfold tables
  iintro ⟨-, ⟨HT0, HT1⟩, -⟩
  isplitl [HT0]
  · iexact HT0
  iexact HT1

theorem leave (c : Dev nD) : (data a m ρ 0 c).Φ (Fin.last (pipe a).N) ⊢ iprop(BI.emp ∗ Pipeline.scopedRest spec0 c) := by
  rw [scopedRest0_eq, show (data a m ρ 0 c).Φ (Fin.last (pipe a).N) = tables a c from rfl]
  unfold tables
  iintro ⟨-, -⟩
  isplitr; · iempintro
  iempintro

/-- The final memory: each window's array as the pipeline leaves it, each table as it was. -/
def Ends : PUnit × MemSt nD τ sig (Elt Ideal) → Prop := fun r =>
  ∀ c : Dev nD, (∀ w : Fin (pipe a).W, r.2.mem (((pipe a).win w).arr.view.loc (c : Thread nD τ)) = (data a m ρ 0 c).arrAt w (pipe a).N)
    ∧ ∀ j, r.2.mem ((c : Thread nD τ).loc (pre0.ref j)) = a.1 j

/-- The tables in memory are `a`. -/
def At : Prop := ∀ (c : Dev nD) (j : Fin 2), m ((c : Thread nD τ).loc (pre0.ref j)) = a.1 j

set_option backward.isDefEq.respectTransparency.types false in
set_option maxHeartbeats 4000000 in
theorem run_quiet (hp : At a m) : θ_run (defs (F := Ideal)) (onTc (τ := τ) (main (F := Ideal))) (s₀ m ρ) (fun r => Ends a m ρ r ∧ r.2.sem = fun _ => 0) :=
  Pipeline.θ_run_region_noSem_pf_quiescent pcfgs (fun _ => a) (data a m ρ) () ((launch0 (F := Ideal)).cellOf_inj fun _ => a) (0 : Fin 1)
    (launch0 (F := Ideal)).win.to₀ (launch0 (F := Ideal)).pre rounds defs₀ Variants.none m ρ main
    (hbody := fun c => (body_ok a m ρ c).loose) (hne := (launch0 (F := Ideal)).block_pos)
    (harr := (launch0 (F := Ideal)).arr_whole) (hstage := (launch0 (F := Ideal)).stage_whole) (howed := fun _ _ => rfl)
    (u₀ := launchElt a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pipes a) (data a m ρ) 0 (launch0 (F := Ideal)).win.arr_inj c (launch0 (F := Ideal)).arr_whole
      (share_full a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := enter a m ρ)
    (hout := leave a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The call runs; the result array is what the pipeline leaves; the arguments end unchanged; no counter is left raised. -/
theorem run_result (hp : At a m) :
    θ_run (defs (F := Ideal)) (onTc (τ := τ) (main (F := Ideal))) ⟨m, fun _ => 0, ρ⟩ (fun r => (∀ c : Dev nD,
      r.2.mem ((c.tc : Thread nD τ).loc main_v0) = (data a m ρ 0 c).arrAt (4 : Fin 5) (pipe a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).2 0).trans (hp c 0).symm, ((h.1 c).2 1).trans (hp c 1).symm,
    ((h.1 c).1 (0 : Fin 5)).trans ((data a m ρ 0 c).arrAt_in (0 : Fin 5) rfl _), ((h.1 c).1 (1 : Fin 5)).trans ((data a m ρ 0 c).arrAt_in (1 : Fin 5) rfl _),
    ((h.1 c).1 (2 : Fin 5)).trans ((data a m ρ 0 c).arrAt_in (2 : Fin 5) rfl _), ((h.1 c).1 (3 : Fin 5)).trans ((data a m ρ 0 c).arrAt_in (3 : Fin 5) rfl _)⟩, h.2⟩)
    (run_quiet a m ρ hp)

/-! ## The tables a plan may hold -/

open Cert.Pre_planned (Fits minus_one word_small smaller)

/-- The row block that a point reads: its own, or the last used one. -/
theorem index_rows (pf : pre0.Contents (Elt Ideal)) (h : Fits (pf 0) (pf 1)) (i : grid0.Coords) :
    cc0_transform_0 inb_S1_S1_0 numel1_S1 pf i = ![min (i 0).val ((pf 1 (ix1 (n0 := 1) 0)).toNat - 1), 0] := by
  have hx : ∀ x : S1.Idx, pf 1 x = pf 1 (ix1 (n0 := 1) 0) := fun x => congrArg (pf 1) (Subsingleton.elim (α := Cert.Pre_planned.S1.Idx) x _)
  have h1 := h.some (ix1 (n0 := 1) 0)
  have h2 := h.most (ix1 (n0 := 1) 0)
  unfold cc0_transform_0
  funext d
  match d with
  | ⟨0, _⟩ =>
    show (Scalar.minsi (BitVec.ofNat 32 (i 0).val) (Scalar.subi (pf 1 _) 1#32)).toNat = min _ _
    exact (congrArg (fun u => (Scalar.minsi (BitVec.ofNat 32 (i 0).val) (Scalar.subi u 1#32)).toNat) (hx _)).trans (smaller _ (i 0).isLt _ h1 h2)
  | ⟨1, _⟩ => rfl

/-- The expert whose weights a point reads. -/
theorem index_expert (pf : pre0.Contents (Elt Ideal)) (i : grid0.Coords) :
    cc0_transform_1 k0_off1_inb numel1_S1 pf i = ![0, (pf 0 (ix1 (n0 := 384) ⟨(i 0).val, lt_of_lt_of_le (i 0).isLt (by decide)⟩)).toNat, 0, 0] := by
  unfold cc0_transform_1
  funext d
  match d with
  | ⟨0, _⟩ => rfl
  | ⟨2, _⟩ => rfl
  | ⟨3, _⟩ => rfl
  | ⟨1, _⟩ =>
    show (pf 0 _).toNat = (pf 0 _).toNat
    congr 2
    funext d
    match d with
    | ⟨0, _⟩ =>
      apply Fin.ext
      show (BitVec.ofNat 32 (i 0).val).toNat + 0 = (i 0).val
      rw [BitVec.toNat_ofNat]
      exact Nat.mod_eq_of_lt (lt_of_lt_of_le (i 0).isLt (by decide))

/-- A plan's tables keep every block inside its array. -/
theorem admits (pf : pre0.Contents (Elt Ideal)) (h : Fits (pf 0) (pf 1)) : ok0 (F := Ideal) pf := by
  have h1 := h.some (ix1 (n0 := 1) 0)
  have h2 := h.most (ix1 (n0 := 1) 0)
  refine ⟨fun i => ⟨fun d => ?_, .inl rfl⟩,
    fun i => ⟨fun d => ?_, .inr (Affine.block_words_dvd (s := S4x64x2048x384) (p := EltTy.packing .bf16) (by decide) (by decide))⟩,
    fun i => ⟨fun d => ?_, .inr (Affine.block_words_dvd (s := S4x64x2048x384) (p := EltTy.packing .bf16) (by decide) (by decide))⟩,
    fun i => ⟨fun d => ?_, .inr (Affine.block_words_dvd (s := S4x64x384x2048) (p := EltTy.packing .bf16) (by decide) (by decide))⟩⟩
  · rw [index_rows pf h]
    match d with
    | ⟨0, _⟩ => show (min _ _ + 1) * 256 ≤ 81920; omega
    | ⟨1, _⟩ => show (0 + 1) * 2048 ≤ 2048; omega
  · have he := h.expert (ix1 (n0 := 384) ⟨(i 0).val, lt_of_lt_of_le (i 0).isLt (by decide)⟩)
    rw [index_expert pf]
    match d with
    | ⟨0, _⟩ => show (0 + 1) * 1 ≤ 4; omega
    | ⟨1, _⟩ => show ((pf 0 (ix1 (n0 := 384) ⟨(i 0).val, _⟩)).toNat + 1) * 1 ≤ 64; omega
    | ⟨2, _⟩ => show (0 + 1) * 2048 ≤ 2048; omega
    | ⟨3, _⟩ => show (0 + 1) * 384 ≤ 384; omega
  · have he := h.expert (ix1 (n0 := 384) ⟨(i 0).val, lt_of_lt_of_le (i 0).isLt (by decide)⟩)
    rw [show cc0_transform_2 k0_off1_inb numel1_S1 pf i = _ from index_expert pf i]
    match d with
    | ⟨0, _⟩ => show (0 + 1) * 1 ≤ 4; omega
    | ⟨1, _⟩ => show ((pf 0 (ix1 (n0 := 384) ⟨(i 0).val, _⟩)).toNat + 1) * 1 ≤ 64; omega
    | ⟨2, _⟩ => show (0 + 1) * 2048 ≤ 2048; omega
    | ⟨3, _⟩ => show (0 + 1) * 384 ≤ 384; omega
  · have he := h.expert (ix1 (n0 := 384) ⟨(i 0).val, lt_of_lt_of_le (i 0).isLt (by decide)⟩)
    rw [show cc0_transform_3 k0_off1_inb numel1_S1 pf i = _ from index_expert pf i]
    match d with
    | ⟨0, _⟩ => show (0 + 1) * 1 ≤ 4; omega
    | ⟨1, _⟩ => show ((pf 0 (ix1 (n0 := 384) ⟨(i 0).val, _⟩)).toNat + 1) * 1 ≤ 64; omega
    | ⟨2, _⟩ => show (0 + 1) * 384 ≤ 384; omega
    | ⟨3, _⟩ => show (0 + 1) * 2048 ≤ 2048; omega

/-- The tables in memory. -/
def held (c : Dev nD) : pre0.Contents (Elt Ideal) := fun j => m ((c : Thread nD τ).loc (pre0.ref j))

theorem held_fits (c : Dev nD) (h : Fits (m ((c : Thread nD τ).loc main_arg0)) (m ((c : Thread nD τ).loc main_arg1))) :
    Fits (held m c 0) (held m c 1) := h

/-- There is one device, so the tables on it are the tables everywhere. -/
theorem held_at (c : Dev nD) (h : ok0 (F := Ideal) (held m c)) : At ⟨held m c, h⟩ m := fun c' j => by
  rw [show c' = c from Subsingleton.elim (α := Fin 1) c' c]
  rfl

end Cert.ExpertsIdeal.Plan

end
-- ==== Proof.ExpMath.lean ====
module

public import Idealize.ShloMosaic.PureOps.Ideal
public import Idealize.ShloMosaic.Init

/-!
# The experts' result, entry by entry

A row of a used tile goes through the three matrices of the tile's expert; the rows of the other tiles are zeros.
-/

@[expose] public section
noncomputable section
namespace Expert
open Idealize.ShloMosaic

section
variable (x : Fin 2048 → EReal) (A B : Fin 2048 → Fin 384 → EReal) (C : Fin 384 → Fin 2048 → EReal)

/-- One hidden unit of an expert before its gate. -/
def hid (W : Fin 2048 → Fin 384 → EReal) (f : Fin 384) : EReal := ∑ k, x k * W k f

/-- One hidden unit of an expert: the first product through the sigmoid-weighted unit, times the second. -/
def unit (f : Fin 384) : EReal := hid x A f * Ideal.div 1 (1 + Ideal.exp (-hid x A f)) * hid x B f

/-- One entry of an expert's answer to a row. -/
def answer (j : Fin 2048) : EReal := ∑ f, unit x A B f * C f j
end

variable (X : Fin 81920 → Fin 2048 → EReal) (A B : Fin 64 → Fin 2048 → Fin 384 → EReal) (C : Fin 64 → Fin 384 → Fin 2048 → EReal)
variable (te : Fin 384 → ℕ) (used : ℕ)

/-- A row's tile. -/
def tileOf (r : Fin 81920) : Fin 384 := ⟨r.val / 256, by have := r.isLt; omega⟩

/-- The rows' answers, by the first `n` experts only. -/
def upTo (n : ℕ) (r : Fin 81920) (j : Fin 2048) : EReal :=
  if h : r.val / 256 < used ∧ te (tileOf r) < n ∧ te (tileOf r) < 64 then
    answer (X r) (A ⟨te (tileOf r), h.2.2⟩) (B ⟨te (tileOf r), h.2.2⟩) (C ⟨te (tileOf r), h.2.2⟩) j
  else 0

/-- A row of a used tile, its tile's expert among the first `n`. -/
theorem upTo_used (n : ℕ) (r : Fin 81920) (j : Fin 2048) (t : Fin 384) (ht : tileOf r = t) (hu : r.val / 256 < used) (hx : te t < n) (hx' : te t < 64) :
    upTo X A B C te used n r j = answer (X r) (A ⟨te t, hx'⟩) (B ⟨te t, hx'⟩) (C ⟨te t, hx'⟩) j := by
  subst ht
  unfold upTo
  rw [dif_pos ⟨hu, hx, hx'⟩]

/-- A row of another tile. -/
theorem upTo_rest (n : ℕ) (r : Fin 81920) (j : Fin 2048) (hu : ¬r.val / 256 < used) : upTo X A B C te used n r j = 0 := by
  unfold upTo
  rw [dif_neg fun h => hu h.1]

theorem upTo_zero (r : Fin 81920) (j : Fin 2048) : upTo X A B C te used 0 r j = 0 := by
  unfold upTo; rw [dif_neg]; omega

/-- A row's weight for expert `n`: one if the row's tile is used and is that expert's. -/
def gate (n : ℕ) (r : Fin 81920) : EReal := if te (tileOf r) = n ∧ r.val / 256 < used then 1 else 0

/-- One expert more. -/
theorem upTo_succ (n : ℕ) (hn : n < 64) (r : Fin 81920) (j : Fin 2048) :
    upTo X A B C te used n r j + ∑ f, unit (X r) (A ⟨n, hn⟩) (B ⟨n, hn⟩) f * gate te used n r * C ⟨n, hn⟩ f j
      = upTo X A B C te used (n + 1) r j := by
  by_cases h : te (tileOf r) = n ∧ r.val / 256 < used
  · obtain ⟨h1, h2⟩ := h
    subst h1
    unfold upTo gate
    rw [dif_neg (by omega), dif_pos ⟨h2, by omega, hn⟩, if_pos ⟨rfl, h2⟩, zero_add]
    simp only [mul_one]
    rfl
  · have e : gate te used n r = 0 := if_neg h
    rw [e]
    simp only [mul_zero, zero_mul, Finset.sum_const_zero, add_zero]
    unfold upTo
    by_cases h' : r.val / 256 < used ∧ te (tileOf r) < n ∧ te (tileOf r) < 64
    · rw [dif_pos h', dif_pos ⟨h'.1, by omega, h'.2.2⟩]
    · rw [dif_neg h', dif_neg]
      intro h''
      by_cases e' : te (tileOf r) = n
      · exact h ⟨e', h''.1⟩
      · exact h' ⟨h''.1, by omega, h''.2.2⟩

end Expert
-- ==== Proof.ExpValue.lean ====
module

public import proofs.«01_k».proof.Proof.ExpRun
public import proofs.«01_k».proof.Proof.ExpMath
public import Idealize.ShloMosaic.Lib.Pointwise
public import Idealize.ShloMosaic.Lib.Pipeline.ValueKit
public import Idealize.ShloMosaic.Lib.Pipeline.ReadBack
public import Idealize.ShloMosaic.Lib.Pipeline.Covers

/-!
# What the experts' call computes

Every tile's block of the result, and the result's entries.
-/

@[expose] public section
set_option maxRecDepth 16384
noncomputable section
namespace Cert.ExpertsIdeal.Plan
open Cert.ExpertsIdeal Cert.ExpertsIdeal.Gen Idealize.ShloMosaic Idealize.ShloMosaic.TcCoe Idealize.SL.Sem Expert
local notation "𝕀" => Idealize.ShloMosaic.Ideal

/-! ## The body's two stores, at an entry -/

theorem tile_at (x : Vec 𝕀 S256x2048 .f32) (a b : Vec 𝕀 S1x1x2048x384 .bf16) (d : Vec 𝕀 S1x1x384x2048 .bf16) (p : Fin 256) (j : Fin 2048) :
    (k0_pay1 x a b d : S256x2048.Idx → EReal) (ix2 p j)
      = answer (fun k => x (ix2 p k)) (fun k f => a (ix4 0 0 k f)) (fun k f => b (ix4 0 0 k f)) (fun f j => d (ix4 0 0 f j)) j := by
  unfold answer unit hid
  pointwise [k0_pay1]
  simp only [zero_sub]

theorem blank_at (p : Fin 256) (j : Fin 2048) : (k0_pay2 (F := 𝕀) : S256x2048.Idx → EReal) (ix2 p j) = 0 := by
  pointwise [k0_pay2]

variable (a : (pcfg0 (F := 𝕀)).Adm)
variable (m : (ℓ : Loc nD τ sig) → Buf (Elt 𝕀) ℓ) (ρ : Dev nD → PrngReg)

theorem left_used (c : Dev nD) (t : Fin (pipe a).N) (h : Used a t) :
    left a m ρ c t = k0_pay1 (block a m ρ c (0 : Fin 5) t) (block a m ρ c (1 : Fin 5) t) (block a m ρ c (2 : Fin 5) t) (block a m ρ c (3 : Fin 5) t) := by
  unfold left
  rw [dif_pos h]
  frame_out
  simp only [View.read_rep]

theorem left_rest (c : Dev nD) (t : Fin (pipe a).N) (h : ¬Used a t) : left a m ρ c t = k0_pay2 (F := 𝕀) := by
  unfold left
  rw [dif_neg h]
  frame_out

/-! ## The blocks -/

theorem point_val : ∀ t : Fin grid0.N, (grid0.coords t 0).val = t.val := by decide +kernel
theorem point_lt (t : Fin (pipe a).N) : t.val < 320 := lt_of_lt_of_le t.isLt (show grid0.N ≤ 320 by decide)

open Cert.Pre_planned (Fits word_small)

/-- The number of tiles used. -/
abbrev count : ℕ := ((a.1 1 : S1.Idx → BitVec 32) (ix1 (n0 := 1) 0)).toNat
/-- A tile's expert. -/
abbrev whose (t : Fin 384) : ℕ := ((a.1 0 : S384.Idx → BitVec 32) (ix1 t)).toNat

section
variable (h : Fits (a.1 0) (a.1 1))
include h

theorem rows_index (t : Fin (pipe a).N) : ((pipe a).win (0 : Fin 5)).index t = ![min t.val (count a - 1), 0] := by
  refine (index_rows a.1 h (pt a t)).trans ?_
  rw [show ((pt a t) 0).val = t.val from point_val t]
end

theorem up_index (t : Fin (pipe a).N) : ((pipe a).win (1 : Fin 5)).index t = ![0, whose a ⟨t.val, by have := point_lt a t; omega⟩, 0, 0] := by
  refine (index_expert a.1 (pt a t)).trans ?_
  simp only [show ((pt a t) 0).val = t.val from point_val t]
theorem gate_index (t : Fin (pipe a).N) : ((pipe a).win (2 : Fin 5)).index t = ![0, whose a ⟨t.val, by have := point_lt a t; omega⟩, 0, 0] := up_index a t
theorem down_index (t : Fin (pipe a).N) : ((pipe a).win (3 : Fin 5)).index t = ![0, whose a ⟨t.val, by have := point_lt a t; omega⟩, 0, 0] := up_index a t
theorem out_index (t : Fin (pipe a).N) : ((pipe a).win (4 : Fin 5)).index t = ![t.val, 0] := by
  have hv : ((pt a t) 0).val = t.val := point_val t
  have hl := point_lt a t
  show cc0_transform_4 (pt a t) = _
  unfold cc0_transform_4
  funext d
  match d with
  | ⟨0, _⟩ =>
    show (BitVec.ofNat 32 ((pt a t) 0).val).toNat = t.val
    rw [hv, BitVec.toNat_ofNat, Nat.mod_eq_of_lt (by omega)]
  | ⟨1, _⟩ => rfl

theorem rows_at (h : Fits (a.1 0) (a.1 1)) (c : Dev nD) (t : Fin (pipe a).N) (ht : t.val < count a) (p : Fin 256) (k : Fin 2048) :
    (block a m ρ c (0 : Fin 5) t : S256x2048.Idx → EReal) (ix2 p k) = (m ((c : Thread nD τ).loc main_arg2) : S81920x2048.Idx → EReal)
      (ix2 ⟨256 * t.val + p.val, by have := point_lt a t; omega⟩ k) := by
  have e := rows_index a h t
  have e0 : ((pipe a).win (0 : Fin 5)).index t (0 : Fin 2) = t.val := by rw [e]; show min _ _ = _; omega
  have e1 : ((pipe a).win (0 : Fin 5)).index t (1 : Fin 2) = 0 := by rw [e]; rfl
  blk_ext [block, e0, e1]

theorem up_at (h : Fits (a.1 0) (a.1 1)) (c : Dev nD) (t : Fin (pipe a).N) (k : Fin 2048) (f : Fin 384) :
    (block a m ρ c (1 : Fin 5) t : S1x1x2048x384.Idx → EReal) (ix4 0 0 k f) = (m ((c : Thread nD τ).loc main_arg3) : S4x64x2048x384.Idx → EReal)
      (ix4 0 ⟨whose a ⟨t.val, by have := point_lt a t; omega⟩, h.expert _⟩ k f) := by
  have e := up_index a t
  have e0 : ((pipe a).win (1 : Fin 5)).index t (0 : Fin 4) = 0 := by rw [e]; rfl
  have e1 : ((pipe a).win (1 : Fin 5)).index t (1 : Fin 4) = whose a ⟨t.val, by have := point_lt a t; omega⟩ := by rw [e]; rfl
  have e2 : ((pipe a).win (1 : Fin 5)).index t (2 : Fin 4) = 0 := by rw [e]; rfl
  have e3 : ((pipe a).win (1 : Fin 5)).index t (3 : Fin 4) = 0 := by rw [e]; rfl
  blk_ext [block, e0, e1, e2, e3]

theorem gate_at (h : Fits (a.1 0) (a.1 1)) (c : Dev nD) (t : Fin (pipe a).N) (k : Fin 2048) (f : Fin 384) :
    (block a m ρ c (2 : Fin 5) t : S1x1x2048x384.Idx → EReal) (ix4 0 0 k f) = (m ((c : Thread nD τ).loc main_arg4) : S4x64x2048x384.Idx → EReal)
      (ix4 0 ⟨whose a ⟨t.val, by have := point_lt a t; omega⟩, h.expert _⟩ k f) := by
  have e := gate_index a t
  have e0 : ((pipe a).win (2 : Fin 5)).index t (0 : Fin 4) = 0 := by rw [e]; rfl
  have e1 : ((pipe a).win (2 : Fin 5)).index t (1 : Fin 4) = whose a ⟨t.val, by have := point_lt a t; omega⟩ := by rw [e]; rfl
  have e2 : ((pipe a).win (2 : Fin 5)).index t (2 : Fin 4) = 0 := by rw [e]; rfl
  have e3 : ((pipe a).win (2 : Fin 5)).index t (3 : Fin 4) = 0 := by rw [e]; rfl
  blk_ext [block, e0, e1, e2, e3]

theorem down_at (h : Fits (a.1 0) (a.1 1)) (c : Dev nD) (t : Fin (pipe a).N) (f : Fin 384) (j : Fin 2048) :
    (block a m ρ c (3 : Fin 5) t : S1x1x384x2048.Idx → EReal) (ix4 0 0 f j) = (m ((c : Thread nD τ).loc main_arg5) : S4x64x384x2048.Idx → EReal)
      (ix4 0 ⟨whose a ⟨t.val, by have := point_lt a t; omega⟩, h.expert _⟩ f j) := by
  have e := down_index a t
  have e0 : ((pipe a).win (3 : Fin 5)).index t (0 : Fin 4) = 0 := by rw [e]; rfl
  have e1 : ((pipe a).win (3 : Fin 5)).index t (1 : Fin 4) = whose a ⟨t.val, by have := point_lt a t; omega⟩ := by rw [e]; rfl
  have e2 : ((pipe a).win (3 : Fin 5)).index t (2 : Fin 4) = 0 := by rw [e]; rfl
  have e3 : ((pipe a).win (3 : Fin 5)).index t (3 : Fin 4) = 0 := by rw [e]; rfl
  blk_ext [block, e0, e1, e2, e3]

/-! ## The used tiles -/

theorem word_at : usedWord a = (a.1 1 : S1.Idx → BitVec 32) (ix1 (n0 := 1) 0) := by
  show (a.1 1 : S1.Idx → BitVec 32) _ = _
  exact congrArg (a.1 1 : S1.Idx → BitVec 32) (Subsingleton.elim (α := Cert.Pre_planned.S1.Idx) _ _)

theorem cond_iff (i : grid0.Coords) (u : BitVec 32) (hi : (i 0).val < 320) (hu : u.toNat ≤ 320) : k0_cond1 i u = 1#1 ↔ (i 0).val < u.toNat := by
  unfold k0_cond1
  dsimp only
  generalize (i 0).val = n at hi ⊢
  have e : Scalar.cmpi .slt (BitVec.ofNat 32 n) u = BitVec.ofBool (decide (n < u.toNat)) := by
    show BitVec.ofBool (BitVec.slt _ _) = _
    have e1 : (BitVec.ofNat 32 n).toNat = n := by rw [BitVec.toNat_ofNat]; omega
    rw [BitVec.slt_eq_decide, word_small (by omega) _ e1, word_small hu _ rfl]
    congr 2
    exact propext Nat.cast_lt
  rw [e]
  by_cases hp : n < u.toNat
  · simp only [hp, decide_true, iff_true]; rfl
  · simp only [hp, decide_false, iff_false]; decide

theorem used_iff (h : Fits (a.1 0) (a.1 1)) (t : Fin (pipe a).N) : Used a t ↔ t.val < count a := by
  have hv : ((pt a t) 0).val = t.val := point_val t
  have hl := point_lt a t
  unfold Used
  rw [word_at]
  refine (cond_iff (pt a t) _ (by omega) (h.most _)).trans ?_
  rw [hv]

/-! ## The result -/

theorem out_covers : ((pipe a).win (4 : Fin 5)).Covers :=
  ((pipe a).win (4 : Fin 5)).covers_of_index_surj rfl (show ∀ b : Fin 2, 0 < S256x2048.size b by decide) fun β =>
    ⟨⟨(β (0 : Fin 2)).val, lt_of_lt_of_eq (β (0 : Fin 2)).isLt (show ((pipe a).win (4 : Fin 5)).nblk (0 : Fin 2) = grid0.N by
      show (S81920x2048.size 0 + S256x2048.size 0 - 1) / S256x2048.size 0 = grid0.N
      decide +kernel)⟩, fun b => by
      rw [out_index]
      match b with
      | ⟨0, _⟩ => rfl
      | ⟨1, _⟩ =>
        have h1 : ((pipe a).win (4 : Fin 5)).nblk (1 : Fin 2) = 1 := by
          show (S81920x2048.size 1 + S256x2048.size 1 - 1) / S256x2048.size 1 = 1
          decide +kernel
        have := (β (1 : Fin 2)).isLt
        show 0 = (β (1 : Fin 2)).val
        omega⟩

/-- The rows. -/
def inX (c : Dev nD) (r : Fin 81920) (k : Fin 2048) : EReal := (m ((c : Thread nD τ).loc main_arg2) : S81920x2048.Idx → EReal) (ix2 r k)
/-- The experts' first matrices. -/
def inA (c : Dev nD) (e : Fin 64) (k : Fin 2048) (f : Fin 384) : EReal := (m ((c : Thread nD τ).loc main_arg3) : S4x64x2048x384.Idx → EReal) (ix4 0 e k f)
/-- The experts' second matrices. -/
def inB (c : Dev nD) (e : Fin 64) (k : Fin 2048) (f : Fin 384) : EReal := (m ((c : Thread nD τ).loc main_arg4) : S4x64x2048x384.Idx → EReal) (ix4 0 e k f)
/-- The experts' last matrices. -/
def inC (c : Dev nD) (e : Fin 64) (f : Fin 384) (j : Fin 2048) : EReal := (m ((c : Thread nD τ).loc main_arg5) : S4x64x384x2048.Idx → EReal) (ix4 0 e f j)

/-- A tile's block of the result. -/
theorem left_at (h : Fits (a.1 0) (a.1 1)) (c : Dev nD) (t : Fin (pipe a).N) (p : Fin 256) (j : Fin 2048) :
    (left a m ρ c t : S256x2048.Idx → EReal) (ix2 p j)
      = upTo (inX m c) (inA m c) (inB m c) (inC m c) (whose a) (count a) 64 ⟨256 * t.val + p.val, by have := point_lt a t; omega⟩ j := by
  have hl := point_lt a t
  have ht : tileOf ⟨256 * t.val + p.val, by omega⟩ = ⟨t.val, by omega⟩ := Fin.ext (show (256 * t.val + p.val) / 256 = t.val by omega)
  have hx := h.expert (ix1 (n0 := 384) ⟨t.val, by omega⟩)
  by_cases hu : Used a t
  · have hn := (used_iff a h t).1 hu
    rw [left_used a m ρ c t hu, tile_at, upTo_used _ _ _ _ _ _ 64 _ j _ ht (show (256 * t.val + p.val) / 256 < _ by omega) hx hx]
    simp only [rows_at a m ρ h c t hn, up_at a m ρ h c t, gate_at a m ρ h c t, down_at a m ρ h c t]
    rfl
  · have hn := mt (used_iff a h t).2 hu
    rw [left_rest a m ρ c t hu, blank_at, upTo_rest]
    show ¬(256 * t.val + p.val) / 256 < _
    omega

theorem result_at (h : Fits (a.1 0) (a.1 1)) (c : Dev nD) :
    (data a m ρ 0 c).arrAt (4 : Fin 5) (pipe a).N = fun i : S81920x2048.Idx =>
      (upTo (inX m c) (inA m c) (inB m c) (inC m c) (whose a) (count a) 64 (i 0) (i 1) : EReal) := by
  refine (data a m ρ 0 c).arrAt_eq_of_covers (4 : Fin 5) _ (out_covers a) fun t hf y => ?_
  obtain ⟨p, j, rfl⟩ : ∃ (p : Fin 256) (j : Fin 2048), y = ix2 p j := ⟨y 0, y 1, (ix2_eta (n0 := 256) (n1 := 2048) y).symm⟩
  have e := out_index a t
  have e0 : ((pipe a).win (4 : Fin 5)).index t (0 : Fin 2) = t.val := by rw [e]; rfl
  have e1 : ((pipe a).win (4 : Fin 5)).index t (1 : Fin 2) = 0 := by rw [e]; rfl
  have hl := point_lt a t
  have hr : (((pipe a).win (4 : Fin 5)).blk t).view.emb (ix2 p j) = (ix2 (n0 := 81920) (n1 := 2048) ⟨256 * t.val + p.val, by omega⟩ j : S81920x2048.Idx) := by
    blk_ext [e0, e1]
  refine (left_at a m ρ h c t p j).trans ?_
  rw [hr]
  rfl

end Cert.ExpertsIdeal.Plan
-- ==== Proof.ExpRef.lean ====
module

public import proofs.«01_k».proof.Proof.Gen.ExpertsReferenceIdeal
public import proofs.«01_k».proof.Proof.Gen.ExpertsReferenceIdeal.Run
public import proofs.«01_k».proof.Proof.Planned
public import proofs.«01_k».proof.Proof.ExpMath
public import Idealize.ShloMosaic.Lib.Pointwise
public import Idealize.ShloMosaic.Lib.Tactic

/-!
# The experts' reference

The loop over the experts: after `n` trips the rows of the first `n` experts have their answers.
-/

@[expose] public section
set_option maxRecDepth 16384
noncomputable section
namespace Cert.ExpertsReferenceIdeal.Value
open Cert.ExpertsReferenceIdeal Cert.ExpertsReferenceIdeal.Gen Idealize.ShloMosaic Idealize.ShloMosaic.TcCoe Idealize.SL.Sem Idealize.ShloMosaic.StableHlo Expert
local notation "𝕀" => Idealize.ShloMosaic.Ideal

theorem toInt_small {n : ℕ} (hn : n < 64) : (BitVec.ofNat 32 n).toInt = n := by
  rw [BitVec.toInt_eq_toNat_cond, BitVec.toNat_ofNat, Nat.mod_eq_of_lt (by omega), if_pos (by omega)]

section
variable {n : ℕ} (hn : n < 64)
include hn

section
variable (st : Fin 3 → Int) (hst : ∀ a, st a = ((![n, 0, 0] : Fin 3 → ℕ) a : Int))
include hst

/-- One expert's first or second matrix. -/
theorem pick_wide (X : FVec 𝕀 S64x2048x384 .bf16) (k : Fin 2048) (f : Fin 384) :
    shapeCast S2048x384 (Host.dynamicSlice S1x2048x384 X st sliceFits_S64x2048x384_S1x2048x384) shapeCasts_S1x2048x384_S2048x384 (ix2 k f)
      = X (ix3 ⟨n, hn⟩ k f) := by
  have e0 : Host.clampedStart S64x2048x384 S1x2048x384 rfl st 0 = n := Host.clampedStart_of_le _ _ _ n (hst 0) (show n + 1 ≤ 64 by omega)
  have e1 : Host.clampedStart S64x2048x384 S1x2048x384 rfl st 1 = 0 := Host.clampedStart_of_le _ _ _ 0 (hst 1) (show 0 + 2048 ≤ 2048 by omega)
  have e2 : Host.clampedStart S64x2048x384 S1x2048x384 rfl st 2 = 0 := Host.clampedStart_of_le _ _ _ 0 (hst 2) (show 0 + 384 ≤ 384 by omega)
  pointwise
  simp only [e0, e1, e2, Nat.zero_add]

/-- One expert's last matrix. -/
theorem pick_tall (X : FVec 𝕀 S64x384x2048 .bf16) (f : Fin 384) (j : Fin 2048) :
    shapeCast S384x2048 (Host.dynamicSlice S1x384x2048 X st sliceFits_S64x384x2048_S1x384x2048) shapeCasts_S1x384x2048_S384x2048 (ix2 f j)
      = X (ix3 ⟨n, hn⟩ f j) := by
  have e0 : Host.clampedStart S64x384x2048 S1x384x2048 rfl st 0 = n := Host.clampedStart_of_le _ _ _ n (hst 0) (show n + 1 ≤ 64 by omega)
  have e1 : Host.clampedStart S64x384x2048 S1x384x2048 rfl st 1 = 0 := Host.clampedStart_of_le _ _ _ 0 (hst 1) (show 0 + 384 ≤ 384 by omega)
  have e2 : Host.clampedStart S64x384x2048 S1x384x2048 rfl st 2 = 0 := Host.clampedStart_of_le _ _ _ 0 (hst 2) (show 0 + 2048 ≤ 2048 by omega)
  pointwise
  simp only [e0, e1, e2, Nat.zero_add]
end

/-- One expert's weights of the rows. -/
theorem pick_gate (st : Fin 2 → Int) (hst : ∀ a, st a = ((![n, 0] : Fin 2 → ℕ) a : Int)) (X : FVec 𝕀 S64x81920 .f32) (r : Fin 81920) :
    shapeCast S81920 (Host.dynamicSlice S1x81920 X st sliceFits_S64x81920_S1x81920) shapeCasts_S1x81920_S81920 (ix1 r) = X (ix2 ⟨n, hn⟩ r) := by
  have e0 : Host.clampedStart S64x81920 S1x81920 rfl st 0 = n := Host.clampedStart_of_le _ _ _ n (hst 0) (show n + 1 ≤ 64 by omega)
  have e1 : Host.clampedStart S64x81920 S1x81920 rfl st 1 = 0 := Host.clampedStart_of_le _ _ _ 0 (hst 1) (show 0 + 81920 ≤ 81920 by omega)
  pointwise
  simp only [e0, e1, Nat.zero_add]
end

/-! ## The loop -/

section
variable (X : Fin 81920 → Fin 2048 → EReal) (A B : Fin 64 → Fin 2048 → Fin 384 → EReal) (C : Fin 64 → Fin 384 → Fin 2048 → EReal)
variable (te : Fin 384 → ℕ) (used : ℕ)

/-- What the loop's buffers hold before trip `n`. -/
structure Inv (n : ℕ) (V : Valuation τ sig (Elt 𝕀)) : Prop where
  a : ∀ (e : Fin 64) (k : Fin 2048) (f : Fin 384), (V (Proc.devRef .tc main_v26_0) : S64x2048x384.Idx → EReal) (ix3 e k f) = A e k f
  b : ∀ (e : Fin 64) (k : Fin 2048) (f : Fin 384), (V (Proc.devRef .tc main_v26_1) : S64x2048x384.Idx → EReal) (ix3 e k f) = B e k f
  c : ∀ (e : Fin 64) (f : Fin 384) (j : Fin 2048), (V (Proc.devRef .tc main_v26_2) : S64x384x2048.Idx → EReal) (ix3 e f j) = C e f j
  g : ∀ (e : Fin 64) (r : Fin 81920), (V (Proc.devRef .tc main_v26_3) : S64x81920.Idx → EReal) (ix2 e r) = gate te used e.val r
  x : ∀ (r : Fin 81920) (k : Fin 2048), (V (Proc.devRef .tc main_v26_4) : S81920x2048.Idx → EReal) (ix2 r k) = X r k
  ctr : V (Proc.devRef .tc main_v26_5) = fun _ => BitVec.ofNat 32 n
  acc : ∀ (r : Fin 81920) (j : Fin 2048), (V (Proc.devRef .tc main_v26_6) : S81920x2048.Idx → EReal) (ix2 r j) = upTo X A B C te used n r j

variable {X A B C te used}
variable {n : ℕ} {V : Valuation τ sig (Elt 𝕀)} (H : Inv X A B C te used n V) (hn : n < 64)
include H hn

theorem idx3 (a : Fin 3) : (((![V (Proc.devRef .tc main_v26_5), constantI S_ 32 0#32, constantI S_ 32 0#32] : Fin 3 → (⟨S_, .i32⟩ : BufTy).Contents (Elt 𝕀))) a
    (Shape.Idx.first h_S_)).toInt = ((![n, 0, 0] : Fin 3 → ℕ) a : Int) := by
  rw [H.ctr]
  match a with
  | ⟨0, _⟩ => exact toInt_small hn
  | ⟨1, _⟩ => rfl
  | ⟨2, _⟩ => rfl
theorem idx2 (a : Fin 2) : (((![V (Proc.devRef .tc main_v26_5), constantI S_ 32 0#32] : Fin 2 → (⟨S_, .i32⟩ : BufTy).Contents (Elt 𝕀))) a
    (Shape.Idx.first h_S_)).toInt = ((![n, 0] : Fin 2 → ℕ) a : Int) := by
  rw [H.ctr]
  match a with
  | ⟨0, _⟩ => exact toInt_small hn
  | ⟨1, _⟩ => rfl

theorem first_product (r : Fin 81920) (f : Fin 384) : (res_main_while0b_v34 V : S81920x384.Idx → EReal) (ix2 r f) = hid (X r) (A ⟨n, hn⟩) f := by
  have hx := H.x r
  have ha := fun k => (pick_wide hn _ (idx3 H hn) (V (Proc.devRef .tc main_v26_0)) k f).trans (H.a _ _ _)
  unfold res_main_while0b_v34
  generalize (V (Proc.devRef .tc main_v26_4) : S81920x2048.Idx → EReal) = XX at hx ⊢
  generalize (shapeCast S2048x384 (Host.dynamicSlice S1x2048x384 (V (Proc.devRef .tc main_v26_0)) _ _) _ : S2048x384.Idx → EReal) = W at ha ⊢
  pointwise
  simp only [hx, ha]
  rfl

theorem new_acc (r : Fin 81920) (j : Fin 2048) : (step_main_v26_6 V : S81920x2048.Idx → EReal) (ix2 r j) = upTo X A B C te used (n + 1) r j := by
  have hx := H.x r
  have hu := first_product H hn r
  have hb := fun k f => (pick_wide hn _ (idx3 H hn) (V (Proc.devRef .tc main_v26_1)) k f).trans (H.b _ _ _)
  have hc := fun f => (pick_tall hn _ (idx3 H hn) (V (Proc.devRef .tc main_v26_2)) f j).trans (H.c _ _ _)
  have hg := (pick_gate hn _ (idx2 H hn) (V (Proc.devRef .tc main_v26_3)) r).trans (H.g _ _)
  have hacc := H.acc r j
  unfold step_main_v26_6
  generalize (res_main_while0b_v34 V : S81920x384.Idx → EReal) = U at hu ⊢
  generalize (shapeCast S2048x384 (Host.dynamicSlice S1x2048x384 (V (Proc.devRef .tc main_v26_1)) _ _) _ : S2048x384.Idx → EReal) = W at hb ⊢
  generalize (shapeCast S384x2048 (Host.dynamicSlice S1x384x2048 (V (Proc.devRef .tc main_v26_2)) _ _) _ : S384x2048.Idx → EReal) = D at hc ⊢
  generalize (shapeCast S81920 (Host.dynamicSlice S1x81920 (V (Proc.devRef .tc main_v26_3)) _ _) _ : S81920.Idx → EReal) = G at hg ⊢
  generalize (V (Proc.devRef .tc main_v26_4) : S81920x2048.Idx → EReal) = XX at hx ⊢
  generalize (V (Proc.devRef .tc main_v26_6) : S81920x2048.Idx → EReal) = P at hacc ⊢
  rw [← upTo_succ X A B C te used n hn r j]
  simp only [id]
  pointwise
  simp only [hx, hb, hc, hg, hacc, hu]
  rfl

theorem step : Inv X A B C te used (n + 1) (STEP V) := by
  refine ⟨?_, ?_, ?_, ?_, ?_, ?_, ?_⟩
  · rw [STEP_main_v26_0]; exact H.a
  · rw [STEP_main_v26_1]; exact H.b
  · rw [STEP_main_v26_2]; exact H.c
  · rw [STEP_main_v26_3]; exact H.g
  · rw [STEP_main_v26_4]; exact H.x
  · rw [STEP_main_v26_5]
    unfold step_main_v26_5
    rw [H.ctr]
    funext i
    show BitVec.ofNat 32 n + 1#32 = BitVec.ofNat 32 (n + 1)
    rw [BitVec.ofNat_add]
  · rw [STEP_main_v26_6]
    exact new_acc H hn

end

theorem inv_iter {X : Fin 81920 → Fin 2048 → EReal} {A B : Fin 64 → Fin 2048 → Fin 384 → EReal} {C : Fin 64 → Fin 384 → Fin 2048 → EReal}
    {te : Fin 384 → ℕ} {used : ℕ} {V : Valuation τ sig (Elt 𝕀)} (H : Inv X A B C te used 0 V) :
    ∀ n : ℕ, n ≤ 64 → Inv X A B C te used n (STEP^[n] V)
  | 0, _ => H
  | n + 1, h => by rw [Function.iterate_succ_apply']; exact step (inv_iter H n (by omega)) (by omega)

/-! ## What the loop starts from -/

/-- The rows' weights for the experts, as the reference computes them. -/
def weights (te : IVec S384 32) (u : IVec S1 32) : FVec 𝕀 S64x81920 .f32 :=
  transpose S64x81920 [1, 0]
    (select (andi
        (cmpi .eq
          (broadcastInDim S81920x64 ![0, 1] bcast_S81920x1_S81920x64_0_1
            (broadcastInDim S81920x1 ![0] bcast_S81920_S81920x1_0
              (shapeCast S81920 (broadcastInDim S320x256 ![0] bcast_S320_S320x256_0
                (extractStridedSlice S320 ![0] te slices_S384_S320_0)) shapeCasts_S320x256_S81920)))
          (broadcastInDim S81920x64 ![0, 1] bcast_S1x64_S81920x64_0_1 (broadcastInDim S1x64 ![1] bcast_S64_S1x64_1 (iotaInDim S64 32 0))))
        (broadcastInDim S81920x64 ![0, 1] bcast_S81920x1_S81920x64_0_1
          (broadcastInDim S81920x1 ![0] bcast_S81920_S81920x1_0
            (cmpi .slt (iotaInDim S81920 32 0)
              (broadcastInDim S81920 ![] bcast_S_S81920 (muli (shapeCast S_ u shapeCasts_S1_S_) (constantI S_ 32 256#32)))))))
      (broadcastInDim S81920x64 ![] bcast_S_S81920x64 (constant S_ .f32 0x3F800000#32))
      (broadcastInDim S81920x64 ![] bcast_S_S81920x64 (constant S_ .f32 0x00000000#32)))
    transposes_S81920x64_S64x81920_1_0

section
variable (m : (ℓ : Loc nD τ sig) → Buf (Elt 𝕀) ℓ) (c : Dev nD)

theorem entry_a : entryContents preI m c (Proc.devRef .tc main_v26_0)
    = shapeCast S64x2048x384 (extractStridedSlice S1x64x2048x384 ![0, 0, 0, 0] (m ((c.tc : Thread nD τ).loc main_arg3))
        slices_S4x64x2048x384_S1x64x2048x384_0_0_0_0) shapeCasts_S1x64x2048x384_S64x2048x384 := by
  simp only [entryContents, afterL_cons, afterL_nil]; after_reads_simp; rfl
theorem entry_b : entryContents preI m c (Proc.devRef .tc main_v26_1)
    = shapeCast S64x2048x384 (extractStridedSlice S1x64x2048x384 ![0, 0, 0, 0] (m ((c.tc : Thread nD τ).loc main_arg4))
        slices_S4x64x2048x384_S1x64x2048x384_0_0_0_0) shapeCasts_S1x64x2048x384_S64x2048x384 := by
  simp only [entryContents, afterL_cons, afterL_nil]; after_reads_simp; rfl
theorem entry_c : entryContents preI m c (Proc.devRef .tc main_v26_2)
    = shapeCast S64x384x2048 (extractStridedSlice S1x64x384x2048 ![0, 0, 0, 0] (m ((c.tc : Thread nD τ).loc main_arg5))
        slices_S4x64x384x2048_S1x64x384x2048_0_0_0_0) shapeCasts_S1x64x384x2048_S64x384x2048 := by
  simp only [entryContents, afterL_cons, afterL_nil]; after_reads_simp; rfl
theorem entry_g : entryContents preI m c (Proc.devRef .tc main_v26_3)
    = weights (m ((c.tc : Thread nD τ).loc main_arg0)) (m ((c.tc : Thread nD τ).loc main_arg1)) := by
  simp only [entryContents, afterL_cons, afterL_nil]; after_reads_simp; rfl
theorem entry_x : entryContents preI m c (Proc.devRef .tc main_v26_4) = m ((c.tc : Thread nD τ).loc main_arg2) := by
  simp only [entryContents, afterL_cons, afterL_nil]; after_reads_simp; rfl
theorem entry_acc : entryContents preI m c (Proc.devRef .tc main_v26_6)
    = broadcastInDim S81920x2048 ![] bcast_S_S81920x2048 (constant (F := 𝕀) S_ .f32 0x00000000#32) := by
  simp only [entryContents, afterL_cons, afterL_nil]; after_reads_simp; rfl
end

/-- A decided bit as a weight. -/
theorem select_two (p q : Prop) [Decidable p] [Decidable q] (x y : EReal) :
    Scalar.select (IntOp.andi (BitVec.ofBool (decide p)) (BitVec.ofBool (decide q))) x y = if p ∧ q then x else y := by
  by_cases hp : p <;> by_cases hq : q <;> simp [hp, hq, Scalar.select, IntOp.andi]

theorem small_eq {x : BitVec 32} {n : ℕ} (hn : n < 64) : decide (x = BitVec.ofNat 32 n) = decide (x.toNat = n) := by
  congr 1
  rw [← BitVec.toNat_inj, BitVec.toNat_ofNat, Nat.mod_eq_of_lt (by omega)]

/-- A row is below the used rows exactly if its tile is a used one. -/
theorem below {r : ℕ} (hr : r < 81920) {u : BitVec 32} (hu : u.toNat ≤ 320) :
    (BitVec.ofNat 32 r).slt (u * 256#32) = decide (r / 256 < u.toNat) := by
  have e1 : (BitVec.ofNat 32 r).toNat = r := by rw [BitVec.toNat_ofNat]; omega
  have e2 : (u * 256#32).toNat = u.toNat * 256 := by rw [BitVec.toNat_mul]; show u.toNat * 256 % 2 ^ 32 = _; omega
  rw [BitVec.slt_eq_decide, BitVec.toInt_eq_toNat_of_lt (by omega), BitVec.toInt_eq_toNat_of_lt (by omega), e1, e2]
  congr 1
  apply propext
  constructor <;> intro h <;> omega

theorem weights_at (te : IVec S384 32) (u : IVec S1 32) (hu : ∀ x, (u x).toNat ≤ 320) (e : Fin 64) (r : Fin 81920) :
    weights te u (ix2 e r) = gate (fun t => (te (ix1 t)).toNat) (u (ix1 (n0 := 1) 0)).toNat e.val r := by
  unfold weights
  pointwise
  show Scalar.select (IntOp.andi (BitVec.ofBool (decide (_ = _))) (BitVec.ofBool (BitVec.slt _ (_ * 256#32)))) 1 0 = _
  rw [small_eq e.isLt, below r.isLt (hu _), select_two]
  rfl

/-! ## The result -/

section
variable (m : (ℓ : Loc nD τ sig) → Buf (Elt 𝕀) ℓ) (c : Dev nD)

/-- The rows. -/
def inX (r : Fin 81920) (k : Fin 2048) : EReal := (m ((c.tc : Thread nD τ).loc main_arg2) : S81920x2048.Idx → EReal) (ix2 r k)
/-- The experts' first matrices. -/
def inA (e : Fin 64) (k : Fin 2048) (f : Fin 384) : EReal := (m ((c.tc : Thread nD τ).loc main_arg3) : S4x64x2048x384.Idx → EReal) (ix4 0 e k f)
/-- The experts' second matrices. -/
def inB (e : Fin 64) (k : Fin 2048) (f : Fin 384) : EReal := (m ((c.tc : Thread nD τ).loc main_arg4) : S4x64x2048x384.Idx → EReal) (ix4 0 e k f)
/-- The experts' last matrices. -/
def inC (e : Fin 64) (f : Fin 384) (j : Fin 2048) : EReal := (m ((c.tc : Thread nD τ).loc main_arg5) : S4x64x384x2048.Idx → EReal) (ix4 0 e f j)
/-- The tiles' experts. -/
def inT (t : Fin 384) : ℕ := ((m ((c.tc : Thread nD τ).loc main_arg0) : S384.Idx → BitVec 32) (ix1 t)).toNat
/-- The number of tiles used. -/
def inU : ℕ := ((m ((c.tc : Thread nD τ).loc main_arg1) : S1.Idx → BitVec 32) (ix1 (n0 := 1) 0)).toNat

theorem inv_entry (hu : ∀ x, ((m ((c.tc : Thread nD τ).loc main_arg1) : S1.Idx → BitVec 32) x).toNat ≤ 320) :
    Inv (inX m c) (inA m c) (inB m c) (inC m c) (inT m c) (inU m c) 0 (entryContents preI m c) := by
  refine ⟨fun e k f => ?_, fun e k f => ?_, fun e f j => ?_, fun e r => ?_, fun r k => ?_, ctr_entry m c, fun r j => ?_⟩
  · rw [entry_a]
    unfold inA
    generalize (m ((c.tc : Thread nD τ).loc main_arg3) : S4x64x2048x384.Idx → EReal) = W
    pointwise
  · rw [entry_b]
    unfold inB
    generalize (m ((c.tc : Thread nD τ).loc main_arg4) : S4x64x2048x384.Idx → EReal) = W
    pointwise
  · rw [entry_c]
    unfold inC
    generalize (m ((c.tc : Thread nD τ).loc main_arg5) : S4x64x384x2048.Idx → EReal) = W
    pointwise
  · rw [entry_g]
    exact weights_at _ _ hu e r
  · rw [entry_x]
    rfl
  · rw [entry_acc, upTo_zero]
    pointwise

/-- The reference's result: every expert's rows have their answers, the other rows are zeros. -/
theorem result_at (hu : ∀ x, ((m ((c.tc : Thread nD τ).loc main_arg1) : S1.Idx → BitVec 32) x).toNat ≤ 320) (r : Fin 81920) (j : Fin 2048) :
    ((STEP^[64] (entryContents preI m c)) (Proc.devRef .tc main_v26_6) : S81920x2048.Idx → EReal) (ix2 r j)
      = upTo (inX m c) (inA m c) (inB m c) (inC m c) (inT m c) (inU m c) 64 r j :=
  (inv_iter (inv_entry m c hu) 64 le_rfl).acc r j
end

end Cert.ExpertsReferenceIdeal.Value
-- ==== Proof.ProjCarry.lean ====
module

public import Idealize.ShloMosaic.PureOps.Ideal

/-!
What the projections' calls share: a block taken at every eighth point and kept until the next.
-/

@[expose] public section
noncomputable section
namespace Projected

/-- A block that is taken anew where the point is a multiple of eight, and is otherwise the one before, is at every point the
one of its eight; so is what is computed from it. -/
theorem carried {N : ℕ} {α β : Type} (outs : (n : ℕ) → n < N → α × β) (block : Fin N → β) (res : Fin N → β → α)
    (same : ∀ t t' : Fin N, t.val / 8 = t'.val / 8 → block t = block t')
    (first : ∀ t : Fin N, t.val % 8 = 0 → outs t.val t.isLt = (res t (block t), block t))
    (later : ∀ t : Fin N, ¬t.val % 8 = 0 → outs t.val t.isLt
      = (res t (outs (t.val - 1) (Nat.lt_of_le_of_lt (Nat.sub_le _ _) t.isLt)).2, (outs (t.val - 1) (Nat.lt_of_le_of_lt (Nat.sub_le _ _) t.isLt)).2))
    (n : ℕ) (hn : n < N) : outs n hn = (res ⟨n, hn⟩ (block ⟨n, hn⟩), block ⟨n, hn⟩) := by
  induction n with
  | zero => exact first ⟨0, hn⟩ rfl
  | succ n ih =>
    by_cases h0 : (n + 1) % 8 = 0
    · exact first ⟨n + 1, hn⟩ h0
    · refine (later ⟨n + 1, hn⟩ h0).trans ?_
      have e : (outs n (by omega)).2 = block ⟨n + 1, hn⟩ := by
        rw [ih]
        exact same _ _ (by show n / 8 = (n + 1) / 8; omega)
      exact congrArg₂ Prod.mk (congrArg _ e) e

/-- The tail's columns: the spatial gating's, the decays' and the rates' sixteen, and empty lanes. -/
def tail (w : Fin 6672 → EReal) (j : Fin 1152) : EReal :=
  if h : j.val < 1024 then w ⟨5648 + j.val, by omega⟩
  else if h : j.val < 1040 then w ⟨4608 + j.val, by omega⟩ else 0

end Projected
-- ==== Proof.ProjSb.lean ====
module

public import proofs.«01_k».proof.Proof.Gen.ProjSbIdeal.Value
public import proofs.«01_k».proof.Proof.Gen.ProjSbReferenceIdeal.Run
public import proofs.«01_k».proof.Proof.ProjCarry
public import proofs.«01_k».proof.Proof.Read

/-!
The projection call of the stick-breaking heads. The weights' column block is taken into the scratch at its first row block and
stays there for the other seven; every output block is the row block's product with it.
-/

@[expose] public section
set_option maxRecDepth 16384
noncomputable section

namespace Cert.ProjSbIdeal.Value
open Cert.ProjSbIdeal Cert.ProjSbIdeal.Gen Idealize.ShloMosaic Idealize.ShloMosaic.TcCoe Idealize.SL.Sem
local notation "𝕀" => Idealize.ShloMosaic.Ideal

variable (m : (ℓ : Loc nD τ sig) → Buf (Elt 𝕀) ℓ) (c : Dev nD)

/-! ## The staged blocks -/

theorem idx0 : ∀ t : Fin cfg0.N, win0_0.index t (0 : Fin 2) = t.val % 8 ∧ win0_0.index t (1 : Fin 2) = 0 := by decide +kernel
theorem idx1 : ∀ t : Fin cfg0.N, win0_1.index t (0 : Fin 3) = 0 ∧ win0_1.index t (1 : Fin 3) = 0
    ∧ win0_1.index t (2 : Fin 3) = t.val / 8 := by decide +kernel
theorem tlt (t : Fin cfg0.N) : t.val < 24 := lt_of_lt_of_eq t.isLt N_0

/-- The argument's rows. -/
def inH : Fin 8192 → Fin 2048 → EReal := fun r k => (m ((c : Thread nD τ).loc main_arg0) : S8192x2048.Idx → EReal) (ix2 r k)
/-- The first layer's weights. -/
def inW : Fin 2048 → Fin 6672 → EReal := fun k j => (m ((c : Thread nD τ).loc main_arg1) : S4x2048x6672.Idx → EReal) (ix3 (0 : Fin 4) k j)

/-- The row block. -/
theorem h_at (t : Fin cfg0.N) (p : Fin 1024) (k : Fin 2048) :
    (iblk m c 0 t : S1024x2048.Idx → EReal) (ix2 p k) = inH m c ⟨1024 * (t.val % 8) + p.val, by omega⟩ k := by
  obtain ⟨e0, e1⟩ := idx0 t
  unfold inH
  blk_ext [iblk, V, e0, e1]

/-- The column block. -/
theorem w_at (t : Fin cfg0.N) (k : Fin 2048) (q : Fin 512) :
    (X0_1 m c t : S1x2048x512.Idx → EReal) (ix3 (0 : Fin 1) k q)
      = inW m c k ⟨512 * (t.val / 8) + q.val, by have := tlt t; omega⟩ := by
  obtain ⟨e0, e1, e2⟩ := idx1 t
  unfold X0_1 Pipeline.Window.fill inW
  rw [dif_pos (moved0_1 t _)]
  blk_ext [iblk, V, e0, e1, e2]

/-! ## The points -/

/-- The column block, narrowed. -/
theorem scr_at (t : Fin cfg0.N) (k : Fin 2048) (q : Fin 512) : (k0_pay1 (X0_1 m c t) : S2048x512.Idx → EReal) (ix2 k q)
    = inW m c k ⟨512 * (t.val / 8) + q.val, by have := tlt t; omega⟩ := by
  have hw := w_at m c t
  generalize (X0_1 m c t : S1x2048x512.Idx → EReal) = X at hw ⊢
  pointwise [k0_pay1]
  exact hw k q

/-- The eight points of a column block read the same weights. -/
theorem same (t t' : Fin cfg0.N) (h : t.val / 8 = t'.val / 8) :
    (k0_pay1 (X0_1 m c t) : S2048x512.Idx → EReal) = k0_pay1 (X0_1 m c t') := by
  funext y
  rw [← ix2_eta y]
  refine (scr_at m c t (y 0) (y 1)).trans (Eq.trans ?_ (scr_at m c t' (y 0) (y 1)).symm)
  simp only [h]

/-- The product with the block in the scratch. -/
theorem out_at (t : Fin cfg0.N) (s : S2048x512.Idx → EReal) (p : Fin 1024) (q : Fin 512) :
    (k0_pay2 (F := 𝕀) (iblk m c 0 t) s : S1024x512.Idx → EReal) (ix2 p q)
      = ∑ k : Fin 2048, inH m c ⟨1024 * (t.val % 8) + p.val, by omega⟩ k * s (ix2 k q) := by
  have hh := h_at m c t
  generalize (iblk m c 0 t : S1024x2048.Idx → EReal) = X at hh ⊢
  pointwise [k0_pay2]
  simp only [hh]

/-- Where a column block begins, the scratch takes it. -/
theorem first (t : Fin cfg0.N) (h0 : t.val % 8 = 0) : outsAt0 m c t.val t.isLt
    = (k0_pay2 (iblk m c 0 t) (k0_pay1 (X0_1 m c t)), k0_pay1 (X0_1 m c t)) := by
  rw [outsAt0_A m c t h0]
  refine Prod.ext ?_ ?_
  · funext y
    frame_out
  · funext y
    frame_out

/-- Elsewhere the scratch keeps what it held. -/
theorem later (t : Fin cfg0.N) (h0 : ¬t.val % 8 = 0) : outsAt0 m c t.val t.isLt
    = (k0_pay2 (iblk m c 0 t) (outsAt0 m c (t.val - 1) (Nat.lt_of_le_of_lt (Nat.sub_le _ _) t.isLt)).2,
        (outsAt0 m c (t.val - 1) (Nat.lt_of_le_of_lt (Nat.sub_le _ _) t.isLt)).2) := by
  rw [outsAt0_B m c t h0]
  refine Prod.ext ?_ rfl
  funext y
  frame_out
  simp only [read_unread_whole]

/-- The call's array is the product of the rows with the first 1536 columns. -/
theorem result_at (r : Fin 8192) (j : Fin 1536) : (G2 m c : S8192x1536.Idx → EReal) (ix2 r j)
    = ∑ k : Fin 2048, inH m c r k * inW m c k ⟨j.val, by omega⟩ := by
  have hr := r.isLt
  have hj := j.isLt
  have hp : pt2Of (ix2 r j) = r.val / 1024 + 8 * (j.val / 512) := by
    show 1 * (r.val / 1024 - 0) + 8 * (j.val / 512 - 0) = _
    omega
  have hlt : pt2Of (ix2 r j) < cfg0.N := by rw [hp]; exact lt_of_lt_of_eq (by omega) N_0.symm
  have hl : loc2Of (ix2 r j) = ix2 ⟨r.val % 1024, Nat.mod_lt _ (by norm_num)⟩ ⟨j.val % 512, Nat.mod_lt _ (by norm_num)⟩ := by
    funext a
    match a with
    | ⟨0, _⟩ => rfl
    | ⟨1, _⟩ => rfl
  unfold G2
  rw [dif_pos hlt, ← outsAt0_sweep m c _ hlt, hl, Projected.carried (outsAt0 m c) _ _ (same m c) (first m c) (later m c)]
  refine (out_at m c ⟨_, hlt⟩ _ _ _).trans (Finset.sum_congr rfl fun k _ => ?_)
  rw [scr_at]
  congr 2
  · refine Fin.ext ?_
    show 1024 * (pt2Of (ix2 r j) % 8) + r.val % 1024 = r.val
    rw [hp]
    omega
  · refine Fin.ext ?_
    show 512 * (pt2Of (ix2 r j) / 8) + j.val % 512 = j.val
    rw [hp]
    omega

end Cert.ProjSbIdeal.Value

namespace Cert.ProjSbReferenceIdeal.Value
open Cert.ProjSbReferenceIdeal Cert.ProjSbReferenceIdeal.Gen Idealize.ShloMosaic Idealize.ShloMosaic.TcCoe Idealize.SL.Sem
local notation "𝕀" => Idealize.ShloMosaic.Ideal

/-- The reference's array is that product. -/
theorem result_at (h : FVec 𝕀 S8192x2048 .bf16) (w : FVec 𝕀 S4x2048x6672 .f32) (r : Fin 8192) (j : Fin 1536) :
    (truncf .bf16 (Host.dotGeneral dot_S8192x2048_S2048x1536_S8192x1536_1_0_0_1_n_n none (extf .f32 h bitsLt_bf16_f32)
      (extractStridedSlice S2048x1536 ![0, 0] (shapeCast _ (extractStridedSlice S1x2048x6672 ![0, 0, 0] w
        slices_S4x2048x6672_S1x2048x6672_0_0_0) shapeCasts_S1x2048x6672_S2048x6672) slices_S2048x6672_S2048x1536_0_0)) bitsLt_bf16_f32
      : S8192x1536.Idx → EReal) (ix2 r j) = ∑ k : Fin 2048, h (ix2 r k) * w (ix3 (0 : Fin 4) k (⟨j.val, by omega⟩ : Fin 6672)) := by
  pointwise

end Cert.ProjSbReferenceIdeal.Value
-- ==== Proof.ProjGdn.lean ====
module

public import proofs.«01_k».proof.Proof.Gen.ProjGdnIdeal.Value
public import proofs.«01_k».proof.Proof.Gen.ProjGdnReferenceIdeal.Run
public import proofs.«01_k».proof.Proof.ProjCarry
public import proofs.«01_k».proof.Proof.Read

/-!
The projection call of the DeltaNet heads. The weights' column block is taken into the scratch at its first row block and
stays there for the other seven; every output block is the row block's product with it.
-/

@[expose] public section
set_option maxRecDepth 16384
noncomputable section

namespace Cert.ProjGdnIdeal.Value
open Cert.ProjGdnIdeal Cert.ProjGdnIdeal.Gen Idealize.ShloMosaic Idealize.ShloMosaic.TcCoe Idealize.SL.Sem
local notation "𝕀" => Idealize.ShloMosaic.Ideal

variable (m : (ℓ : Loc nD τ sig) → Buf (Elt 𝕀) ℓ) (c : Dev nD)

/-! ## The staged blocks -/

theorem idx0 : ∀ t : Fin cfg0.N, win0_0.index t (0 : Fin 2) = t.val % 8 ∧ win0_0.index t (1 : Fin 2) = 0 := by decide +kernel
theorem idx1 : ∀ t : Fin cfg0.N, win0_1.index t (0 : Fin 3) = 0 ∧ win0_1.index t (1 : Fin 3) = 0
    ∧ win0_1.index t (2 : Fin 3) = t.val / 8 + 3 := by decide +kernel
theorem tlt (t : Fin cfg0.N) : t.val < 64 := lt_of_lt_of_eq t.isLt N_0

/-- The argument's rows. -/
def inH : Fin 8192 → Fin 2048 → EReal := fun r k => (m ((c : Thread nD τ).loc main_arg0) : S8192x2048.Idx → EReal) (ix2 r k)
/-- The first layer's weights. -/
def inW : Fin 2048 → Fin 6672 → EReal := fun k j => (m ((c : Thread nD τ).loc main_arg1) : S4x2048x6672.Idx → EReal) (ix3 (0 : Fin 4) k j)

/-- The row block. -/
theorem h_at (t : Fin cfg0.N) (p : Fin 1024) (k : Fin 2048) :
    (iblk m c 0 t : S1024x2048.Idx → EReal) (ix2 p k) = inH m c ⟨1024 * (t.val % 8) + p.val, by omega⟩ k := by
  obtain ⟨e0, e1⟩ := idx0 t
  unfold inH
  blk_ext [iblk, V, e0, e1]

/-- The column block. -/
theorem w_at (t : Fin cfg0.N) (k : Fin 2048) (q : Fin 512) :
    (X0_1 m c t : S1x2048x512.Idx → EReal) (ix3 (0 : Fin 1) k q)
      = inW m c k ⟨512 * (t.val / 8 + 3) + q.val, by have := tlt t; omega⟩ := by
  obtain ⟨e0, e1, e2⟩ := idx1 t
  unfold X0_1 Pipeline.Window.fill inW
  rw [dif_pos (moved0_1 t _)]
  blk_ext [iblk, V, e0, e1, e2]

/-! ## The points -/

/-- The column block, narrowed. -/
theorem scr_at (t : Fin cfg0.N) (k : Fin 2048) (q : Fin 512) : (k0_pay1 (X0_1 m c t) : S2048x512.Idx → EReal) (ix2 k q)
    = inW m c k ⟨512 * (t.val / 8 + 3) + q.val, by have := tlt t; omega⟩ := by
  have hw := w_at m c t
  generalize (X0_1 m c t : S1x2048x512.Idx → EReal) = X at hw ⊢
  pointwise [k0_pay1]
  exact hw k q

/-- The eight points of a column block read the same weights. -/
theorem same (t t' : Fin cfg0.N) (h : t.val / 8 = t'.val / 8) :
    (k0_pay1 (X0_1 m c t) : S2048x512.Idx → EReal) = k0_pay1 (X0_1 m c t') := by
  funext y
  rw [← ix2_eta y]
  refine (scr_at m c t (y 0) (y 1)).trans (Eq.trans ?_ (scr_at m c t' (y 0) (y 1)).symm)
  simp only [h]

/-- The product with the block in the scratch. -/
theorem out_at (t : Fin cfg0.N) (s : S2048x512.Idx → EReal) (p : Fin 1024) (q : Fin 512) :
    (k0_pay2 (F := 𝕀) (iblk m c 0 t) s : S1024x512.Idx → EReal) (ix2 p q)
      = ∑ k : Fin 2048, inH m c ⟨1024 * (t.val % 8) + p.val, by omega⟩ k * s (ix2 k q) := by
  have hh := h_at m c t
  generalize (iblk m c 0 t : S1024x2048.Idx → EReal) = X at hh ⊢
  pointwise [k0_pay2]
  simp only [hh]

/-- Where a column block begins, the scratch takes it. -/
theorem first (t : Fin cfg0.N) (h0 : t.val % 8 = 0) : outsAt0 m c t.val t.isLt
    = (k0_pay2 (iblk m c 0 t) (k0_pay1 (X0_1 m c t)), k0_pay1 (X0_1 m c t)) := by
  rw [outsAt0_A m c t h0]
  refine Prod.ext ?_ ?_
  · funext y
    frame_out
  · funext y
    frame_out

/-- Elsewhere the scratch keeps what it held. -/
theorem later (t : Fin cfg0.N) (h0 : ¬t.val % 8 = 0) : outsAt0 m c t.val t.isLt
    = (k0_pay2 (iblk m c 0 t) (outsAt0 m c (t.val - 1) (Nat.lt_of_le_of_lt (Nat.sub_le _ _) t.isLt)).2,
        (outsAt0 m c (t.val - 1) (Nat.lt_of_le_of_lt (Nat.sub_le _ _) t.isLt)).2) := by
  rw [outsAt0_B m c t h0]
  refine Prod.ext ?_ rfl
  funext y
  frame_out
  simp only [read_unread_whole]

/-- The call's array is the product of the rows with the columns from 1536 on. -/
theorem result_at (r : Fin 8192) (j : Fin 4096) : (G2 m c : S8192x4096.Idx → EReal) (ix2 r j)
    = ∑ k : Fin 2048, inH m c r k * inW m c k ⟨1536 + j.val, by omega⟩ := by
  have hr := r.isLt
  have hj := j.isLt
  have hp : pt2Of (ix2 r j) = r.val / 1024 + 8 * (j.val / 512) := by
    show 1 * (r.val / 1024 - 0) + 8 * (j.val / 512 - 0) = _
    omega
  have hlt : pt2Of (ix2 r j) < cfg0.N := by rw [hp]; exact lt_of_lt_of_eq (by omega) N_0.symm
  have hl : loc2Of (ix2 r j) = ix2 ⟨r.val % 1024, Nat.mod_lt _ (by norm_num)⟩ ⟨j.val % 512, Nat.mod_lt _ (by norm_num)⟩ := by
    funext a
    match a with
    | ⟨0, _⟩ => rfl
    | ⟨1, _⟩ => rfl
  unfold G2
  rw [dif_pos hlt, ← outsAt0_sweep m c _ hlt, hl, Projected.carried (outsAt0 m c) _ _ (same m c) (first m c) (later m c)]
  refine (out_at m c ⟨_, hlt⟩ _ _ _).trans (Finset.sum_congr rfl fun k _ => ?_)
  rw [scr_at]
  congr 2
  · refine Fin.ext ?_
    show 1024 * (pt2Of (ix2 r j) % 8) + r.val % 1024 = r.val
    rw [hp]
    omega
  · refine Fin.ext ?_
    show 512 * (pt2Of (ix2 r j) / 8 + 3) + j.val % 512 = 1536 + j.val
    rw [hp]
    omega

end Cert.ProjGdnIdeal.Value

namespace Cert.ProjGdnReferenceIdeal.Value
open Cert.ProjGdnReferenceIdeal Cert.ProjGdnReferenceIdeal.Gen Idealize.ShloMosaic Idealize.ShloMosaic.TcCoe Idealize.SL.Sem
local notation "𝕀" => Idealize.ShloMosaic.Ideal

/-- The reference's array is that product. -/
theorem result_at (h : FVec 𝕀 S8192x2048 .bf16) (w : FVec 𝕀 S4x2048x6672 .f32) (r : Fin 8192) (j : Fin 4096) :
    (Host.dotGeneral dot_S8192x2048_S2048x4096_S8192x4096_1_0_0_1_n_n none (extf .f32 h bitsLt_bf16_f32)
      (extractStridedSlice S2048x4096 ![0, 1536] (shapeCast _ (extractStridedSlice S1x2048x6672 ![0, 0, 0] w
        slices_S4x2048x6672_S1x2048x6672_0_0_0) shapeCasts_S1x2048x6672_S2048x6672) slices_S2048x6672_S2048x4096_0_1536)
      : S8192x4096.Idx → EReal) (ix2 r j) = ∑ k : Fin 2048, h (ix2 r k) * w (ix3 (0 : Fin 4) k (⟨1536 + j.val, by omega⟩ : Fin 6672)) := by
  pointwise

end Cert.ProjGdnReferenceIdeal.Value
-- ==== Proof.ProjTail.lean ====
module

public import proofs.«01_k».proof.Proof.Gen.ProjTailIdeal.Value
public import proofs.«01_k».proof.Proof.Gen.ProjTailReferenceIdeal.Run
public import proofs.«01_k».proof.Proof.ProjCarry
public import proofs.«01_k».proof.Proof.Read

/-!
The projection call of the tail. The weights' columns are put together before it; they are taken into the scratch at the first row block and
stay there for the other seven; every output block is the row block's product with it.
-/

@[expose] public section
set_option maxRecDepth 16384
noncomputable section

namespace Cert.ProjTailIdeal.Value
open Cert.ProjTailIdeal Cert.ProjTailIdeal.Gen Idealize.ShloMosaic Idealize.ShloMosaic.TcCoe Idealize.SL.Sem
local notation "𝕀" => Idealize.ShloMosaic.Ideal

variable (m : (ℓ : Loc nD τ sig) → Buf (Elt 𝕀) ℓ) (c : Dev nD)

/-! ## The staged blocks -/

theorem idx0 : ∀ t : Fin cfg0.N, win0_0.index t (0 : Fin 2) = t.val % 8 ∧ win0_0.index t (1 : Fin 2) = 0 := by decide +kernel
theorem idx1 : ∀ t : Fin cfg0.N, win0_1.index t (0 : Fin 3) = 0 ∧ win0_1.index t (1 : Fin 3) = 0
    ∧ win0_1.index t (2 : Fin 3) = 0 := by decide +kernel
theorem tlt (t : Fin cfg0.N) : t.val < 8 := lt_of_lt_of_eq t.isLt N_0

/-- The argument's rows. -/
def inH : Fin 8192 → Fin 2048 → EReal := fun r k => (m ((c : Thread nD τ).loc main_arg0) : S8192x2048.Idx → EReal) (ix2 r k)
/-- The first layer's weights. -/
def inW : Fin 2048 → Fin 6672 → EReal := fun k j => (m ((c : Thread nD τ).loc main_arg1) : S4x2048x6672.Idx → EReal) (ix3 (0 : Fin 4) k j)

/-- The row block. -/
theorem h_at (t : Fin cfg0.N) (p : Fin 1024) (k : Fin 2048) :
    (iblk m c 0 t : S1024x2048.Idx → EReal) (ix2 p k) = inH m c ⟨1024 * (t.val % 8) + p.val, by omega⟩ k := by
  obtain ⟨e0, e1⟩ := idx0 t
  unfold inH
  blk_ext [iblk, V, e0, e1]

/-- The columns put together, as the call's host lines do. -/
def columns (w : FVec 𝕀 S4x2048x6672 .f32) : FVec 𝕀 S4x2048x1152 .f32 :=
  concatenate S4x2048x1152 2 [⟨S4x2048x1024, extractStridedSlice S4x2048x1024 ![0, 0, 5648] w slices_S4x2048x6672_S4x2048x1024_0_0_5648⟩,
    ⟨S4x2048x128, pad S4x2048x128 ![0, 0, 0] ![0, 0, 112] ![0, 0, 0]
      (extractStridedSlice S4x2048x16 ![0, 0, 5632] w slices_S4x2048x6672_S4x2048x16_0_0_5632) (sitofp .f32 (constantI S_ 32 0#32))
      pads_S4x2048x16_S4x2048x128_000_000_01120 h_S_⟩] concatenates_S4x2048x1024_S4x2048x128_S4x2048x1152_d2

/-- The weights' array at the call. -/
theorem entry_columns : V m c main_v3 = columns (m ((c : Thread nD τ).loc main_arg1)) := by
  simp only [V, List.flatten_cons, List.flatten_nil, List.append_nil, List.cons_append, List.nil_append, StableHlo.after_cons, StableHlo.after_nil]
  after_results_simp
  rfl

/-- At the first layer they are the tail's columns. -/
theorem columns_at (w : FVec 𝕀 S4x2048x6672 .f32) (k : Fin 2048) (q : Fin 1152) :
    (columns w : S4x2048x1152.Idx → EReal) (ix3 (0 : Fin 4) k q) = Projected.tail (fun j => w (ix3 (0 : Fin 4) k j)) q := by
  have hq := q.isLt
  unfold columns Projected.tail
  pointwise
  split
  · rfl
  · by_cases h1 : q.val < 1040
    · rw [dif_pos (by omega), dif_pos h1]
      refine congrArg (fun x => w (ix3 (0 : Fin 4) k x)) (Fin.ext ?_)
      show 5632 + (q.val - 1024) = 4608 + q.val
      omega
    · rw [dif_neg (by omega), dif_neg h1]
      simp [FloatOps.sitofp]

/-- The columns. -/
theorem w_at (t : Fin cfg0.N) (k : Fin 2048) (q : Fin 1152) :
    (iblk m c 1 t : S1x2048x1152.Idx → EReal) (ix3 (0 : Fin 1) k q)
      = Projected.tail (inW m c k) q := by
  obtain ⟨e0, e1, e2⟩ := idx1 t
  blk_simp [iblk, e0, e1, e2]
  rw [entry_columns]
  refine Eq.trans (congrArg _ ?_) (columns_at _ k q)
  blk_ext [e0, e1, e2]

/-! ## The points -/

/-- The column block, narrowed. -/
theorem scr_at (t : Fin cfg0.N) (k : Fin 2048) (q : Fin 1152) : (k0_pay1 (iblk m c 1 t) : S2048x1152.Idx → EReal) (ix2 k q)
    = Projected.tail (inW m c k) q := by
  have hw := w_at m c t
  generalize (iblk m c 1 t : S1x2048x1152.Idx → EReal) = X at hw ⊢
  pointwise [k0_pay1]
  exact hw k q

/-- The eight points of a column block read the same weights. -/
theorem same (t t' : Fin cfg0.N) (h : t.val / 8 = t'.val / 8) :
    (k0_pay1 (iblk m c 1 t) : S2048x1152.Idx → EReal) = k0_pay1 (iblk m c 1 t') := by
  funext y
  rw [← ix2_eta y]
  refine (scr_at m c t (y 0) (y 1)).trans (Eq.trans ?_ (scr_at m c t' (y 0) (y 1)).symm)
  simp only [h]

/-- The product with the block in the scratch. -/
theorem out_at (t : Fin cfg0.N) (s : S2048x1152.Idx → EReal) (p : Fin 1024) (q : Fin 1152) :
    (k0_pay2 (F := 𝕀) (iblk m c 0 t) s : S1024x1152.Idx → EReal) (ix2 p q)
      = ∑ k : Fin 2048, inH m c ⟨1024 * (t.val % 8) + p.val, by omega⟩ k * s (ix2 k q) := by
  have hh := h_at m c t
  generalize (iblk m c 0 t : S1024x2048.Idx → EReal) = X at hh ⊢
  pointwise [k0_pay2]
  simp only [hh]

/-- Where a column block begins, the scratch takes it. -/
theorem first (t : Fin cfg0.N) (h0 : t.val % 8 = 0) : outsAt0 m c t.val t.isLt
    = (k0_pay2 (iblk m c 0 t) (k0_pay1 (iblk m c 1 t)), k0_pay1 (iblk m c 1 t)) := by
  rw [outsAt0_A m c t h0]
  refine Prod.ext ?_ ?_
  · funext y
    frame_out
  · funext y
    frame_out

/-- Elsewhere the scratch keeps what it held. -/
theorem later (t : Fin cfg0.N) (h0 : ¬t.val % 8 = 0) : outsAt0 m c t.val t.isLt
    = (k0_pay2 (iblk m c 0 t) (outsAt0 m c (t.val - 1) (Nat.lt_of_le_of_lt (Nat.sub_le _ _) t.isLt)).2,
        (outsAt0 m c (t.val - 1) (Nat.lt_of_le_of_lt (Nat.sub_le _ _) t.isLt)).2) := by
  rw [outsAt0_B m c t h0]
  refine Prod.ext ?_ rfl
  funext y
  frame_out
  simp only [read_unread_whole]

/-- The call's array is the product of the rows with the tail's columns. -/
theorem result_at (r : Fin 8192) (j : Fin 1152) : (G2 m c : S8192x1152.Idx → EReal) (ix2 r j)
    = ∑ k : Fin 2048, inH m c r k * Projected.tail (inW m c k) j := by
  have hr := r.isLt
  have hj := j.isLt
  have hp : pt2Of (ix2 r j) = r.val / 1024 := by
    show 1 * (r.val / 1024 - 0) + 1 * (j.val / 1152 - 0) = _
    omega
  have hlt : pt2Of (ix2 r j) < cfg0.N := by rw [hp]; exact lt_of_lt_of_eq (by omega) N_0.symm
  have hl : loc2Of (ix2 r j) = ix2 ⟨r.val % 1024, Nat.mod_lt _ (by norm_num)⟩ ⟨j.val % 1152, Nat.mod_lt _ (by norm_num)⟩ := by
    funext a
    match a with
    | ⟨0, _⟩ => rfl
    | ⟨1, _⟩ => rfl
  unfold G2
  rw [dif_pos hlt, ← outsAt0_sweep m c _ hlt, hl, Projected.carried (outsAt0 m c) _ _ (same m c) (first m c) (later m c)]
  refine (out_at m c ⟨_, hlt⟩ _ _ _).trans (Finset.sum_congr rfl fun k _ => ?_)
  rw [scr_at]
  congr 2
  · refine Fin.ext ?_
    show 1024 * (pt2Of (ix2 r j) % 8) + r.val % 1024 = r.val
    rw [hp]
    omega
  · exact Fin.ext (Nat.mod_eq_of_lt hj)

end Cert.ProjTailIdeal.Value

namespace Cert.ProjTailReferenceIdeal.Value
open Cert.ProjTailReferenceIdeal Cert.ProjTailReferenceIdeal.Gen Idealize.ShloMosaic Idealize.ShloMosaic.TcCoe Idealize.SL.Sem
local notation "𝕀" => Idealize.ShloMosaic.Ideal

/-- The product's columns, put together as the reference does. -/
def joined (p : FVec 𝕀 S8192x1040 .f32) : FVec 𝕀 S8192x1152 .f32 :=
  concatenate S8192x1152 1 [⟨S8192x1024, extractStridedSlice S8192x1024 ![0, 16] p slices_S8192x1040_S8192x1024_0_16⟩,
    ⟨S8192x16, extractStridedSlice S8192x16 ![0, 0] p slices_S8192x1040_S8192x16_0_0⟩,
    ⟨S8192x112, broadcastInDim S8192x112 ![] bcast_S_S8192x112 (constant S_ .f32 0x00000000#32)⟩]
    concatenates_S8192x1024_S8192x16_S8192x112_S8192x1152_d1

/-- The reference's array is that product. -/
theorem result_at (h : FVec 𝕀 S8192x2048 .bf16) (w : FVec 𝕀 S4x2048x6672 .f32) (r : Fin 8192) (j : Fin 1152) :
    (joined (Host.dotGeneral dot_S8192x2048_S2048x1040_S8192x1040_1_0_0_1_n_n none (extf .f32 h bitsLt_bf16_f32)
      (extractStridedSlice S2048x1040 ![0, 5632] (shapeCast _ (extractStridedSlice S1x2048x6672 ![0, 0, 0] w
        slices_S4x2048x6672_S1x2048x6672_0_0_0) shapeCasts_S1x2048x6672_S2048x6672) slices_S2048x6672_S2048x1040_0_5632))
      : S8192x1152.Idx → EReal) (ix2 r j) = ∑ k : Fin 2048, h (ix2 r k) * Projected.tail (fun j => w (ix3 (0 : Fin 4) k j)) j := by
  unfold joined Projected.tail
  pointwise
  have hj := j.isLt
  split
  · refine Finset.sum_congr rfl fun k _ => congrArg (fun x => h (ix2 r k) * w (ix3 (0 : Fin 4) k x)) (Fin.ext ?_)
    show 5632 + (16 + j.val) = 5648 + j.val
    omega
  · by_cases h1 : j.val < 1040
    · rw [dif_pos (by omega)]
      simp only [dif_pos h1]
      refine Finset.sum_congr rfl fun k _ => congrArg (fun x => h (ix2 r k) * w (ix3 (0 : Fin 4) k x)) (Fin.ext ?_)
      show 5632 + (j.val - 1024) = 4608 + j.val
      omega
    · rw [dif_neg (by omega)]
      simp only [dif_neg h1, mul_zero, Finset.sum_const_zero]

end Cert.ProjTailReferenceIdeal.Value
-- ==== Proof.NormMath.lean ====
module

public import Idealize.ShloMosaic.PureOps.Ideal
public import Mathlib.Algebra.BigOperators.Fin
public import Mathlib.Tactic.Abel

/-!
The layer norm of a row and the sums that the calls with a norm are stated by.
-/

@[expose] public section
noncomputable section

namespace Norm
open Idealize.ShloMosaic

/-- A row's mean, the row's length in the constant's own bits. -/
def mean (v : Fin 2048 → EReal) : EReal := Ideal.div (∑ k, v k) (Ideal.ofBits FTy.f32 0x45000000#32)

/-- A row less its mean, over the root of its variance and a small constant, weighed and shifted. -/
def normed (v w b : Fin 2048 → EReal) (j : Fin 2048) : EReal :=
  (v j - mean v) * Ideal.rsqrt (Ideal.div (∑ k, (v k - mean v) * (v k - mean v)) (Ideal.ofBits FTy.f32 0x45000000#32)
    + Ideal.ofBits FTy.f32 0x3727C5AC#32) * w j + b j

/-- The residual entry `x`, scaled, and the sub-layer's answer `y` behind its gate `g`. -/
def weighed (x g y : EReal) : EReal := Ideal.ofBits FTy.f32 0x3FD744FD#32 * x + (1 + g) * y

/-- The modulation of an entry. -/
def modulated (x sc sh : EReal) : EReal := x * (1 + sc) + sh

/-- The three mixers' rows against their own rows of one column of weights. -/
def mixed (a : Fin 512 → EReal) (b : Fin 1024 → EReal) (c : Fin 512 → EReal) (w : Fin 2048 → EReal) : EReal :=
  (∑ k : Fin 512, a k * w ⟨k.val, by omega⟩) + (∑ k : Fin 1024, b k * w ⟨512 + k.val, by omega⟩)
    + ∑ k : Fin 512, c k * w ⟨1536 + k.val, by omega⟩

/-- One sum over the three rows laid side by side is the sum of the three. -/
theorem mixed_eq (a : Fin 512 → EReal) (b : Fin 1024 → EReal) (c : Fin 512 → EReal) (w v : Fin 2048 → EReal)
    (ha : ∀ k : Fin 512, v ⟨k.val, by omega⟩ = a k) (hb : ∀ k : Fin 1024, v ⟨512 + k.val, by omega⟩ = b k)
    (hc : ∀ k : Fin 512, v ⟨1536 + k.val, by omega⟩ = c k) : ∑ k, v k * w k = mixed a b c w := by
  rw [Fin.sum_univ_add (a := 1536) (b := 512) (fun k : Fin 2048 => v k * w k),
    Fin.sum_univ_add (a := 512) (b := 1024) (fun k : Fin 1536 => v (Fin.castAdd 512 k) * w (Fin.castAdd 512 k))]
  unfold mixed
  refine congrArg₂ _ (congrArg₂ _ (Finset.sum_congr rfl fun k _ => ?_) (Finset.sum_congr rfl fun k _ => ?_)) (Finset.sum_congr rfl fun k _ => ?_)
  · exact congrArg (· * _) (ha k)
  · exact congrArg (· * _) (hb k)
  · exact congrArg (· * _) (hc k)

/-- A token's eight weighted answers with the shared one. -/
def gathered (s : EReal) (g y : Fin 8 → EReal) : EReal := (∑ q, g q * y q) + s

/-- Added one after another to the shared one they come to the same. -/
theorem gathered_eq (s : EReal) (g y : Fin 8 → EReal) :
    s + g 0 * y 0 + g 1 * y 1 + g 2 * y 2 + g 3 * y 3 + g 4 * y 4 + g 5 * y 5 + g 6 * y 6 + g 7 * y 7 = gathered s g y := by
  unfold gathered
  rw [Fin.sum_univ_eight]
  abel

end Norm
-- ==== Proof.Outproj.lean ====
module

public import proofs.«01_k».proof.Proof.Gen.OutprojIdeal.Value
public import proofs.«01_k».proof.Proof.Gen.OutprojReferenceIdeal.Run
public import proofs.«01_k».proof.Proof.NormMath
public import proofs.«01_k».proof.Proof.Read
import Idealize.ShloMosaic.Lib.Pipeline.Covers

/-!
The output projection with its norm. A point of the call takes a block of rows through the three products, the residual, the norm and the
modulation; the reference puts the mixers' rows side by side and takes one product.
-/

@[expose] public section
set_option maxRecDepth 16384
noncomputable section

namespace Cert.OutprojIdeal.Value
open Cert.OutprojIdeal Cert.OutprojIdeal.Gen Idealize.ShloMosaic Idealize.ShloMosaic.TcCoe Idealize.SL.Sem
local notation "𝕀" => Idealize.ShloMosaic.Ideal

variable (m : (ℓ : Loc nD τ sig) → Buf (Elt 𝕀) ℓ) (c : Dev nD)

section
variable (x0 : Vec 𝕀 S256x2048 .f32) (x1 : Vec 𝕀 S256x512 .bf16) (x2 : Vec 𝕀 S256x1024 .bf16) (x3 : Vec 𝕀 S256x512 .bf16)
  (x4 : Vec 𝕀 S2048x2048 .bf16) (x5 x6 x7 x8 x9 : Vec 𝕀 S1x2048 .f32)

/-! ## A point -/

/-- The rows before the norm. -/
def before (p : Fin 256) (j : Fin 2048) : EReal := Norm.weighed ((x0 : S256x2048.Idx → EReal) (ix2 p j)) ((x5 : S1x2048.Idx → EReal) (ix2 0 j))
  (Norm.mixed (fun k => (x1 : S256x512.Idx → EReal) (ix2 p k)) (fun k => (x2 : S256x1024.Idx → EReal) (ix2 p k))
    (fun k => (x3 : S256x512.Idx → EReal) (ix2 p k)) (fun k => (x4 : S2048x2048.Idx → EReal) (ix2 k j)))

theorem before_at (p : Fin 256) (j : Fin 2048) : (k0_pay7 x0 x1 x2 x3 x4 x5 x6 x7 x8 x9 : FVec 𝕀 S256x2048 .f32) (ix2 p j) = before x0 x1 x2 x3 x4 x5 p j := by
  unfold before Norm.weighed Norm.mixed
  pointwise [k0_pay7, k0_pay3]

/-- Their means. -/
theorem mean_at (p : Fin 256) : (k0_pay10 x0 x1 x2 x3 x4 x5 x6 x7 x8 x9 : FVec 𝕀 S256x1 .f32) (ix2 p 0) = Norm.mean (before x0 x1 x2 x3 x4 x5 p) := by
  have h := before_at x0 x1 x2 x3 x4 x5 x6 x7 x8 x9
  unfold k0_pay7 at h
  unfold k0_pay10 k0_pay6 Norm.mean
  generalize k0_pay3 (F := 𝕀) _ _ _ _ _ _ _ _ = X at h ⊢
  pointwise
  simp only [h]

/-- The block of the first result. -/
theorem norm_at (p : Fin 256) (j : Fin 2048) :
    (out0_10 x0 x1 x2 x3 x4 x5 x6 x7 x8 x9 : S256x2048.Idx → EReal) (ix2 p j)
      = Norm.normed (before x0 x1 x2 x3 x4 x5 p) (fun k => (x6 : S1x2048.Idx → EReal) (ix2 0 k)) (fun k => (x7 : S1x2048.Idx → EReal) (ix2 0 k)) j := by
  have h := before_at x0 x1 x2 x3 x4 x5 x6 x7 x8 x9
  have h' := mean_at x0 x1 x2 x3 x4 x5 x6 x7 x8 x9
  unfold out0_10 Norm.normed
  frame_out
  generalize k0_pay7 x0 x1 x2 x3 x4 x5 x6 x7 x8 x9 = X at h ⊢
  generalize k0_pay10 x0 x1 x2 x3 x4 x5 x6 x7 x8 x9 = M at h' ⊢
  pointwise [k0_pay1, k0_pay8, k0_pay9, k0_pay4, k0_pay5]
  simp only [h, h']

/-- The block of the second result. -/
theorem modulated_at (p : Fin 256) (j : Fin 2048) :
    (out0_11 x0 x1 x2 x3 x4 x5 x6 x7 x8 x9 : S256x2048.Idx → EReal) (ix2 p j)
      = Norm.modulated ((out0_10 x0 x1 x2 x3 x4 x5 x6 x7 x8 x9 : S256x2048.Idx → EReal) (ix2 p j)) ((x8 : S1x2048.Idx → EReal) (ix2 0 j))
        ((x9 : S1x2048.Idx → EReal) (ix2 0 j)) := by
  unfold out0_11 out0_10 Norm.modulated
  frame_out
  generalize k0_pay7 x0 x1 x2 x3 x4 x5 x6 x7 x8 x9 = X
  generalize k0_pay8 x0 x1 x2 x3 x4 x5 x6 x7 x8 x9 = W
  generalize k0_pay9 x0 x1 x2 x3 x4 x5 x6 x7 x8 x9 = B
  generalize k0_pay10 x0 x1 x2 x3 x4 x5 x6 x7 x8 x9 = M
  pointwise [k0_pay2]
end

/-! ## The staged blocks -/

theorem idx0 : ∀ t : Fin cfg0.N, win0_0.index t (0 : Fin 2) = t.val ∧ win0_0.index t (1 : Fin 2) = 0 := by decide +kernel
theorem idx1 : ∀ t : Fin cfg0.N, win0_1.index t (0 : Fin 2) = t.val ∧ win0_1.index t (1 : Fin 2) = 0 := by decide +kernel
theorem idx2 : ∀ t : Fin cfg0.N, win0_2.index t (0 : Fin 2) = t.val ∧ win0_2.index t (1 : Fin 2) = 0 := by decide +kernel
theorem idx3 : ∀ t : Fin cfg0.N, win0_3.index t (0 : Fin 2) = t.val ∧ win0_3.index t (1 : Fin 2) = 0 := by decide +kernel
theorem idx4 : ∀ t : Fin cfg0.N, win0_4.index t (0 : Fin 2) = 0 ∧ win0_4.index t (1 : Fin 2) = 0 := by decide +kernel
theorem idx5 : ∀ t : Fin cfg0.N, win0_5.index t (0 : Fin 2) = 0 ∧ win0_5.index t (1 : Fin 2) = 2 := by decide +kernel
theorem idx6 : ∀ t : Fin cfg0.N, win0_6.index t (0 : Fin 2) = 0 ∧ win0_6.index t (1 : Fin 2) = 0 := by decide +kernel
theorem idx7 : ∀ t : Fin cfg0.N, win0_7.index t (0 : Fin 2) = 0 ∧ win0_7.index t (1 : Fin 2) = 0 := by decide +kernel
theorem idx8 : ∀ t : Fin cfg0.N, win0_8.index t (0 : Fin 2) = 0 ∧ win0_8.index t (1 : Fin 2) = 4 := by decide +kernel
theorem idx9 : ∀ t : Fin cfg0.N, win0_9.index t (0 : Fin 2) = 0 ∧ win0_9.index t (1 : Fin 2) = 3 := by decide +kernel
theorem idx10 : ∀ t : Fin cfg0.N, win0_10.index t (0 : Fin 2) = t.val ∧ win0_10.index t (1 : Fin 2) = 0 := by decide +kernel
theorem idx11 : ∀ t : Fin cfg0.N, win0_11.index t (0 : Fin 2) = t.val ∧ win0_11.index t (1 : Fin 2) = 0 := by decide +kernel
theorem tlt (t : Fin cfg0.N) : t.val < 32 := lt_of_lt_of_eq t.isLt N_0

/-- The residual's rows. -/
def inX (r : Fin 8192) (k : Fin 2048) : EReal := (m ((c : Thread nD τ).loc main_arg0) : S8192x2048.Idx → EReal) (ix2 r k)
/-- The first mixer's rows. -/
def inA (r : Fin 8192) (k : Fin 512) : EReal := (m ((c : Thread nD τ).loc main_arg1) : S8192x512.Idx → EReal) (ix2 r k)
/-- The second mixer's rows. -/
def inB (r : Fin 8192) (k : Fin 1024) : EReal := (m ((c : Thread nD τ).loc main_arg2) : S8192x1024.Idx → EReal) (ix2 r k)
/-- The third mixer's rows. -/
def inC (r : Fin 8192) (k : Fin 512) : EReal := (m ((c : Thread nD τ).loc main_arg3) : S8192x512.Idx → EReal) (ix2 r k)
/-- The first layer's weights. -/
def inW (k j : Fin 2048) : EReal := (m ((c : Thread nD τ).loc main_arg4) : S4x2048x2048.Idx → EReal) (ix3 0 k j)
/-- The first layer's modulation. -/
def inM (j : Fin 12288) : EReal := (m ((c : Thread nD τ).loc main_arg5) : S4x1x12288.Idx → EReal) (ix3 0 0 j)
/-- The norm's weights. -/
def inG (j : Fin 2048) : EReal := (m ((c : Thread nD τ).loc main_arg6) : S4x2048.Idx → EReal) (ix2 0 j)
/-- The norm's shifts. -/
def inH (j : Fin 2048) : EReal := (m ((c : Thread nD τ).loc main_arg7) : S4x2048.Idx → EReal) (ix2 0 j)

/-- A row of the call's block `t`. -/
def row (t : Fin cfg0.N) (p : Fin 256) : Fin 8192 := ⟨256 * t.val + p.val, by have := tlt t; omega⟩

theorem x_at (t : Fin cfg0.N) (p : Fin 256) (k : Fin 2048) : (iblk m c 0 t : S256x2048.Idx → EReal) (ix2 p k) = inX m c (row t p) k := by
  obtain ⟨e0, e1⟩ := idx0 t
  unfold inX row
  blk_ext [iblk, V, e0, e1]
theorem a_at (t : Fin cfg0.N) (p : Fin 256) (k : Fin 512) : (iblk m c 1 t : S256x512.Idx → EReal) (ix2 p k) = inA m c (row t p) k := by
  obtain ⟨e0, e1⟩ := idx1 t
  unfold inA row
  blk_ext [iblk, V, e0, e1]
theorem b_at (t : Fin cfg0.N) (p : Fin 256) (k : Fin 1024) : (iblk m c 2 t : S256x1024.Idx → EReal) (ix2 p k) = inB m c (row t p) k := by
  obtain ⟨e0, e1⟩ := idx2 t
  unfold inB row
  blk_ext [iblk, V, e0, e1]
theorem c_at (t : Fin cfg0.N) (p : Fin 256) (k : Fin 512) : (iblk m c 3 t : S256x512.Idx → EReal) (ix2 p k) = inC m c (row t p) k := by
  obtain ⟨e0, e1⟩ := idx3 t
  unfold inC row
  blk_ext [iblk, V, e0, e1]

/-- The first layer's weights, as the call's host lines cut them. -/
def cutW (w : FVec 𝕀 S4x2048x2048 .f32) : FVec 𝕀 S2048x2048 .bf16 := shapeCast S2048x2048 (extractStridedSlice S1x2048x2048 ![0, 0, 0]
  (truncf .bf16 w bitsLt_bf16_f32) slices_S4x2048x2048_S1x2048x2048_0_0_0) shapeCasts_S1x2048x2048_S2048x2048
/-- The first layer's modulation, as they cut it. -/
def cutM (w : FVec 𝕀 S4x1x12288 .f32) : FVec 𝕀 S1x12288 .f32 :=
  shapeCast S1x12288 (extractStridedSlice S1x1x12288 ![0, 0, 0] w slices_S4x1x12288_S1x1x12288_0_0_0) shapeCasts_S1x1x12288_S1x12288
/-- A row of the norm's, as they cut it. -/
def cutN (w : FVec 𝕀 S4x2048 .f32) : FVec 𝕀 S1x2048 .f32 := shapeCast S1x2048 (shapeCast S2048 (extractStridedSlice S1x2048 ![0, 0] w
  slices_S4x2048_S1x2048_0_0) shapeCasts_S1x2048_S2048) shapeCasts_S2048_S1x2048

theorem cutW_at (w : FVec 𝕀 S4x2048x2048 .f32) (k j : Fin 2048) : cutW w (ix2 k j) = w (ix3 0 k j) := by
  unfold cutW
  pointwise
theorem cutM_at (w : FVec 𝕀 S4x1x12288 .f32) (j : Fin 12288) : cutM w (ix2 0 j) = w (ix3 0 0 j) := by
  unfold cutM
  pointwise
theorem cutN_at (w : FVec 𝕀 S4x2048 .f32) (j : Fin 2048) : cutN w (ix2 0 j) = w (ix2 0 j) := by
  unfold cutN
  pointwise

theorem entry_weights : V m c main_v2 = cutW (m ((c : Thread nD τ).loc main_arg4)) := by
  simp only [V, List.flatten_cons, List.flatten_nil, List.append_nil, List.cons_append, List.nil_append, StableHlo.after_cons, StableHlo.after_nil]
  after_results_simp
  rfl
theorem entry_modulation : V m c main_v4 = cutM (m ((c : Thread nD τ).loc main_arg5)) := by
  simp only [V, List.flatten_cons, List.flatten_nil, List.append_nil, List.cons_append, List.nil_append, StableHlo.after_cons, StableHlo.after_nil]
  after_results_simp
  rfl
theorem entry_scale : V m c main_v9 = cutN (m ((c : Thread nD τ).loc main_arg6)) := by
  simp only [V, List.flatten_cons, List.flatten_nil, List.append_nil, List.cons_append, List.nil_append, StableHlo.after_cons, StableHlo.after_nil]
  after_results_simp
  rfl
theorem entry_shift : V m c main_v10 = cutN (m ((c : Thread nD τ).loc main_arg7)) := by
  simp only [V, List.flatten_cons, List.flatten_nil, List.append_nil, List.cons_append, List.nil_append, StableHlo.after_cons, StableHlo.after_nil]
  after_results_simp
  rfl

theorem w_at (t : Fin cfg0.N) (k j : Fin 2048) : (iblk m c 4 t : S2048x2048.Idx → EReal) (ix2 k j) = inW m c k j := by
  obtain ⟨e0, e1⟩ := idx4 t
  blk_simp [iblk, e0, e1]
  rw [entry_weights]
  refine Eq.trans (congrArg _ ?_) (cutW_at _ k j)
  blk_ext [e0, e1]
theorem gate_at (t : Fin cfg0.N) (j : Fin 2048) : (iblk m c 5 t : S1x2048.Idx → EReal) (ix2 0 j) = inM m c ⟨4096 + j.val, by omega⟩ := by
  obtain ⟨e0, e1⟩ := idx5 t
  blk_simp [iblk, e0, e1]
  rw [entry_modulation]
  refine Eq.trans (congrArg _ ?_) (cutM_at _ ⟨4096 + j.val, by omega⟩)
  blk_ext [e0, e1]
theorem scale_at (t : Fin cfg0.N) (j : Fin 2048) : (iblk m c 6 t : S1x2048.Idx → EReal) (ix2 0 j) = inG m c j := by
  obtain ⟨e0, e1⟩ := idx6 t
  blk_simp [iblk, e0, e1]
  rw [entry_scale]
  refine Eq.trans (congrArg _ ?_) (cutN_at _ j)
  blk_ext [e0, e1]
theorem shift_at (t : Fin cfg0.N) (j : Fin 2048) : (iblk m c 7 t : S1x2048.Idx → EReal) (ix2 0 j) = inH m c j := by
  obtain ⟨e0, e1⟩ := idx7 t
  blk_simp [iblk, e0, e1]
  rw [entry_shift]
  refine Eq.trans (congrArg _ ?_) (cutN_at _ j)
  blk_ext [e0, e1]
theorem sc_at (t : Fin cfg0.N) (j : Fin 2048) : (iblk m c 8 t : S1x2048.Idx → EReal) (ix2 0 j) = inM m c ⟨8192 + j.val, by omega⟩ := by
  obtain ⟨e0, e1⟩ := idx8 t
  blk_simp [iblk, e0, e1]
  rw [entry_modulation]
  refine Eq.trans (congrArg _ ?_) (cutM_at _ ⟨8192 + j.val, by omega⟩)
  blk_ext [e0, e1]
theorem sh_at (t : Fin cfg0.N) (j : Fin 2048) : (iblk m c 9 t : S1x2048.Idx → EReal) (ix2 0 j) = inM m c ⟨6144 + j.val, by omega⟩ := by
  obtain ⟨e0, e1⟩ := idx9 t
  blk_simp [iblk, e0, e1]
  rw [entry_modulation]
  refine Eq.trans (congrArg _ ?_) (cutM_at _ ⟨6144 + j.val, by omega⟩)
  blk_ext [e0, e1]

/-! ## The results -/

/-- A row before the norm. -/
def hidden (r : Fin 8192) (j : Fin 2048) : EReal :=
  Norm.weighed (inX m c r j) (inM m c ⟨4096 + j.val, by omega⟩) (Norm.mixed (inA m c r) (inB m c r) (inC m c r) fun k => inW m c k j)
/-- A row after the norm. -/
def result0 (r : Fin 8192) (j : Fin 2048) : EReal := Norm.normed (hidden m c r) (inG m c) (inH m c) j
/-- A row after the modulation. -/
def result1 (r : Fin 8192) (j : Fin 2048) : EReal :=
  Norm.modulated (result0 m c r j) (inM m c ⟨8192 + j.val, by omega⟩) (inM m c ⟨6144 + j.val, by omega⟩)

theorem out_at (t : Fin cfg0.N) (p : Fin 256) (j : Fin 2048) : (out0_10 (iblk m c 0 t) (iblk m c 1 t) (iblk m c 2 t) (iblk m c 3 t) (iblk m c 4 t)
    (iblk m c 5 t) (iblk m c 6 t) (iblk m c 7 t) (iblk m c 8 t) (iblk m c 9 t) : S256x2048.Idx → EReal) (ix2 p j) = result0 m c (row t p) j := by
  rw [norm_at]
  unfold before
  simp only [x_at, a_at, b_at, c_at, w_at, gate_at, scale_at, shift_at]
  rfl

theorem out1_at (t : Fin cfg0.N) (p : Fin 256) (j : Fin 2048) : (out0_11 (iblk m c 0 t) (iblk m c 1 t) (iblk m c 2 t) (iblk m c 3 t) (iblk m c 4 t)
    (iblk m c 5 t) (iblk m c 6 t) (iblk m c 7 t) (iblk m c 8 t) (iblk m c 9 t) : S256x2048.Idx → EReal) (ix2 p j) = result1 m c (row t p) j := by
  rw [modulated_at, out_at, sc_at, sh_at]
  rfl

theorem covers10 : (cfg0.win 10).Covers :=
  (cfg0.win 10).covers_of_index_surj rfl (show ∀ b : Fin 2, 0 < S256x2048.size b by decide)
    (by decide +kernel : ∀ β : (b : Fin 2) → Fin ((win0_10).nblk b), ∃ t : Fin grid0.N, ∀ b, win0_10.index t b = (β b).val)
theorem covers11 : (cfg0.win 11).Covers :=
  (cfg0.win 11).covers_of_index_surj rfl (show ∀ b : Fin 2, 0 < S256x2048.size b by decide)
    (by decide +kernel : ∀ β : (b : Fin 2) → Fin ((win0_11).nblk b), ∃ t : Fin grid0.N, ∀ b, win0_11.index t b = (β b).val)

theorem left10_at (t : Fin cfg0.N) (p : Fin 256) (j : Fin 2048) : ((dats m 0 c).after 10 t : S256x2048.Idx → EReal) (ix2 p j) = result0 m c (row t p) j := by
  rw [after0_10]
  exact out_at m c t p j

/-- The first result of the call. -/
theorem result0_at : (dats m 0 c).arrAt 10 cfg0.N = fun i : S8192x2048.Idx => (result0 m c (i 0) (i 1) : EReal) := by
  refine (dats m 0 c).arrAt_eq_of_covers 10 _ covers10 fun t hf y => ?_
  obtain ⟨p, j, rfl⟩ : ∃ (p : Fin 256) (j : Fin 2048), y = ix2 p j := ⟨y 0, y 1, (ix2_eta (n0 := 256) (n1 := 2048) y).symm⟩
  obtain ⟨e0, e1⟩ := idx10 t
  have hr : ((cfg0.win 10).blk t).view.emb (ix2 p j) = (ix2 (n0 := 8192) (n1 := 2048) (row t p) j : S8192x2048.Idx) := by
    unfold row
    blk_ext [e0, e1]
  refine (left10_at m c t p j).trans ?_
  rw [hr]
  rfl

theorem left11_at (t : Fin cfg0.N) (p : Fin 256) (j : Fin 2048) : ((dats m 0 c).after 11 t : S256x2048.Idx → EReal) (ix2 p j) = result1 m c (row t p) j := by
  rw [after0_11]
  exact out1_at m c t p j

/-- The second result of the call. -/
theorem result1_at : (dats m 0 c).arrAt 11 cfg0.N = fun i : S8192x2048.Idx => (result1 m c (i 0) (i 1) : EReal) := by
  refine (dats m 0 c).arrAt_eq_of_covers 11 _ covers11 fun t hf y => ?_
  obtain ⟨p, j, rfl⟩ : ∃ (p : Fin 256) (j : Fin 2048), y = ix2 p j := ⟨y 0, y 1, (ix2_eta (n0 := 256) (n1 := 2048) y).symm⟩
  obtain ⟨e0, e1⟩ := idx11 t
  have hr : ((cfg0.win 11).blk t).view.emb (ix2 p j) = (ix2 (n0 := 8192) (n1 := 2048) (row t p) j : S8192x2048.Idx) := by
    unfold row
    blk_ext [e0, e1]
  refine (left11_at m c t p j).trans ?_
  rw [hr]
  rfl

end Cert.OutprojIdeal.Value

namespace Cert.OutprojReferenceIdeal.Value
open Cert.OutprojReferenceIdeal Cert.OutprojReferenceIdeal.Gen Idealize.ShloMosaic Idealize.ShloMosaic.TcCoe Idealize.SL.Sem
local notation "𝕀" => Idealize.ShloMosaic.Ideal

/-- The rows before the norm, as the reference makes them. -/
def hidden (x : FVec 𝕀 S8192x2048 .f32) (a : FVec 𝕀 S8192x512 .bf16) (b : FVec 𝕀 S8192x1024 .bf16) (d : FVec 𝕀 S8192x512 .bf16)
    (w : FVec 𝕀 S4x2048x2048 .f32) (g : FVec 𝕀 S4x1x12288 .f32) : FVec 𝕀 S8192x2048 .f32 :=
  addf (mulf (broadcastInDim S8192x2048 ![] bcast_S_S8192x2048 (constant S_ .f32 0x3FD744FD#32)) x)
    (mulf (broadcastInDim S8192x2048 ![0, 1] bcast_S1x2048_S8192x2048_0_1 (addf (broadcastInDim S1x2048 ![] bcast_S_S1x2048
        (constant S_ .f32 0x3F800000#32)) (extractStridedSlice S1x2048 ![0, 4096] (shapeCast _ (extractStridedSlice S1x1x12288 ![0, 0, 0] g
          slices_S4x1x12288_S1x1x12288_0_0_0) shapeCasts_S1x1x12288_S1x12288) slices_S1x12288_S1x2048_0_4096)))
      (Host.dotGeneral dot_S8192x2048_S2048x2048_S8192x2048_1_0_0_1_n_n none (extf .f32 (concatenate S8192x2048 1 [⟨S8192x512, a⟩,
          ⟨S8192x1024, b⟩, ⟨S8192x512, d⟩] concatenates_S8192x512_S8192x1024_S8192x512_S8192x2048_d1) bitsLt_bf16_f32)
        (shapeCast _ (extractStridedSlice S1x2048x2048 ![0, 0, 0] w slices_S4x2048x2048_S1x2048x2048_0_0_0)
          shapeCasts_S1x2048x2048_S2048x2048)))

/-- Their means, one a row, over a row's length. -/
def means (v : FVec 𝕀 S8192x2048 .f32) : FVec 𝕀 S8192x1 .f32 :=
  Host.divf (broadcastInDim S8192x1 ![0] bcast_S8192_S8192x1_0 (Host.reduceAdd v (constant S_ .f32 0x00000000#32)
    reducesTo_S8192x2048_S8192_d1 h_S_)) (broadcastInDim S8192x1 ![] bcast_S_S8192x1 (constant S_ .f32 0x45000000#32))

/-- Rows less their means. -/
def centred (v : FVec 𝕀 S8192x2048 .f32) : FVec 𝕀 S8192x2048 .f32 :=
  subf v (broadcastInDim S8192x2048 ![0, 1] bcast_S8192x1_S8192x2048_0_1 (means v))

/-- A row of the norm's, over every row. -/
def spread (w : FVec 𝕀 S4x2048 .f32) : FVec 𝕀 S8192x2048 .f32 :=
  broadcastInDim S8192x2048 ![0, 1] bcast_S1x2048_S8192x2048_0_1 (broadcastInDim S1x2048 ![1] bcast_S2048_S1x2048_1
    (shapeCast _ (extractStridedSlice S1x2048 ![0, 0] w slices_S4x2048_S1x2048_0_0) shapeCasts_S1x2048_S2048))

/-- The norm, as the reference makes it. -/
def normed (v : FVec 𝕀 S8192x2048 .f32) (w b : FVec 𝕀 S4x2048 .f32) : FVec 𝕀 S8192x2048 .f32 :=
  addf (mulf (mulf (centred v) (broadcastInDim S8192x2048 ![0, 1] bcast_S8192x1_S8192x2048_0_1 (Host.rsqrt (addf
    (means (mulf (centred v) (centred v))) (broadcastInDim S8192x1 ![] bcast_S_S8192x1 (constant S_ .f32 0x3727C5AC#32))))))
    (spread w)) (spread b)

theorem hidden_at (x : FVec 𝕀 S8192x2048 .f32) (a : FVec 𝕀 S8192x512 .bf16) (b : FVec 𝕀 S8192x1024 .bf16) (d : FVec 𝕀 S8192x512 .bf16)
    (w : FVec 𝕀 S4x2048x2048 .f32) (g : FVec 𝕀 S4x1x12288 .f32) (r : Fin 8192) (j : Fin 2048) :
    hidden x a b d w g (ix2 r j) = Norm.weighed (x (ix2 r j)) (g (ix3 0 0 ⟨4096 + j.val, by omega⟩))
      (Norm.mixed (fun k => a (ix2 r k)) (fun k => b (ix2 r k)) (fun k => d (ix2 r k)) fun k => w (ix3 0 k j)) := by
  unfold hidden Norm.weighed
  pointwise
  rw [Norm.mixed_eq (fun k => a (ix2 r k)) (fun k => b (ix2 r k)) (fun k => d (ix2 r k))]
  · intro k
    exact dif_pos k.isLt
  · intro k
    have hk := k.isLt
    rw [dif_neg (by show ¬512 + k.val < 512; omega), dif_pos (by show 512 + k.val - 512 < 1024; omega)]
    exact congrArg (fun q => b (ix2 r q)) (Fin.ext (by show 512 + k.val - 512 = k.val; omega))
  · intro k
    have hk := k.isLt
    rw [dif_neg (by show ¬1536 + k.val < 512; omega), dif_neg (by show ¬1536 + k.val - 512 < 1024; omega)]
    exact congrArg (fun q => d (ix2 r q)) (Fin.ext (by show 1536 + k.val - 512 - 1024 = k.val; omega))

theorem means_at (v : FVec 𝕀 S8192x2048 .f32) (r : Fin 8192) : means v (ix2 r 0) = Norm.mean fun k => v (ix2 r k) := by
  unfold means Norm.mean
  pointwise

theorem centred_at (v : FVec 𝕀 S8192x2048 .f32) (r : Fin 8192) (j : Fin 2048) :
    centred v (ix2 r j) = v (ix2 r j) - Norm.mean fun k => v (ix2 r k) := by
  unfold centred
  pointwise
  rw [means_at]

theorem spread_at (w : FVec 𝕀 S4x2048 .f32) (r : Fin 8192) (j : Fin 2048) : spread w (ix2 r j) = w (ix2 0 j) := by
  unfold spread
  pointwise

theorem normed_at (v : FVec 𝕀 S8192x2048 .f32) (w b : FVec 𝕀 S4x2048 .f32) (r : Fin 8192) (j : Fin 2048) :
    normed v w b (ix2 r j) = Norm.normed (fun k => v (ix2 r k)) (fun k => w (ix2 0 k)) (fun k => b (ix2 0 k)) j := by
  have h : means (mulf (centred v) (centred v)) (ix2 r 0) = Norm.mean fun k => centred v (ix2 r k) * centred v (ix2 r k) :=
    means_at (mulf (centred v) (centred v)) r
  have hc := centred_at v r
  have hw := spread_at w r
  have hb := spread_at b r
  unfold normed Norm.normed
  pointwise
  simp only [h, hc, hw, hb]
  rfl

/-- The modulation, as the reference makes it. -/
def modulated (v : FVec 𝕀 S8192x2048 .f32) (g : FVec 𝕀 S4x1x12288 .f32) : FVec 𝕀 S8192x2048 .f32 :=
  addf (mulf v (broadcastInDim S8192x2048 ![0, 1] bcast_S1x2048_S8192x2048_0_1 (addf (broadcastInDim S1x2048 ![] bcast_S_S1x2048
      (constant S_ .f32 0x3F800000#32)) (extractStridedSlice S1x2048 ![0, 8192] (shapeCast _ (extractStridedSlice S1x1x12288 ![0, 0, 0] g
        slices_S4x1x12288_S1x1x12288_0_0_0) shapeCasts_S1x1x12288_S1x12288) slices_S1x12288_S1x2048_0_8192))))
    (broadcastInDim S8192x2048 ![0, 1] bcast_S1x2048_S8192x2048_0_1 (extractStridedSlice S1x2048 ![0, 6144] (shapeCast _
      (extractStridedSlice S1x1x12288 ![0, 0, 0] g slices_S4x1x12288_S1x1x12288_0_0_0) shapeCasts_S1x1x12288_S1x12288)
        slices_S1x12288_S1x2048_0_6144))

theorem modulated_at (v : FVec 𝕀 S8192x2048 .f32) (g : FVec 𝕀 S4x1x12288 .f32) (r : Fin 8192) (j : Fin 2048) :
    modulated v g (ix2 r j)
      = Norm.modulated (v (ix2 r j)) (g (ix3 0 0 ⟨8192 + j.val, by omega⟩)) (g (ix3 0 0 ⟨6144 + j.val, by omega⟩)) := by
  unfold modulated Norm.modulated
  pointwise

variable (m : (ℓ : Loc nD τ sig) → Buf (Elt 𝕀) ℓ) (c : Dev nD)

theorem result0_eq : (res_main_v47 m c : FVec 𝕀 S8192x2048 .f32) = normed (hidden (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)))
    (m ((c.tc : Thread nD τ).loc main_arg6)) (m ((c.tc : Thread nD τ).loc main_arg7)) := rfl

theorem result1_eq : (res_main_v53 m c : FVec 𝕀 S8192x2048 .f32) = modulated (res_main_v47 m c) (m ((c.tc : Thread nD τ).loc main_arg5)) := rfl

/-- The first result at an entry. -/
theorem out0_at (x : FVec 𝕀 S8192x2048 .f32) (a : FVec 𝕀 S8192x512 .bf16) (b : FVec 𝕀 S8192x1024 .bf16) (d : FVec 𝕀 S8192x512 .bf16)
    (w : FVec 𝕀 S4x2048x2048 .f32) (g : FVec 𝕀 S4x1x12288 .f32) (u v : FVec 𝕀 S4x2048 .f32) (r : Fin 8192) (j : Fin 2048) :
    normed (hidden x a b d w g) u v (ix2 r j) = Norm.normed (fun k => Norm.weighed (x (ix2 r k)) (g (ix3 0 0 ⟨4096 + k.val, by omega⟩))
      (Norm.mixed (fun q => a (ix2 r q)) (fun q => b (ix2 r q)) (fun q => d (ix2 r q)) fun q => w (ix3 0 q k)))
      (fun k => u (ix2 0 k)) (fun k => v (ix2 0 k)) j := by
  rw [normed_at]
  simp only [hidden_at]

end Cert.OutprojReferenceIdeal.Value
-- ==== Proof.Combine.lean ====
module

public import proofs.«01_k».proof.Proof.Gen.CombineIdeal.Value
public import proofs.«01_k».proof.Proof.Gen.CombineReferenceIdeal.Run
public import proofs.«01_k».proof.Proof.ExpMath
public import proofs.«01_k».proof.Proof.Outproj
public import proofs.«01_k».proof.Proof.Read
import Idealize.ShloMosaic.Lib.Pipeline.Covers

/-!
The shared expert and the combination. A point of the call takes a block of tokens through the shared expert, adds the eight weighted
answers one after another, and ends with the residual, the norm and the modulation; the reference sums the eight over an axis.
-/

@[expose] public section
set_option maxRecDepth 16384
noncomputable section

namespace Cert.CombineIdeal.Value
open Cert.OutprojIdeal.Value (cutM cutM_at cutN cutN_at)
open Cert.CombineIdeal Cert.CombineIdeal.Gen Idealize.ShloMosaic Idealize.ShloMosaic.TcCoe Idealize.SL.Sem
local notation "𝕀" => Idealize.ShloMosaic.Ideal

variable (m : (ℓ : Loc nD τ sig) → Buf (Elt 𝕀) ℓ) (c : Dev nD)

/-! ## A point -/

section
variable (x0 x1 x2 x3 x4 x5 x6 x7 x8 x9 : Vec 𝕀 S128x2048 .f32) (x10 : Vec 𝕀 S128x8 .f32) (x11 x12 : Vec 𝕀 S2048x384 .bf16)
  (x13 : Vec 𝕀 S384x2048 .bf16) (x14 x15 x16 x17 x18 : Vec 𝕀 S1x2048 .f32)

/-- The shared expert's answers. -/
def shared (p : Fin 128) (j : Fin 2048) : EReal :=
  Expert.answer (fun k => (x9 : S128x2048.Idx → EReal) (ix2 p k)) (fun k f => (x11 : S2048x384.Idx → EReal) (ix2 k f))
    (fun k f => (x12 : S2048x384.Idx → EReal) (ix2 k f)) (fun f j => (x13 : S384x2048.Idx → EReal) (ix2 f j)) j

/-- The eight answers' blocks. -/
def eight : Fin 8 → Vec 𝕀 S128x2048 .f32 := ![x0, x1, x2, x3, x4, x5, x6, x7]

/-- The rows before the norm. -/
def before (p : Fin 128) (j : Fin 2048) : EReal := Norm.weighed ((x8 : S128x2048.Idx → EReal) (ix2 p j)) ((x14 : S1x2048.Idx → EReal) (ix2 0 j))
  (Norm.gathered (shared x9 x11 x12 x13 p j) (fun q => (x10 : S128x8.Idx → EReal) (ix2 p q))
    (fun q => (eight x0 x1 x2 x3 x4 x5 x6 x7 q : S128x2048.Idx → EReal) (ix2 p j)))

theorem before_at (p : Fin 128) (j : Fin 2048) : (k0_pay7 x0 x1 x2 x3 x4 x5 x6 x7 x8 x9 x10 x11 x12 x13 x14 x15 x16 x17 x18 : FVec 𝕀 S128x2048 .f32) (ix2 p j)
    = before x0 x1 x2 x3 x4 x5 x6 x7 x8 x9 x10 x11 x12 x13 x14 p j := by
  unfold before Norm.weighed shared Expert.answer Expert.unit Expert.hid
  rw [← Norm.gathered_eq]
  pointwise [k0_pay7, k0_pay4, k0_pay3]
  simp only [zero_sub]
  rfl

/-- The block of the first result. -/
theorem norm_at (p : Fin 128) (j : Fin 2048) :
    (out0_19 x0 x1 x2 x3 x4 x5 x6 x7 x8 x9 x10 x11 x12 x13 x14 x15 x16 x17 x18 : S128x2048.Idx → EReal) (ix2 p j)
      = Norm.normed (before x0 x1 x2 x3 x4 x5 x6 x7 x8 x9 x10 x11 x12 x13 x14 p) (fun k => (x15 : S1x2048.Idx → EReal) (ix2 0 k))
        (fun k => (x16 : S1x2048.Idx → EReal) (ix2 0 k)) j := by
  have h := before_at x0 x1 x2 x3 x4 x5 x6 x7 x8 x9 x10 x11 x12 x13 x14 x15 x16 x17 x18
  unfold out0_19 Norm.normed Norm.mean
  frame_out
  generalize k0_pay7 x0 x1 x2 x3 x4 x5 x6 x7 x8 x9 x10 x11 x12 x13 x14 x15 x16 x17 x18 = X at h ⊢
  pointwise [k0_pay1, k0_pay8, k0_pay9, k0_pay5, k0_pay6]
  simp only [h]

/-- The block of the second result. -/
theorem modulated_at (p : Fin 128) (j : Fin 2048) :
    (out0_20 x0 x1 x2 x3 x4 x5 x6 x7 x8 x9 x10 x11 x12 x13 x14 x15 x16 x17 x18 : S128x2048.Idx → EReal) (ix2 p j)
      = Norm.modulated ((out0_19 x0 x1 x2 x3 x4 x5 x6 x7 x8 x9 x10 x11 x12 x13 x14 x15 x16 x17 x18 : S128x2048.Idx → EReal) (ix2 p j))
        ((x17 : S1x2048.Idx → EReal) (ix2 0 j)) ((x18 : S1x2048.Idx → EReal) (ix2 0 j)) := by
  unfold out0_20 out0_19 Norm.modulated
  frame_out
  generalize k0_pay7 x0 x1 x2 x3 x4 x5 x6 x7 x8 x9 x10 x11 x12 x13 x14 x15 x16 x17 x18 = X
  generalize k0_pay8 x0 x1 x2 x3 x4 x5 x6 x7 x8 x9 x10 x11 x12 x13 x14 x15 x16 x17 x18 = W
  generalize k0_pay9 x0 x1 x2 x3 x4 x5 x6 x7 x8 x9 x10 x11 x12 x13 x14 x15 x16 x17 x18 = B
  pointwise [k0_pay2]
end

/-! ## The staged blocks -/

theorem idxY : ∀ t : Fin cfg0.N, (win0_0.index t (0 : Fin 2) = 0 + t.val ∧ win0_0.index t (1 : Fin 2) = 0) ∧
      (win0_1.index t (0 : Fin 2) = 64 + t.val ∧ win0_1.index t (1 : Fin 2) = 0) ∧
      (win0_2.index t (0 : Fin 2) = 128 + t.val ∧ win0_2.index t (1 : Fin 2) = 0) ∧
      (win0_3.index t (0 : Fin 2) = 192 + t.val ∧ win0_3.index t (1 : Fin 2) = 0) ∧
      (win0_4.index t (0 : Fin 2) = 256 + t.val ∧ win0_4.index t (1 : Fin 2) = 0) ∧
      (win0_5.index t (0 : Fin 2) = 320 + t.val ∧ win0_5.index t (1 : Fin 2) = 0) ∧
      (win0_6.index t (0 : Fin 2) = 384 + t.val ∧ win0_6.index t (1 : Fin 2) = 0) ∧
      (win0_7.index t (0 : Fin 2) = 448 + t.val ∧ win0_7.index t (1 : Fin 2) = 0) := by decide +kernel
theorem idx8 : ∀ t : Fin cfg0.N, win0_8.index t (0 : Fin 2) = t.val ∧ win0_8.index t (1 : Fin 2) = 0 := by decide +kernel
theorem idx9 : ∀ t : Fin cfg0.N, win0_9.index t (0 : Fin 2) = t.val ∧ win0_9.index t (1 : Fin 2) = 0 := by decide +kernel
theorem idx10 : ∀ t : Fin cfg0.N, win0_10.index t (0 : Fin 2) = t.val ∧ win0_10.index t (1 : Fin 2) = 0 := by decide +kernel
theorem idx11 : ∀ t : Fin cfg0.N, win0_11.index t (0 : Fin 2) = 0 ∧ win0_11.index t (1 : Fin 2) = 0 := by decide +kernel
theorem idx12 : ∀ t : Fin cfg0.N, win0_12.index t (0 : Fin 2) = 0 ∧ win0_12.index t (1 : Fin 2) = 0 := by decide +kernel
theorem idx13 : ∀ t : Fin cfg0.N, win0_13.index t (0 : Fin 2) = 0 ∧ win0_13.index t (1 : Fin 2) = 0 := by decide +kernel
theorem idx14 : ∀ t : Fin cfg0.N, win0_14.index t (0 : Fin 2) = 0 ∧ win0_14.index t (1 : Fin 2) = 5 := by decide +kernel
theorem idx15 : ∀ t : Fin cfg0.N, win0_15.index t (0 : Fin 2) = 0 ∧ win0_15.index t (1 : Fin 2) = 0 := by decide +kernel
theorem idx16 : ∀ t : Fin cfg0.N, win0_16.index t (0 : Fin 2) = 0 ∧ win0_16.index t (1 : Fin 2) = 0 := by decide +kernel
theorem idx17 : ∀ t : Fin cfg0.N, win0_17.index t (0 : Fin 2) = 0 ∧ win0_17.index t (1 : Fin 2) = 1 := by decide +kernel
theorem idx18 : ∀ t : Fin cfg0.N, win0_18.index t (0 : Fin 2) = 0 ∧ win0_18.index t (1 : Fin 2) = 0 := by decide +kernel
theorem idx19 : ∀ t : Fin cfg0.N, win0_19.index t (0 : Fin 2) = t.val ∧ win0_19.index t (1 : Fin 2) = 0 := by decide +kernel
theorem idx20 : ∀ t : Fin cfg0.N, win0_20.index t (0 : Fin 2) = t.val ∧ win0_20.index t (1 : Fin 2) = 0 := by decide +kernel
theorem tlt (t : Fin cfg0.N) : t.val < 64 := lt_of_lt_of_eq t.isLt N_0

/-- The experts' answers, eight tokens' worth one after another. -/
def inY (q : Fin 8) (r : Fin 8192) (j : Fin 2048) : EReal :=
  (m ((c : Thread nD τ).loc main_arg0) : S65792x2048.Idx → EReal) (ix2 ⟨8192 * q.val + r.val, by omega⟩ j)
/-- The residual's rows. -/
def inX (r : Fin 8192) (k : Fin 2048) : EReal := (m ((c : Thread nD τ).loc main_arg1) : S8192x2048.Idx → EReal) (ix2 r k)
/-- The shared expert's rows. -/
def inH (r : Fin 8192) (k : Fin 2048) : EReal := (m ((c : Thread nD τ).loc main_arg2) : S8192x2048.Idx → EReal) (ix2 r k)
/-- The answers' weights. -/
def inR (r : Fin 8192) (q : Fin 8) : EReal := (m ((c : Thread nD τ).loc main_arg3) : S8192x8.Idx → EReal) (ix2 r q)
/-- The shared expert's first matrix. -/
def inA (k : Fin 2048) (f : Fin 384) : EReal := (m ((c : Thread nD τ).loc main_arg4) : S4x2048x384.Idx → EReal) (ix3 0 k f)
/-- The shared expert's second matrix. -/
def inB (k : Fin 2048) (f : Fin 384) : EReal := (m ((c : Thread nD τ).loc main_arg5) : S4x2048x384.Idx → EReal) (ix3 0 k f)
/-- The shared expert's last matrix. -/
def inC (f : Fin 384) (j : Fin 2048) : EReal := (m ((c : Thread nD τ).loc main_arg6) : S4x384x2048.Idx → EReal) (ix3 0 f j)
/-- A layer's modulation. -/
def inM (l : Fin 4) (j : Fin 12288) : EReal := (m ((c : Thread nD τ).loc main_arg7) : S4x1x12288.Idx → EReal) (ix3 l 0 j)
/-- The norm's weights. -/
def inG (j : Fin 2048) : EReal := (m ((c : Thread nD τ).loc main_arg8) : S4x2048.Idx → EReal) (ix2 0 j)
/-- The norm's shifts. -/
def inS (j : Fin 2048) : EReal := (m ((c : Thread nD τ).loc main_arg9) : S4x2048.Idx → EReal) (ix2 0 j)

/-- A row of the call's block `t`. -/
def row (t : Fin cfg0.N) (p : Fin 128) : Fin 8192 := ⟨128 * t.val + p.val, by have := tlt t; omega⟩

/-- The eight blocks of answers. -/
theorem y_at (t : Fin cfg0.N) (p : Fin 128) (j : Fin 2048) (q : Fin 8) :
    (eight (iblk m c 0 t) (iblk m c 1 t) (iblk m c 2 t) (iblk m c 3 t) (iblk m c 4 t) (iblk m c 5 t) (iblk m c 6 t) (iblk m c 7 t) q
      : S128x2048.Idx → EReal) (ix2 p j) = inY m c q (row t p) j := by
  obtain ⟨⟨a0, b0⟩, ⟨a1, b1⟩, ⟨a2, b2⟩, ⟨a3, b3⟩, ⟨a4, b4⟩, ⟨a5, b5⟩, ⟨a6, b6⟩, a7, b7⟩ := idxY t
  unfold inY row
  fin_cases q <;> dsimp only [eight, Matrix.cons_val] <;>
    blk_ext [iblk, V, a0, b0, a1, b1, a2, b2, a3, b3, a4, b4, a5, b5, a6, b6, a7, b7]
theorem x_at (t : Fin cfg0.N) (p : Fin 128) (k : Fin 2048) : (iblk m c 8 t : S128x2048.Idx → EReal) (ix2 p k) = inX m c (row t p) k := by
  obtain ⟨e0, e1⟩ := idx8 t
  unfold inX row
  blk_ext [iblk, V, e0, e1]
theorem h_at (t : Fin cfg0.N) (p : Fin 128) (k : Fin 2048) : (iblk m c 9 t : S128x2048.Idx → EReal) (ix2 p k) = inH m c (row t p) k := by
  obtain ⟨e0, e1⟩ := idx9 t
  unfold inH row
  blk_ext [iblk, V, e0, e1]
theorem r_at (t : Fin cfg0.N) (p : Fin 128) (k : Fin 8) : (iblk m c 10 t : S128x8.Idx → EReal) (ix2 p k) = inR m c (row t p) k := by
  obtain ⟨e0, e1⟩ := idx10 t
  unfold inR row
  blk_ext [iblk, V, e0, e1]

/-- The shared expert's first and second matrices, as the call's host lines cut them. -/
def cutA (w : FVec 𝕀 S4x2048x384 .f32) : FVec 𝕀 S2048x384 .bf16 := shapeCast S2048x384 (extractStridedSlice S1x2048x384 ![0, 0, 0]
  (truncf .bf16 w bitsLt_bf16_f32) slices_S4x2048x384_S1x2048x384_0_0_0) shapeCasts_S1x2048x384_S2048x384
/-- Its last matrix, as they cut it. -/
def cutC (w : FVec 𝕀 S4x384x2048 .f32) : FVec 𝕀 S384x2048 .bf16 := shapeCast S384x2048 (extractStridedSlice S1x384x2048 ![0, 0, 0]
  (truncf .bf16 w bitsLt_bf16_f32) slices_S4x384x2048_S1x384x2048_0_0_0) shapeCasts_S1x384x2048_S384x2048
/-- The next layer's modulation, as they cut it. -/
def cutM' (w : FVec 𝕀 S4x1x12288 .f32) : FVec 𝕀 S1x12288 .f32 :=
  shapeCast S1x12288 (extractStridedSlice S1x1x12288 ![1, 0, 0] w slices_S4x1x12288_S1x1x12288_1_0_0) shapeCasts_S1x1x12288_S1x12288
theorem cutA_at (w : FVec 𝕀 S4x2048x384 .f32) (k : Fin 2048) (f : Fin 384) : cutA w (ix2 k f) = w (ix3 0 k f) := by
  unfold cutA
  pointwise
theorem cutC_at (w : FVec 𝕀 S4x384x2048 .f32) (f : Fin 384) (j : Fin 2048) : cutC w (ix2 f j) = w (ix3 0 f j) := by
  unfold cutC
  pointwise
theorem cutM'_at (w : FVec 𝕀 S4x1x12288 .f32) (j : Fin 12288) : cutM' w (ix2 0 j) = w (ix3 1 0 j) := by
  unfold cutM'
  pointwise
theorem entry4 : V m c main_v4 = cutA (m ((c : Thread nD τ).loc main_arg4)) := by
  simp only [V, List.flatten_cons, List.flatten_nil, List.append_nil, List.cons_append, List.nil_append, StableHlo.after_cons, StableHlo.after_nil]
  after_results_simp
  rfl
theorem entry6 : V m c main_v6 = cutA (m ((c : Thread nD τ).loc main_arg5)) := by
  simp only [V, List.flatten_cons, List.flatten_nil, List.append_nil, List.cons_append, List.nil_append, StableHlo.after_cons, StableHlo.after_nil]
  after_results_simp
  rfl
theorem entry8 : V m c main_v8 = cutC (m ((c : Thread nD τ).loc main_arg6)) := by
  simp only [V, List.flatten_cons, List.flatten_nil, List.append_nil, List.cons_append, List.nil_append, StableHlo.after_cons, StableHlo.after_nil]
  after_results_simp
  rfl
theorem entry10 : V m c main_v10 = cutM (m ((c : Thread nD τ).loc main_arg7)) := by
  simp only [V, List.flatten_cons, List.flatten_nil, List.append_nil, List.cons_append, List.nil_append, StableHlo.after_cons, StableHlo.after_nil]
  after_results_simp
  rfl
theorem entry16 : V m c main_v16 = cutM' (m ((c : Thread nD τ).loc main_arg7)) := by
  simp only [V, List.flatten_cons, List.flatten_nil, List.append_nil, List.cons_append, List.nil_append, StableHlo.after_cons, StableHlo.after_nil]
  after_results_simp
  rfl
theorem entry17 : V m c main_v17 = cutN (m ((c : Thread nD τ).loc main_arg8)) := by
  simp only [V, List.flatten_cons, List.flatten_nil, List.append_nil, List.cons_append, List.nil_append, StableHlo.after_cons, StableHlo.after_nil]
  after_results_simp
  rfl
theorem entry18 : V m c main_v18 = cutN (m ((c : Thread nD τ).loc main_arg9)) := by
  simp only [V, List.flatten_cons, List.flatten_nil, List.append_nil, List.cons_append, List.nil_append, StableHlo.after_cons, StableHlo.after_nil]
  after_results_simp
  rfl

theorem a_at (t : Fin cfg0.N) (k : Fin 2048) (f : Fin 384) : (iblk m c 11 t : S2048x384.Idx → EReal) (ix2 k f) = inA m c k f := by
  obtain ⟨e0, e1⟩ := idx11 t
  blk_simp [iblk, e0, e1]
  rw [entry4]
  refine Eq.trans (congrArg _ ?_) (cutA_at _ k f)
  blk_ext [e0, e1]
theorem b_at (t : Fin cfg0.N) (k : Fin 2048) (f : Fin 384) : (iblk m c 12 t : S2048x384.Idx → EReal) (ix2 k f) = inB m c k f := by
  obtain ⟨e0, e1⟩ := idx12 t
  blk_simp [iblk, e0, e1]
  rw [entry6]
  refine Eq.trans (congrArg _ ?_) (cutA_at _ k f)
  blk_ext [e0, e1]
theorem c_at (t : Fin cfg0.N) (f : Fin 384) (j : Fin 2048) : (iblk m c 13 t : S384x2048.Idx → EReal) (ix2 f j) = inC m c f j := by
  obtain ⟨e0, e1⟩ := idx13 t
  blk_simp [iblk, e0, e1]
  rw [entry8]
  refine Eq.trans (congrArg _ ?_) (cutC_at _ f j)
  blk_ext [e0, e1]
theorem gate_at (t : Fin cfg0.N) (j : Fin 2048) : (iblk m c 14 t : S1x2048.Idx → EReal) (ix2 0 j) = inM m c 0 ⟨10240 + j.val, by omega⟩ := by
  obtain ⟨e0, e1⟩ := idx14 t
  blk_simp [iblk, e0, e1]
  rw [entry10]
  refine Eq.trans (congrArg _ ?_) (cutM_at _ ⟨10240 + j.val, by omega⟩)
  blk_ext [e0, e1]
theorem scale_at (t : Fin cfg0.N) (j : Fin 2048) : (iblk m c 15 t : S1x2048.Idx → EReal) (ix2 0 j) = inG m c j := by
  obtain ⟨e0, e1⟩ := idx15 t
  blk_simp [iblk, e0, e1]
  rw [entry17]
  refine Eq.trans (congrArg _ ?_) (cutN_at _ j)
  blk_ext [e0, e1]
theorem shift_at (t : Fin cfg0.N) (j : Fin 2048) : (iblk m c 16 t : S1x2048.Idx → EReal) (ix2 0 j) = inS m c j := by
  obtain ⟨e0, e1⟩ := idx16 t
  blk_simp [iblk, e0, e1]
  rw [entry18]
  refine Eq.trans (congrArg _ ?_) (cutN_at _ j)
  blk_ext [e0, e1]
theorem sc_at (t : Fin cfg0.N) (j : Fin 2048) : (iblk m c 17 t : S1x2048.Idx → EReal) (ix2 0 j) = inM m c 1 ⟨2048 + j.val, by omega⟩ := by
  obtain ⟨e0, e1⟩ := idx17 t
  blk_simp [iblk, e0, e1]
  rw [entry16]
  refine Eq.trans (congrArg _ ?_) (cutM'_at _ ⟨2048 + j.val, by omega⟩)
  blk_ext [e0, e1]
theorem sh_at (t : Fin cfg0.N) (j : Fin 2048) : (iblk m c 18 t : S1x2048.Idx → EReal) (ix2 0 j) = inM m c 1 ⟨j.val, by omega⟩ := by
  obtain ⟨e0, e1⟩ := idx18 t
  blk_simp [iblk, e0, e1]
  rw [entry16]
  refine Eq.trans (congrArg _ ?_) (cutM'_at _ ⟨j.val, by omega⟩)
  blk_ext [e0, e1]

/-! ## The results -/

/-- A row before the norm. -/
def hidden (r : Fin 8192) (j : Fin 2048) : EReal := Norm.weighed (inX m c r j) (inM m c 0 ⟨10240 + j.val, by omega⟩)
  (Norm.gathered (Expert.answer (inH m c r) (inA m c) (inB m c) (inC m c) j) (inR m c r) fun q => inY m c q r j)
/-- A row after the norm. -/
def result0 (r : Fin 8192) (j : Fin 2048) : EReal := Norm.normed (hidden m c r) (inG m c) (inS m c) j
/-- A row after the modulation. -/
def result1 (r : Fin 8192) (j : Fin 2048) : EReal :=
  Norm.modulated (result0 m c r j) (inM m c 1 ⟨2048 + j.val, by omega⟩) (inM m c 1 ⟨j.val, by omega⟩)

theorem out_at (t : Fin cfg0.N) (p : Fin 128) (j : Fin 2048) : (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) : S128x2048.Idx → EReal) (ix2 p j) = result0 m c (row t p) j := by
  rw [norm_at]
  unfold before shared
  simp only [y_at, x_at, h_at, r_at, a_at, b_at, c_at, gate_at, scale_at, shift_at]
  rfl

theorem out1_at (t : Fin cfg0.N) (p : Fin 128) (j : Fin 2048) : (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) : S128x2048.Idx → EReal) (ix2 p j) = result1 m c (row t p) j := by
  rw [modulated_at, out_at, sc_at, sh_at]
  rfl

theorem covers19 : (cfg0.win 19).Covers :=
  (cfg0.win 19).covers_of_index_surj rfl (show ∀ b : Fin 2, 0 < S128x2048.size b by decide)
    (by decide +kernel : ∀ β : (b : Fin 2) → Fin ((win0_19).nblk b), ∃ t : Fin grid0.N, ∀ b, win0_19.index t b = (β b).val)

theorem left19_at (t : Fin cfg0.N) (p : Fin 128) (j : Fin 2048) : ((dats m 0 c).after 19 t : S128x2048.Idx → EReal) (ix2 p j) = result0 m c (row t p) j := by
  rw [after0_19]
  exact out_at m c t p j

/-- The first result of the call. -/
theorem result0_at : (dats m 0 c).arrAt 19 cfg0.N = fun i : S8192x2048.Idx => (result0 m c (i 0) (i 1) : EReal) := by
  refine (dats m 0 c).arrAt_eq_of_covers 19 _ covers19 fun t hf y => ?_
  obtain ⟨p, j, rfl⟩ : ∃ (p : Fin 128) (j : Fin 2048), y = ix2 p j := ⟨y 0, y 1, (ix2_eta (n0 := 128) (n1 := 2048) y).symm⟩
  obtain ⟨e0, e1⟩ := idx19 t
  have hr : ((cfg0.win 19).blk t).view.emb (ix2 p j) = (ix2 (n0 := 8192) (n1 := 2048) (row t p) j : S8192x2048.Idx) := by
    unfold row
    blk_ext [e0, e1]
  refine (left19_at m c t p j).trans ?_
  rw [hr]
  rfl

theorem covers20 : (cfg0.win 20).Covers :=
  (cfg0.win 20).covers_of_index_surj rfl (show ∀ b : Fin 2, 0 < S128x2048.size b by decide)
    (by decide +kernel : ∀ β : (b : Fin 2) → Fin ((win0_20).nblk b), ∃ t : Fin grid0.N, ∀ b, win0_20.index t b = (β b).val)

theorem left20_at (t : Fin cfg0.N) (p : Fin 128) (j : Fin 2048) : ((dats m 0 c).after 20 t : S128x2048.Idx → EReal) (ix2 p j) = result1 m c (row t p) j := by
  rw [after0_20]
  exact out1_at m c t p j

/-- The second result of the call. -/
theorem result1_at : (dats m 0 c).arrAt 20 cfg0.N = fun i : S8192x2048.Idx => (result1 m c (i 0) (i 1) : EReal) := by
  refine (dats m 0 c).arrAt_eq_of_covers 20 _ covers20 fun t hf y => ?_
  obtain ⟨p, j, rfl⟩ : ∃ (p : Fin 128) (j : Fin 2048), y = ix2 p j := ⟨y 0, y 1, (ix2_eta (n0 := 128) (n1 := 2048) y).symm⟩
  obtain ⟨e0, e1⟩ := idx20 t
  have hr : ((cfg0.win 20).blk t).view.emb (ix2 p j) = (ix2 (n0 := 8192) (n1 := 2048) (row t p) j : S8192x2048.Idx) := by
    unfold row
    blk_ext [e0, e1]
  refine (left20_at m c t p j).trans ?_
  rw [hr]
  rfl

end Cert.CombineIdeal.Value

namespace Cert.CombineReferenceIdeal.Value
open Cert.OutprojReferenceIdeal.Value (normed normed_at)
open Cert.CombineReferenceIdeal Cert.CombineReferenceIdeal.Gen Idealize.ShloMosaic Idealize.ShloMosaic.TcCoe Idealize.SL.Sem
local notation "𝕀" => Idealize.ShloMosaic.Ideal

/-- The shared expert's first or second product, as the reference makes it. -/
def product (h : FVec 𝕀 S8192x2048 .f32) (w : FVec 𝕀 S4x2048x384 .f32) : FVec 𝕀 S8192x384 .f32 :=
  Host.dotGeneral dot_S8192x2048_S2048x384_S8192x384_1_0_0_1_n_n none h (shapeCast _ (extractStridedSlice S1x2048x384 ![0, 0, 0] w
    slices_S4x2048x384_S1x2048x384_0_0_0) shapeCasts_S1x2048x384_S2048x384)

/-- The shared expert's answers. -/
def shared (h : FVec 𝕀 S8192x2048 .f32) (a b : FVec 𝕀 S4x2048x384 .f32) (d : FVec 𝕀 S4x384x2048 .f32) : FVec 𝕀 S8192x2048 .f32 :=
  Host.dotGeneral dot_S8192x384_S384x2048_S8192x2048_1_0_0_1_n_n none (mulf (mulf (product h a) (Host.divf
      (broadcastInDim S8192x384 ![] bcast_S_S8192x384 (constant S_ .f32 0x3F800000#32)) (addf
        (broadcastInDim S8192x384 ![] bcast_S_S8192x384 (constant S_ .f32 0x3F800000#32)) (Host.exp (Host.negf (product h a))))))
    (product h b)) (shapeCast _ (extractStridedSlice S1x384x2048 ![0, 0, 0] d slices_S4x384x2048_S1x384x2048_0_0_0)
      shapeCasts_S1x384x2048_S384x2048)

/-- The eight answers, weighted and summed. -/
def routed (y : FVec 𝕀 S65792x2048 .f32) (r : FVec 𝕀 S8192x8 .f32) : FVec 𝕀 S8192x2048 .f32 :=
  Host.reduceAdd (mulf (broadcastInDim S8x8192x2048 ![0, 1, 2] bcast_S8x8192x1_S8x8192x2048_0_1_2 (broadcastInDim S8x8192x1 ![0, 1]
      bcast_S8x8192_S8x8192x1_0_1 (transpose S8x8192 [1, 0] r transposes_S8192x8_S8x8192_1_0)))
    (shapeCast _ (extractStridedSlice S65536x2048 ![0, 0] y slices_S65792x2048_S65536x2048_0_0) shapeCasts_S65536x2048_S8x8192x2048))
    (constant S_ .f32 0x00000000#32) reducesTo_S8x8192x2048_S8192x2048_d0 h_S_

/-- The rows before the norm. -/
def hidden (x s : FVec 𝕀 S8192x2048 .f32) (g : FVec 𝕀 S4x1x12288 .f32) : FVec 𝕀 S8192x2048 .f32 :=
  addf (mulf (broadcastInDim S8192x2048 ![] bcast_S_S8192x2048 (constant S_ .f32 0x3FD744FD#32)) x)
    (mulf (broadcastInDim S8192x2048 ![0, 1] bcast_S1x2048_S8192x2048_0_1 (addf (broadcastInDim S1x2048 ![] bcast_S_S1x2048
        (constant S_ .f32 0x3F800000#32)) (extractStridedSlice S1x2048 ![0, 10240] (shapeCast _ (extractStridedSlice S1x1x12288 ![0, 0, 0] g
          slices_S4x1x12288_S1x1x12288_0_0_0) shapeCasts_S1x1x12288_S1x12288) slices_S1x12288_S1x2048_0_10240))) s)

theorem product_at (h : FVec 𝕀 S8192x2048 .f32) (w : FVec 𝕀 S4x2048x384 .f32) (r : Fin 8192) (f : Fin 384) :
    product h w (ix2 r f) = Expert.hid (fun k => h (ix2 r k)) (fun k f => w (ix3 0 k f)) f := by
  unfold product Expert.hid
  pointwise

theorem shared_at (h : FVec 𝕀 S8192x2048 .f32) (a b : FVec 𝕀 S4x2048x384 .f32) (d : FVec 𝕀 S4x384x2048 .f32) (r : Fin 8192) (j : Fin 2048) :
    shared h a b d (ix2 r j) = Expert.answer (fun k => h (ix2 r k)) (fun k f => a (ix3 0 k f)) (fun k f => b (ix3 0 k f))
      (fun f j => d (ix3 0 f j)) j := by
  have ha := product_at h a r
  have hb := product_at h b r
  unfold shared Expert.answer Expert.unit
  pointwise
  simp only [ha, hb]

theorem routed_at (y : FVec 𝕀 S65792x2048 .f32) (r : FVec 𝕀 S8192x8 .f32) (i : Fin 8192) (j : Fin 2048) :
    routed y r (ix2 i j) = ∑ q : Fin 8, r (ix2 i q) * y (ix2 ⟨8192 * q.val + i.val, by omega⟩ j) := by
  unfold routed
  pointwise
  simp only [mul_comm _ 8192]

theorem hidden_at (x s : FVec 𝕀 S8192x2048 .f32) (g : FVec 𝕀 S4x1x12288 .f32) (r : Fin 8192) (j : Fin 2048) :
    hidden x s g (ix2 r j) = Norm.weighed (x (ix2 r j)) (g (ix3 0 0 ⟨10240 + j.val, by omega⟩)) (s (ix2 r j)) := by
  unfold hidden Norm.weighed
  pointwise

/-- The modulation, as the reference makes it. -/
def modulated (v : FVec 𝕀 S8192x2048 .f32) (g : FVec 𝕀 S4x1x12288 .f32) : FVec 𝕀 S8192x2048 .bf16 :=
  truncf .bf16 (addf (mulf v (broadcastInDim S8192x2048 ![0, 1] bcast_S1x2048_S8192x2048_0_1 (addf (broadcastInDim S1x2048 ![] bcast_S_S1x2048
      (constant S_ .f32 0x3F800000#32)) (extractStridedSlice S1x2048 ![0, 2048] (shapeCast _ (extractStridedSlice S1x1x12288 ![1, 0, 0] g
        slices_S4x1x12288_S1x1x12288_1_0_0) shapeCasts_S1x1x12288_S1x12288) slices_S1x12288_S1x2048_0_2048))))
    (broadcastInDim S8192x2048 ![0, 1] bcast_S1x2048_S8192x2048_0_1 (extractStridedSlice S1x2048 ![0, 0] (shapeCast _
      (extractStridedSlice S1x1x12288 ![1, 0, 0] g slices_S4x1x12288_S1x1x12288_1_0_0) shapeCasts_S1x1x12288_S1x12288)
        slices_S1x12288_S1x2048_0_0))) bitsLt_bf16_f32

theorem modulated_at (v : FVec 𝕀 S8192x2048 .f32) (g : FVec 𝕀 S4x1x12288 .f32) (r : Fin 8192) (j : Fin 2048) :
    modulated v g (ix2 r j)
      = Norm.modulated (v (ix2 r j)) (g (ix3 1 0 ⟨2048 + j.val, by omega⟩)) (g (ix3 1 0 ⟨j.val, by omega⟩)) := by
  unfold modulated Norm.modulated
  pointwise

variable (m : (ℓ : Loc nD τ sig) → Buf (Elt 𝕀) ℓ) (c : Dev nD)

theorem result0_eq : (res_main_v69 m c : FVec 𝕀 S8192x2048 .f32) = normed (hidden (m ((c.tc : Thread nD τ).loc main_arg1))
    (addf (routed (m ((c.tc : Thread nD τ).loc main_arg0)) (m ((c.tc : Thread nD τ).loc main_arg3)))
      (shared (m ((c.tc : Thread nD τ).loc main_arg2)) (m ((c.tc : Thread nD τ).loc main_arg4)) (m ((c.tc : Thread nD τ).loc main_arg5))
        (m ((c.tc : Thread nD τ).loc main_arg6)))) (m ((c.tc : Thread nD τ).loc main_arg7)))
    (m ((c.tc : Thread nD τ).loc main_arg8)) (m ((c.tc : Thread nD τ).loc main_arg9)) := rfl

theorem result1_eq : (res_main_v76 m c : FVec 𝕀 S8192x2048 .bf16) = modulated (res_main_v69 m c) (m ((c.tc : Thread nD τ).loc main_arg7)) := rfl

/-- The first result at an entry. -/
theorem out0_at (y : FVec 𝕀 S65792x2048 .f32) (x h : FVec 𝕀 S8192x2048 .f32) (p : FVec 𝕀 S8192x8 .f32) (a b : FVec 𝕀 S4x2048x384 .f32)
    (d : FVec 𝕀 S4x384x2048 .f32) (g : FVec 𝕀 S4x1x12288 .f32) (u v : FVec 𝕀 S4x2048 .f32) (r : Fin 8192) (j : Fin 2048) :
    normed (hidden x (addf (routed y p) (shared h a b d)) g) u v (ix2 r j)
      = Norm.normed (fun k => Norm.weighed (x (ix2 r k)) (g (ix3 0 0 ⟨10240 + k.val, by omega⟩))
        (Norm.gathered (Expert.answer (fun k => h (ix2 r k)) (fun k f => a (ix3 0 k f)) (fun k f => b (ix3 0 k f)) (fun f j => d (ix3 0 f j)) k)
          (fun q => p (ix2 r q)) fun q => y (ix2 ⟨8192 * q.val + r.val, by omega⟩ k)))
        (fun k => u (ix2 0 k)) (fun k => v (ix2 0 k)) j := by
  have hs : ∀ k : Fin 2048, addf (routed y p) (shared h a b d) (ix2 r k) = Norm.gathered (Expert.answer (fun k => h (ix2 r k))
      (fun k f => a (ix3 0 k f)) (fun k f => b (ix3 0 k f)) (fun f j => d (ix3 0 f j)) k) (fun q => p (ix2 r q))
        fun q => y (ix2 ⟨8192 * q.val + r.val, by omega⟩ k) := fun k =>
    congrArg₂ (fun s t : EReal => s + t) (routed_at y p r k) (shared_at h a b d r k)
  rw [normed_at]
  simp only [hidden_at, hs]

end Cert.CombineReferenceIdeal.Value
-- ==== Proof.AttnRun.lean ====
module

public import proofs.«01_k».proof.Proof.Gen.AttentionIdeal.Value
public import proofs.«01_k».proof.Proof.Read

/-!
The loop of the attention call over the key blocks.
-/

@[expose] public section
set_option maxRecDepth 16384
noncomputable section

namespace Cert.AttentionIdeal.Value
open Cert.AttentionIdeal Cert.AttentionIdeal.Gen Idealize.ShloMosaic Idealize.ShloMosaic.TcCoe Idealize.SL.Sem
local notation "𝕀" => Idealize.ShloMosaic.Ideal

/-- The offsets of a whole block. -/
theorem hz : (![0, 0] : Fin 2 → Nat) = fun _ => 0 := funext fun a => by fin_cases a <;> rfl

/-- The columns' own numbers. -/
abbrev cols : IVec S256x256 32 := iota .tc S256x256 32 [1] iota_S256x256_d1_w32
/-- A block of 256 rows of the keys or of the values. -/
abbrev part (i : grid0.Coords) (x : Vec 𝕀 S8192x128 .bf16) (k : Fin (k0_t1_loop i).trips) : Vec 𝕀 S256x128 .bf16 :=
  View.ld x (Rect.unit (s := S8192x128) (k0_off1 i k) S256x128.size (k0_off1_inb i k))

/-- One trip of the loop: the weighed values added, the softplus summed. -/
def step (i : grid0.Coords) (q : Vec 𝕀 S256x128 .bf16) (x y : Vec 𝕀 S8192x128 .bf16) (k : Fin (k0_t1_loop i).trips)
    (a : FVec 𝕀 S256x128 .f32 × FVec 𝕀 S256x1 .f32) : FVec 𝕀 S256x128 .f32 × FVec 𝕀 S256x1 .f32 :=
  (k0_pay11 i (BitVec.ofNat 32 (i 1).val) q (k0_pay1 i) cols k0_pay2 0#32 1#32 k a.1 a.2 (part i x k) (part i y k),
    k0_pay5 a.2 (k0_pay12 i (BitVec.ofNat 32 (i 1).val) q (k0_pay1 i) cols k0_pay2 0#32 1#32 k (part i x k)))

variable (c : Dev nD) (i : grid0.Coords) (a2 : Memref sig .tc .vmem S256x128 .bf16) (h2 : a2.IsWhole)
  (a3 : Memref sig .tc .vmem S8192x128 .bf16) (h3 : a3.IsWhole) (a4 : Memref sig .tc .vmem S8192x128 .bf16) (h4 : a4.IsWhole)
  (a5 : Memref sig .tc .vmem S256x128 .bf16) (h5 : a5.IsWhole) (q : Vec 𝕀 S256x128 .bf16) (x y : Vec 𝕀 S8192x128 .bf16)

theorem trip_eq (k : Fin (k0_t1_loop i).trips) (a : FVec 𝕀 S256x128 .f32 × FVec 𝕀 S256x1 .f32) :
    tripR_k0_t1 (F := 𝕀) Variants.none c none i a2 h2 a3 h3 a4 h4 a5 h5 (BitVec.ofNat 32 (i 1).val) q cols (h3.unread x) (h4.unread y) k a
      = step i q x y k a := by
  unfold tripR_k0_t1 trip_k0_t1
  dsimp only
  sl_unfold_words
  simp only [View.readAt_eq_ld, h3.read_unread, h4.read_unread]
  rfl

/-- The pair before a trip. -/
def carried (i : grid0.Coords) (q : Vec 𝕀 S256x128 .bf16) (x y : Vec 𝕀 S8192x128 .bf16) : ℕ → FVec 𝕀 S256x128 .f32 × FVec 𝕀 S256x1 .f32
  | 0 => (k0_pay3, k0_pay4)
  | n + 1 => if h : n < (k0_t1_loop i).trips then step i q x y ⟨n, h⟩ (carried i q x y n) else carried i q x y n

theorem st_eq : ∀ n, n ≤ (k0_t1_loop i).trips → st_k0_t1 (F := 𝕀) Variants.none c none i a2 h2 a3 h3 a4 h4 a5 h5 (BitVec.ofNat 32 (i 1).val)
    q cols (h3.unread x) (h4.unread y) (k0_pay3, k0_pay4) n = carried i q x y n
  | 0, _ => rfl
  | n + 1, h => by
    rw [st_k0_t1_succ (F := 𝕀) Variants.none c none i a2 h2 a3 h3 a4 h4 a5 h5 _ q cols _ _ _ ⟨n, h⟩, trip_eq, st_eq n (Nat.le_of_succ_le h)]
    have h' : n < (k0_t1_loop i).trips := h
    rw [carried, dif_pos h']

theorem out_eq : out0_A_3 (F := 𝕀) c i a2 h2 a3 h3 a4 h4 a5 h5 q x y = k0_pay7 (carried i q x y (k0_t1_loop i).trips).1 := by
  have ht : (k0_t2_loop i).trips = 0 := by
    revert i
    decide +kernel
  unfold out0_A_3
  rw [View.read_writes_eq_canon _ _ _ (cover0_A_3 c i a2 h2 a3 h3 a4 h4 a5 h5 q x y)]
  unfold kernelRun0_A
  dsimp only
  rw [View.canon_unit_zero hz]
  simp only [View.readAt_eq_ld, h2.read_unread, View.ld_unit_zero (S := S256x128) hz, ht]
  exact congrArg (fun s => k0_pay7 s.1) (st_eq c i a2 h2 a3 h3 a4 h4 a5 h5 q x y _ le_rfl)

theorem trips_eq (i : grid0.Coords) : (k0_t1_loop i).trips = (i 1).val + 1 := by
  revert i
  decide +kernel

theorem off_eq (i : grid0.Coords) (k : Fin (k0_t1_loop i).trips) : k0_off1 i k = ![256 * ((i 1).val - k.val), 0] := by
  revert i
  decide +kernel

end Cert.AttentionIdeal.Value
-- ==== Proof.AttnMath.lean ====
module

public import proofs.«01_k».proof.Proof.Tokens
public import Mathlib.Algebra.BigOperators.Intervals

/-!
Stick-breaking attention over the real scores, keys taken from the last to the first.
-/

@[expose] public section
noncomputable section

namespace Attn
open Idealize.ShloMosaic
open Cert.KernelIdeal.Value (coe_sum)

variable (z : ℕ → ℕ → ℝ) (v : ℕ → EReal)

/-- The softplus of a key before the query; a later key has none. -/
def w (q s : ℕ) : ℝ := if s < q then Tok.sp (z q s) else 0
/-- The softplus of the keys from `s` to `n`. -/
def suf (q s n : ℕ) : ℝ := ∑ x ∈ Finset.Ico s n, w z q x
/-- A key's weight among the keys up to `n`. -/
def wt (q s n : ℕ) : EReal := if s < q then ((Real.exp (z q s - suf z q s n) : ℝ) : EReal) else 0
/-- The weighed values of the keys from `l` to `n`. -/
def attn (q l n : ℕ) : EReal := ∑ s ∈ Finset.Ico l n, wt z q s n * v s

theorem sum_block {M : Type} [AddCommMonoid M] (f : ℕ → M) (l n : ℕ) : ∑ s : Fin n, f (l + s.val) = ∑ x ∈ Finset.Ico l (l + n), f x := by
  rw [Finset.sum_Ico_eq_sum_range, Nat.add_sub_cancel_left, Fin.sum_univ_eq_sum_range (fun s => f (l + s))]

/-- The softplus of a block's keys from its `s`-th on, as a product with a triangle of ones. -/
theorem sum_tri (q l n : ℕ) (s : Fin n) : ∑ x : Fin n, w z q (l + x.val) * (if s ≤ x then 1 else 0) = suf z q (l + s.val) (l + n) := by
  have h := sum_block (fun x => if l + s.val ≤ x then w z q x else 0) l n
  have e : ∀ x : Fin n, w z q (l + x.val) * (if s ≤ x then 1 else 0) = if l + s.val ≤ l + x.val then w z q (l + x.val) else 0 := fun x => by
    by_cases hx : s ≤ x
    · rw [if_pos hx, if_pos (by have : s.val ≤ x.val := hx; omega), mul_one]
    · rw [if_neg hx, if_neg (by have : ¬s.val ≤ x.val := hx; omega), mul_zero]
  rw [Finset.sum_congr rfl fun x _ => e x, h, ← Finset.sum_filter, suf]
  refine Finset.sum_congr (Finset.ext fun x => ?_) fun _ _ => rfl
  simp only [Finset.mem_filter, Finset.mem_Ico]
  omega

theorem suf_split (q s l n : ℕ) (h : s ≤ l) (h' : l ≤ n) : suf z q s l + suf z q l n = suf z q s n :=
  Finset.sum_Ico_consecutive _ h h'

theorem attn_split (q s l n : ℕ) (h : s ≤ l) (h' : l ≤ n) :
    attn z v q l n + ∑ x ∈ Finset.Ico s l, wt z q x n * v x = attn z v q s n := by
  rw [add_comm]
  exact Finset.sum_Ico_consecutive _ h h'

/-- Keys after the query add nothing. -/
theorem suf_more (q s n k : ℕ) (h : q ≤ n) (hn : n ≤ k) : suf z q s n = suf z q s k := by
  refine Finset.sum_subset (Finset.Ico_subset_Ico le_rfl hn) fun x hx hx' => if_neg ?_
  simp only [Finset.mem_Ico] at hx hx'
  omega

theorem attn_more (q n k : ℕ) (h : q ≤ n) (hn : n ≤ k) : attn z v q 0 n = attn z v q 0 k := by
  have e : ∀ s, wt z q s n = wt z q s k := fun s => by unfold wt; rw [suf_more z q s n k h hn]
  unfold attn
  simp only [e]
  refine Finset.sum_subset (Finset.Ico_subset_Ico le_rfl hn) fun x hx hx' => ?_
  simp only [Finset.mem_Ico] at hx hx'
  rw [wt, if_neg (by omega), zero_mul]

end Attn
-- ==== Proof.AttnBlock.lean ====
module

public import proofs.«01_k».proof.Proof.AttnRun
public import proofs.«01_k».proof.Proof.AttnMath

/-!
One key block of the attention call, entry by entry.
-/

@[expose] public section
set_option maxRecDepth 16384
noncomputable section

namespace Attn
open Idealize.ShloMosaic

theorem toInt_small (a : ℕ) (h : a < 2 ^ 31) : (BitVec.ofNat 32 a).toInt = a := by
  have e : (BitVec.ofNat 32 a).toNat = a := by rw [BitVec.toNat_ofNat]; omega
  rw [BitVec.toInt_eq_toNat_of_lt (by rw [e]; omega), e]

/-- Comparing small numbers as words. -/
theorem slt_small (a b : ℕ) (ha : a < 2 ^ 31) (hb : b < 2 ^ 31) :
    IntOp.cmpi .slt (BitVec.ofNat 32 a) (BitVec.ofNat 32 b) = if a < b then 1#1 else 0#1 := by
  have h : (BitVec.ofNat 32 a).slt (BitVec.ofNat 32 b) = decide (a < b) := by
    rw [BitVec.slt_eq_decide, toInt_small a ha, toInt_small b hb]
    simp
  by_cases hab : a < b <;> simp [IntOp.cmpi, h, hab]

theorem sge_small (a b : ℕ) (ha : a < 2 ^ 31) (hb : b < 2 ^ 31) :
    IntOp.cmpi .sge (BitVec.ofNat 32 a) (BitVec.ofNat 32 b) = if b ≤ a then 1#1 else 0#1 := by
  have h : (BitVec.ofNat 32 b).sle (BitVec.ofNat 32 a) = decide (b ≤ a) := by
    rw [BitVec.sle_eq_decide, toInt_small a ha, toInt_small b hb]
    simp
  by_cases hab : b ≤ a <;> simp [IntOp.cmpi, h, hab]

end Attn

namespace Cert.AttentionIdeal.Value
open Cert.AttentionIdeal Cert.AttentionIdeal.Gen Idealize.ShloMosaic Idealize.ShloMosaic.TcCoe Idealize.SL.Sem Attn
open Cert.KernelIdeal.Value (coe_sum qsc ofBits_qsc select_ite sitofp_ite)
local notation "𝕀" => Idealize.ShloMosaic.Ideal

theorem tri_at (j s : Fin 256) : (k0_pay2 (F := 𝕀) : S256x256.Idx → EReal) (ix2 j s) = ((if s ≤ j then 1 else 0 : ℝ) : EReal) := by
  pointwise [k0_pay2]
  rw [sge_small _ _ (by omega) (by omega), sitofp_ite]
  rfl

variable (i : grid0.Coords) (k : Fin (k0_t1_loop i).trips)

/-- Whether a key of the block lies before the query. -/
abbrev before : IVec S256x256 1 := k0_pay9 i (BitVec.ofNat 32 (i 1).val) (k0_pay1 i) cols 0#32 1#32 k

theorem start_eq (i : grid0.Coords) (k : Fin (k0_t1_loop i).trips) :
    Scalar.muli (Scalar.subi (Scalar.addi (Scalar.muli (BitVec.ofNat 32 (i 1).val) 1#32) 0#32) (Scf.iv 0#32 1#32 k.val)) 256#32
      = BitVec.ofNat 32 (256 * ((i 1).val - k.val)) := by
  revert i
  decide +kernel

theorem ofs_eq (i : grid0.Coords) : Scalar.muli (BitVec.ofNat 32 (i 1).val) 256#32 = BitVec.ofNat 32 (256 * (i 1).val) := by
  revert i
  decide +kernel

theorem i1_lt (i : grid0.Coords) : (i 1).val < 32 := (i 1).isLt

theorem before_at (p s : Fin 256) : before i k (ix2 p s) = if 256 * ((i 1).val - k.val) + s.val < 256 * (i 1).val + p.val then 1#1 else 0#1 := by
  have := i1_lt i
  pointwise [before, k0_pay9, k0_pay1]
  rw [start_eq, ofs_eq]
  show IntOp.cmpi .slt (BitVec.ofNat 32 _ + BitVec.ofNat 32 _) (BitVec.ofNat 32 _ + BitVec.ofNat 32 _) = _
  rw [← BitVec.ofNat_add, ← BitVec.ofNat_add, slt_small _ _ (by omega) (by omega)]

variable (q b : Vec 𝕀 S256x128 .bf16) (z : ℕ → ℕ → ℝ)

/-- The scores of a block are the real numbers `z`. -/
def Scores : Prop := ∀ p s : Fin 256, (k0_pay8 (F := 𝕀) q b : S256x256.Idx → EReal) (ix2 p s)
  = ((z (256 * (i 1).val + p.val) (256 * ((i 1).val - k.val) + s.val) : ℝ) : EReal)

variable {i k q b z} (hz : Scores i k q b z)
include hz

/-- The softplus summed from a block's key to the block's end. -/
theorem c_at (p s : Fin 256) : (k0_pay10 (F := 𝕀) i (BitVec.ofNat 32 (i 1).val) q (k0_pay1 i) cols k0_pay2 0#32 1#32 k b : S256x256.Idx → EReal) (ix2 p s)
    = ((suf z (256 * (i 1).val + p.val) (256 * ((i 1).val - k.val) + s.val) (256 * ((i 1).val - k.val) + 256) : ℝ) : EReal) := by
  have hm := before_at i k
  have ht := tri_at
  unfold Scores at hz
  unfold k0_pay10
  generalize k0_pay8 (F := 𝕀) q b = Z at hz ⊢
  generalize (k0_pay2 (F := 𝕀)) = T at ht ⊢
  unfold before at hm
  generalize k0_pay9 i (BitVec.ofNat 32 (i 1).val) (k0_pay1 i) cols 0#32 1#32 k = M at hm ⊢
  pointwise
  simp only [hz, hm, ht, Tok.sp_real, select_ite]
  rw [← sum_tri, coe_sum, ← Finset.sum_add_distrib]
  refine Finset.sum_congr rfl fun x _ => ?_
  unfold w
  split
  · rw [← EReal.coe_sub, sub_self, EReal.coe_zero, zero_mul, add_zero, ← EReal.coe_mul]
  · simp

/-- The weighed values of the block added. -/
theorem acc_at (a : FVec 𝕀 S256x128 .f32) (r : FVec 𝕀 S256x1 .f32) (y : Vec 𝕀 S256x128 .bf16) (n : ℕ) (v : ℕ → Fin 128 → EReal)
    (hr : ∀ p : Fin 256, (r (ix2 p (0 : Fin 1)) : EReal) = ((suf z (256 * (i 1).val + p.val) (256 * ((i 1).val - k.val) + 256) n : ℝ) : EReal))
    (hn : 256 * ((i 1).val - k.val) + 256 ≤ n)
    (hv : ∀ (s : Fin 256) (e : Fin 128), (y (ix2 s e) : EReal) = v (256 * ((i 1).val - k.val) + s.val) e)
    (p : Fin 256) (e : Fin 128)
    (ha : (a (ix2 p e) : EReal) = attn z (fun s => v s e) (256 * (i 1).val + p.val) (256 * ((i 1).val - k.val) + 256) n) :
    (k0_pay11 (F := 𝕀) i (BitVec.ofNat 32 (i 1).val) q (k0_pay1 i) cols k0_pay2 0#32 1#32 k a r b y : S256x128.Idx → EReal) (ix2 p e)
      = attn z (fun s => v s e) (256 * (i 1).val + p.val) (256 * ((i 1).val - k.val)) n := by
  have hc := c_at hz
  have hm := before_at i k
  unfold Scores at hz
  unfold k0_pay11
  generalize k0_pay10 (F := 𝕀) i (BitVec.ofNat 32 (i 1).val) q (k0_pay1 i) cols k0_pay2 0#32 1#32 k b = C at hc ⊢
  generalize k0_pay8 (F := 𝕀) q b = Z at hz ⊢
  unfold before at hm
  generalize k0_pay9 i (BitVec.ofNat 32 (i 1).val) (k0_pay1 i) cols 0#32 1#32 k = M at hm ⊢
  pointwise
  rw [ha, ← attn_split z (fun s => v s e) _ _ _ _ (Nat.le_add_right _ 256) hn, ← sum_block]
  simp only [hz, hm, hc, hr, hv, select_ite]
  refine congrArg (_ + ·) (Finset.sum_congr rfl fun x _ => ?_)
  unfold wt
  split
  · rw [← suf_split z _ _ _ _ (by omega : 256 * ((i 1).val - k.val) + x.val ≤ 256 * ((i 1).val - k.val) + 256) hn, ← EReal.coe_sub, ← EReal.coe_sub,
      Ideal.exp_coe, sub_sub]
  · rw [zero_mul]

/-- The softplus carried to the block before. -/
theorem r_at (r : FVec 𝕀 S256x1 .f32) (n : ℕ) (hn : 256 * ((i 1).val - k.val) + 256 ≤ n) (p : Fin 256)
    (hr : (r (ix2 p (0 : Fin 1)) : EReal) = ((suf z (256 * (i 1).val + p.val) (256 * ((i 1).val - k.val) + 256) n : ℝ) : EReal)) :
    (k0_pay5 (F := 𝕀) r (k0_pay12 i (BitVec.ofNat 32 (i 1).val) q (k0_pay1 i) cols k0_pay2 0#32 1#32 k b) : S256x1.Idx → EReal) (ix2 p (0 : Fin 1))
      = ((suf z (256 * (i 1).val + p.val) (256 * ((i 1).val - k.val)) n : ℝ) : EReal) := by
  have hc := c_at hz
  unfold k0_pay12
  generalize k0_pay10 (F := 𝕀) i (BitVec.ofNat 32 (i 1).val) q (k0_pay1 i) cols k0_pay2 0#32 1#32 k b = C at hc ⊢
  pointwise [k0_pay5]
  have h0 := hc p 0
  simp only [Fin.val_zero, Nat.add_zero] at h0
  refine (congrArg₂ (· + ·) hr h0).trans ?_
  rw [← EReal.coe_add, add_comm, suf_split z _ _ _ _ (Nat.le_add_right _ 256) hn]

end Cert.AttentionIdeal.Value
-- ==== Proof.AttnCall.lean ====
module

public import proofs.«01_k».proof.Proof.AttnBlock
public import Idealize.ShloMosaic.Lib.Pipeline.Covers

/-!
The attention call's array.
-/

@[expose] public section
set_option maxRecDepth 16384
noncomputable section

namespace Attn
open Idealize.ShloMosaic
open Cert.KernelIdeal.Value (qsc)

/-- A head's scores: its queries against its keys, scaled. -/
def score (R : ℕ → ℕ → ℝ) (h q s : ℕ) : ℝ := (∑ d : Fin 128, R q (128 * h + d.val) * R s (512 + 128 * h + d.val)) * qsc
/-- A head's values. -/
def value (A : Fin 8192 → Fin 1536 → EReal) (h s : ℕ) (e : Fin 128) : EReal :=
  if g : s < 8192 ∧ h < 4 then A ⟨s, g.1⟩ ⟨1024 + 128 * h + e.val, by omega⟩ else 0
end Attn

namespace Cert.AttentionIdeal.Value
open Cert.AttentionIdeal Cert.AttentionIdeal.Gen Idealize.ShloMosaic Idealize.ShloMosaic.TcCoe Idealize.SL.Sem Attn
open Cert.KernelIdeal.Value (coe_sum qsc ofBits_qsc)
local notation "𝕀" => Idealize.ShloMosaic.Ideal

variable (m : (ℓ : Loc nD τ sig) → Buf (Elt 𝕀) ℓ) (c : Dev nD)

theorem idx0 : ∀ t : Fin cfg0.N, win0_0.index t (0 : Fin 2) = t.val % 32 ∧ win0_0.index t (1 : Fin 2) = t.val / 32 := by decide +kernel
theorem idx1 : ∀ t : Fin cfg0.N, win0_1.index t (0 : Fin 2) = 0 ∧ win0_1.index t (1 : Fin 2) = 4 + t.val / 32 := by decide +kernel
theorem idx2 : ∀ t : Fin cfg0.N, win0_2.index t (0 : Fin 2) = 0 ∧ win0_2.index t (1 : Fin 2) = 8 + t.val / 32 := by decide +kernel
theorem idx3 : ∀ t : Fin cfg0.N, win0_3.index t (0 : Fin 2) = t.val % 32 ∧ win0_3.index t (1 : Fin 2) = t.val / 32 := by decide +kernel
theorem row_eq : ∀ t : Fin cfg0.N, (grid0.coords t 1).val = t.val % 32 := by decide +kernel
theorem tlt (t : Fin cfg0.N) : t.val < 128 := lt_of_lt_of_eq t.isLt N_0

/-- The queries, keys and values side by side. -/
def inA (r : Fin 8192) (j : Fin 1536) : EReal := (m ((c : Thread nD τ).loc main_arg0) : S8192x1536.Idx → EReal) (ix2 r j)

theorem q_at (t : Fin cfg0.N) (p : Fin 256) (d : Fin 128) : (iblk m c 0 t : S256x128.Idx → EReal) (ix2 p d)
    = inA m c ⟨256 * (t.val % 32) + p.val, by omega⟩ ⟨128 * (t.val / 32) + d.val, by have := tlt t; omega⟩ := by
  obtain ⟨e0, e1⟩ := idx0 t
  unfold inA
  blk_ext [iblk, V, e0, e1]
theorem k_at (t : Fin cfg0.N) (s : Fin 8192) (d : Fin 128) : (iblk m c 1 t : S8192x128.Idx → EReal) (ix2 s d)
    = inA m c s ⟨512 + 128 * (t.val / 32) + d.val, by have := tlt t; omega⟩ := by
  obtain ⟨e0, e1⟩ := idx1 t
  unfold inA
  blk_ext [iblk, V, e0, e1]
theorem v_at (t : Fin cfg0.N) (s : Fin 8192) (d : Fin 128) : (iblk m c 2 t : S8192x128.Idx → EReal) (ix2 s d)
    = inA m c s ⟨1024 + 128 * (t.val / 32) + d.val, by have := tlt t; omega⟩ := by
  obtain ⟨e0, e1⟩ := idx2 t
  unfold inA
  blk_ext [iblk, V, e0, e1]

/-- A block of the keys or of the values. -/
theorem part_at (i : grid0.Coords) (x : Vec 𝕀 S8192x128 .bf16) (k : Fin (k0_t1_loop i).trips) (s : Fin 256) (d : Fin 128) :
    (part i x k : S256x128.Idx → EReal) (ix2 s d) = x (ix2 (⟨256 * ((i 1).val - k.val) + s.val, by have := i1_lt i; omega⟩ : Fin 8192) d) := by
  have ho := off_eq i k
  unfold part View.ld
  refine congrArg x (funext fun a => Fin.ext ?_)
  match a with
  | ⟨0, _⟩ =>
    show k0_off1 i k 0 + 1 * s.val = _
    rw [ho]
    show _ = 256 * ((i 1).val - k.val) + s.val
    simp
  | ⟨1, _⟩ =>
    show k0_off1 i k 1 + 1 * d.val = _
    rw [ho]
    show _ = d.val
    simp

variable {m c} {R : ℕ → ℕ → ℝ} (hR : ∀ (r : Fin 8192) (j : Fin 1536), j.val < 1024 → inA m c r j = ((R r j : ℝ) : EReal))
include hR

theorem scores (t : Fin cfg0.N) (k : Fin (k0_t1_loop (grid0.coords t)).trips) :
    Scores (grid0.coords t) k (iblk m c 0 t) (part (grid0.coords t) (iblk m c 1 t) k) (score R (t.val / 32)) := by
  intro p s
  have := tlt t
  have hq := q_at m c t
  have hk := fun s d => (part_at (grid0.coords t) (iblk m c 1 t) k s d).trans (k_at m c t _ d)
  generalize (part (grid0.coords t) (iblk m c 1 t) k : S256x128.Idx → EReal) = K at hk ⊢
  generalize (iblk m c 0 t : S256x128.Idx → EReal) = Q at hq ⊢
  pointwise [k0_pay8]
  simp only [hq, hk, row_eq]
  simp only [ofBits_qsc, score, coe_sum, EReal.coe_mul]
  refine congrArg (· * _) (Finset.sum_congr rfl fun d _ => ?_)
  rw [hR _ _ (by show 128 * (t.val / 32) + d.val < 1024; omega), hR _ _ (by show 512 + 128 * (t.val / 32) + d.val < 1024; omega)]

/-- Before trip `n` the pair holds the attention over the blocks already taken and their softplus. -/
theorem carried_at (t : Fin cfg0.N) : ∀ n, n ≤ (grid0.coords t 1).val + 1 →
    (∀ (p : Fin 256) (e : Fin 128), ((carried (grid0.coords t) (iblk m c 0 t) (iblk m c 1 t) (iblk m c 2 t) n).1 (ix2 p e) : EReal)
      = attn (score R (t.val / 32)) (fun s => value (inA m c) (t.val / 32) s e) (256 * (grid0.coords t 1).val + p.val)
          (256 * ((grid0.coords t 1).val + 1 - n)) (256 * ((grid0.coords t 1).val + 1))) ∧
    (∀ p : Fin 256, ((carried (grid0.coords t) (iblk m c 0 t) (iblk m c 1 t) (iblk m c 2 t) n).2 (ix2 p (0 : Fin 1)) : EReal)
      = ((suf (score R (t.val / 32)) (256 * (grid0.coords t 1).val + p.val) (256 * ((grid0.coords t 1).val + 1 - n)) (256 * ((grid0.coords t 1).val + 1)) : ℝ) : EReal))
  | 0, _ => by
    constructor
    · intro p e
      pointwise [carried, k0_pay3]
      simp [attn]
    · intro p
      pointwise [carried, k0_pay4]
      simp [suf]
  | n + 1, hn => by
    have := tlt t
    obtain ⟨ha, hr⟩ := carried_at t n (by omega)
    have ht : n < (k0_t1_loop (grid0.coords t)).trips := by rw [trips_eq]; omega
    have e1 : 256 * ((grid0.coords t 1).val - n) + 256 = 256 * ((grid0.coords t 1).val + 1 - n) := by omega
    have e2 : (grid0.coords t 1).val + 1 - (n + 1) = (grid0.coords t 1).val - n := by omega
    rw [carried, dif_pos ht, step, e2]
    have hz := scores hR t ⟨n, ht⟩
    rw [← e1] at ha hr
    refine ⟨fun p e => acc_at hz _ _ _ _ (fun s e => value (inA m c) (t.val / 32) s e) hr (by show 256 * ((grid0.coords t 1).val - n) + 256 ≤ _; omega) (fun s e => ?_) p e (ha p e),
      fun p => r_at hz _ _ (by show 256 * ((grid0.coords t 1).val - n) + 256 ≤ _; omega) p (hr p)⟩
    refine (part_at _ _ _ _ _).trans ((v_at m c t _ _).trans ?_)
    have := i1_lt (grid0.coords t)
    unfold value
    rw [dif_pos ⟨by show 256 * ((grid0.coords t 1).val - n) + s.val < 8192; omega, by omega⟩]

/-- What a point leaves in the output block. -/
theorem left_at (t : Fin cfg0.N) (p : Fin 256) (e : Fin 128) : ((dats m 0 c).after 3 t : S256x128.Idx → EReal) (ix2 p e)
    = attn (score R (t.val / 32)) (fun s => value (inA m c) (t.val / 32) s e) (256 * (t.val % 32) + p.val) 0 8192 := by
  rw [after0_3]
  unfold outsAt0
  rw [out_eq]
  have h := (carried_at hR t _ le_rfl).1 p e
  rw [trips_eq]
  generalize (carried (grid0.coords t) (iblk m c 0 t) (iblk m c 1 t) (iblk m c 2 t) ((grid0.coords t 1).val + 1)).1 = X at h ⊢
  pointwise [k0_pay7]
  refine h.trans ?_
  have := i1_lt (grid0.coords t)
  rw [Nat.sub_self, Nat.mul_zero, attn_more _ _ _ _ 8192 (by omega) (by omega), row_eq]

omit hR in
theorem covers3 : (cfg0.win 3).Covers :=
  (cfg0.win 3).covers_of_index_surj rfl (show ∀ b : Fin 2, 0 < S256x128.size b by decide)
    (by decide +kernel : ∀ β : (b : Fin 2) → Fin ((win0_3).nblk b), ∃ t : Fin grid0.N, ∀ b, win0_3.index t b = (β b).val)

/-- The call's array is the attention of every query of every head. -/
theorem result_at : (dats m 0 c).arrAt 3 cfg0.N = fun i : S8192x512.Idx =>
    (attn (score R ((i 1).val / 128)) (fun s => value (inA m c) ((i 1).val / 128) s ⟨(i 1).val % 128, Nat.mod_lt _ (by norm_num)⟩) (i 0).val 0 8192 : EReal) := by
  refine (dats m 0 c).arrAt_eq_of_covers 3 _ covers3 fun t hf y => ?_
  obtain ⟨p, e, rfl⟩ : ∃ (p : Fin 256) (e : Fin 128), y = ix2 p e := ⟨y 0, y 1, (ix2_eta (n0 := 256) (n1 := 128) y).symm⟩
  obtain ⟨e0, e1⟩ := idx3 t
  have hlt := tlt t
  have hr : ((cfg0.win 3).blk t).view.emb (ix2 p e) = (ix2 (n0 := 8192) (n1 := 512) ⟨256 * (t.val % 32) + p.val, by omega⟩
      ⟨128 * (t.val / 32) + e.val, by omega⟩ : S8192x512.Idx) := by
    blk_ext [e0, e1]
  refine (left_at hR t p e).trans ?_
  rw [hr]
  have h1 : (128 * (t.val / 32) + e.val) / 128 = t.val / 32 := by omega
  have h2 : (128 * (t.val / 32) + e.val) % 128 = e.val := by omega
  show _ = attn (score R ((128 * (t.val / 32) + e.val) / 128)) (fun s => value (inA m c) ((128 * (t.val / 32) + e.val) / 128) s
    ⟨(128 * (t.val / 32) + e.val) % 128, _⟩) (256 * (t.val % 32) + p.val) 0 8192
  simp only [h1, h2]

end Cert.AttentionIdeal.Value
-- ==== Proof.AttnRef.lean ====
module

public import proofs.«01_k».proof.Proof.AttnCall
public import proofs.«01_k».proof.Proof.Gen.AttentionReferenceIdeal.Run

/-!
The attention's reference, entry by entry.
-/

@[expose] public section
set_option maxRecDepth 16384
noncomputable section

namespace Cert.AttentionReferenceIdeal.Value
open Cert.AttentionReferenceIdeal Cert.AttentionReferenceIdeal.Gen Idealize.ShloMosaic Idealize.ShloMosaic.TcCoe Idealize.SL.Sem Attn
open Cert.KernelIdeal.Value (coe_sum qsc ofBits_qsc ofBits_ninf select_ite)
local notation "𝕀" => Idealize.ShloMosaic.Ideal

variable (a : FVec 𝕀 S8192x1536 .bf16)

/-- The heads' queries, scaled. -/
def rQ : FVec 𝕀 S4x8192x128 .f32 :=
  mulf (transpose S4x8192x128 [1, 0, 2] (shapeCast _ (extf .f32 (extractStridedSlice S8192x512 ![0, 0] a slices_S8192x1536_S8192x512_0_0) bitsLt_bf16_f32)
    shapeCasts_S8192x512_S8192x4x128) transposes_S8192x4x128_S4x8192x128_1_0_2) (broadcastInDim S4x8192x128 ![] bcast_S_S4x8192x128 (constant S_ .f32 0x3DB504F3#32))
/-- The heads' keys. -/
def rK : FVec 𝕀 S4x8192x128 .f32 :=
  transpose S4x8192x128 [1, 0, 2] (shapeCast _ (extf .f32 (extractStridedSlice S8192x512 ![0, 512] a slices_S8192x1536_S8192x512_0_512) bitsLt_bf16_f32)
    shapeCasts_S8192x512_S8192x4x128) transposes_S8192x4x128_S4x8192x128_1_0_2
/-- The heads' values. -/
def rV : FVec 𝕀 S4x8192x128 .f32 :=
  transpose S4x8192x128 [1, 0, 2] (shapeCast _ (extf .f32 (extractStridedSlice S8192x512 ![0, 1024] a slices_S8192x1536_S8192x512_0_1024) bitsLt_bf16_f32)
    shapeCasts_S8192x512_S8192x4x128) transposes_S8192x4x128_S4x8192x128_1_0_2
/-- The scores. -/
def rZ : FVec 𝕀 S4x8192x8192 .f32 := Host.dotGeneral dot_S4x8192x128_S4x8192x128_S4x8192x8192_2_2_1_1_0_0 none (rQ a) (rK a)
/-- Which keys lie before the query. -/
def rM : IVec S4x8192x8192 1 :=
  broadcastInDim S4x8192x8192 ![0, 1, 2] bcast_S1x8192x8192_S4x8192x8192_0_1_2 (broadcastInDim S1x8192x8192 ![1, 2] bcast_S8192x8192_S1x8192x8192_1_2
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0)))))
/-- The softplus of the scores before the query. -/
def rS (z : FVec 𝕀 S4x8192x8192 .f32) : FVec 𝕀 S4x8192x8192 .f32 :=
  select rM (select (cmpf .une (subf z (broadcastInDim S4x8192x8192 ![] bcast_S_S4x8192x8192 (constant S_ .f32 0x00000000#32)))
      (subf z (broadcastInDim S4x8192x8192 ![] bcast_S_S4x8192x8192 (constant S_ .f32 0x00000000#32))))
    (addf z (broadcastInDim S4x8192x8192 ![] bcast_S_S4x8192x8192 (constant S_ .f32 0x00000000#32)))
    (addf (maximumf z (broadcastInDim S4x8192x8192 ![] bcast_S_S4x8192x8192 (constant S_ .f32 0x00000000#32)))
      (Host.log1p (Host.exp (Host.negf (Host.absf (subf z (broadcastInDim S4x8192x8192 ![] bcast_S_S4x8192x8192 (constant S_ .f32 0x00000000#32)))))))))
    (broadcastInDim S4x8192x8192 ![] bcast_S_S4x8192x8192 (id (constant S_ .f32 0x00000000#32)))
/-- Its sums from every key to the last. -/
def rC (s : FVec 𝕀 S4x8192x8192 .f32) : FVec 𝕀 S4x8192x8192 .f32 :=
  Host.reduceWindowAdd ![1, 1, 8192] ![1, 1, 1] ![0, 0, 0] ![0, 0, 8191] s (broadcastInDim S_ ![] bcast_S_S_ (constant S_ .f32 0x00000000#32))
    reduceWindows_S4x8192x8192_S4x8192x8192_w1s1p0_0_w1s1p0_0_w8192s1p0_8191 h_S_
/-- The weights. -/
def rA (z s : FVec 𝕀 S4x8192x8192 .f32) : FVec 𝕀 S4x8192x8192 .f32 :=
  Host.exp (select rM (subf z s) (broadcastInDim S4x8192x8192 ![] bcast_S_S4x8192x8192 (id (constant S_ .f32 0xFF800000#32))))
/-- The weighed values, the heads side by side. -/
def rO (p : FVec 𝕀 S4x8192x8192 .f32) (v : FVec 𝕀 S4x8192x128 .f32) : FVec 𝕀 S8192x512 .bf16 :=
  truncf .bf16 (shapeCast _ (transpose S8192x4x128 [1, 0, 2] (Host.dotGeneral dot_S4x8192x8192_S4x8192x128_S4x8192x128_2_1_1_2_0_0 none p v)
    transposes_S4x8192x128_S8192x4x128_1_0_2) shapeCasts_S8192x4x128_S8192x512) bitsLt_bf16_f32

theorem res_eq (m : (ℓ : Loc nD τ sig) → Buf (Elt 𝕀) ℓ) (c : Dev nD) : res_main_v32 m c
    = rO (rA (rZ (m ((c.tc : Thread nD τ).loc main_arg0))) (rC (rS (rZ (m ((c.tc : Thread nD τ).loc main_arg0)))))) (rV (m ((c.tc : Thread nD τ).loc main_arg0))) := by
  rfl

theorem m_at (h : Fin 4) (q s : Fin 8192) : rM (ix3 h q s) = if s.val < q.val then 1#1 else 0#1 := by
  pointwise [rM]
  exact slt_small _ _ (by omega) (by omega)

/-- A fold by addition is a sum. -/
theorem fold_add {N : ℕ} (g : Fin N → EReal) (v : EReal) : (List.finRange N).foldl (fun r n => r + g n) v = v + ∑ n, g n := by
  have h : ∀ (l : List (Fin N)) (v : EReal), l.foldl (fun r n => r + g n) v = v + (l.map g).sum := fun l => by
    induction l with
    | nil => intro v; simp
    | cons n l ih => intro v; rw [List.foldl_cons, ih, List.map_cons, List.sum_cons, add_assoc]
  rw [h, ← List.ofFn_eq_map, List.sum_ofFn]

/-- The window's shape. -/
abbrev W : Shape := ⟨3, ![1, 1, 8192]⟩

theorem sum_window (g : W.Idx → EReal) : ∑ n, g n = ∑ n : Fin 8192, g (ix3 (n0 := 1) (n1 := 1) (n2 := 8192) 0 0 n) := by
  refine (Fintype.sum_bijective (fun n : Fin 8192 => (ix3 (n0 := 1) (n1 := 1) (n2 := 8192) 0 0 n : W.Idx)) ⟨fun a b h => congrFun h 2, fun y => ⟨y 2, ?_⟩⟩ _ _ fun n => rfl).symm
  refine Eq.trans ?_ (ix3_eta (n0 := 1) (n1 := 1) (n2 := 8192) y)
  have h0 : y 0 = (0 : Fin 1) := Subsingleton.elim (α := Fin 1) _ _
  have h1 : y 1 = (0 : Fin 1) := Subsingleton.elim (α := Fin 1) _ _
  rw [h0, h1]

/-- An entry of a key's window: the key's own softplus and those after it, nothing past the last. -/
def entry (s : FVec 𝕀 S4x8192x8192 .f32) (h : Fin 4) (q x : Fin 8192) (y : W.Idx) : EReal :=
  if hin : ∀ a : Fin 3, (![0, 0, 0] : Fin 3 → ℕ) a ≤ (ix3 h q x a).val * (![1, 1, 1] : Fin 3 → ℕ) a + (y a).val
      ∧ (ix3 h q x a).val * (![1, 1, 1] : Fin 3 → ℕ) a + (y a).val - (![0, 0, 0] : Fin 3 → ℕ) a < (![4, 8192, 8192] : Fin 3 → ℕ) a then
    s (fun a => ⟨(ix3 h q x a).val * (![1, 1, 1] : Fin 3 → ℕ) a + (y a).val - (![0, 0, 0] : Fin 3 → ℕ) a, (hin a).2⟩) else 0

theorem entry_at (s : FVec 𝕀 S4x8192x8192 .f32) (f : ℕ → EReal) (h : Fin 4) (q x : Fin 8192) (hs : ∀ y : Fin 8192, (s (ix3 h q y) : EReal) = f y.val)
    (n : Fin 8192) : entry s h q x (ix3 (n0 := 1) (n1 := 1) (n2 := 8192) 0 0 n) = if x.val + n.val < 8192 then f (x.val + n.val) else 0 := by
  unfold entry
  by_cases hx : x.val + n.val < 8192
  · rw [if_pos hx, dif_pos]
    · refine Eq.trans (congrArg s (funext fun a => Fin.ext ?_)) (hs ⟨x.val + n.val, hx⟩)
      match a with
      | ⟨0, _⟩ => show h.val * 1 + 0 - 0 = h.val; omega
      | ⟨1, _⟩ => show q.val * 1 + 0 - 0 = q.val; omega
      | ⟨2, _⟩ => show x.val * 1 + n.val - 0 = x.val + n.val; omega
    · intro a
      match a with
      | ⟨0, _⟩ => exact ⟨Nat.zero_le _, (show h.val * 1 + 0 - 0 < 4 by omega)⟩
      | ⟨1, _⟩ => exact ⟨Nat.zero_le _, (show q.val * 1 + 0 - 0 < 8192 by omega)⟩
      | ⟨2, _⟩ => exact ⟨Nat.zero_le _, (show x.val * 1 + n.val - 0 < 8192 by omega)⟩
  · rw [if_neg hx, dif_neg]
    intro hin
    have h2 : x.val * 1 + n.val - 0 < 8192 := (hin 2).2
    omega

/-- The window's sum. -/
theorem c_at (s : FVec 𝕀 S4x8192x8192 .f32) (f : ℕ → EReal) (h : Fin 4) (q x : Fin 8192) (hs : ∀ y : Fin 8192, (s (ix3 h q y) : EReal) = f y.val) :
    (rC s : S4x8192x8192.Idx → EReal) (ix3 h q x) = ∑ y ∈ Finset.Ico x.val 8192, f y := by
  have hv : (broadcastInDim (α := EReal) S_ ![] bcast_S_S_ (constant (F := 𝕀) S_ .f32 0x00000000#32)) (Shape.Idx.first h_S_) = 0 := by
    show Ideal.ofBits .f32 0x00000000#32 = 0
    simp [Ideal.ofBits, Ideal.ieee]
  unfold rC Host.reduceWindowAdd
  change Ideal.hostReduceWindowAdd _ _ _ _ _ _ _ _ = _
  unfold Ideal.hostReduceWindowAdd Host.reduceWindow
  dsimp only
  rw [fold_add, hv]
  refine (zero_add _).trans (Eq.trans (b := ∑ n : Fin W.numel, entry s h q x (W.rowMajor.symm n)) (Finset.sum_congr rfl fun n _ => ?_)
    ((Equiv.sum_comp W.rowMajor.symm (entry s h q x)).trans ((sum_window _).trans ?_)))
  · exact dite_congr rfl (fun _ => rfl) fun _ => rfl
  simp only [entry_at s f h q x hs]
  rw [sum_block (fun y => if y < 8192 then f y else 0), ← Finset.sum_filter]
  refine Finset.sum_congr (Finset.ext fun y => ?_) fun _ _ => rfl
  simp only [Finset.mem_filter, Finset.mem_Ico]
  omega

variable {A : Fin 8192 → Fin 1536 → EReal} {R : ℕ → ℕ → ℝ} (hA : ∀ r j, (a (ix2 r j) : EReal) = A r j)
  (hR : ∀ (r : Fin 8192) (j : Fin 1536), j.val < 1024 → A r j = ((R r j : ℝ) : EReal))

section
include hA hR
theorem z_at (h : Fin 4) (q s : Fin 8192) : (rZ a : S4x8192x8192.Idx → EReal) (ix3 h q s) = ((score R h q s : ℝ) : EReal) := by
  pointwise [rZ, rQ, rK]
  simp only [hA]
  simp only [ofBits_qsc, score, coe_sum, Finset.sum_mul, EReal.coe_mul]
  refine Finset.sum_congr rfl fun x _ => ?_
  rw [hR _ _ (by show h.val * 128 + x.val < 1024; omega), hR _ _ (by show 512 + (h.val * 128 + x.val) < 1024; omega)]
  have e : h.val * 128 = 128 * h.val := Nat.mul_comm _ _
  simp only [← EReal.coe_mul, e, ← Nat.add_assoc]
  congr 1
  ring
end

/-- The softplus of a real score. -/
theorem sp_real (x : ℝ) : max (x : EReal) 0 + Ideal.log1p (Ideal.exp (-FloatOps.absf (F := 𝕀) (φ := .f32) (x : EReal))) = ((Tok.sp x : ℝ) : EReal) := by
  rw [← Tok.sp_real, zero_sub]
  rfl

theorem s_at (z : FVec 𝕀 S4x8192x8192 .f32) (g : ℕ → ℕ → ℝ) (h : Fin 4) (q s : Fin 8192) (hz : (z (ix3 h q s) : EReal) = ((g q s : ℝ) : EReal)) :
    (rS z : S4x8192x8192.Idx → EReal) (ix3 h q s) = ((w g q s : ℝ) : EReal) := by
  have hm := m_at
  unfold rS
  generalize rM = M at hm ⊢
  pointwise
  simp only [hm, select_ite, hz, ne_eq, not_true_eq_false, if_false, sp_real, w]
  split
  · rfl
  · show Ideal.ofBits .f32 0x00000000#32 = 0
    simp [Ideal.ofBits, Ideal.ieee]

theorem a_at (z s : FVec 𝕀 S4x8192x8192 .f32) (g : ℕ → ℕ → ℝ) (h : Fin 4) (q x : Fin 8192) (hz : (z (ix3 h q x) : EReal) = ((g q x : ℝ) : EReal))
    (hs : (s (ix3 h q x) : EReal) = ((suf g q x 8192 : ℝ) : EReal)) :
    (rA z s : S4x8192x8192.Idx → EReal) (ix3 h q x) = wt g q x 8192 := by
  have hm := m_at
  unfold rA
  generalize rM = M at hm ⊢
  pointwise
  rw [hm, select_ite, hz, hs, wt]
  split
  · rw [← EReal.coe_sub, Ideal.exp_coe]
  · show Ideal.exp (Ideal.ofBits .f32 0xFF800000#32) = 0
    rw [ofBits_ninf]
    simp

include hA hR in
/-- The reference's array is the attention of every query of every head. -/
theorem result_at (q : Fin 8192) (j : Fin 512) : (rO (rA (rZ a) (rC (rS (rZ a)))) (rV a) : S8192x512.Idx → EReal) (ix2 q j)
    = attn (score R (j.val / 128)) (fun s => value A (j.val / 128) s ⟨j.val % 128, Nat.mod_lt _ (by norm_num)⟩) q.val 0 8192 := by
  have hj := j.isLt
  have hz := z_at a hA hR ⟨j.val / 128, by omega⟩ q
  have hc : ∀ x : Fin 8192, (rC (rS (rZ a)) : S4x8192x8192.Idx → EReal) (ix3 (⟨j.val / 128, by omega⟩ : Fin 4) q x)
      = ((suf (score R (j.val / 128)) q x 8192 : ℝ) : EReal) := fun x => by
    rw [c_at _ (fun y => ((w (score R (j.val / 128)) q y : ℝ) : EReal)) _ _ _ fun y => s_at _ _ _ _ _ (hz y), suf, coe_sum]
  have ha := fun x => a_at _ _ _ _ _ x (hz x) (hc x)
  generalize rA (rZ a) (rC (rS (rZ a))) = P at ha ⊢
  pointwise [rO, rV]
  simp only [ha, hA]
  unfold attn
  refine Eq.trans ?_ (sum_block (fun s => wt (score R (j.val / 128)) q.val s 8192 * value A (j.val / 128) s ⟨j.val % 128, Nat.mod_lt _ (by norm_num)⟩) 0 8192)
  refine Finset.sum_congr rfl fun x _ => ?_
  simp only [Nat.zero_add]
  refine congrArg (fun u : EReal => wt (score R (j.val / 128)) q.val x.val 8192 * u) ?_
  unfold value
  rw [dif_pos ⟨x.isLt, by omega⟩]
  refine congrArg (A _) (Fin.ext ?_)
  show 1024 + j.val = 1024 + 128 * (j.val / 128) + j.val % 128
  omega

end Cert.AttentionReferenceIdeal.Value
-- ==== Proof.Bounded.lean ====
module

public import proofs.«01_k».proof.Proof.Finite
public import proofs.«01_k».proof.Proof.AttnRef

@[expose] public section

noncomputable section

/-! # What the attention's precondition says

Over the extended reals `bounded` says that the queries and the keys are real numbers. -/

namespace Cert.Pre_bounded

open Idealize.ShloMosaic

/-- The side conditions of the precondition's operations. -/
theorem facts : Cert.Pre_bounded.Facts where
  slices_S8192x1536_S8192x1024_0_0 := by decide
  bcast_S_S8192x1024 := by decide
  reducesTo_S8192x1024_S_d0_1 := by decide
  h_S_ := by decide
  shapeCasts_S_S1 := by decide

local notation "𝕀" => Idealize.ShloMosaic.Ideal

/-- A number whose absolute value is below the narrow format's infinity is real. -/
theorem real_of_lt {x : EReal} (h : Ideal.cmp .olt (max x (-x)) (Ideal.ofBits .bf16 0x7F80#16) = 1#1) : ∃ r : ℝ, x = (r : EReal) :=
  Cert.Pre_finite.real_of_lt (by
    rw [← h]
    congr 1)

variable [Facts]

/-- The first 1024 columns hold real numbers only. -/
theorem reals (a : FVec 𝕀 S8192x1536 .bf16) (h : fn (F := 𝕀) a = fun _ => 1#1) (r : Fin 8192) (j : Fin 1536) (hj : j.val < 1024) :
    ∃ x : ℝ, (a (ix2 r j) : EReal) = (x : EReal) := by
  have h0 := congrFun h (ix1 (n0 := 1) 0)
  dsimp only [fn, shapeCast] at h0
  have hi := real_of_lt (Host.reduce_andi_all _ _ _ _ _ h0 (ix2 r (⟨j.val, hj⟩ : Fin 1024)))
  have e : (extractStridedSlice S8192x1024 ![0, 0] a Facts.slices_S8192x1536_S8192x1024_0_0 : S8192x1024.Idx → EReal) (ix2 r (⟨j.val, hj⟩ : Fin 1024))
      = a (ix2 r j) := by pointwise
  rwa [e] at hi

/-- Such columns are read from one table of reals. -/
theorem exists_reads (a : FVec 𝕀 S8192x1536 .bf16)
    (h : ∀ (r : Fin 8192) (j : Fin 1536), j.val < 1024 → ∃ x : ℝ, (a (ix2 r j) : EReal) = (x : EReal)) :
    ∃ R : ℕ → ℕ → ℝ, ∀ (r : Fin 8192) (j : Fin 1536), j.val < 1024 → (a (ix2 r j) : EReal) = ((R r j : ℝ) : EReal) := by
  refine ⟨fun r j => if hr : r < 8192 ∧ j < 1536 then (a (ix2 (⟨r, hr.1⟩ : Fin 8192) (⟨j, hr.2⟩ : Fin 1536)) : EReal).toReal else 0,
    fun r j hj => ?_⟩
  obtain ⟨x, hx⟩ := h r j hj
  beta_reduce
  rw [dif_pos ⟨r.isLt, j.isLt⟩]
  change (a (ix2 r j) : EReal) = ((a (ix2 r j) : EReal).toReal : EReal)
  rw [hx, EReal.toReal_coe]

end Cert.Pre_bounded

end
-- ==== Proof.GateBlock.lean ====
module

public import proofs.«01_k».proof.Proof.Gen.GatingIdeal.Value
public import proofs.«01_k».proof.Proof.AttnBlock

/-!
Spatial gating of one chunk of 128 tokens, one group of lanes at a time.
-/

@[expose] public section
set_option maxRecDepth 16384
noncomputable section

namespace Gate
open Idealize.ShloMosaic

/-- GELU, by the error function. -/
def gelu (x : EReal) : EReal :=
  Ideal.ofBits FTy.f32 0x3F000000#32 * x * (1 + Ideal.erf (x * Ideal.ofBits FTy.f32 0x3F3504F3#32))
/-- A group's mean, the group's width in the constant's own bits. -/
def mean (v : Fin 128 → EReal) : EReal := Ideal.div (∑ k, v k) (Ideal.ofBits FTy.f32 0x43000000#32)
/-- A group less its mean, over the root of its variance and a small constant. -/
def core (v : Fin 128 → EReal) (d : Fin 128) : EReal :=
  (v d - mean v) * Ideal.rsqrt (Ideal.div (∑ k, (v k - mean v) * (v k - mean v)) (Ideal.ofBits FTy.f32 0x43000000#32)
    + Ideal.ofBits FTy.f32 0x3727C5AC#32)
/-- The token's weights on the tokens up to it, on the normed rows, with its bias, times the GELU of its own lane. -/
def entry (u : EReal) (v : Fin 128 → Fin 128 → EReal) (n b w : Fin 128 → EReal) (e : EReal) (p d : Fin 128) : EReal :=
  gelu u * ((∑ s : Fin 128, (if s ≤ p then w s else 0) * (core (fun k => gelu (v s k)) d * n d + b d)) + e)
/-- Lane `k` of the group that lane `j` is in. -/
def lane (j : Fin 512) (k : Fin 128) : Fin 512 := ⟨128 * (j.val / 128) + k.val, by omega⟩
/-- The group of a lane. -/
def grp (j : Fin 512) : Fin 4 := ⟨j.val / 128, by omega⟩
/-- Token `s` of the chunk that token `r` is in. -/
def tok (r : Fin 8192) (s : Fin 128) : Fin 8192 := ⟨128 * (r.val / 128) + s.val, by omega⟩
/-- A result from the whole arrays: the columns, the norm's scale and shift, the weights and the biases. -/
def result (A : Fin 8192 → Fin 1152 → EReal) (N B : Fin 512 → EReal) (W : Fin 4 → Fin 128 → Fin 128 → EReal) (E : Fin 4 → Fin 128 → EReal)
    (r : Fin 8192) (j : Fin 512) : EReal :=
  entry (A r ⟨j.val, by omega⟩) (fun s k => A (tok r s) ⟨512 + (lane j k).val, by omega⟩) (fun k => N (lane j k)) (fun k => B (lane j k))
    (fun s => W (grp j) ⟨r.val % 128, by omega⟩ s) (E (grp j) ⟨r.val % 128, by omega⟩) ⟨r.val % 128, by omega⟩ ⟨j.val % 128, by omega⟩
end Gate

namespace Cert.GatingIdeal.Value
open Cert.GatingIdeal Cert.GatingIdeal.Gen Idealize.ShloMosaic Idealize.ShloMosaic.TcCoe
open Attn (sge_small)
open Gate
local notation "𝕀" => Idealize.ShloMosaic.Ideal

variable (u v : Vec 𝕀 S128x128 .f32) (n b : Vec 𝕀 S1x128 .f32) (w : Vec 𝕀 S1x128x128 .f32) (e : Vec 𝕀 S128x1 .f32)

theorem zero_bits : Ideal.ofBits FTy.f32 0x00000000#32 = 0 := by simp [Ideal.ofBits, Ideal.ieee]
theorem one_bits : Ideal.ofBits FTy.f32 0x3F800000#32 = 1 := by
  simp [Ideal.ofBits, Ideal.ieee, -EReal.coe_mul]
  norm_num

theorem gelu_at (p d : Fin 128) : (k0_pay3 (F := 𝕀) u : S128x128.Idx → EReal) (ix2 p d) = gelu (u (ix2 p d)) := by
  unfold gelu
  pointwise [k0_pay3]
  rfl

theorem core_at (p d : Fin 128) : (k0_pay4 (F := 𝕀) v : S128x128.Idx → EReal) (ix2 p d) = core (fun k => gelu (v (ix2 p k))) d := by
  unfold core mean gelu
  pointwise [k0_pay4]
  simp only [Ideal.erf_def]

theorem tri_at (p s : Fin 128) : k0_pay2 (ix2 p s) = if s ≤ p then 1#1 else 0#1 := by
  pointwise [k0_pay2]
  exact sge_small _ _ (by omega) (by omega)

/-- A group's results. -/
def group : FVec 𝕀 S128x128 .bf16 := k0_pay6 k0_pay2 (k0_pay3 u) (k0_pay4 v) (k0_pay5 n) b w e

theorem group_at (p d : Fin 128) : (group u v n b w e : S128x128.Idx → EReal) (ix2 p d)
    = entry (u (ix2 p d)) (fun s k => v (ix2 s k)) (fun k => n (ix2 0 k)) (fun k => b (ix2 0 k)) (fun s => w (ix3 0 p s)) (e (ix2 p 0)) p d := by
  have h1 := gelu_at u
  have h2 := core_at v
  have h3 := tri_at
  unfold group entry
  generalize k0_pay3 (F := 𝕀) u = U at h1 ⊢
  generalize k0_pay4 (F := 𝕀) v = W at h2 ⊢
  generalize k0_pay2 = T at h3 ⊢
  pointwise [k0_pay6, k0_pay5]
  simp only [h1, h2, h3, Cert.KernelIdeal.Value.select_ite, zero_bits, ite_mul, zero_mul]
end Cert.GatingIdeal.Value
-- ==== Proof.GateCall.lean ====
module

public import proofs.«01_k».proof.Proof.GateBlock
public import proofs.«01_k».proof.Proof.Chain
import Idealize.ShloMosaic.Lib.Pipeline.Covers

/-!
Spatial gating: a point of the call leaves four groups of lanes, and the points leave the rows of their chunks.
-/

@[expose] public section
set_option maxRecDepth 16384
noncomputable section

namespace Cert.GatingIdeal.Value
open Cert.GatingIdeal Cert.GatingIdeal.Gen Idealize.ShloMosaic Idealize.ShloMosaic.TcCoe Idealize.SL.Sem
open Gate
local notation "𝕀" => Idealize.ShloMosaic.Ideal

/-- A chunk's results from its blocks. -/
def chunk (u v : S128x512.Idx → EReal) (n b : S1x512.Idx → EReal) (w : S4x128x128.Idx → EReal) (e : S128x4.Idx → EReal) (p : Fin 128) (j : Fin 512) : EReal :=
  entry (u (ix2 p j)) (fun s k => v (ix2 s (lane j k))) (fun k => n (ix2 0 (lane j k))) (fun k => b (ix2 0 (lane j k)))
    (fun s => w (ix3 (grp j) p s)) (e (ix2 p (grp j))) p ⟨j.val % 128, by omega⟩

section
variable (u : Vec 𝕀 S128x512 .f32) (n : Vec 𝕀 S1x512 .f32) (w : Vec 𝕀 S4x128x128 .f32) (e : Vec 𝕀 S128x4 .f32) (o : ℕ)

/-- The lanes of a group, from lane `o` on. -/
def cutU (h : ∀ a, (![0, o] : Fin 2 → ℕ) a + S128x128.size a ≤ S128x512.size a) : Vec 𝕀 S128x128 .f32 :=
  View.ld u (Rect.unit (s := S128x512) ![0, o] S128x128.size h)
/-- The same lanes of a row of the norm's. -/
def cutN (h : ∀ a, (![0, o] : Fin 2 → ℕ) a + S1x128.size a ≤ S1x512.size a) : Vec 𝕀 S1x128 .f32 :=
  View.ld n (Rect.unit (s := S1x512) ![0, o] S1x128.size h)
/-- The weights of group `o`. -/
def cutW (h : ∀ a, (![o, 0, 0] : Fin 3 → ℕ) a + S1x128x128.size a ≤ S4x128x128.size a) : Vec 𝕀 S1x128x128 .f32 :=
  View.ld w (Rect.unit (s := S4x128x128) ![o, 0, 0] S1x128x128.size h)
/-- The biases of group `o`. -/
def cutE (h : ∀ a, (![0, o] : Fin 2 → ℕ) a + S128x1.size a ≤ S128x4.size a) : Vec 𝕀 S128x1 .f32 :=
  View.ld e (Rect.unit (s := S128x4) ![0, o] S128x1.size h)

theorem cutU_at (h) (p d : Fin 128) (j : Fin 512) (hj : j.val = o + d.val) : (cutU u o h (ix2 p d) : EReal) = u (ix2 p j) :=
  View.ld_unit_apply_of u ![0, o] S128x128.size h (ix2 p d) (ix2 p j) fun a => by
    match a with
    | ⟨0, _⟩ => exact (Nat.zero_add p.val).symm
    | ⟨1, _⟩ => exact hj
theorem cutN_at (h) (d : Fin 128) (j : Fin 512) (hj : j.val = o + d.val) : (cutN n o h (ix2 0 d) : EReal) = n (ix2 0 j) :=
  View.ld_unit_apply_of n ![0, o] S1x128.size h (ix2 0 d) (ix2 0 j) fun a => by
    match a with
    | ⟨0, _⟩ => rfl
    | ⟨1, _⟩ => exact hj
theorem cutW_at (h) (p s : Fin 128) (g : Fin 4) (hg : g.val = o) : (cutW w o h (ix3 0 p s) : EReal) = w (ix3 g p s) :=
  View.ld_unit_apply_of w ![o, 0, 0] S1x128x128.size h (ix3 0 p s) (ix3 g p s) fun a => by
    match a with
    | ⟨0, _⟩ => exact hg
    | ⟨1, _⟩ => exact (Nat.zero_add p.val).symm
    | ⟨2, _⟩ => exact (Nat.zero_add s.val).symm
theorem cutE_at (h) (p : Fin 128) (g : Fin 4) (hg : g.val = o) : (cutE e o h (ix2 p 0) : EReal) = e (ix2 p g) :=
  View.ld_unit_apply_of e ![0, o] S128x1.size h (ix2 p 0) (ix2 p g) fun a => by
    match a with
    | ⟨0, _⟩ => exact (Nat.zero_add p.val).symm
    | ⟨1, _⟩ => exact hg
end

/-- The `g`-th group of a chunk is the chunk's results on the group's lanes. -/
theorem piece (g : Fin 4) (u v : Vec 𝕀 S128x512 .f32) (n b : Vec 𝕀 S1x512 .f32) (w : Vec 𝕀 S4x128x128 .f32) (e : Vec 𝕀 S128x4 .f32)
    (o : ℕ) (ho : o = 128 * g.val) (hu hn hw he) (x : S128x128.Idx) (y : S128x512.Idx) (h0 : (y 0).val = (x 0).val) (h1 : (y 1).val = o + (x 1).val) :
    (group (cutU u o hu) (cutU v o hu) (cutN n o hn) (cutN b o hn) (cutW w g.val hw) (cutE e g.val he) : S128x128.Idx → EReal) x
      = chunk u v n b w e (y 0) (y 1) := by
  obtain ⟨p, d, rfl⟩ : ∃ p d : Fin 128, x = ix2 p d := ⟨x 0, x 1, (ix2_eta (n0 := 128) (n1 := 128) x).symm⟩
  obtain ⟨p', j, rfl⟩ : ∃ (p' : Fin 128) (j : Fin 512), y = ix2 p' j := ⟨y 0, y 1, (ix2_eta (n0 := 128) (n1 := 512) y).symm⟩
  have h0' : p'.val = p.val := h0
  have h1' : j.val = o + d.val := h1
  obtain rfl : p' = p := Fin.ext h0'
  have hl : ∀ k, (lane j k).val = o + k.val := fun k => by unfold lane; dsimp only; omega
  have hg : grp j = g := Fin.ext (by unfold grp; dsimp only; omega)
  have hd : (⟨j.val % 128, by omega⟩ : Fin 128) = d := Fin.ext (by dsimp only; omega)
  rw [group_at]
  show _ = chunk u v n b w e p' j
  unfold chunk
  simp only [hg, hd, fun q k => cutU_at v o hu q k (lane j k) (hl k), fun k => cutN_at n o hn k (lane j k) (hl k),
    fun k => cutN_at b o hn k (lane j k) (hl k), fun q s => cutW_at w g.val hw q s g rfl, fun q => cutE_at e g.val he q g rfl,
    cutU_at u o hu p' d j h1']

variable (m : (ℓ : Loc nD τ sig) → Buf (Elt 𝕀) ℓ) (c : Dev nD)

set_option maxHeartbeats 2000000 in
theorem outs_at (t : Fin cfg0.N) (y : S128x512.Idx) : (outsAt0 m c t : S128x512.Idx → EReal) y
    = chunk (X0_0 m c t) (X0_1 m c t) (iblk m c 2 t) (iblk m c 3 t) (iblk m c 4 t) (iblk m c 5 t) (y 0) (y 1) := by
  generalize hQ : chunk _ _ _ _ _ _ _ _ = Z
  unfold outsAt0
  frame_out
  canon_tiles x h
  all_goals subst hQ
  case piece0 =>
    refine (congrFun (show _ = group (cutU _ 384 inb_S128x512_S128x128_0_384) (cutU _ 384 inb_S128x512_S128x128_0_384)
      (cutN _ 384 inb_S1x512_S1x128_0_384) (cutN _ 384 inb_S1x512_S1x128_0_384) (cutW _ 3 inb_S4x128x128_S1x128x128_3_0_0)
      (cutE _ 3 inb_S128x4_S128x1_0_3) from ?_) x).trans (piece 3 (X0_0 m c t) (X0_1 m c t) (iblk m c 2 t) (iblk m c 3 t) (iblk m c 4 t)
        (iblk m c 5 t) 384 rfl _ _ _ _ x y h0 (by simpa using h1))
    sl_kernel_rfl
  case piece1 =>
    refine (congrFun (show _ = group (cutU _ 256 inb_S128x512_S128x128_0_256) (cutU _ 256 inb_S128x512_S128x128_0_256)
      (cutN _ 256 inb_S1x512_S1x128_0_256) (cutN _ 256 inb_S1x512_S1x128_0_256) (cutW _ 2 inb_S4x128x128_S1x128x128_2_0_0)
      (cutE _ 2 inb_S128x4_S128x1_0_2) from ?_) x).trans (piece 2 (X0_0 m c t) (X0_1 m c t) (iblk m c 2 t) (iblk m c 3 t) (iblk m c 4 t)
        (iblk m c 5 t) 256 rfl _ _ _ _ x y h0 (by simpa using h1))
    sl_kernel_rfl
  case piece2 =>
    refine (congrFun (show _ = group (cutU _ 128 inb_S128x512_S128x128_0_128) (cutU _ 128 inb_S128x512_S128x128_0_128)
      (cutN _ 128 inb_S1x512_S1x128_0_128) (cutN _ 128 inb_S1x512_S1x128_0_128) (cutW _ 1 inb_S4x128x128_S1x128x128_1_0_0)
      (cutE _ 1 inb_S128x4_S128x1_0_1) from ?_) x).trans (piece 1 (X0_0 m c t) (X0_1 m c t) (iblk m c 2 t) (iblk m c 3 t) (iblk m c 4 t)
        (iblk m c 5 t) 128 rfl _ _ _ _ x y h0 (by simpa using h1))
    sl_kernel_rfl
  case piece3 =>
    refine (congrFun (show _ = group (cutU _ 0 inb_S128x512_S128x128_0_0) (cutU _ 0 inb_S128x512_S128x128_0_0)
      (cutN _ 0 inb_S1x512_S1x128_0_0) (cutN _ 0 inb_S1x512_S1x128_0_0) (cutW _ 0 inb_S4x128x128_S1x128x128_0_0_0)
      (cutE _ 0 inb_S128x4_S128x1_0_0) from ?_) x).trans (piece 0 (X0_0 m c t) (X0_1 m c t) (iblk m c 2 t) (iblk m c 3 t) (iblk m c 4 t)
        (iblk m c 5 t) 0 rfl _ _ _ _ x y h0 (by simpa using h1))
    sl_kernel_rfl

/-! ## The blocks a point reads -/

theorem idx0 : ∀ t : Fin cfg0.N, win0_0.index t (0 : Fin 2) = t.val ∧ win0_0.index t (1 : Fin 2) = 0 := by decide +kernel
theorem idx1 : ∀ t : Fin cfg0.N, win0_1.index t (0 : Fin 2) = t.val ∧ win0_1.index t (1 : Fin 2) = 1 := by decide +kernel
theorem idx2 : ∀ t : Fin cfg0.N, win0_2.index t (0 : Fin 2) = 0 ∧ win0_2.index t (1 : Fin 2) = 0 := by decide +kernel
theorem idx3 : ∀ t : Fin cfg0.N, win0_3.index t (0 : Fin 2) = 0 ∧ win0_3.index t (1 : Fin 2) = 0 := by decide +kernel
theorem idx4 : ∀ t : Fin cfg0.N, win0_4.index t (0 : Fin 3) = 0 ∧ win0_4.index t (1 : Fin 3) = 0 ∧ win0_4.index t (2 : Fin 3) = 0 := by decide +kernel
theorem idx5 : ∀ t : Fin cfg0.N, win0_5.index t (0 : Fin 2) = 0 ∧ win0_5.index t (1 : Fin 2) = 0 := by decide +kernel
theorem idx6 : ∀ t : Fin cfg0.N, win0_6.index t (0 : Fin 2) = t.val ∧ win0_6.index t (1 : Fin 2) = 0 := by decide +kernel
theorem tlt (t : Fin cfg0.N) : t.val < 64 := lt_of_lt_of_eq t.isLt N_0

/-- The columns. -/
def inA (r : Fin 8192) (k : Fin 1152) : EReal := (m ((c : Thread nD τ).loc main_arg0) : S8192x1152.Idx → EReal) (ix2 r k)
/-- The norm's scale. -/
def inN (k : Fin 512) : EReal := (m ((c : Thread nD τ).loc main_arg1) : S512.Idx → EReal) (ix1 k)
/-- The norm's shift. -/
def inB (k : Fin 512) : EReal := (m ((c : Thread nD τ).loc main_arg2) : S512.Idx → EReal) (ix1 k)
/-- The weights on the tokens. -/
def inW (g : Fin 4) (p s : Fin 128) : EReal := (m ((c : Thread nD τ).loc main_arg3) : S4x128x128.Idx → EReal) (ix3 g p s)
/-- The biases. -/
def inE (g : Fin 4) (p : Fin 128) : EReal := (m ((c : Thread nD τ).loc main_arg4) : S4x128.Idx → EReal) (ix2 g p)

/-- A chunk's token among all. -/
def row (t : Fin cfg0.N) (p : Fin 128) : Fin 8192 := ⟨128 * t.val + p.val, by have := tlt t; omega⟩

/-- A vector as one row. -/
def flat (x : FVec 𝕀 S512 .f32) : FVec 𝕀 S1x512 .f32 := shapeCast _ x shapeCasts_S512_S1x512
/-- The biases, a token a row. -/
def turned (x : FVec 𝕀 S4x128 .f32) : FVec 𝕀 S128x4 .f32 := transpose S128x4 [1, 0] x transposes_S4x128_S128x4_1_0
theorem flat_at (x : FVec 𝕀 S512 .f32) (k : Fin 512) : (flat x : S1x512.Idx → EReal) (ix2 0 k) = x (ix1 k) := by
  pointwise [flat]
theorem turned_at (x : FVec 𝕀 S4x128 .f32) (p : Fin 128) (g : Fin 4) : (turned x : S128x4.Idx → EReal) (ix2 p g) = x (ix2 g p) := by
  pointwise [turned]

theorem entry_scale : V m c main_v0 = flat (m ((c : Thread nD τ).loc main_arg1)) := by
  simp only [V, List.flatten_cons, List.flatten_nil, List.append_nil, List.cons_append, List.nil_append, StableHlo.after_cons, StableHlo.after_nil]
  after_results_simp
  rfl
theorem entry_shift : V m c main_v1 = flat (m ((c : Thread nD τ).loc main_arg2)) := by
  simp only [V, List.flatten_cons, List.flatten_nil, List.append_nil, List.cons_append, List.nil_append, StableHlo.after_cons, StableHlo.after_nil]
  after_results_simp
  rfl
theorem entry_bias : V m c main_v2 = turned (m ((c : Thread nD τ).loc main_arg4)) := by
  simp only [V, List.flatten_cons, List.flatten_nil, List.append_nil, List.cons_append, List.nil_append, StableHlo.after_cons, StableHlo.after_nil]
  after_results_simp
  rfl

theorem u_at (t : Fin cfg0.N) (p : Fin 128) (j : Fin 512) : (X0_0 m c t : S128x512.Idx → EReal) (ix2 p j) = inA m c (row t p) ⟨j.val, by omega⟩ := by
  obtain ⟨e0, e1⟩ := idx0 t
  unfold X0_0 Pipeline.Window.fill inA row
  rw [dif_pos (moved0_0 t _)]
  blk_ext [iblk, V, e0, e1]
theorem v_at (t : Fin cfg0.N) (p : Fin 128) (j : Fin 512) : (X0_1 m c t : S128x512.Idx → EReal) (ix2 p j) = inA m c (row t p) ⟨512 + j.val, by omega⟩ := by
  obtain ⟨e0, e1⟩ := idx1 t
  unfold X0_1 Pipeline.Window.fill inA row
  rw [dif_pos (moved0_1 t _)]
  blk_ext [iblk, V, e0, e1]
theorem n_at (t : Fin cfg0.N) (j : Fin 512) : (iblk m c 2 t : S1x512.Idx → EReal) (ix2 0 j) = inN m c j := by
  obtain ⟨e0, e1⟩ := idx2 t
  blk_simp [iblk, e0, e1]
  rw [entry_scale]
  refine Eq.trans (congrArg _ ?_) (flat_at _ j)
  blk_ext [e0, e1]
theorem b_at (t : Fin cfg0.N) (j : Fin 512) : (iblk m c 3 t : S1x512.Idx → EReal) (ix2 0 j) = inB m c j := by
  obtain ⟨e0, e1⟩ := idx3 t
  blk_simp [iblk, e0, e1]
  rw [entry_shift]
  refine Eq.trans (congrArg _ ?_) (flat_at _ j)
  blk_ext [e0, e1]
theorem w_at (t : Fin cfg0.N) (g : Fin 4) (p s : Fin 128) : (iblk m c 4 t : S4x128x128.Idx → EReal) (ix3 g p s) = inW m c g p s := by
  obtain ⟨e0, e1, e2⟩ := idx4 t
  unfold inW
  blk_ext [iblk, V, e0, e1, e2]
theorem e_at (t : Fin cfg0.N) (p : Fin 128) (g : Fin 4) : (iblk m c 5 t : S128x4.Idx → EReal) (ix2 p g) = inE m c g p := by
  obtain ⟨e0, e1⟩ := idx5 t
  blk_simp [iblk, e0, e1]
  rw [entry_bias]
  refine Eq.trans (congrArg _ ?_) (turned_at _ p g)
  blk_ext [e0, e1]

/-! ## The result -/

theorem left_at (t : Fin cfg0.N) (p : Fin 128) (j : Fin 512) : ((dats m 0 c).after 6 t : S128x512.Idx → EReal) (ix2 p j)
    = result (inA m c) (inN m c) (inB m c) (inW m c) (inE m c) (row t p) j := by
  rw [after0_6]
  refine (outs_at m c t (ix2 p j)).trans ?_
  show chunk _ _ _ _ _ _ p j = _
  have hp : (⟨(row t p).val % 128, by omega⟩ : Fin 128) = p := Fin.ext (by unfold row; dsimp only; omega)
  have ht : ∀ s, tok (row t p) s = row t s := fun s => Fin.ext (by unfold tok row; dsimp only; omega)
  unfold chunk result
  simp only [hp, ht, u_at, v_at, n_at, b_at, w_at, e_at]

theorem covers6 : (cfg0.win 6).Covers :=
  (cfg0.win 6).covers_of_index_surj rfl (show ∀ b : Fin 2, 0 < S128x512.size b by decide)
    (by decide +kernel : ∀ β : (b : Fin 2) → Fin ((win0_6).nblk b), ∃ t : Fin grid0.N, ∀ b, win0_6.index t b = (β b).val)

/-- The result of the call. -/
theorem result_at : (dats m 0 c).arrAt 6 cfg0.N
    = fun i : S8192x512.Idx => (result (inA m c) (inN m c) (inB m c) (inW m c) (inE m c) (i 0) (i 1) : EReal) := by
  refine (dats m 0 c).arrAt_eq_of_covers 6 _ covers6 fun t hf y => ?_
  obtain ⟨p, j, rfl⟩ : ∃ (p : Fin 128) (j : Fin 512), y = ix2 p j := ⟨y 0, y 1, (ix2_eta (n0 := 128) (n1 := 512) y).symm⟩
  obtain ⟨e0, e1⟩ := idx6 t
  have hr : ((cfg0.win 6).blk t).view.emb (ix2 p j) = (ix2 (n0 := 8192) (n1 := 512) (row t p) j : S8192x512.Idx) := by
    unfold row
    blk_ext [e0, e1]
  refine (left_at m c t p j).trans ?_
  rw [hr]
  rfl

end Cert.GatingIdeal.Value
-- ==== Proof.GateRef.lean ====
module

public import proofs.«01_k».proof.Proof.GateCall
public import proofs.«01_k».proof.Proof.Gen.GatingReferenceIdeal.Run

/-!
The spatial gating's reference, entry by entry.
-/

@[expose] public section
set_option maxRecDepth 16384
noncomputable section

namespace Cert.GatingReferenceIdeal.Value
open Cert.GatingReferenceIdeal Cert.GatingReferenceIdeal.Gen Idealize.ShloMosaic Idealize.ShloMosaic.TcCoe Idealize.SL.Sem
open Attn (sge_small)
open Gate
open Cert.GatingIdeal.Value (zero_bits)
local notation "𝕀" => Idealize.ShloMosaic.Ideal

/-- The GELU, by the complementary error function. -/
def rG (x : FVec 𝕀 S8192x512 .f32) : FVec 𝕀 S8192x512 .f32 :=
  mulf (mulf (broadcastInDim S8192x512 ![] bcast_S_S8192x512 (constant S_ .f32 0x3F000000#32)) x)
    (Host.erfc (mulf (Host.negf x) (broadcastInDim S8192x512 ![] bcast_S_S8192x512 (constant S_ .f32 0x3F3504F3#32))))
/-- The gates. -/
def rU (a : FVec 𝕀 S8192x1152 .f32) : FVec 𝕀 S8192x512 .f32 := rG (extractStridedSlice S8192x512 ![0, 0] a slices_S8192x1152_S8192x512_0_0)
/-- The gated columns, in four groups. -/
def rV (a : FVec 𝕀 S8192x1152 .f32) : FVec 𝕀 S8192x4x128 .f32 :=
  shapeCast _ (rG (extractStridedSlice S8192x512 ![0, 512] a slices_S8192x1152_S8192x512_0_512)) shapeCasts_S8192x512_S8192x4x128
/-- The groups' means. -/
def rM (v : FVec 𝕀 S8192x4x128 .f32) : FVec 𝕀 S8192x4x1 .f32 :=
  Host.divf (broadcastInDim S8192x4x1 ![0, 1] bcast_S8192x4_S8192x4x1_0_1 (Host.reduceAdd v (constant S_ .f32 0x00000000#32)
    reducesTo_S8192x4x128_S8192x4_d2 h_S_)) (broadcastInDim S8192x4x1 ![] bcast_S_S8192x4x1 (constant S_ .f32 0x43000000#32))
/-- The groups less their means. -/
def rC (v : FVec 𝕀 S8192x4x128 .f32) : FVec 𝕀 S8192x4x128 .f32 :=
  subf v (broadcastInDim S8192x4x128 ![0, 1, 2] bcast_S8192x4x1_S8192x4x128_0_1_2 (rM v))
/-- A row of the norm's on every group. -/
def rS (x : FVec 𝕀 S512 .f32) : FVec 𝕀 S8192x4x128 .f32 :=
  broadcastInDim S8192x4x128 ![0, 1, 2] bcast_S1x4x128_S8192x4x128_0_1_2 (broadcastInDim S1x4x128 ![1, 2] bcast_S4x128_S1x4x128_1_2
    (shapeCast _ x shapeCasts_S512_S4x128))
/-- The norm of the centred groups. -/
def rN (v : FVec 𝕀 S8192x4x128 .f32) (n b : FVec 𝕀 S8192x4x128 .f32) : FVec 𝕀 S8192x4x128 .f32 :=
  addf (mulf (mulf (rC v) (broadcastInDim S8192x4x128 ![0, 1, 2] bcast_S8192x4x1_S8192x4x128_0_1_2 (Host.rsqrt (addf (rM (mulf (rC v) (rC v)))
    (broadcastInDim S8192x4x1 ![] bcast_S_S8192x4x1 (constant S_ .f32 0x3727C5AC#32)))))) n) b
/-- The lower triangle. -/
def rL : IVec S4x128x128 1 :=
  broadcastInDim S4x128x128 ![1, 2] bcast_S128x128_S4x128x128_1_2 (select (cmpi .sge (addi (iotaInDim S128x128 32 0) (broadcastInDim S128x128 ![]
    bcast_S_S128x128 (constantI S_ 32 0#32))) (iotaInDim S128x128 32 1)) (broadcastInDim S128x128 ![] bcast_S_S128x128 (constantI S_ 1 1#1))
    (broadcastInDim S128x128 ![] bcast_S_S128x128 (constantI S_ 1 0#1)))
/-- The weights on the tokens up to the token's own. -/
def rW (w : FVec 𝕀 S4x128x128 .f32) : FVec 𝕀 S4x128x128 .f32 :=
  select rL w (broadcastInDim S4x128x128 ![] bcast_S_S4x128x128 (sitofp .f32 (constantI S_ 32 0#32)))
/-- The chunks' weighed sums with their biases. -/
def rD (v : FVec 𝕀 S8192x4x128 .f32) (w : FVec 𝕀 S4x128x128 .f32) (e : FVec 𝕀 S4x128 .f32) : FVec 𝕀 S64x128x4x128 .f32 :=
  addf (transpose S64x128x4x128 [1, 3, 0, 2] (Host.dotGeneral dot_S64x128x4x128_S4x128x128_S4x64x128x128_1_2_03_1_2_0 none
      (shapeCast _ v shapeCasts_S8192x4x128_S64x128x4x128) w) transposes_S4x64x128x128_S64x128x4x128_1_3_0_2)
    (broadcastInDim S64x128x4x128 ![0, 1, 2, 3] bcast_S1x128x4x1_S64x128x4x128_0_1_2_3 (broadcastInDim S1x128x4x1 ![1, 2, 3] bcast_S128x4x1_S1x128x4x1_1_2_3
      (broadcastInDim S128x4x1 ![0, 1] bcast_S128x4_S128x4x1_0_1 (transpose S128x4 [1, 0] e transposes_S4x128_S128x4_1_0))))
/-- The results. -/
def rO (u : FVec 𝕀 S8192x512 .f32) (d : FVec 𝕀 S64x128x4x128 .f32) : FVec 𝕀 S8192x512 .bf16 :=
  truncf .bf16 (mulf u (shapeCast _ d shapeCasts_S64x128x4x128_S8192x512)) bitsLt_bf16_f32

theorem res_eq (m : (ℓ : Loc nD τ sig) → Buf (Elt 𝕀) ℓ) (c : Dev nD) : res_main_v56 m c
    = rO (rU (m ((c.tc : Thread nD τ).loc main_arg0))) (rD (rN (rV (m ((c.tc : Thread nD τ).loc main_arg0)))
      (rS (m ((c.tc : Thread nD τ).loc main_arg1))) (rS (m ((c.tc : Thread nD τ).loc main_arg2)))) (rW (m ((c.tc : Thread nD τ).loc main_arg3)))
      (m ((c.tc : Thread nD τ).loc main_arg4))) := by
  rfl

theorem g_at (x : FVec 𝕀 S8192x512 .f32) (r : Fin 8192) (j : Fin 512) : (rG x : S8192x512.Idx → EReal) (ix2 r j) = gelu (x (ix2 r j)) := by
  unfold gelu
  rw [← Ideal.erfc_neg, ← neg_mul]
  pointwise [rG]
theorem u_at (a : FVec 𝕀 S8192x1152 .f32) (r : Fin 8192) (j : Fin 512) : (rU a : S8192x512.Idx → EReal) (ix2 r j) = gelu (a (ix2 r ⟨j.val, by omega⟩)) := by
  unfold rU
  rw [g_at]
  pointwise
theorem v_at (a : FVec 𝕀 S8192x1152 .f32) (r : Fin 8192) (g : Fin 4) (k : Fin 128) :
    (rV a : S8192x4x128.Idx → EReal) (ix3 r g k) = gelu (a (ix2 r ⟨512 + (128 * g.val + k.val), by omega⟩)) := by
  have h : ∀ j : Fin 512, (rG (extractStridedSlice S8192x512 ![0, 512] a slices_S8192x1152_S8192x512_0_512) : S8192x512.Idx → EReal) (ix2 r j)
      = gelu (a (ix2 r ⟨512 + j.val, by omega⟩)) := fun j => by
    rw [g_at]
    pointwise
  unfold rV
  generalize rG _ = G at h ⊢
  pointwise
  rw [← h ⟨128 * g.val + k.val, by omega⟩]
  exact congrArg G (congrArg (ix2 r) (Fin.ext (congrArg (· + k.val) (Nat.mul_comm g.val 128))))
theorem mean_at (v : FVec 𝕀 S8192x4x128 .f32) (r : Fin 8192) (g : Fin 4) : (rM v : S8192x4x1.Idx → EReal) (ix3 r g 0) = mean fun k => v (ix3 r g k) := by
  unfold mean
  pointwise [rM]
theorem c_at (v : FVec 𝕀 S8192x4x128 .f32) (r : Fin 8192) (g : Fin 4) (k : Fin 128) :
    (rC v : S8192x4x128.Idx → EReal) (ix3 r g k) = v (ix3 r g k) - mean fun k => v (ix3 r g k) := by
  have h := mean_at v r g
  unfold rC
  generalize rM v = M at h ⊢
  pointwise
  rw [h]
theorem s_at (x : FVec 𝕀 S512 .f32) (r : Fin 8192) (g : Fin 4) (k : Fin 128) :
    (rS x : S8192x4x128.Idx → EReal) (ix3 r g k) = x (ix1 ⟨128 * g.val + k.val, by omega⟩) := by
  pointwise [rS]
  exact congrArg x (congrArg ix1 (Fin.ext (congrArg (· + k.val) (Nat.mul_comm g.val 128))))
theorem n_at (v n b : FVec 𝕀 S8192x4x128 .f32) (r : Fin 8192) (g : Fin 4) (k : Fin 128) :
    (rN v n b : S8192x4x128.Idx → EReal) (ix3 r g k) = core (fun k => v (ix3 r g k)) k * n (ix3 r g k) + b (ix3 r g k) := by
  have hc := c_at v r g
  have h := mean_at (mulf (rC v) (rC v)) r g
  unfold rN core
  generalize rM (mulf (rC v) (rC v)) = M at h ⊢
  generalize rC v = C at hc h ⊢
  pointwise
  rw [h]
  unfold mean
  pointwise
  simp only [hc]
  rfl
theorem l_at (g : Fin 4) (p s : Fin 128) : rL (ix3 g p s) = if s ≤ p then 1#1 else 0#1 := by
  pointwise [rL]
  rw [show IntOp.addi (BitVec.ofNat 32 p.val) 0#32 = BitVec.ofNat 32 p.val from BitVec.add_zero _]
  rw [sge_small _ _ (by omega) (by omega)]
  exact Cert.KernelIdeal.Value.select_ite (s.val ≤ p.val) 1#1 0#1
theorem w_at (w : FVec 𝕀 S4x128x128 .f32) (g : Fin 4) (p s : Fin 128) : (rW w : S4x128x128.Idx → EReal) (ix3 g p s) = if s ≤ p then w (ix3 g p s) else 0 := by
  have h := l_at g p s
  unfold rW
  generalize rL = L at h ⊢
  pointwise
  rw [h]
  simp only [Cert.KernelIdeal.Value.select_ite]
  rw [show (FloatOps.sitofp (F := 𝕀) FTy.f32 (0#32 : BitVec 32) : EReal) = 0 from by simp [FloatOps.sitofp]]
theorem d_at (v : FVec 𝕀 S8192x4x128 .f32) (w : FVec 𝕀 S4x128x128 .f32) (e : FVec 𝕀 S4x128 .f32) (t : Fin 64) (p : Fin 128) (g : Fin 4) (k : Fin 128) :
    (rD v w e : S64x128x4x128.Idx → EReal) (ix4 t p g k)
      = (∑ s : Fin 128, w (ix3 g p s) * v (ix3 ⟨128 * t.val + s.val, by omega⟩ g k)) + e (ix2 g p) := by
  pointwise [rD]
  refine congrArg (· + (e (ix2 g p) : EReal)) (Finset.sum_congr rfl fun s _ => ?_)
  rw [mul_comm]
  exact congrArg (fun i => (w (ix3 g p s) : EReal) * v (ix3 i g k)) (Fin.ext (congrArg (· + s.val) (Nat.mul_comm t.val 128)))
theorem o_at (u : FVec 𝕀 S8192x512 .f32) (d : FVec 𝕀 S64x128x4x128 .f32) (r : Fin 8192) (j : Fin 512) :
    (rO u d : S8192x512.Idx → EReal) (ix2 r j) = u (ix2 r j) * d (ix4 ⟨r.val / 128, by omega⟩ ⟨r.val % 128, by omega⟩ (grp j) ⟨j.val % 128, by omega⟩) := by
  pointwise [rO]
  rfl

/-- The reference's result at an entry. -/
theorem result_at (a : FVec 𝕀 S8192x1152 .f32) (n b : FVec 𝕀 S512 .f32) (w : FVec 𝕀 S4x128x128 .f32) (e : FVec 𝕀 S4x128 .f32) (r : Fin 8192) (j : Fin 512) :
    (rO (rU a) (rD (rN (rV a) (rS n) (rS b)) (rW w) e) : S8192x512.Idx → EReal) (ix2 r j)
      = result (fun r k => a (ix2 r k)) (fun k => n (ix1 k)) (fun k => b (ix1 k)) (fun g p s => w (ix3 g p s)) (fun g p => e (ix2 g p)) r j := by
  rw [o_at, d_at, u_at]
  simp only [w_at, n_at, v_at, s_at]
  unfold result entry
  have hj : ∀ k : Fin 128, (⟨128 * (grp j).val + k.val, by omega⟩ : Fin 512) = lane j k := fun k => rfl
  rfl

end Cert.GatingReferenceIdeal.Value
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Experts
public import proofs.«01_k».proof.Proof.Gen.Experts.Flash.Runs
public import proofs.«01_k».proof.Proof.Gen.ExpertsIdeal
public import proofs.«01_k».proof.Proof.Gen.ExpertsIdeal.Flash.Runs
public import proofs.«01_k».proof.Proof.Gen.ExpertsReferenceIdeal
public import proofs.«01_k».proof.Proof.Gen.ExpertsReferenceIdeal.Run
public import proofs.«01_k».proof.Proof.Gen.ProjSb
public import proofs.«01_k».proof.Proof.Gen.ProjSb.Frame
public import proofs.«01_k».proof.Proof.Gen.ProjSbIdeal
public import proofs.«01_k».proof.Proof.Gen.ProjSbIdeal.Frame
public import proofs.«01_k».proof.Proof.Gen.ProjSbIdeal.Value
public import proofs.«01_k».proof.Proof.Gen.ProjSbReferenceIdeal
public import proofs.«01_k».proof.Proof.Gen.ProjSbReferenceIdeal.Run
public import proofs.«01_k».proof.Proof.Gen.ProjGdn
public import proofs.«01_k».proof.Proof.Gen.ProjGdn.Frame
public import proofs.«01_k».proof.Proof.Gen.ProjGdnIdeal
public import proofs.«01_k».proof.Proof.Gen.ProjGdnIdeal.Frame
public import proofs.«01_k».proof.Proof.Gen.ProjGdnIdeal.Value
public import proofs.«01_k».proof.Proof.Gen.ProjGdnReferenceIdeal
public import proofs.«01_k».proof.Proof.Gen.ProjGdnReferenceIdeal.Run
public import proofs.«01_k».proof.Proof.Gen.ProjTail
public import proofs.«01_k».proof.Proof.Gen.ProjTail.Frame
public import proofs.«01_k».proof.Proof.Gen.ProjTailIdeal
public import proofs.«01_k».proof.Proof.Gen.ProjTailIdeal.Frame
public import proofs.«01_k».proof.Proof.Gen.ProjTailIdeal.Value
public import proofs.«01_k».proof.Proof.Gen.ProjTailReferenceIdeal
public import proofs.«01_k».proof.Proof.Gen.ProjTailReferenceIdeal.Run
public import proofs.«01_k».proof.Proof.Gen.Outproj
public import proofs.«01_k».proof.Proof.Gen.Outproj.Frame
public import proofs.«01_k».proof.Proof.Gen.OutprojIdeal
public import proofs.«01_k».proof.Proof.Gen.OutprojIdeal.Frame
public import proofs.«01_k».proof.Proof.Gen.OutprojIdeal.Value
public import proofs.«01_k».proof.Proof.Gen.OutprojReferenceIdeal
public import proofs.«01_k».proof.Proof.Gen.OutprojReferenceIdeal.Run
public import proofs.«01_k».proof.Proof.Gen.Combine
public import proofs.«01_k».proof.Proof.Gen.Combine.Frame
public import proofs.«01_k».proof.Proof.Gen.CombineIdeal
public import proofs.«01_k».proof.Proof.Gen.CombineIdeal.Frame
public import proofs.«01_k».proof.Proof.Gen.CombineIdeal.Value
public import proofs.«01_k».proof.Proof.Gen.CombineReferenceIdeal
public import proofs.«01_k».proof.Proof.Gen.CombineReferenceIdeal.Run
public import proofs.«01_k».proof.Proof.Gen.Attention
public import proofs.«01_k».proof.Proof.Gen.Attention.Frame
public import proofs.«01_k».proof.Proof.Gen.AttentionIdeal
public import proofs.«01_k».proof.Proof.Gen.AttentionIdeal.Frame
public import proofs.«01_k».proof.Proof.Gen.AttentionIdeal.Value
public import proofs.«01_k».proof.Proof.Gen.AttentionReferenceIdeal
public import proofs.«01_k».proof.Proof.Gen.AttentionReferenceIdeal.Run
public import proofs.«01_k».proof.Proof.Gen.Gating
public import proofs.«01_k».proof.Proof.Gen.Gating.Frame
public import proofs.«01_k».proof.Proof.Gen.GatingIdeal
public import proofs.«01_k».proof.Proof.Gen.GatingIdeal.Frame
public import proofs.«01_k».proof.Proof.Gen.GatingIdeal.Value
public import proofs.«01_k».proof.Proof.Gen.GatingReferenceIdeal
public import proofs.«01_k».proof.Proof.Gen.GatingReferenceIdeal.Run
public import proofs.«01_k».proof.Proof.Finite
public import proofs.«01_k».proof.Proof.KRun
public import proofs.«01_k».proof.Proof.RLoop
public import proofs.«01_k».proof.Proof.ExpBits
public import proofs.«01_k».proof.Proof.ExpValue
public import proofs.«01_k».proof.Proof.ExpRef
public import proofs.«01_k».proof.Proof.ProjSb
public import proofs.«01_k».proof.Proof.ProjGdn
public import proofs.«01_k».proof.Proof.ProjTail
public import proofs.«01_k».proof.Proof.Outproj
public import proofs.«01_k».proof.Proof.Combine
public import proofs.«01_k».proof.Proof.AttnCall
public import proofs.«01_k».proof.Proof.AttnRef
public import proofs.«01_k».proof.Proof.Bounded
public import proofs.«01_k».proof.Proof.GateCall
public import proofs.«01_k».proof.Proof.GateRef
public import Idealize.ShloMosaic.Adequacy
public import Idealize.ShloMosaic.Init

@[expose] public section

noncomputable section

/-! # The claims

The kernel, its ideal form and the reference run and leave their arguments alone; the ideal form is the kernel over the
extended reals; and on finite projections, tail, taps, decays and biases the chunked kernel and the token-by-token reference
end with the same array. So for the experts' call, on planned tables, for the three calls of the input projection, the output
projection and the combination, for the attention's call, on finite queries and keys, and for the spatial gating's. -/

namespace Cert.Proof

open Idealize.ShloMosaic Idealize.SL.Sem

/-- The reference runs, leaves its arguments as they were, and has no counter to leave. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- On finite operands the kernel and the reference end with the same array. -/
theorem algebraic : Cert.algebraic_KernelIdeal_ReferenceIdeal_pre_finite (hPre_finite := Cert.Pre_finite.facts) := by
  intro m ρ m' ρ' hpre hag
  refine ⟨fun c => Cert.KernelIdeal.Value.G7 m c, Cert.KernelIdeal.Value.run m ρ, ?_⟩
  refine (θ_run _ _ _).mono (fun _ h c => ⟨(h c).1.trans ?_, (h c).2⟩) (Cert.ReferenceIdeal.Value.run m' ρ')
  obtain ⟨e0, e1, e2, e3, e4, e5⟩ := hag c
  haveI := Cert.Pre_finite.facts
  obtain ⟨h0, h1, h2, h3, h4⟩ := Cert.Pre_finite.reals _ _ _ _ _ _ (hpre c)
  obtain ⟨I, HK⟩ := Tok.exists_reads _ _ _ _ _ (fun r j => h0 (ix2 r j)) (fun r j => h1 (ix2 r j)) (fun r j => h2 (ix2 r j))
    (fun h => h3 (ix1 h)) (fun h => h4 (ix1 h))
  have HR : Cert.ReferenceIdeal.Value.Holds m' c I := by
    unfold Cert.ReferenceIdeal.Value.Holds
    rw [e0, e1, e2, e3, e4]
    exact HK
  funext y
  obtain ⟨t, j, rfl⟩ : ∃ (t : Fin 8192) (j : Fin 1024), y = ix2 t j := ⟨y 0, y 1, (ix2_eta y).symm⟩
  refine (Cert.ReferenceIdeal.Value.out_ok HR t j).trans ?_
  rw [e5]
  exact (Cert.KernelIdeal.Value.G7_ok HK t j).symm

/-! ## The experts -/

/-- Under a plan the experts' call runs and leaves its arguments as they were. -/
theorem frame_experts : Cert.quiescent_Experts (hPre_planned := Cert.Pre_planned.facts) := fun m ρ hp =>
  haveI := Cert.Pre_planned.facts
  have h := Cert.Pre_planned.fits _ _ _ _ _ _ (hp 0)
  (θ_run Cert.Experts.defs _ _).mono (fun _ h => ⟨fun c => (h.1 c).2, h.2⟩)
    (Cert.Experts.Plan.run_result _ m ρ (Cert.Experts.Plan.held_at m 0 (Cert.Experts.Plan.admits _ h)))

/-- So does its ideal form. -/
theorem frame_experts_ideal : Cert.quiescent_ExpertsIdeal (hPre_planned := Cert.Pre_planned.facts) := fun m ρ hp =>
  haveI := Cert.Pre_planned.facts
  have h := Cert.Pre_planned.fits _ _ _ _ _ _ (hp 0)
  (θ_run Cert.ExpertsIdeal.defs _ _).mono (fun _ h => ⟨fun c => (h.1 c).2, h.2⟩)
    (Cert.ExpertsIdeal.Plan.run_result _ m ρ (Cert.ExpertsIdeal.Plan.held_at m 0 (Cert.ExpertsIdeal.Plan.admits _ h)))

/-- The experts' reference runs, leaves its arguments as they were, and has no counter to leave. -/
theorem frame_experts_reference : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run m ρ)

/-- Under a plan the tiled call and the reference's loop over the experts end with the same array. -/
theorem algebraic_experts : Cert.algebraic_ExpertsIdeal_ExpertsReferenceIdeal (hPre_planned := Cert.Pre_planned.facts) := by
  intro m ρ m' ρ' hpre hag
  haveI := Cert.Pre_planned.facts
  have h := Cert.Pre_planned.fits _ _ _ _ _ _ (hpre 0)
  have hok := Cert.ExpertsIdeal.Plan.admits (Cert.ExpertsIdeal.Plan.held m 0) h
  refine ⟨_, (θ_run _ _ _).mono (fun _ hr c => hr.1 c) (Cert.ExpertsIdeal.Plan.run_result ⟨_, hok⟩ m ρ (Cert.ExpertsIdeal.Plan.held_at m 0 hok)), ?_⟩
  refine (θ_run _ _ _).mono (fun _ hr c => ⟨(hr c).1.trans ?_, (hr c).2⟩) (Cert.ExpertsReferenceIdeal.Value.run m' ρ')
  obtain rfl : c = 0 := Subsingleton.elim (α := Fin 1) c 0
  obtain ⟨e0, e1, e2, e3, e4, e5⟩ := hag 0
  refine Eq.trans ?_ (Cert.ExpertsIdeal.Plan.result_at ⟨_, hok⟩ m ρ h 0).symm
  funext y
  obtain ⟨r, j, rfl⟩ : ∃ (r : Fin 81920) (j : Fin 2048), y = ix2 r j := ⟨y 0, y 1, (ix2_eta y).symm⟩
  refine (Cert.ExpertsReferenceIdeal.Value.result_at m' 0 (by rw [e1]; exact h.most) r j).trans ?_
  unfold Cert.ExpertsReferenceIdeal.Value.inX Cert.ExpertsReferenceIdeal.Value.inA Cert.ExpertsReferenceIdeal.Value.inB
    Cert.ExpertsReferenceIdeal.Value.inC Cert.ExpertsReferenceIdeal.Value.inT Cert.ExpertsReferenceIdeal.Value.inU
  rw [e0, e1, e2, e3, e4, e5]
  rfl

/-! ## The input projections -/

/-- The reference of the stick-breaking heads' projection runs, leaves its arguments as they were, and has no counter to leave. -/
theorem frame_proj_sb_reference : Cert.quiescent_ProjSbReferenceIdeal := fun m ρ _ =>
  (θ_run Cert.ProjSbReferenceIdeal.defs _ _).mono (fun r h => ⟨fun c => (h c).2, sem_eq_zero_of_no_sems (by decide) r.2⟩)
    (Cert.ProjSbReferenceIdeal.Value.run m ρ)

/-- The call of the stick-breaking heads' projection and its reference end with the same array. -/
theorem algebraic_proj_sb : Cert.algebraic_ProjSbIdeal_ProjSbReferenceIdeal := by
  intro m ρ m' ρ' hpre hag
  refine ⟨fun c => Cert.ProjSbIdeal.Value.G2 m c, Cert.ProjSbIdeal.Value.run m ρ, ?_⟩
  refine (θ_run _ _ _).mono (fun _ h c => ⟨(h c).1.trans ?_, (h c).2⟩) (Cert.ProjSbReferenceIdeal.Value.run m' ρ')
  obtain ⟨e0, e1⟩ := hag c
  rw [e0, e1]
  funext y
  obtain ⟨r, j, rfl⟩ : ∃ (r : Fin 8192) (j : Fin 1536), y = ix2 r j := ⟨y 0, y 1, (ix2_eta y).symm⟩
  exact (Cert.ProjSbReferenceIdeal.Value.result_at _ _ r j).trans (Cert.ProjSbIdeal.Value.result_at m c r j).symm

/-- The reference of the DeltaNet heads' projection runs, leaves its arguments as they were, and has no counter to leave. -/
theorem frame_proj_gdn_reference : Cert.quiescent_ProjGdnReferenceIdeal := fun m ρ _ =>
  (θ_run Cert.ProjGdnReferenceIdeal.defs _ _).mono (fun r h => ⟨fun c => (h c).2, sem_eq_zero_of_no_sems (by decide) r.2⟩)
    (Cert.ProjGdnReferenceIdeal.Value.run m ρ)

/-- The call of the DeltaNet heads' projection and its reference end with the same array. -/
theorem algebraic_proj_gdn : Cert.algebraic_ProjGdnIdeal_ProjGdnReferenceIdeal := by
  intro m ρ m' ρ' hpre hag
  refine ⟨fun c => Cert.ProjGdnIdeal.Value.G2 m c, Cert.ProjGdnIdeal.Value.run m ρ, ?_⟩
  refine (θ_run _ _ _).mono (fun _ h c => ⟨(h c).1.trans ?_, (h c).2⟩) (Cert.ProjGdnReferenceIdeal.Value.run m' ρ')
  obtain ⟨e0, e1⟩ := hag c
  rw [e0, e1]
  funext y
  obtain ⟨r, j, rfl⟩ : ∃ (r : Fin 8192) (j : Fin 4096), y = ix2 r j := ⟨y 0, y 1, (ix2_eta y).symm⟩
  exact (Cert.ProjGdnReferenceIdeal.Value.result_at _ _ r j).trans (Cert.ProjGdnIdeal.Value.result_at m c r j).symm

/-- The reference of the tail's projection runs, leaves its arguments as they were, and has no counter to leave. -/
theorem frame_proj_tail_reference : Cert.quiescent_ProjTailReferenceIdeal := fun m ρ _ =>
  (θ_run Cert.ProjTailReferenceIdeal.defs _ _).mono (fun r h => ⟨fun c => (h c).2, sem_eq_zero_of_no_sems (by decide) r.2⟩)
    (Cert.ProjTailReferenceIdeal.Value.run m ρ)

/-- The call of the tail's projection and its reference end with the same array. -/
theorem algebraic_proj_tail : Cert.algebraic_ProjTailIdeal_ProjTailReferenceIdeal := by
  intro m ρ m' ρ' hpre hag
  refine ⟨fun c => Cert.ProjTailIdeal.Value.G2 m c, Cert.ProjTailIdeal.Value.run m ρ, ?_⟩
  refine (θ_run _ _ _).mono (fun _ h c => ⟨(h c).1.trans ?_, (h c).2⟩) (Cert.ProjTailReferenceIdeal.Value.run m' ρ')
  obtain ⟨e0, e1⟩ := hag c
  rw [e0, e1]
  funext y
  obtain ⟨r, j, rfl⟩ : ∃ (r : Fin 8192) (j : Fin 1152), y = ix2 r j := ⟨y 0, y 1, (ix2_eta y).symm⟩
  exact (Cert.ProjTailReferenceIdeal.Value.result_at _ _ r j).trans (Cert.ProjTailIdeal.Value.result_at m c r j).symm

theorem frame_outproj_reference : Cert.quiescent_OutprojReferenceIdeal := fun m ρ _ =>
  (θ_run Cert.OutprojReferenceIdeal.defs _ _).mono (fun r h => ⟨fun c => (h c).2.2, sem_eq_zero_of_no_sems (by decide) r.2⟩)
    (Cert.OutprojReferenceIdeal.Value.run m ρ)

/-- The call of the output projection and its reference end with the same two arrays. -/
theorem algebraic_outproj : Cert.algebraic_OutprojIdeal_OutprojReferenceIdeal := by
  intro m ρ m' ρ' hpre hag
  refine ⟨fun c => (Cert.OutprojIdeal.Gen.dats m 0 c).arrAt 10 Cert.OutprojIdeal.cfg0.N,
    fun c => (Cert.OutprojIdeal.Gen.dats m 0 c).arrAt 11 Cert.OutprojIdeal.cfg0.N, Cert.OutprojIdeal.Value.run_blocks m ρ, ?_⟩
  refine (θ_run _ _ _).mono (fun _ h c => ⟨(h c).1.trans ?_, (h c).2.1.trans ?_, (h c).2.2⟩) (Cert.OutprojReferenceIdeal.Value.run m' ρ')
  · obtain ⟨e0, e1, e2, e3, e4, e5, e6, e7⟩ := hag c
    refine Eq.trans ?_ (Cert.OutprojIdeal.Value.result0_at m c).symm
    rw [Cert.OutprojReferenceIdeal.Value.result0_eq, e0, e1, e2, e3, e4, e5, e6, e7]
    funext y
    obtain ⟨r, j, rfl⟩ : ∃ (r : Fin 8192) (j : Fin 2048), y = ix2 r j := ⟨y 0, y 1, (ix2_eta y).symm⟩
    exact Cert.OutprojReferenceIdeal.Value.out0_at _ _ _ _ _ _ _ _ r j
  · obtain ⟨e0, e1, e2, e3, e4, e5, e6, e7⟩ := hag c
    refine Eq.trans ?_ (Cert.OutprojIdeal.Value.result1_at m c).symm
    rw [Cert.OutprojReferenceIdeal.Value.result1_eq, Cert.OutprojReferenceIdeal.Value.result0_eq,
      e0, e1, e2, e3, e4, e5, e6, e7]
    funext y
    obtain ⟨r, j, rfl⟩ : ∃ (r : Fin 8192) (j : Fin 2048), y = ix2 r j := ⟨y 0, y 1, (ix2_eta y).symm⟩
    refine (Cert.OutprojReferenceIdeal.Value.modulated_at _ _ r j).trans ?_
    rw [Cert.OutprojReferenceIdeal.Value.out0_at]
    rfl

theorem frame_combine_reference : Cert.quiescent_CombineReferenceIdeal := fun m ρ _ =>
  (θ_run Cert.CombineReferenceIdeal.defs _ _).mono (fun r h => ⟨fun c => (h c).2.2, sem_eq_zero_of_no_sems (by decide) r.2⟩)
    (Cert.CombineReferenceIdeal.Value.run m ρ)

/-- The call of the combination and its reference end with the same two arrays. -/
theorem algebraic_combine : Cert.algebraic_CombineIdeal_CombineReferenceIdeal := by
  intro m ρ m' ρ' hpre hag
  refine ⟨fun c => (Cert.CombineIdeal.Gen.dats m 0 c).arrAt 19 Cert.CombineIdeal.cfg0.N,
    fun c => (Cert.CombineIdeal.Gen.dats m 0 c).arrAt 20 Cert.CombineIdeal.cfg0.N, Cert.CombineIdeal.Value.run_blocks m ρ, ?_⟩
  refine (θ_run _ _ _).mono (fun _ h c => ⟨(h c).1.trans ?_, (h c).2.1.trans ?_, (h c).2.2⟩) (Cert.CombineReferenceIdeal.Value.run m' ρ')
  · obtain ⟨e0, e1, e2, e3, e4, e5, e6, e7, e8, e9⟩ := hag c
    refine Eq.trans ?_ (Cert.CombineIdeal.Value.result0_at m c).symm
    rw [Cert.CombineReferenceIdeal.Value.result0_eq, e0, e1, e2, e3, e4, e5, e6, e7, e8, e9]
    funext y
    obtain ⟨r, j, rfl⟩ : ∃ (r : Fin 8192) (j : Fin 2048), y = ix2 r j := ⟨y 0, y 1, (ix2_eta y).symm⟩
    exact Cert.CombineReferenceIdeal.Value.out0_at _ _ _ _ _ _ _ _ _ _ r j
  · obtain ⟨e0, e1, e2, e3, e4, e5, e6, e7, e8, e9⟩ := hag c
    refine Eq.trans ?_ (Cert.CombineIdeal.Value.result1_at m c).symm
    rw [Cert.CombineReferenceIdeal.Value.result1_eq, Cert.CombineReferenceIdeal.Value.result0_eq, e0, e1, e2, e3, e4, e5, e6, e7, e8, e9]
    funext y
    obtain ⟨r, j, rfl⟩ : ∃ (r : Fin 8192) (j : Fin 2048), y = ix2 r j := ⟨y 0, y 1, (ix2_eta y).symm⟩
    refine (Cert.CombineReferenceIdeal.Value.modulated_at _ _ r j).trans ?_
    rw [Cert.CombineReferenceIdeal.Value.out0_at]
    rfl

theorem frame_attention_reference : Cert.quiescent_AttentionReferenceIdeal := fun m ρ _ =>
  (θ_run Cert.AttentionReferenceIdeal.defs _ _).mono (fun r h => ⟨fun c => (h c).2, sem_eq_zero_of_no_sems (by decide) r.2⟩)
    (Cert.AttentionReferenceIdeal.Value.run m ρ)

/-- On real queries and keys the attention's call and its reference end with the same array. -/
theorem algebraic_attention :
    Cert.algebraic_AttentionIdeal_AttentionReferenceIdeal_pre_bounded (hPre_bounded := Cert.Pre_bounded.facts) := by
  intro m ρ m' ρ' hpre hag
  refine ⟨fun c => (Cert.AttentionIdeal.Gen.dats m 0 c).arrAt 3 Cert.AttentionIdeal.cfg0.N, Cert.AttentionIdeal.Value.run_blocks m ρ, ?_⟩
  refine (θ_run _ _ _).mono (fun _ h c => ⟨(h c).1.trans ?_, (h c).2⟩) (Cert.AttentionReferenceIdeal.Value.run m' ρ')
  have e0 := hag c
  haveI := Cert.Pre_bounded.facts
  have hx := Cert.Pre_bounded.reals _ (hpre c)
  obtain ⟨R, hR⟩ := Cert.Pre_bounded.exists_reads _ hx
  refine Eq.trans ?_ (Cert.AttentionIdeal.Value.result_at (m := m) (c := c) (R := R) hR).symm
  rw [Cert.AttentionReferenceIdeal.Value.res_eq, e0]
  funext y
  obtain ⟨r, j, rfl⟩ : ∃ (r : Fin 8192) (j : Fin 512), y = ix2 r j := ⟨y 0, y 1, (ix2_eta y).symm⟩
  exact Cert.AttentionReferenceIdeal.Value.result_at _ (fun _ _ => rfl) hR r j

theorem frame_gating_reference : Cert.quiescent_GatingReferenceIdeal := fun m ρ _ =>
  (θ_run Cert.GatingReferenceIdeal.defs _ _).mono (fun r h => ⟨fun c => (h c).2, sem_eq_zero_of_no_sems (by decide) r.2⟩)
    (Cert.GatingReferenceIdeal.Value.run m ρ)

/-- The spatial gating's call and its reference end with the same array. -/
theorem algebraic_gating : Cert.algebraic_GatingIdeal_GatingReferenceIdeal := by
  intro m ρ m' ρ' hpre hag
  refine ⟨fun c => (Cert.GatingIdeal.Gen.dats m 0 c).arrAt 6 Cert.GatingIdeal.cfg0.N, Cert.GatingIdeal.Value.run_blocks m ρ, ?_⟩
  refine (θ_run _ _ _).mono (fun _ h c => ⟨(h c).1.trans ?_, (h c).2⟩) (Cert.GatingReferenceIdeal.Value.run m' ρ')
  obtain ⟨e0, e1, e2, e3, e4⟩ := hag c
  refine Eq.trans ?_ (Cert.GatingIdeal.Value.result_at m c).symm
  rw [Cert.GatingReferenceIdeal.Value.res_eq, e0, e1, e2, e3, e4]
  funext y
  obtain ⟨r, j, rfl⟩ : ∃ (r : Fin 8192) (j : Fin 512), y = ix2 r j := ⟨y 0, y 1, (ix2_eta y).symm⟩
  exact Cert.GatingReferenceIdeal.Value.result_at _ _ _ _ _ r j

theorem claim : Cert.Claim :=
  ⟨Cert.Kernel.Gen.facts, Cert.KernelIdeal.Gen.facts, Cert.ReferenceIdeal.Gen.facts, Cert.Experts.Gen.facts, Cert.ExpertsIdeal.Gen.facts,
    Cert.ExpertsReferenceIdeal.Gen.facts, Cert.ProjSb.Gen.facts, Cert.ProjSbIdeal.Gen.facts, Cert.ProjSbReferenceIdeal.Gen.facts,
    Cert.ProjGdn.Gen.facts, Cert.ProjGdnIdeal.Gen.facts, Cert.ProjGdnReferenceIdeal.Gen.facts,
    Cert.ProjTail.Gen.facts, Cert.ProjTailIdeal.Gen.facts, Cert.ProjTailReferenceIdeal.Gen.facts,
    Cert.Outproj.Gen.facts, Cert.OutprojIdeal.Gen.facts, Cert.OutprojReferenceIdeal.Gen.facts,
    Cert.Combine.Gen.facts, Cert.CombineIdeal.Gen.facts, Cert.CombineReferenceIdeal.Gen.facts,
    Cert.Attention.Gen.facts, Cert.AttentionIdeal.Gen.facts, Cert.AttentionReferenceIdeal.Gen.facts,
    Cert.Gating.Gen.facts, Cert.GatingIdeal.Gen.facts, Cert.GatingReferenceIdeal.Gen.facts,
    Cert.Pre_finite.facts, Cert.Pre_planned.facts, Cert.Pre_bounded.facts,
    fun m ρ _ => Cert.Kernel.Gen.frame m ρ, fun m ρ _ => Cert.KernelIdeal.Gen.frame m ρ,
    fun m ρ _ => Cert.KernelIdeal.Gen.frame m ρ, frame_ri, fun m ρ _ => frame_ri m ρ trivial,
    frame_experts, frame_experts_ideal, frame_experts_reference, fun m ρ _ => frame_experts_reference m ρ trivial,
    fun m ρ _ => Cert.ProjSb.Gen.frame m ρ, fun m ρ _ => Cert.ProjSbIdeal.Gen.frame m ρ, frame_proj_sb_reference,
    fun m ρ _ => Cert.ProjGdn.Gen.frame m ρ, fun m ρ _ => Cert.ProjGdnIdeal.Gen.frame m ρ, frame_proj_gdn_reference,
    fun m ρ _ => Cert.ProjTail.Gen.frame m ρ, fun m ρ _ => Cert.ProjTailIdeal.Gen.frame m ρ, frame_proj_tail_reference,
    fun m ρ _ => Cert.Outproj.Gen.frame m ρ, fun m ρ _ => Cert.OutprojIdeal.Gen.frame m ρ, frame_outproj_reference,
    fun m ρ _ => Cert.Combine.Gen.frame m ρ, fun m ρ _ => Cert.CombineIdeal.Gen.frame m ρ, frame_combine_reference,
    fun m ρ _ => Cert.Attention.Gen.frame m ρ, fun m ρ _ => Cert.AttentionIdeal.Gen.frame m ρ,
    fun m ρ _ => Cert.AttentionIdeal.Gen.frame m ρ, frame_attention_reference, fun m ρ _ => frame_attention_reference m ρ trivial,
    fun m ρ _ => Cert.Gating.Gen.frame m ρ, fun m ρ _ => Cert.GatingIdeal.Gen.frame m ρ, frame_gating_reference,
    trivial, algebraic, trivial, algebraic_experts, trivial, algebraic_proj_sb, trivial, algebraic_proj_gdn, trivial, algebraic_proj_tail,
    trivial, algebraic_outproj, trivial, algebraic_combine, trivial, algebraic_attention, trivial, algebraic_gating⟩

end Cert.Proof

end
